-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5)
      ∧ r.2.mem ((c.tc : Thread Cert.Kernel17.nD Cert.Kernel17.τ).loc Cert.Kernel17.main_arg6) = m ((c.tc : Thread Cert.Kernel17.nD Cert.Kernel17.τ).loc Cert.Kernel17.main_arg6))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v49) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v2_0)) (v1 : (c : Dev Cert.Kernel18Ideal.nD) → Buf (Elt Ideal) ((c.tc : Thread Cert.Kernel18Ideal.nD Cert.Kernel18Ideal.τ).loc Cert.Kernel18Ideal.main_v2_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2_0) = v0 c
          ∧ r.2.mem ((c.tc : Thread Cert.Kernel18Ideal.nD Cert.Kernel18Ideal.τ).loc Cert.Kernel18Ideal.main_v2_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v13) = v0 c
          ∧ r.2.mem ((c.tc : Thread Cert.Reference18Ideal.nD Cert.Reference18Ideal.τ).loc Cert.Reference18Ideal.main_v27) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)) →
    ∃ (v0 : (c : Dev Cert.Kernel19Ideal.nD) → Buf (Elt Ideal) ((c.tc : Thread Cert.Kernel19Ideal.nD Cert.Kernel19Ideal.τ).loc Cert.Kernel19Ideal.main_v2_0)) (v1 : (c : Dev Cert.Kernel19Ideal.nD) → Buf (Elt Ideal) ((c.tc : Thread Cert.Kernel19Ideal.nD Cert.Kernel19Ideal.τ).loc Cert.Kernel19Ideal.main_v2_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2_0) = v0 c
          ∧ r.2.mem ((c.tc : Thread Cert.Kernel19Ideal.nD Cert.Kernel19Ideal.τ).loc Cert.Kernel19Ideal.main_v2_2) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v32) = v0 c
          ∧ r.2.mem ((c.tc : Thread Cert.Reference19Ideal.nD Cert.Reference19Ideal.τ).loc Cert.Reference19Ideal.main_v65) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v13) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v1) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v13) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v1_0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v1_0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v32) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v1_0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v1_0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v32) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0_0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v17) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v2) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v32) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
-- ==== Pre_finite.lean ====
abbrev S4352x11264 : Shape := ⟨2, ![4352, 11264]⟩
abbrev S3x11264 : Shape := ⟨2, ![3, 11264]⟩
abbrev S11264 : Shape := ⟨1, ![11264]⟩
abbrev S4352x5632 : Shape := ⟨2, ![4352, 5632]⟩
abbrev S_ : Shape := ⟨0, ![]⟩

class Facts : Prop where
  bitsLt_bf16_f32 : FTy.bits .bf16 < FTy.bits .f32
  bcast_S_S4352x11264 : S_.BroadcastsInDim S4352x11264 (![] : Fin 0 → Fin S4352x11264.rank)
  reducesTo_S4352x11264_S_d0_1 : S4352x11264.ReducesTo [0, 1] S_
  h_S_ : 0 < S_.numel
  bcast_S_S3x11264 : S_.BroadcastsInDim S3x11264 (![] : Fin 0 → Fin S3x11264.rank)
  reducesTo_S3x11264_S_d0_1 : S3x11264.ReducesTo [0, 1] S_
  bcast_S_S11264 : S_.BroadcastsInDim S11264 (![] : Fin 0 → Fin S11264.rank)
  reducesTo_S11264_S_d0 : S11264.ReducesTo [0] S_
  bcast_S_S4352x5632 : S_.BroadcastsInDim S4352x5632 (![] : Fin 0 → Fin S4352x5632.rank)
  reducesTo_S4352x5632_S_d0_1 : S4352x5632.ReducesTo [0, 1] S_

variable [Facts]

def fn_part1 {F : FTy → Type} [FloatOps F] (main_v14 : IVec S_ 1) (main_v16 : FVec F S4352x5632 .f32) (main_cst_4 : FVec F S_ .f32) : IVec S_ 1 :=
  let main_v17 : FVec F S4352x5632 .f32 := broadcastInDim S4352x5632 ![] bcast_S_S4352x5632 main_cst_4
  let main_v18 : IVec S4352x5632 1 := cmpf .olt main_v16 main_v17
  let main_c_5 : IVec S_ 1 := constantI S_ 1 1#1
  let main_v19 : IVec S_ 1 := (fun x v => Host.reduce IntOp.andi x v reducesTo_S4352x5632_S_d0_1 h_S_) main_v18 main_c_5
  let main_v20 : IVec S_ 1 := andi main_v14 main_v19
  main_v20

def fn {F : FTy → Type} [FloatOps F] (main_arg0 : FVec F S4352x11264 .bf16) (main_arg1 : FVec F S3x11264 .f32) (main_arg2 : FVec F S11264 .f32) (main_arg3 : FVec F S4352x5632 .bf16) : IVec S_ 1 :=
  let main_v0 : FVec F S4352x11264 .f32 := (extf .f32 · bitsLt_bf16_f32) main_arg0
  let main_v1 : FVec F S4352x11264 .f32 := Host.absf main_v0
  let main_cst : FVec F S_ .f32 := constant S_ .f32 0x7F800000#32
  let main_v2 : FVec F S4352x11264 .f32 := broadcastInDim S4352x11264 ![] bcast_S_S4352x11264 main_cst
  let main_v3 : IVec S4352x11264 1 := cmpf .olt main_v1 main_v2
  let main_c : IVec S_ 1 := constantI S_ 1 1#1
  let main_v4 : IVec S_ 1 := (fun x v => Host.reduce IntOp.andi x v reducesTo_S4352x11264_S_d0_1 h_S_) main_v3 main_c
  let main_v5 : FVec F S3x11264 .f32 := Host.absf main_arg1
  let main_cst_0 : FVec F S_ .f32 := constant S_ .f32 0x7F800000#32
  let main_v6 : FVec F S3x11264 .f32 := broadcastInDim S3x11264 ![] bcast_S_S3x11264 main_cst_0
  let main_v7 : IVec S3x11264 1 := cmpf .olt main_v5 main_v6
  let main_c_1 : IVec S_ 1 := constantI S_ 1 1#1
  let main_v8 : IVec S_ 1 := (fun x v => Host.reduce IntOp.andi x v reducesTo_S3x11264_S_d0_1 h_S_) main_v7 main_c_1
  let main_v9 : IVec S_ 1 := andi main_v4 main_v8
  let main_v10 : FVec F S11264 .f32 := Host.absf main_arg2
  let main_cst_2 : FVec F S_ .f32 := constant S_ .f32 0x7F800000#32
  let main_v11 : FVec F S11264 .f32 := broadcastInDim S11264 ![] bcast_S_S11264 main_cst_2
  let main_v12 : IVec S11264 1 := cmpf .olt main_v10 main_v11
  let main_c_3 : IVec S_ 1 := constantI S_ 1 1#1
  let main_v13 : IVec S_ 1 := (fun x v => Host.reduce IntOp.andi x v reducesTo_S11264_S_d0 h_S_) main_v12 main_c_3
  let main_v14 : IVec S_ 1 := andi main_v9 main_v13
  let main_v15 : FVec F S4352x5632 .f32 := (extf .f32 · bitsLt_bf16_f32) main_arg3
  let main_v16 : FVec F S4352x5632 .f32 := Host.absf main_v15
  let main_cst_4 : FVec F S_ .f32 := constant S_ .f32 0x7F800000#32
  fn_part1 (F := F) main_v14 main_v16 main_cst_4
-- ==== Kernel.lean ====
abbrev S4352x11264 : Shape := ⟨2, ![4352, 11264]⟩
abbrev S3x11264 : Shape := ⟨2, ![3, 11264]⟩
abbrev S11264 : Shape := ⟨1, ![11264]⟩
abbrev S4352x5632 : Shape := ⟨2, ![4352, 5632]⟩
abbrev S1x11264 : Shape := ⟨2, ![1, 11264]⟩
abbrev S2x4352x5632 : Shape := ⟨3, ![2, 4352, 5632]⟩
abbrev S2x4x5632 : Shape := ⟨3, ![2, 4, 5632]⟩
abbrev S544x512 : Shape := ⟨2, ![544, 512]⟩
abbrev S16x512 : Shape := ⟨2, ![16, 512]⟩
abbrev S3x512 : Shape := ⟨2, ![3, 512]⟩
abbrev S1x512 : Shape := ⟨2, ![1, 512]⟩
abbrev S2x544x512 : Shape := ⟨3, ![2, 544, 512]⟩
abbrev S2x4x512 : Shape := ⟨3, ![2, 4, 512]⟩
abbrev S8x512 : Shape := ⟨2, ![8, 512]⟩
abbrev S552x512 : Shape := ⟨2, ![552, 512]⟩
abbrev S1x544x512 : Shape := ⟨3, ![1, 544, 512]⟩
abbrev S1x4x512 : Shape := ⟨3, ![1, 4, 512]⟩
abbrev S4x512 : Shape := ⟨2, ![4, 512]⟩
abbrev S512 : Shape := ⟨1, ![512]⟩

abbrev nBuf : Space → Nat
  | .hbm => 8
  | .vmem => 22
  | .smem => 0
  | _ => 0

abbrev bufTy : (tb : Table) → Fin (tcTables nBuf tb) → BufTy
  | .hbm, ⟨0, _⟩ => ⟨S4352x11264, .bf16⟩
  | .hbm, ⟨1, _⟩ => ⟨S3x11264, .f32⟩
  | .hbm, ⟨2, _⟩ => ⟨S11264, .f32⟩
  | .hbm, ⟨3, _⟩ => ⟨S4352x5632, .bf16⟩
  | .hbm, ⟨4, _⟩ => ⟨S1x11264, .f32⟩
  | .hbm, ⟨5, _⟩ => ⟨S1x11264, .f32⟩
  | .hbm, ⟨6, _⟩ => ⟨S2x4352x5632, .bf16⟩
  | .hbm, ⟨7, _⟩ => ⟨S2x4x5632, .f32⟩
  | .local _ .vmem, ⟨0, _⟩ => ⟨S544x512, .bf16⟩
  | .local _ .vmem, ⟨1, _⟩ => ⟨S544x512, .bf16⟩
  | .local _ .vmem, ⟨2, _⟩ => ⟨S16x512, .bf16⟩
  | .local _ .vmem, ⟨3, _⟩ => ⟨S16x512, .bf16⟩
  | .local _ .vmem, ⟨4, _⟩ => ⟨S544x512, .bf16⟩
  | .local _ .vmem, ⟨5, _⟩ => ⟨S544x512, .bf16⟩
  | .local _ .vmem, ⟨6, _⟩ => ⟨S16x512, .bf16⟩
  | .local _ .vmem, ⟨7, _⟩ => ⟨S16x512, .bf16⟩
  | .local _ .vmem, ⟨8, _⟩ => ⟨S3x512, .f32⟩
  | .local _ .vmem, ⟨9, _⟩ => ⟨S3x512, .f32⟩
  | .local _ .vmem, ⟨10, _⟩ => ⟨S3x512, .f32⟩
  | .local _ .vmem, ⟨11, _⟩ => ⟨S3x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S544x512, .bf16⟩
  | .local _ .vmem, ⟨17, _⟩ => ⟨S544x512, .bf16⟩
  | .local _ .vmem, ⟨18, _⟩ => ⟨S2x544x512, .bf16⟩
  | .local _ .vmem, ⟨19, _⟩ => ⟨S2x544x512, .bf16⟩
  | .local _ .vmem, ⟨20, _⟩ => ⟨S2x4x512, .f32⟩
  | .local _ .vmem, ⟨21, _⟩ => ⟨S2x4x512, .f32⟩
  | _, _ => ⟨S4352x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c34_i32 : BitVec 32 := 34#32
  let v0 : BitVec 32 := Scalar.muli arg1 c34_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c34_i32 : BitVec 32 := 34#32
  let v0 : BitVec 32 := Scalar.muli arg1 c34_i32
  let c1_i32 : BitVec 32 := 1#32
  let v1 : BitVec 32 := Scalar.subi v0 c1_i32
  let c0_i32 : BitVec 32 := 0#32
  let v2 : BitVec 32 := Scalar.maxsi v1 c0_i32
  let c11_i32 : BitVec 32 := 11#32
  let v3 : BitVec 32 := Scalar.addi c11_i32 arg0
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S544x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S544x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S544x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2x544x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2x4x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceIdeal.lean ====
abbrev S4352x11264 : Shape := ⟨2, ![4352, 11264]⟩
abbrev S3x11264 : Shape := ⟨2, ![3, 11264]⟩
abbrev S11264 : Shape := ⟨1, ![11264]⟩
abbrev S4352x5632 : Shape := ⟨2, ![4352, 5632]⟩
abbrev S_ : Shape := ⟨0, ![]⟩
abbrev S2x11264 : Shape := ⟨2, ![2, 11264]⟩
abbrev S4354x11264 : Shape := ⟨2, ![4354, 11264]⟩
abbrev S1x11264 : Shape := ⟨2, ![1, 11264]⟩
abbrev S1x4352x5632 : Shape := ⟨3, ![1, 4352, 5632]⟩
abbrev S2x4352x5632 : Shape := ⟨3, ![2, 4352, 5632]⟩
abbrev S4x11264 : Shape := ⟨2, ![4, 11264]⟩
abbrev S4x5632 : Shape := ⟨2, ![4, 5632]⟩
abbrev S1x4x5632 : Shape := ⟨3, ![1, 4, 5632]⟩
abbrev S2x4x5632 : Shape := ⟨3, ![2, 4, 5632]⟩

abbrev nBuf : Space → Nat
  | .hbm => 109
  | .vmem => 0
  | .smem => 0
  | _ => 0

abbrev bufTy : (tb : Table) → Fin (tcTables nBuf tb) → BufTy
  | .hbm, ⟨0, _⟩ => ⟨S4352x11264, .bf16⟩
  | .hbm, ⟨1, _⟩ => ⟨S3x11264, .f32⟩
  | .hbm, ⟨2, _⟩ => ⟨S11264, .f32⟩
  | .hbm, ⟨3, _⟩ => ⟨S4352x5632, .bf16⟩
  | .hbm, ⟨4, _⟩ => ⟨S4352x11264, .f32⟩
  | .hbm, ⟨5, _⟩ => ⟨S_, .f32⟩
  | .hbm, ⟨6, _⟩ => ⟨S2x11264, .f32⟩
  | .hbm, ⟨7, _⟩ => ⟨S4354x11264, .f32⟩
  | .hbm, ⟨8, _⟩ => ⟨S1x11264, .f32⟩
  | .hbm, ⟨9, _⟩ => ⟨S11264, .f32⟩
  | .hbm, ⟨10, _⟩ => ⟨S4352x11264, .f32⟩
  | .hbm, ⟨11, _⟩ => ⟨S1x11264, .f32⟩
  | .hbm, ⟨12, _⟩ => ⟨S4352x11264, .f32⟩
  | .hbm, ⟨13, _⟩ => ⟨S4352x11264, .f32⟩
  | .hbm, ⟨14, _⟩ => ⟨S_, .f32⟩
  | .hbm, ⟨15, _⟩ => ⟨S4352x11264, .f32⟩
  | .hbm, ⟨16, _⟩ => ⟨S4352x11264, .f32⟩
  | .hbm, ⟨17, _⟩ => ⟨S1x11264, .f32⟩
  | .hbm, ⟨18, _⟩ => ⟨S11264, .f32⟩
  | .hbm, ⟨19, _⟩ => ⟨S4352x11264, .f32⟩
  | .hbm, ⟨20, _⟩ => ⟨S1x11264, .f32⟩
  | .hbm, ⟨21, _⟩ => ⟨S4352x11264, .f32⟩
  | .hbm, ⟨22, _⟩ => ⟨S4352x11264, .f32⟩
  | .hbm, ⟨23, _⟩ => ⟨S4352x11264, .f32⟩
  | .hbm, ⟨24, _⟩ => ⟨S1x11264, .f32⟩
  | .hbm, ⟨25, _⟩ => ⟨S11264, .f32⟩
  | .hbm, ⟨26, _⟩ => ⟨S4352x11264, .f32⟩
  | .hbm, ⟨27, _⟩ => ⟨S1x11264, .f32⟩
  | .hbm, ⟨28, _⟩ => ⟨S4352x11264, .f32⟩
  | .hbm, ⟨29, _⟩ => ⟨S4352x11264, .f32⟩
  | .hbm, ⟨30, _⟩ => ⟨S4352x11264, .f32⟩
  | .hbm, ⟨31, _⟩ => ⟨S1x11264, .f32⟩
  | .hbm, ⟨32, _⟩ => ⟨S4352x11264, .f32⟩
  | .hbm, ⟨33, _⟩ => ⟨S4352x11264, .f32⟩
  | .hbm, ⟨34, _⟩ => ⟨S4352x5632, .f32⟩
  | .hbm, ⟨35, _⟩ => ⟨S4352x5632, .f32⟩
  | .hbm, ⟨36, _⟩ => ⟨S4352x5632, .f32⟩
  | .hbm, ⟨37, _⟩ => ⟨S_, .f32⟩
  | .hbm, ⟨38, _⟩ => ⟨S4352x5632, .f32⟩
  | .hbm, ⟨39, _⟩ => ⟨S4352x5632, .f32⟩
  | .hbm, ⟨40, _⟩ => ⟨S_, .f32⟩
  | .hbm, ⟨41, _⟩ => ⟨S4352x5632, .f32⟩
  | .hbm, ⟨42, _⟩ => ⟨S4352x5632, .f32⟩
  | .hbm, ⟨43, _⟩ => ⟨S_, .f32⟩
  | .hbm, ⟨44, _⟩ => ⟨S4352x5632, .f32⟩
  | .hbm, ⟨45, _⟩ => ⟨S4352x5632, .f32⟩
  | .hbm, ⟨46, _⟩ => ⟨S4352x5632, .f32⟩
  | .hbm, ⟨47, _⟩ => ⟨S4352x5632, .f32⟩
  | .hbm, ⟨48, _⟩ => ⟨S4352x5632, .f32⟩
  | .hbm, ⟨49, _⟩ => ⟨S4352x5632, .f32⟩
  | .hbm, ⟨50, _⟩ => ⟨S4352x5632, .f32⟩
  | .hbm, ⟨51, _⟩ => ⟨S4352x5632, .f32⟩
  | .hbm, ⟨52, _⟩ => ⟨S4352x5632, .f32⟩
  | .hbm, ⟨53, _⟩ => ⟨S_, .f32⟩
  | .hbm, ⟨54, _⟩ => ⟨S4352x11264, .f32⟩
  | .hbm, ⟨55, _⟩ => ⟨S4352x5632, .f32⟩
  | .hbm, ⟨56, _⟩ => ⟨S4352x5632, .f32⟩
  | .hbm, ⟨57, _⟩ => ⟨S4352x5632, .f32⟩
  | .hbm, ⟨58, _⟩ => ⟨S4352x5632, .f32⟩
  | .hbm, ⟨59, _⟩ => ⟨S_, .f32⟩
  | .hbm, ⟨60, _⟩ => ⟨S4352x11264, .f32⟩
  | .hbm, ⟨61, _⟩ => ⟨S4352x11264, .f32⟩
  | .hbm, ⟨62, _⟩ => ⟨S_, .f32⟩
  | .hbm, ⟨63, _⟩ => ⟨S11264, .f32⟩
  | .hbm, ⟨64, _⟩ => ⟨S1x11264, .f32⟩
  | .hbm, ⟨65, _⟩ => ⟨S_, .f32⟩
  | .hbm, ⟨66, _⟩ => ⟨S11264, .f32⟩
  | .hbm, ⟨67, _⟩ => ⟨S4352x11264, .f32⟩
  | .hbm, ⟨68, _⟩ => ⟨S_, .f32⟩
  | .hbm, ⟨69, _⟩ => ⟨S11264, .f32⟩
  | .hbm, ⟨70, _⟩ => ⟨S1x11264, .f32⟩
  | .hbm, ⟨71, _⟩ => ⟨S_, .f32⟩
  | .hbm, ⟨72, _⟩ => ⟨S11264, .f32⟩
  | .hbm, ⟨73, _⟩ => ⟨S1x11264, .f32⟩
  | .hbm, ⟨74, _⟩ => ⟨S_, .f32⟩
  | .hbm, ⟨75, _⟩ => ⟨S3x11264, .f32⟩
  | .hbm, ⟨76, _⟩ => ⟨S4352x11264, .f32⟩
  | .hbm, ⟨77, _⟩ => ⟨S_, .f32⟩
  | .hbm, ⟨78, _⟩ => ⟨S11264, .f32⟩
  | .hbm, ⟨79, _⟩ => ⟨S1x11264, .f32⟩
  | .hbm, ⟨80, _⟩ => ⟨S_, .f32⟩
  | .hbm, ⟨81, _⟩ => ⟨S11264, .f32⟩
  | .hbm, ⟨82, _⟩ => ⟨S1x11264, .f32⟩
  | .hbm, ⟨83, _⟩ => ⟨S_, .f32⟩
  | .hbm, ⟨84, _⟩ => ⟨S3x11264, .f32⟩
  | .hbm, ⟨85, _⟩ => ⟨S3x11264, .f32⟩
  | .hbm, ⟨86, _⟩ => ⟨S4352x11264, .f32⟩
  | .hbm, ⟨87, _⟩ => ⟨S_, .f32⟩
  | .hbm, ⟨88, _⟩ => ⟨S11264, .f32⟩
  | .hbm, ⟨89, _⟩ => ⟨S1x11264, .f32⟩
  | .hbm, ⟨90, _⟩ => ⟨S_, .f32⟩
  | .hbm, ⟨91, _⟩ => ⟨S11264, .f32⟩
  | .hbm, ⟨92, _⟩ => ⟨S1x11264, .f32⟩
  | .hbm, ⟨93, _⟩ => ⟨S_, .f32⟩
  | .hbm, ⟨94, _⟩ => ⟨S3x11264, .f32⟩
  | .hbm, ⟨95, _⟩ => ⟨S3x11264, .f32⟩
  | .hbm, ⟨96, _⟩ => ⟨S4352x5632, .f32⟩
  | .hbm, ⟨97, _⟩ => ⟨S4352x5632, .f32⟩
  | .hbm, ⟨98, _⟩ => ⟨S1x4352x5632, .f32⟩
  | .hbm, ⟨99, _⟩ => ⟨S1x4352x5632, .f32⟩
  | .hbm, ⟨100, _⟩ => ⟨S2x4352x5632, .f32⟩
  | .hbm, ⟨101, _⟩ => ⟨S2x4352x5632, .bf16⟩
  | .hbm, ⟨102, _⟩ => ⟨S1x11264, .f32⟩
  | .hbm, ⟨103, _⟩ => ⟨S4x11264, .f32⟩
  | .hbm, ⟨104, _⟩ => ⟨S4x5632, .f32⟩
  | .hbm, ⟨105, _⟩ => ⟨S4x5632, .f32⟩
  | .hbm, ⟨106, _⟩ => ⟨S1x4x5632, .f32⟩
  | .hbm, ⟨107, _⟩ => ⟨S1x4x5632, .f32⟩
  | .hbm, ⟨108, _⟩ => ⟨S2x4x5632, .f32⟩
  | _, _ => ⟨S4352x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v29_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v29_1 : Ref sig .tc := ⟨.hbm, 46, rfl⟩
abbrev main_v29_0 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_1 : Ref sig .tc := ⟨.hbm, 53, rfl⟩
abbrev main_v35 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v36 : Ref sig .tc := ⟨.hbm, 58, rfl⟩
abbrev main_cst_2 : Ref sig .tc := ⟨.hbm, 59, rfl⟩
abbrev main_v37 : Ref sig .tc := ⟨.hbm, 60, rfl⟩
abbrev main_v38 : Ref sig .tc := ⟨.hbm, 61, rfl⟩
abbrev main_cst_3 : Ref sig .tc := ⟨.hbm, 62, rfl⟩
abbrev main_v39 : Ref sig .tc := ⟨.hbm, 63, rfl⟩
abbrev main_v40 : Ref sig .tc := ⟨.hbm, 64, rfl⟩
abbrev main_cst_4 : Ref sig .tc := ⟨.hbm, 65, rfl⟩
abbrev main_v41 : Ref sig .tc := ⟨.hbm, 66, rfl⟩
abbrev main_v42 : Ref sig .tc := ⟨.hbm, 67, rfl⟩
abbrev main_cst_5 : Ref sig .tc := ⟨.hbm, 68, rfl⟩
abbrev main_v43 : Ref sig .tc := ⟨.hbm, 69, rfl⟩
abbrev main_v44 : Ref sig .tc := ⟨.hbm, 70, rfl⟩
abbrev main_cst_6 : Ref sig .tc := ⟨.hbm, 71, rfl⟩
abbrev main_v45 : Ref sig .tc := ⟨.hbm, 72, rfl⟩
abbrev main_v46 : Ref sig .tc := ⟨.hbm, 73, rfl⟩
abbrev main_cst_7 : Ref sig .tc := ⟨.hbm, 74, rfl⟩
abbrev main_v47 : Ref sig .tc := ⟨.hbm, 75, rfl⟩
abbrev main_v48 : Ref sig .tc := ⟨.hbm, 76, rfl⟩
abbrev main_cst_8 : Ref sig .tc := ⟨.hbm, 77, rfl⟩
abbrev main_v49 : Ref sig .tc := ⟨.hbm, 78, rfl⟩
abbrev main_v50 : Ref sig .tc := ⟨.hbm, 79, rfl⟩
abbrev main_cst_9 : Ref sig .tc := ⟨.hbm, 80, rfl⟩
abbrev main_v51 : Ref sig .tc := ⟨.hbm, 81, rfl⟩
abbrev main_v52 : Ref sig .tc := ⟨.hbm, 82, rfl⟩
abbrev main_cst_10 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_11 : Ref sig .tc := ⟨.hbm, 87, rfl⟩
abbrev main_v56 : Ref sig .tc := ⟨.hbm, 88, rfl⟩
abbrev main_v57 : Ref sig .tc := ⟨.hbm, 89, rfl⟩
abbrev main_cst_12 : Ref sig .tc := ⟨.hbm, 90, rfl⟩
abbrev main_v58 : Ref sig .tc := ⟨.hbm, 91, rfl⟩
abbrev main_v59 : Ref sig .tc := ⟨.hbm, 92, rfl⟩
abbrev main_cst_13 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩

abbrev nD : Nat := 1
abbrev τ : Topo := Topo.v7x

variable {F : FTy → Type} [FloatOps F]
-- ==== Kernel2.lean ====
abbrev S2x4352x5632 : Shape := ⟨3, ![2, 4352, 5632]⟩
abbrev S3x11264 : Shape := ⟨2, ![3, 11264]⟩
abbrev S4352x11264 : Shape := ⟨2, ![4352, 11264]⟩
abbrev S1x1088x512 : Shape := ⟨3, ![1, 1088, 512]⟩
abbrev S1x16x512 : Shape := ⟨3, ![1, 16, 512]⟩
abbrev S3x512 : Shape := ⟨2, ![3, 512]⟩
abbrev S1088x512 : Shape := ⟨2, ![1088, 512]⟩
abbrev S16x512 : Shape := ⟨2, ![16, 512]⟩
abbrev S8x512 : Shape := ⟨2, ![8, 512]⟩
abbrev S1096x512 : Shape := ⟨2, ![1096, 512]⟩
abbrev S1x512 : Shape := ⟨2, ![1, 512]⟩

abbrev nBuf : Space → Nat
  | .hbm => 3
  | .vmem => 8
  | .smem => 0
  | _ => 0

abbrev bufTy : (tb : Table) → Fin (tcTables nBuf tb) → BufTy
  | .hbm, ⟨0, _⟩ => ⟨S2x4352x5632, .bf16⟩
  | .hbm, ⟨1, _⟩ => ⟨S3x11264, .f32⟩
  | .hbm, ⟨2, _⟩ => ⟨S4352x11264, .bf16⟩
  | .local _ .vmem, ⟨0, _⟩ => ⟨S1x1088x512, .bf16⟩
  | .local _ .vmem, ⟨1, _⟩ => ⟨S1x1088x512, .bf16⟩
  | .local _ .vmem, ⟨2, _⟩ => ⟨S1x16x512, .bf16⟩
  | .local _ .vmem, ⟨3, _⟩ => ⟨S1x16x512, .bf16⟩
  | .local _ .vmem, ⟨4, _⟩ => ⟨S3x512, .f32⟩
  | .local _ .vmem, ⟨5, _⟩ => ⟨S3x512, .f32⟩
  | .local _ .vmem, ⟨6, _⟩ => ⟨S1088x512, .bf16⟩
  | .local _ .vmem, ⟨7, _⟩ => ⟨S1088x512, .bf16⟩
  | _, _ => ⟨S2x4352x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 22], ![false, false]⟩

def cc0_transform_0 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.divsi arg1 c11_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg1 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32_4 : BitVec 32 := 11#32
  let c0_i32_5 : BitVec 32 := 0#32
  let v17 : BitVec 1 := Scalar.cmpi .eq c11_i32_4 c0_i32_5
  let c1_i32_6 : BitVec 32 := 1#32
  let v18 : BitVec 32 := Scalar.select v17 c1_i32_6 c11_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.divsi arg1 c11_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg1 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi arg0 c1_i32_4
  let c68_i32 : BitVec 32 := 68#32
  let v18 : BitVec 32 := Scalar.muli v17 c68_i32
  let c271_i32 : BitVec 32 := 271#32
  let v19 : BitVec 32 := Scalar.minsi v18 c271_i32
  let c11_i32_5 : BitVec 32 := 11#32
  let c0_i32_6 : BitVec 32 := 0#32
  let v20 : BitVec 1 := Scalar.cmpi .eq c11_i32_5 c0_i32_6
  let c1_i32_7 : BitVec 32 := 1#32
  let v21 : BitVec 32 := Scalar.select v20 c1_i32_7 c11_i32_5
  let v22 : BitVec 32 := Scalar.remsi arg1 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c0_i32_11 : BitVec 32 := 0#32
  ![v16.toNat, v19.toNat, v29.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x1088x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1088x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S2x4352x5632 : Shape := ⟨3, ![2, 4352, 5632]⟩
abbrev S3x11264 : Shape := ⟨2, ![3, 11264]⟩
abbrev S_ : Shape := ⟨0, ![]⟩
abbrev S4352x11264 : Shape := ⟨2, ![4352, 11264]⟩
abbrev S1x4352x5632 : Shape := ⟨3, ![1, 4352, 5632]⟩
abbrev S4352x5632 : Shape := ⟨2, ![4352, 5632]⟩
abbrev S11264 : Shape := ⟨1, ![11264]⟩
abbrev S2x11264 : Shape := ⟨2, ![2, 11264]⟩
abbrev S4354x11264 : Shape := ⟨2, ![4354, 11264]⟩
abbrev S1x11264 : Shape := ⟨2, ![1, 11264]⟩

abbrev nBuf : Space → Nat
  | .hbm => 60
  | .vmem => 0
  | .smem => 0
  | _ => 0

abbrev bufTy : (tb : Table) → Fin (tcTables nBuf tb) → BufTy
  | .hbm, ⟨0, _⟩ => ⟨S2x4352x5632, .bf16⟩
  | .hbm, ⟨1, _⟩ => ⟨S3x11264, .f32⟩
  | .hbm, ⟨2, _⟩ => ⟨S_, .f32⟩
  | .hbm, ⟨3, _⟩ => ⟨S4352x11264, .f32⟩
  | .hbm, ⟨4, _⟩ => ⟨S1x4352x5632, .bf16⟩
  | .hbm, ⟨5, _⟩ => ⟨S4352x5632, .bf16⟩
  | .hbm, ⟨6, _⟩ => ⟨S1x4352x5632, .bf16⟩
  | .hbm, ⟨7, _⟩ => ⟨S4352x5632, .bf16⟩
  | .hbm, ⟨8, _⟩ => ⟨S4352x11264, .bf16⟩
  | .hbm, ⟨9, _⟩ => ⟨S4352x11264, .f32⟩
  | .hbm, ⟨10, _⟩ => ⟨S_, .f32⟩
  | .hbm, ⟨11, _⟩ => ⟨S11264, .f32⟩
  | .hbm, ⟨12, _⟩ => ⟨S_, .f32⟩
  | .hbm, ⟨13, _⟩ => ⟨S2x11264, .f32⟩
  | .hbm, ⟨14, _⟩ => ⟨S4354x11264, .f32⟩
  | .hbm, ⟨15, _⟩ => ⟨S_, .f32⟩
  | .hbm, ⟨16, _⟩ => ⟨S2x11264, .f32⟩
  | .hbm, ⟨17, _⟩ => ⟨S1x11264, .f32⟩
  | .hbm, ⟨18, _⟩ => ⟨S11264, .f32⟩
  | .hbm, ⟨19, _⟩ => ⟨S4352x11264, .f32⟩
  | .hbm, ⟨20, _⟩ => ⟨S1x11264, .f32⟩
  | .hbm, ⟨21, _⟩ => ⟨S4352x11264, .f32⟩
  | .hbm, ⟨22, _⟩ => ⟨S4352x11264, .f32⟩
  | .hbm, ⟨23, _⟩ => ⟨S_, .f32⟩
  | .hbm, ⟨24, _⟩ => ⟨S4352x11264, .f32⟩
  | .hbm, ⟨25, _⟩ => ⟨S4352x11264, .f32⟩
  | .hbm, ⟨26, _⟩ => ⟨S1x11264, .f32⟩
  | .hbm, ⟨27, _⟩ => ⟨S11264, .f32⟩
  | .hbm, ⟨28, _⟩ => ⟨S4352x11264, .f32⟩
  | .hbm, ⟨29, _⟩ => ⟨S1x11264, .f32⟩
  | .hbm, ⟨30, _⟩ => ⟨S4352x11264, .f32⟩
  | .hbm, ⟨31, _⟩ => ⟨S4352x11264, .f32⟩
  | .hbm, ⟨32, _⟩ => ⟨S4352x11264, .f32⟩
  | .hbm, ⟨33, _⟩ => ⟨S1x11264, .f32⟩
  | .hbm, ⟨34, _⟩ => ⟨S11264, .f32⟩
  | .hbm, ⟨35, _⟩ => ⟨S4352x11264, .f32⟩
  | .hbm, ⟨36, _⟩ => ⟨S1x11264, .f32⟩
  | .hbm, ⟨37, _⟩ => ⟨S4352x11264, .f32⟩
  | .hbm, ⟨38, _⟩ => ⟨S4352x11264, .f32⟩
  | .hbm, ⟨39, _⟩ => ⟨S4352x11264, .f32⟩
  | .hbm, ⟨40, _⟩ => ⟨S1x11264, .f32⟩
  | .hbm, ⟨41, _⟩ => ⟨S4352x11264, .f32⟩
  | .hbm, ⟨42, _⟩ => ⟨S4352x11264, .f32⟩
  | .hbm, ⟨43, _⟩ => ⟨S4352x11264, .f32⟩
  | .hbm, ⟨44, _⟩ => ⟨S4352x11264, .f32⟩
  | .hbm, ⟨45, _⟩ => ⟨S_, .f32⟩
  | .hbm, ⟨46, _⟩ => ⟨S4354x11264, .f32⟩
  | .hbm, ⟨47, _⟩ => ⟨S4352x11264, .f32⟩
  | .hbm, ⟨48, _⟩ => ⟨S4352x11264, .f32⟩
  | .hbm, ⟨49, _⟩ => ⟨S_, .f32⟩
  | .hbm, ⟨50, _⟩ => ⟨S4354x11264, .f32⟩
  | .hbm, ⟨51, _⟩ => ⟨S4354x11264, .f32⟩
  | .hbm, ⟨52, _⟩ => ⟨S4352x11264, .f32⟩
  | .hbm, ⟨53, _⟩ => ⟨S4352x11264, .f32⟩
  | .hbm, ⟨54, _⟩ => ⟨S_, .f32⟩
  | .hbm, ⟨55, _⟩ => ⟨S4354x11264, .f32⟩
  | .hbm, ⟨56, _⟩ => ⟨S4354x11264, .f32⟩
  | .hbm, ⟨57, _⟩ => ⟨S2x11264, .f32⟩
  | .hbm, ⟨58, _⟩ => ⟨S4352x11264, .f32⟩
  | .hbm, ⟨59, _⟩ => ⟨S4352x11264, .bf16⟩
  | _, _ => ⟨S2x4352x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_4 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_5 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_6 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩

abbrev nD : Nat := 1
abbrev τ : Topo := Topo.v7x

variable {F : FTy → Type} [FloatOps F]
-- ==== Kernel3.lean ====
abbrev S5632x2048 : Shape := ⟨2, ![5632, 2048]⟩
abbrev S4352x2048 : Shape := ⟨2, ![4352, 2048]⟩
abbrev S4352x5632 : Shape := ⟨2, ![4352, 5632]⟩
abbrev S1088x2048 : Shape := ⟨2, ![1088, 2048]⟩
abbrev S512x2048 : Shape := ⟨2, ![512, 2048]⟩
abbrev S1088x512 : Shape := ⟨2, ![1088, 512]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S5632x2048, .bf16⟩
  | .hbm, ⟨1, _⟩ => ⟨S4352x2048, .bf16⟩
  | .hbm, ⟨2, _⟩ => ⟨S4352x5632, .bf16⟩
  | .local _ .vmem, ⟨0, _⟩ => ⟨S1088x2048, .bf16⟩
  | .local _ .vmem, ⟨1, _⟩ => ⟨S1088x2048, .bf16⟩
  | .local _ .vmem, ⟨2, _⟩ => ⟨S512x2048, .bf16⟩
  | .local _ .vmem, ⟨3, _⟩ => ⟨S512x2048, .bf16⟩
  | .local _ .vmem, ⟨4, _⟩ => ⟨S1088x512, .bf16⟩
  | .local _ .vmem, ⟨5, _⟩ => ⟨S1088x512, .bf16⟩
  | .local _ .vmem, ⟨6, _⟩ => ⟨S8x128, .f32⟩
  | _, _ => ⟨S5632x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S5632x2048 : Shape := ⟨2, ![5632, 2048]⟩
abbrev S4352x2048 : Shape := ⟨2, ![4352, 2048]⟩
abbrev S_ : Shape := ⟨0, ![]⟩
abbrev S4352x5632 : Shape := ⟨2, ![4352, 5632]⟩

abbrev nBuf : Space → Nat
  | .hbm => 9
  | .vmem => 0
  | .smem => 0
  | _ => 0

abbrev bufTy : (tb : Table) → Fin (tcTables nBuf tb) → BufTy
  | .hbm, ⟨0, _⟩ => ⟨S5632x2048, .bf16⟩
  | .hbm, ⟨1, _⟩ => ⟨S4352x2048, .bf16⟩
  | .hbm, ⟨2, _⟩ => ⟨S5632x2048, .f32⟩
  | .hbm, ⟨3, _⟩ => ⟨S_, .f32⟩
  | .hbm, ⟨4, _⟩ => ⟨S4352x5632, .f32⟩
  | .hbm, ⟨5, _⟩ => ⟨S4352x2048, .f32⟩
  | .hbm, ⟨6, _⟩ => ⟨S4352x2048, .f32⟩
  | .hbm, ⟨7, _⟩ => ⟨S4352x5632, .f32⟩
  | .hbm, ⟨8, _⟩ => ⟨S4352x5632, .bf16⟩
  | _, _ => ⟨S5632x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S4352x5632 : Shape := ⟨2, ![4352, 5632]⟩
abbrev S4352x2048 : Shape := ⟨2, ![4352, 2048]⟩
abbrev S5632x2048 : Shape := ⟨2, ![5632, 2048]⟩
abbrev S4352x512 : Shape := ⟨2, ![4352, 512]⟩
abbrev S4352x1024 : Shape := ⟨2, ![4352, 1024]⟩
abbrev S512x1024 : Shape := ⟨2, ![512, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4352x5632, .bf16⟩
  | .hbm, ⟨1, _⟩ => ⟨S4352x2048, .bf16⟩
  | .hbm, ⟨2, _⟩ => ⟨S5632x2048, .bf16⟩
  | .local _ .vmem, ⟨0, _⟩ => ⟨S4352x512, .bf16⟩
  | .local _ .vmem, ⟨1, _⟩ => ⟨S4352x512, .bf16⟩
  | .local _ .vmem, ⟨2, _⟩ => ⟨S4352x1024, .bf16⟩
  | .local _ .vmem, ⟨3, _⟩ => ⟨S4352x1024, .bf16⟩
  | .local _ .vmem, ⟨4, _⟩ => ⟨S512x1024, .bf16⟩
  | .local _ .vmem, ⟨5, _⟩ => ⟨S512x1024, .bf16⟩
  | .local _ .vmem, ⟨6, _⟩ => ⟨S8x128, .f32⟩
  | _, _ => ⟨S4352x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4352x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4352x5632 : Shape := ⟨2, ![4352, 5632]⟩
abbrev S4352x2048 : Shape := ⟨2, ![4352, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4352x5632, .bf16⟩
  | .hbm, ⟨1, _⟩ => ⟨S4352x2048, .bf16⟩
  | .hbm, ⟨2, _⟩ => ⟨S4352x5632, .f32⟩
  | .hbm, ⟨3, _⟩ => ⟨S_, .f32⟩
  | .hbm, ⟨4, _⟩ => ⟨S5632x2048, .f32⟩
  | .hbm, ⟨5, _⟩ => ⟨S4352x2048, .f32⟩
  | .hbm, ⟨6, _⟩ => ⟨S4352x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S4352x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S2048x11264 : Shape := ⟨2, ![2048, 11264]⟩
abbrev S4352x11264 : Shape := ⟨2, ![4352, 11264]⟩
abbrev S4352x2048 : Shape := ⟨2, ![4352, 2048]⟩
abbrev S544x11264 : Shape := ⟨2, ![544, 11264]⟩
abbrev S256x11264 : Shape := ⟨2, ![256, 11264]⟩
abbrev S544x256 : Shape := ⟨2, ![544, 256]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S2048x11264, .bf16⟩
  | .hbm, ⟨1, _⟩ => ⟨S4352x11264, .bf16⟩
  | .hbm, ⟨2, _⟩ => ⟨S4352x2048, .f32⟩
  | .local _ .vmem, ⟨0, _⟩ => ⟨S544x11264, .bf16⟩
  | .local _ .vmem, ⟨1, _⟩ => ⟨S544x11264, .bf16⟩
  | .local _ .vmem, ⟨2, _⟩ => ⟨S256x11264, .bf16⟩
  | .local _ .vmem, ⟨3, _⟩ => ⟨S256x11264, .bf16⟩
  | .local _ .vmem, ⟨4, _⟩ => ⟨S544x256, .f32⟩
  | .local _ .vmem, ⟨5, _⟩ => ⟨S544x256, .f32⟩
  | .local _ .vmem, ⟨6, _⟩ => ⟨S8x128, .f32⟩
  | _, _ => ⟨S2048x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S544x11264 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x11264 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S544x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2048x11264 : Shape := ⟨2, ![2048, 11264]⟩
abbrev S4352x11264 : Shape := ⟨2, ![4352, 11264]⟩
abbrev S_ : Shape := ⟨0, ![]⟩
abbrev S4352x2048 : Shape := ⟨2, ![4352, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x11264, .bf16⟩
  | .hbm, ⟨1, _⟩ => ⟨S4352x11264, .bf16⟩
  | .hbm, ⟨2, _⟩ => ⟨S2048x11264, .f32⟩
  | .hbm, ⟨3, _⟩ => ⟨S_, .f32⟩
  | .hbm, ⟨4, _⟩ => ⟨S4352x2048, .f32⟩
  | .hbm, ⟨5, _⟩ => ⟨S4352x11264, .f32⟩
  | .hbm, ⟨6, _⟩ => ⟨S4352x11264, .f32⟩
  | .hbm, ⟨7, _⟩ => ⟨S4352x2048, .f32⟩
  | _, _ => ⟨S2048x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S4352x2048 : Shape := ⟨2, ![4352, 2048]⟩
abbrev S4352x11264 : Shape := ⟨2, ![4352, 11264]⟩
abbrev S2048x11264 : Shape := ⟨2, ![2048, 11264]⟩
abbrev S4352x1024 : Shape := ⟨2, ![4352, 1024]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4352x2048, .bf16⟩
  | .hbm, ⟨1, _⟩ => ⟨S4352x11264, .bf16⟩
  | .hbm, ⟨2, _⟩ => ⟨S2048x11264, .bf16⟩
  | .local _ .vmem, ⟨0, _⟩ => ⟨S4352x1024, .bf16⟩
  | .local _ .vmem, ⟨1, _⟩ => ⟨S4352x1024, .bf16⟩
  | .local _ .vmem, ⟨2, _⟩ => ⟨S4352x1024, .bf16⟩
  | .local _ .vmem, ⟨3, _⟩ => ⟨S4352x1024, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4352x2048 : Shape := ⟨2, ![4352, 2048]⟩
abbrev S4352x11264 : Shape := ⟨2, ![4352, 11264]⟩
abbrev S_ : Shape := ⟨0, ![]⟩
abbrev S2048x11264 : Shape := ⟨2, ![2048, 11264]⟩
abbrev S11264x2048 : Shape := ⟨2, ![11264, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4352x11264, .bf16⟩
  | .hbm, ⟨2, _⟩ => ⟨S4352x2048, .f32⟩
  | .hbm, ⟨3, _⟩ => ⟨S_, .f32⟩
  | .hbm, ⟨4, _⟩ => ⟨S2048x11264, .f32⟩
  | .hbm, ⟨5, _⟩ => ⟨S4352x11264, .f32⟩
  | .hbm, ⟨6, _⟩ => ⟨S4352x11264, .f32⟩
  | .hbm, ⟨7, _⟩ => ⟨S11264x2048, .f32⟩
  | .hbm, ⟨8, _⟩ => ⟨S2048x11264, .f32⟩
  | .hbm, ⟨9, _⟩ => ⟨S2048x11264, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S2048x2048 : Shape := ⟨2, ![2048, 2048]⟩
abbrev S4352x2048 : Shape := ⟨2, ![4352, 2048]⟩
abbrev S1088x2048 : Shape := ⟨2, ![1088, 2048]⟩
abbrev S1024x2048 : Shape := ⟨2, ![1024, 2048]⟩
abbrev S1088x1024 : Shape := ⟨2, ![1088, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S4352x2048, .bf16⟩
  | .hbm, ⟨2, _⟩ => ⟨S4352x2048, .f32⟩
  | .local _ .vmem, ⟨0, _⟩ => ⟨S1088x2048, .bf16⟩
  | .local _ .vmem, ⟨1, _⟩ => ⟨S1088x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1088x1024, .f32⟩
  | .local _ .vmem, ⟨5, _⟩ => ⟨S1088x1024, .f32⟩
  | .local _ .vmem, ⟨6, _⟩ => ⟨S8x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2048x2048 : Shape := ⟨2, ![2048, 2048]⟩
abbrev S4352x2048 : Shape := ⟨2, ![4352, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4352x2048, .bf16⟩
  | .hbm, ⟨2, _⟩ => ⟨S2048x2048, .f32⟩
  | .hbm, ⟨3, _⟩ => ⟨S_, .f32⟩
  | .hbm, ⟨4, _⟩ => ⟨S4352x2048, .f32⟩
  | .hbm, ⟨5, _⟩ => ⟨S4352x2048, .f32⟩
  | .hbm, ⟨6, _⟩ => ⟨S4352x2048, .f32⟩
  | .hbm, ⟨7, _⟩ => ⟨S4352x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S4352x2048 : Shape := ⟨2, ![4352, 2048]⟩
abbrev S2048x2048 : Shape := ⟨2, ![2048, 2048]⟩
abbrev S4352x1024 : Shape := ⟨2, ![4352, 1024]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4352x2048, .bf16⟩
  | .hbm, ⟨1, _⟩ => ⟨S4352x2048, .bf16⟩
  | .hbm, ⟨2, _⟩ => ⟨S2048x2048, .bf16⟩
  | .local _ .vmem, ⟨0, _⟩ => ⟨S4352x1024, .bf16⟩
  | .local _ .vmem, ⟨1, _⟩ => ⟨S4352x1024, .bf16⟩
  | .local _ .vmem, ⟨2, _⟩ => ⟨S4352x1024, .bf16⟩
  | .local _ .vmem, ⟨3, _⟩ => ⟨S4352x1024, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4352x2048 : Shape := ⟨2, ![4352, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4352x2048, .bf16⟩
  | .hbm, ⟨2, _⟩ => ⟨S4352x2048, .f32⟩
  | .hbm, ⟨3, _⟩ => ⟨S_, .f32⟩
  | .hbm, ⟨4, _⟩ => ⟨S2048x2048, .f32⟩
  | .hbm, ⟨5, _⟩ => ⟨S4352x2048, .f32⟩
  | .hbm, ⟨6, _⟩ => ⟨S4352x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S2048x6152 : Shape := ⟨2, ![2048, 6152]⟩
abbrev S4352x6144 : Shape := ⟨2, ![4352, 6144]⟩
abbrev S4352x128 : Shape := ⟨2, ![4352, 128]⟩
abbrev S2048x6144 : Shape := ⟨2, ![2048, 6144]⟩
abbrev S2048x8 : Shape := ⟨2, ![2048, 8]⟩
abbrev S_ : Shape := ⟨0, ![]⟩
abbrev S2048x128 : Shape := ⟨2, ![2048, 128]⟩
abbrev S4352x2048 : Shape := ⟨2, ![4352, 2048]⟩
abbrev S1088x6144 : Shape := ⟨2, ![1088, 6144]⟩
abbrev S256x6144 : Shape := ⟨2, ![256, 6144]⟩
abbrev S1088x128 : Shape := ⟨2, ![1088, 128]⟩
abbrev S256x128 : Shape := ⟨2, ![256, 128]⟩
abbrev S1088x256 : Shape := ⟨2, ![1088, 256]⟩
abbrev S8x128 : Shape := ⟨2, ![8, 128]⟩

abbrev nBuf : Space → Nat
  | .hbm => 9
  | .vmem => 11
  | .smem => 0
  | _ => 0

abbrev bufTy : (tb : Table) → Fin (tcTables nBuf tb) → BufTy
  | .hbm, ⟨0, _⟩ => ⟨S2048x6152, .bf16⟩
  | .hbm, ⟨1, _⟩ => ⟨S4352x6144, .bf16⟩
  | .hbm, ⟨2, _⟩ => ⟨S4352x128, .bf16⟩
  | .hbm, ⟨3, _⟩ => ⟨S2048x6144, .bf16⟩
  | .hbm, ⟨4, _⟩ => ⟨S2048x8, .bf16⟩
  | .hbm, ⟨5, _⟩ => ⟨S_, .i32⟩
  | .hbm, ⟨6, _⟩ => ⟨S_, .bf16⟩
  | .hbm, ⟨7, _⟩ => ⟨S2048x128, .bf16⟩
  | .hbm, ⟨8, _⟩ => ⟨S4352x2048, .f32⟩
  | .local _ .vmem, ⟨0, _⟩ => ⟨S1088x6144, .bf16⟩
  | .local _ .vmem, ⟨1, _⟩ => ⟨S1088x6144, .bf16⟩
  | .local _ .vmem, ⟨2, _⟩ => ⟨S256x6144, .bf16⟩
  | .local _ .vmem, ⟨3, _⟩ => ⟨S256x6144, .bf16⟩
  | .local _ .vmem, ⟨4, _⟩ => ⟨S1088x128, .bf16⟩
  | .local _ .vmem, ⟨5, _⟩ => ⟨S1088x128, .bf16⟩
  | .local _ .vmem, ⟨6, _⟩ => ⟨S256x128, .bf16⟩
  | .local _ .vmem, ⟨7, _⟩ => ⟨S256x128, .bf16⟩
  | .local _ .vmem, ⟨8, _⟩ => ⟨S1088x256, .f32⟩
  | .local _ .vmem, ⟨9, _⟩ => ⟨S1088x256, .f32⟩
  | .local _ .vmem, ⟨10, _⟩ => ⟨S8x128, .f32⟩
  | _, _ => ⟨S2048x6152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1088x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference9Ideal.lean ====
abbrev S2048x6152 : Shape := ⟨2, ![2048, 6152]⟩
abbrev S4352x6144 : Shape := ⟨2, ![4352, 6144]⟩
abbrev S4352x128 : Shape := ⟨2, ![4352, 128]⟩
abbrev S4352x8 : Shape := ⟨2, ![4352, 8]⟩
abbrev S4352x6152 : Shape := ⟨2, ![4352, 6152]⟩
abbrev S_ : Shape := ⟨0, ![]⟩
abbrev S4352x2048 : Shape := ⟨2, ![4352, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x6152, .bf16⟩
  | .hbm, ⟨1, _⟩ => ⟨S4352x6144, .bf16⟩
  | .hbm, ⟨2, _⟩ => ⟨S4352x128, .bf16⟩
  | .hbm, ⟨3, _⟩ => ⟨S4352x8, .bf16⟩
  | .hbm, ⟨4, _⟩ => ⟨S4352x6152, .bf16⟩
  | .hbm, ⟨5, _⟩ => ⟨S2048x6152, .f32⟩
  | .hbm, ⟨6, _⟩ => ⟨S_, .f32⟩
  | .hbm, ⟨7, _⟩ => ⟨S4352x2048, .f32⟩
  | .hbm, ⟨8, _⟩ => ⟨S4352x6152, .f32⟩
  | .hbm, ⟨9, _⟩ => ⟨S4352x6152, .f32⟩
  | .hbm, ⟨10, _⟩ => ⟨S4352x2048, .f32⟩
  | _, _ => ⟨S2048x6152, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel10.lean ====
abbrev S4352x2048 : Shape := ⟨2, ![4352, 2048]⟩
abbrev S4352x6144 : Shape := ⟨2, ![4352, 6144]⟩
abbrev S2048x6144 : Shape := ⟨2, ![2048, 6144]⟩
abbrev S4352x1024 : Shape := ⟨2, ![4352, 1024]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4352x2048, .bf16⟩
  | .hbm, ⟨1, _⟩ => ⟨S4352x6144, .bf16⟩
  | .hbm, ⟨2, _⟩ => ⟨S2048x6144, .bf16⟩
  | .local _ .vmem, ⟨0, _⟩ => ⟨S4352x1024, .bf16⟩
  | .local _ .vmem, ⟨1, _⟩ => ⟨S4352x1024, .bf16⟩
  | .local _ .vmem, ⟨2, _⟩ => ⟨S4352x1024, .bf16⟩
  | .local _ .vmem, ⟨3, _⟩ => ⟨S4352x1024, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4352x2048 : Shape := ⟨2, ![4352, 2048]⟩
abbrev S4352x6144 : Shape := ⟨2, ![4352, 6144]⟩
abbrev S_ : Shape := ⟨0, ![]⟩
abbrev S2048x6144 : Shape := ⟨2, ![2048, 6144]⟩
abbrev S6144x2048 : Shape := ⟨2, ![6144, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4352x6144, .bf16⟩
  | .hbm, ⟨2, _⟩ => ⟨S4352x2048, .f32⟩
  | .hbm, ⟨3, _⟩ => ⟨S_, .f32⟩
  | .hbm, ⟨4, _⟩ => ⟨S2048x6144, .f32⟩
  | .hbm, ⟨5, _⟩ => ⟨S4352x6144, .f32⟩
  | .hbm, ⟨6, _⟩ => ⟨S4352x6144, .f32⟩
  | .hbm, ⟨7, _⟩ => ⟨S6144x2048, .f32⟩
  | .hbm, ⟨8, _⟩ => ⟨S2048x6144, .f32⟩
  | .hbm, ⟨9, _⟩ => ⟨S2048x6144, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S4352x2048 : Shape := ⟨2, ![4352, 2048]⟩
abbrev S4352x128 : Shape := ⟨2, ![4352, 128]⟩
abbrev S2048x128 : Shape := ⟨2, ![2048, 128]⟩
abbrev S4352x1024 : Shape := ⟨2, ![4352, 1024]⟩
abbrev S1024x128 : Shape := ⟨2, ![1024, 128]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S4352x128, .bf16⟩
  | .hbm, ⟨2, _⟩ => ⟨S2048x128, .bf16⟩
  | .local _ .vmem, ⟨0, _⟩ => ⟨S4352x1024, .bf16⟩
  | .local _ .vmem, ⟨1, _⟩ => ⟨S4352x1024, .bf16⟩
  | .local _ .vmem, ⟨2, _⟩ => ⟨S4352x128, .bf16⟩
  | .local _ .vmem, ⟨3, _⟩ => ⟨S1024x128, .bf16⟩
  | .local _ .vmem, ⟨4, _⟩ => ⟨S1024x128, .bf16⟩
  | .local _ .vmem, ⟨5, _⟩ => ⟨S8x128, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4352x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4352x2048 : Shape := ⟨2, ![4352, 2048]⟩
abbrev S4352x128 : Shape := ⟨2, ![4352, 128]⟩
abbrev S_ : Shape := ⟨0, ![]⟩
abbrev S2048x128 : Shape := ⟨2, ![2048, 128]⟩
abbrev S128x2048 : Shape := ⟨2, ![128, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4352x128, .bf16⟩
  | .hbm, ⟨2, _⟩ => ⟨S4352x2048, .f32⟩
  | .hbm, ⟨3, _⟩ => ⟨S_, .f32⟩
  | .hbm, ⟨4, _⟩ => ⟨S2048x128, .f32⟩
  | .hbm, ⟨5, _⟩ => ⟨S4352x128, .f32⟩
  | .hbm, ⟨6, _⟩ => ⟨S4352x128, .f32⟩
  | .hbm, ⟨7, _⟩ => ⟨S128x2048, .f32⟩
  | .hbm, ⟨8, _⟩ => ⟨S2048x128, .f32⟩
  | .hbm, ⟨9, _⟩ => ⟨S2048x128, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S4352x2048 : Shape := ⟨2, ![4352, 2048]⟩
abbrev S2048x6152 : Shape := ⟨2, ![2048, 6152]⟩
abbrev S2048x6144 : Shape := ⟨2, ![2048, 6144]⟩
abbrev S4352x6144 : Shape := ⟨2, ![4352, 6144]⟩
abbrev S1088x2048 : Shape := ⟨2, ![1088, 2048]⟩
abbrev S2048x1024 : Shape := ⟨2, ![2048, 1024]⟩
abbrev S1088x1024 : Shape := ⟨2, ![1088, 1024]⟩
abbrev S8x128 : Shape := ⟨2, ![8, 128]⟩

abbrev nBuf : Space → Nat
  | .hbm => 4
  | .vmem => 7
  | .smem => 0
  | _ => 0

abbrev bufTy : (tb : Table) → Fin (tcTables nBuf tb) → BufTy
  | .hbm, ⟨0, _⟩ => ⟨S4352x2048, .bf16⟩
  | .hbm, ⟨1, _⟩ => ⟨S2048x6152, .bf16⟩
  | .hbm, ⟨2, _⟩ => ⟨S2048x6144, .bf16⟩
  | .hbm, ⟨3, _⟩ => ⟨S4352x6144, .bf16⟩
  | .local _ .vmem, ⟨0, _⟩ => ⟨S1088x2048, .bf16⟩
  | .local _ .vmem, ⟨1, _⟩ => ⟨S1088x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1088x1024, .bf16⟩
  | .local _ .vmem, ⟨5, _⟩ => ⟨S1088x1024, .bf16⟩
  | .local _ .vmem, ⟨6, _⟩ => ⟨S8x128, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4352x2048 : Shape := ⟨2, ![4352, 2048]⟩
abbrev S2048x6152 : Shape := ⟨2, ![2048, 6152]⟩
abbrev S4352x6152 : Shape := ⟨2, ![4352, 6152]⟩
abbrev S4352x6144 : Shape := ⟨2, ![4352, 6144]⟩

abbrev nBuf : Space → Nat
  | .hbm => 7
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2048x6152, .bf16⟩
  | .hbm, ⟨2, _⟩ => ⟨S4352x2048, .f32⟩
  | .hbm, ⟨3, _⟩ => ⟨S2048x6152, .f32⟩
  | .hbm, ⟨4, _⟩ => ⟨S4352x6152, .f32⟩
  | .hbm, ⟨5, _⟩ => ⟨S4352x6144, .f32⟩
  | .hbm, ⟨6, _⟩ => ⟨S4352x6144, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel13.lean ====
abbrev S4352x2048 : Shape := ⟨2, ![4352, 2048]⟩
abbrev S2048x6152 : Shape := ⟨2, ![2048, 6152]⟩
abbrev S2048x8 : Shape := ⟨2, ![2048, 8]⟩
abbrev S_ : Shape := ⟨0, ![]⟩
abbrev S2048x128 : Shape := ⟨2, ![2048, 128]⟩
abbrev S4352x128 : Shape := ⟨2, ![4352, 128]⟩
abbrev S1088x2048 : Shape := ⟨2, ![1088, 2048]⟩
abbrev S1088x128 : Shape := ⟨2, ![1088, 128]⟩
abbrev S8x128 : Shape := ⟨2, ![8, 128]⟩

abbrev nBuf : Space → Nat
  | .hbm => 7
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S2048x6152, .bf16⟩
  | .hbm, ⟨2, _⟩ => ⟨S2048x8, .bf16⟩
  | .hbm, ⟨3, _⟩ => ⟨S_, .i32⟩
  | .hbm, ⟨4, _⟩ => ⟨S_, .bf16⟩
  | .hbm, ⟨5, _⟩ => ⟨S2048x128, .bf16⟩
  | .hbm, ⟨6, _⟩ => ⟨S4352x128, .f32⟩
  | .local _ .vmem, ⟨0, _⟩ => ⟨S1088x2048, .bf16⟩
  | .local _ .vmem, ⟨1, _⟩ => ⟨S1088x2048, .bf16⟩
  | .local _ .vmem, ⟨2, _⟩ => ⟨S2048x128, .bf16⟩
  | .local _ .vmem, ⟨3, _⟩ => ⟨S1088x128, .f32⟩
  | .local _ .vmem, ⟨4, _⟩ => ⟨S1088x128, .f32⟩
  | .local _ .vmem, ⟨5, _⟩ => ⟨S8x128, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4352x2048 : Shape := ⟨2, ![4352, 2048]⟩
abbrev S2048x6152 : Shape := ⟨2, ![2048, 6152]⟩
abbrev S4352x6152 : Shape := ⟨2, ![4352, 6152]⟩
abbrev S4352x8 : Shape := ⟨2, ![4352, 8]⟩
abbrev S_ : Shape := ⟨0, ![]⟩
abbrev S4352x128 : Shape := ⟨2, ![4352, 128]⟩

abbrev nBuf : Space → Nat
  | .hbm => 9
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2048x6152, .bf16⟩
  | .hbm, ⟨2, _⟩ => ⟨S4352x2048, .f32⟩
  | .hbm, ⟨3, _⟩ => ⟨S2048x6152, .f32⟩
  | .hbm, ⟨4, _⟩ => ⟨S4352x6152, .f32⟩
  | .hbm, ⟨5, _⟩ => ⟨S4352x8, .f32⟩
  | .hbm, ⟨6, _⟩ => ⟨S_, .i32⟩
  | .hbm, ⟨7, _⟩ => ⟨S_, .f32⟩
  | .hbm, ⟨8, _⟩ => ⟨S4352x128, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel14.lean ====
abbrev S4352x2048 : Shape := ⟨2, ![4352, 2048]⟩
abbrev S2048x2048 : Shape := ⟨2, ![2048, 2048]⟩
abbrev S1088x2048 : Shape := ⟨2, ![1088, 2048]⟩
abbrev S2048x1024 : Shape := ⟨2, ![2048, 1024]⟩
abbrev S1088x1024 : Shape := ⟨2, ![1088, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4352x2048, .bf16⟩
  | .hbm, ⟨1, _⟩ => ⟨S2048x2048, .bf16⟩
  | .hbm, ⟨2, _⟩ => ⟨S4352x2048, .f32⟩
  | .local _ .vmem, ⟨0, _⟩ => ⟨S1088x2048, .bf16⟩
  | .local _ .vmem, ⟨1, _⟩ => ⟨S1088x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1088x1024, .f32⟩
  | .local _ .vmem, ⟨5, _⟩ => ⟨S1088x1024, .f32⟩
  | .local _ .vmem, ⟨6, _⟩ => ⟨S8x128, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4352x2048 : Shape := ⟨2, ![4352, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2048x2048, .bf16⟩
  | .hbm, ⟨2, _⟩ => ⟨S4352x2048, .f32⟩
  | .hbm, ⟨3, _⟩ => ⟨S2048x2048, .f32⟩
  | .hbm, ⟨4, _⟩ => ⟨S4352x2048, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel15.lean ====
abbrev S4352x2048 : Shape := ⟨2, ![4352, 2048]⟩
abbrev S2048x11264 : Shape := ⟨2, ![2048, 11264]⟩
abbrev S4352x11264 : Shape := ⟨2, ![4352, 11264]⟩
abbrev S1088x2048 : Shape := ⟨2, ![1088, 2048]⟩
abbrev S2048x1024 : Shape := ⟨2, ![2048, 1024]⟩
abbrev S1088x1024 : Shape := ⟨2, ![1088, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4352x2048, .bf16⟩
  | .hbm, ⟨1, _⟩ => ⟨S2048x11264, .bf16⟩
  | .hbm, ⟨2, _⟩ => ⟨S4352x11264, .bf16⟩
  | .local _ .vmem, ⟨0, _⟩ => ⟨S1088x2048, .bf16⟩
  | .local _ .vmem, ⟨1, _⟩ => ⟨S1088x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1088x1024, .bf16⟩
  | .local _ .vmem, ⟨5, _⟩ => ⟨S1088x1024, .bf16⟩
  | .local _ .vmem, ⟨6, _⟩ => ⟨S8x128, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4352x2048 : Shape := ⟨2, ![4352, 2048]⟩
abbrev S2048x11264 : Shape := ⟨2, ![2048, 11264]⟩
abbrev S4352x11264 : Shape := ⟨2, ![4352, 11264]⟩

abbrev nBuf : Space → Nat
  | .hbm => 6
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2048x11264, .bf16⟩
  | .hbm, ⟨2, _⟩ => ⟨S4352x2048, .f32⟩
  | .hbm, ⟨3, _⟩ => ⟨S2048x11264, .f32⟩
  | .hbm, ⟨4, _⟩ => ⟨S4352x11264, .f32⟩
  | .hbm, ⟨5, _⟩ => ⟨S4352x11264, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel16.lean ====
abbrev S4352x5632 : Shape := ⟨2, ![4352, 5632]⟩
abbrev S5632x2048 : Shape := ⟨2, ![5632, 2048]⟩
abbrev S4352x2048 : Shape := ⟨2, ![4352, 2048]⟩
abbrev S1088x5632 : Shape := ⟨2, ![1088, 5632]⟩
abbrev S5632x512 : Shape := ⟨2, ![5632, 512]⟩
abbrev S1088x512 : Shape := ⟨2, ![1088, 512]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4352x5632, .bf16⟩
  | .hbm, ⟨1, _⟩ => ⟨S5632x2048, .bf16⟩
  | .hbm, ⟨2, _⟩ => ⟨S4352x2048, .f32⟩
  | .local _ .vmem, ⟨0, _⟩ => ⟨S1088x5632, .bf16⟩
  | .local _ .vmem, ⟨1, _⟩ => ⟨S1088x5632, .bf16⟩
  | .local _ .vmem, ⟨2, _⟩ => ⟨S5632x512, .bf16⟩
  | .local _ .vmem, ⟨3, _⟩ => ⟨S5632x512, .bf16⟩
  | .local _ .vmem, ⟨4, _⟩ => ⟨S1088x512, .f32⟩
  | .local _ .vmem, ⟨5, _⟩ => ⟨S1088x512, .f32⟩
  | .local _ .vmem, ⟨6, _⟩ => ⟨S8x128, .f32⟩
  | _, _ => ⟨S4352x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4352x5632 : Shape := ⟨2, ![4352, 5632]⟩
abbrev S5632x2048 : Shape := ⟨2, ![5632, 2048]⟩
abbrev S4352x2048 : Shape := ⟨2, ![4352, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4352x5632, .bf16⟩
  | .hbm, ⟨1, _⟩ => ⟨S5632x2048, .bf16⟩
  | .hbm, ⟨2, _⟩ => ⟨S4352x5632, .f32⟩
  | .hbm, ⟨3, _⟩ => ⟨S5632x2048, .f32⟩
  | .hbm, ⟨4, _⟩ => ⟨S4352x2048, .f32⟩
  | _, _ => ⟨S4352x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel17.lean ====
abbrev S4352x6144 : Shape := ⟨2, ![4352, 6144]⟩
abbrev S8x1x4352 : Shape := ⟨3, ![8, 1, 4352]⟩
abbrev S8x4352x1 : Shape := ⟨3, ![8, 4352, 1]⟩
abbrev S16x1x128 : Shape := ⟨3, ![16, 1, 128]⟩
abbrev S4352x2048 : Shape := ⟨2, ![4352, 2048]⟩
abbrev S16x4352x1 : Shape := ⟨3, ![16, 4352, 1]⟩
abbrev S16x1x4352 : Shape := ⟨3, ![16, 1, 4352]⟩
abbrev S256x128 : Shape := ⟨2, ![256, 128]⟩
abbrev S4352x128 : Shape := ⟨2, ![4352, 128]⟩
abbrev S1x1x4352 : Shape := ⟨3, ![1, 1, 4352]⟩
abbrev S1x256x1 : Shape := ⟨3, ![1, 256, 1]⟩
abbrev S1x1x128 : Shape := ⟨3, ![1, 1, 128]⟩
abbrev S128x4352 : Shape := ⟨2, ![128, 4352]⟩
abbrev S1x128 : Shape := ⟨2, ![1, 128]⟩
abbrev S1x4352 : Shape := ⟨2, ![1, 4352]⟩
abbrev S256x1 : Shape := ⟨2, ![256, 1]⟩
abbrev S256 : Shape := ⟨1, ![256]⟩
abbrev S128 : Shape := ⟨1, ![128]⟩
abbrev S128x256 : Shape := ⟨2, ![128, 256]⟩
abbrev S512x256 : Shape := ⟨2, ![512, 256]⟩
abbrev S1024x128 : Shape := ⟨2, ![1024, 128]⟩
abbrev S256x1024 : Shape := ⟨2, ![256, 1024]⟩
abbrev S1x1024 : Shape := ⟨2, ![1, 1024]⟩
abbrev S256x256 : Shape := ⟨2, ![256, 256]⟩
abbrev S256x512 : Shape := ⟨2, ![256, 512]⟩
abbrev S128x1024 : Shape := ⟨2, ![128, 1024]⟩
abbrev S768x128 : Shape := ⟨2, ![768, 128]⟩
abbrev S256x768 : Shape := ⟨2, ![256, 768]⟩
abbrev S1x768 : Shape := ⟨2, ![1, 768]⟩
abbrev S128x768 : Shape := ⟨2, ![128, 768]⟩
abbrev S512x128 : Shape := ⟨2, ![512, 128]⟩
abbrev S1x512 : Shape := ⟨2, ![1, 512]⟩
abbrev S128x512 : Shape := ⟨2, ![128, 512]⟩
abbrev S1x256 : Shape := ⟨2, ![1, 256]⟩
abbrev S2048x128 : Shape := ⟨2, ![2048, 128]⟩
abbrev S256x2048 : Shape := ⟨2, ![256, 2048]⟩
abbrev S128x2048 : Shape := ⟨2, ![128, 2048]⟩
abbrev S1x1x1024 : Shape := ⟨3, ![1, 1, 1024]⟩
abbrev S1024 : Shape := ⟨1, ![1024]⟩
abbrev S1x1x768 : Shape := ⟨3, ![1, 1, 768]⟩
abbrev S768 : Shape := ⟨1, ![768]⟩
abbrev S1x1x512 : Shape := ⟨3, ![1, 1, 512]⟩
abbrev S512 : Shape := ⟨1, ![512]⟩
abbrev S1x1x256 : Shape := ⟨3, ![1, 1, 256]⟩
abbrev S1x1x2048 : Shape := ⟨3, ![1, 1, 2048]⟩
abbrev S1x2048 : Shape := ⟨2, ![1, 2048]⟩
abbrev S2048 : Shape := ⟨1, ![2048]⟩

abbrev nBuf : Space → Nat
  | .hbm => 12
  | .vmem => 30
  | .smem => 0
  | _ => 0

abbrev bufTy : (tb : Table) → Fin (tcTables nBuf tb) → BufTy
  | .hbm, ⟨0, _⟩ => ⟨S4352x6144, .bf16⟩
  | .hbm, ⟨1, _⟩ => ⟨S8x1x4352, .f32⟩
  | .hbm, ⟨2, _⟩ => ⟨S8x4352x1, .f32⟩
  | .hbm, ⟨3, _⟩ => ⟨S16x1x128, .f32⟩
  | .hbm, ⟨4, _⟩ => ⟨S4352x2048, .f32⟩
  | .hbm, ⟨5, _⟩ => ⟨S16x4352x1, .f32⟩
  | .hbm, ⟨6, _⟩ => ⟨S4352x2048, .f32⟩
  | .hbm, ⟨7, _⟩ => ⟨S4352x2048, .bf16⟩
  | .hbm, ⟨8, _⟩ => ⟨S4352x2048, .bf16⟩
  | .hbm, ⟨9, _⟩ => ⟨S4352x2048, .bf16⟩
  | .hbm, ⟨10, _⟩ => ⟨S16x1x128, .f32⟩
  | .hbm, ⟨11, _⟩ => ⟨S16x1x4352, .f32⟩
  | .local _ .vmem, ⟨0, _⟩ => ⟨S256x128, .bf16⟩
  | .local _ .vmem, ⟨1, _⟩ => ⟨S256x128, .bf16⟩
  | .local _ .vmem, ⟨2, _⟩ => ⟨S4352x128, .bf16⟩
  | .local _ .vmem, ⟨3, _⟩ => ⟨S4352x128, .bf16⟩
  | .local _ .vmem, ⟨4, _⟩ => ⟨S4352x128, .bf16⟩
  | .local _ .vmem, ⟨5, _⟩ => ⟨S4352x128, .bf16⟩
  | .local _ .vmem, ⟨6, _⟩ => ⟨S1x1x4352, .f32⟩
  | .local _ .vmem, ⟨7, _⟩ => ⟨S1x1x4352, .f32⟩
  | .local _ .vmem, ⟨8, _⟩ => ⟨S1x256x1, .f32⟩
  | .local _ .vmem, ⟨9, _⟩ => ⟨S1x256x1, .f32⟩
  | .local _ .vmem, ⟨10, _⟩ => ⟨S1x1x128, .f32⟩
  | .local _ .vmem, ⟨11, _⟩ => ⟨S1x1x128, .f32⟩
  | .local _ .vmem, ⟨12, _⟩ => ⟨S256x128, .f32⟩
  | .local _ .vmem, ⟨13, _⟩ => ⟨S256x128, .f32⟩
  | .local _ .vmem, ⟨14, _⟩ => ⟨S1x256x1, .f32⟩
  | .local _ .vmem, ⟨15, _⟩ => ⟨S1x256x1, .f32⟩
  | .local _ .vmem, ⟨16, _⟩ => ⟨S256x128, .f32⟩
  | .local _ .vmem, ⟨17, _⟩ => ⟨S256x128, .f32⟩
  | .local _ .vmem, ⟨18, _⟩ => ⟨S256x128, .bf16⟩
  | .local _ .vmem, ⟨19, _⟩ => ⟨S256x128, .bf16⟩
  | .local _ .vmem, ⟨20, _⟩ => ⟨S4352x128, .bf16⟩
  | .local _ .vmem, ⟨21, _⟩ => ⟨S4352x128, .bf16⟩
  | .local _ .vmem, ⟨22, _⟩ => ⟨S4352x128, .bf16⟩
  | .local _ .vmem, ⟨23, _⟩ => ⟨S4352x128, .bf16⟩
  | .local _ .vmem, ⟨24, _⟩ => ⟨S1x1x128, .f32⟩
  | .local _ .vmem, ⟨25, _⟩ => ⟨S1x1x128, .f32⟩
  | .local _ .vmem, ⟨26, _⟩ => ⟨S1x1x4352, .f32⟩
  | .local _ .vmem, ⟨27, _⟩ => ⟨S1x1x4352, .f32⟩
  | .local _ .vmem, ⟨28, _⟩ => ⟨S128x4352, .f32⟩
  | .local _ .vmem, ⟨29, _⟩ => ⟨S128x4352, .f32⟩
  | _, _ => ⟨S4352x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![16, 17], ![false, false]⟩

def k0_cond2 (i : grid0.Coords) : BitVec 1 :=
  let arg0 : BitVec 32 := BitVec.ofNat 32 (i 0).val
  let c8_i32 : BitVec 32 := 8#32
  let v53 : BitVec 1 := Scalar.cmpi .slt arg0 c8_i32
  let v54 : BitVec 32 := Scalar.extui v53
  let c0_i32_21 : BitVec 32 := 0#32
  let v55 : BitVec 1 := Scalar.cmpi .ne v54 c0_i32_21
  v55

def k0_cond3 (i : grid0.Coords) : BitVec 1 :=
  let arg1 : BitVec 32 := BitVec.ofNat 32 (i 1).val
  let c4_i32 : BitVec 32 := 4#32
  let c0_i32_32 : BitVec 32 := 0#32
  let v86 : BitVec 1 := Scalar.cmpi .eq c4_i32 c0_i32_32
  let c1_i32_33 : BitVec 32 := 1#32
  let v87 : BitVec 32 := Scalar.select v86 c1_i32_33 c4_i32
  let v88 : BitVec 32 := Scalar.remsi arg1 v87
  let c0_i32_35 : BitVec 32 := 0#32
  let v90 : BitVec 1 := Scalar.cmpi .slt v88 c0_i32_35
  let c0_i32_36 : BitVec 32 := 0#32
  let v91 : BitVec 1 := Scalar.cmpi .slt v87 c0_i32_36
  let v92 : BitVec 1 := Scalar.xori v90 v91
  let c0_i32_34 : BitVec 32 := 0#32
  let v89 : BitVec 1 := Scalar.cmpi .ne v88 c0_i32_34
  let v93 : BitVec 1 := Scalar.andi v92 v89
  let v94 : BitVec 32 := Scalar.addi v88 v87
  let v95 : BitVec 32 := Scalar.select v93 v94 v88
  let c0_i32_37 : BitVec 32 := 0#32
  let v96 : BitVec 32 := Scalar.maxsi v95 c0_i32_37
  let c3_i32 : BitVec 32 := 3#32
  let v97 : BitVec 32 := Scalar.minsi v96 c3_i32
  let c0_i32_38 : BitVec 32 := 0#32
  let v98 : BitVec 1 := Scalar.cmpi .ne v97 c0_i32_38
  v98

def k0_cond4 (i : grid0.Coords) : BitVec 1 :=
  let arg1 : BitVec 32 := BitVec.ofNat 32 (i 1).val
  let c4_i32 : BitVec 32 := 4#32
  let c0_i32_32 : BitVec 32 := 0#32
  let v86 : BitVec 1 := Scalar.cmpi .eq c4_i32 c0_i32_32
  let c1_i32_33 : BitVec 32 := 1#32
  let v87 : BitVec 32 := Scalar.select v86 c1_i32_33 c4_i32
  let v88 : BitVec 32 := Scalar.remsi arg1 v87
  let c0_i32_35 : BitVec 32 := 0#32
  let v90 : BitVec 1 := Scalar.cmpi .slt v88 c0_i32_35
  let c0_i32_36 : BitVec 32 := 0#32
  let v91 : BitVec 1 := Scalar.cmpi .slt v87 c0_i32_36
  let v92 : BitVec 1 := Scalar.xori v90 v91
  let c0_i32_34 : BitVec 32 := 0#32
  let v89 : BitVec 1 := Scalar.cmpi .ne v88 c0_i32_34
  let v93 : BitVec 1 := Scalar.andi v92 v89
  let v94 : BitVec 32 := Scalar.addi v88 v87
  let v95 : BitVec 32 := Scalar.select v93 v94 v88
  let c0_i32_37 : BitVec 32 := 0#32
  let v96 : BitVec 32 := Scalar.maxsi v95 c0_i32_37
  let c3_i32 : BitVec 32 := 3#32
  let v97 : BitVec 32 := Scalar.minsi v96 c3_i32
  let c1_i32_69 : BitVec 32 := 1#32
  let v163 : BitVec 32 := Scalar.subi v97 c1_i32_69
  let c0_i32_70 : BitVec 32 := 0#32
  let v164 : BitVec 1 := Scalar.cmpi .ne v163 c0_i32_70
  v164

def k0_cond5 (i : grid0.Coords) : BitVec 1 :=
  let arg1 : BitVec 32 := BitVec.ofNat 32 (i 1).val
  let c4_i32 : BitVec 32 := 4#32
  let c0_i32_32 : BitVec 32 := 0#32
  let v86 : BitVec 1 := Scalar.cmpi .eq c4_i32 c0_i32_32
  let c1_i32_33 : BitVec 32 := 1#32
  let v87 : BitVec 32 := Scalar.select v86 c1_i32_33 c4_i32
  let v88 : BitVec 32 := Scalar.remsi arg1 v87
  let c0_i32_35 : BitVec 32 := 0#32
  let v90 : BitVec 1 := Scalar.cmpi .slt v88 c0_i32_35
  let c0_i32_36 : BitVec 32 := 0#32
  let v91 : BitVec 1 := Scalar.cmpi .slt v87 c0_i32_36
  let v92 : BitVec 1 := Scalar.xori v90 v91
  let c0_i32_34 : BitVec 32 := 0#32
  let v89 : BitVec 1 := Scalar.cmpi .ne v88 c0_i32_34
  let v93 : BitVec 1 := Scalar.andi v92 v89
  let v94 : BitVec 32 := Scalar.addi v88 v87
  let v95 : BitVec 32 := Scalar.select v93 v94 v88
  let c0_i32_37 : BitVec 32 := 0#32
  let v96 : BitVec 32 := Scalar.maxsi v95 c0_i32_37
  let c3_i32 : BitVec 32 := 3#32
  let v97 : BitVec 32 := Scalar.minsi v96 c3_i32
  let c1_i32_69 : BitVec 32 := 1#32
  let v163 : BitVec 32 := Scalar.subi v97 c1_i32_69
  let c1_i32_71 : BitVec 32 := 1#32
  let v166 : BitVec 32 := Scalar.subi v163 c1_i32_71
  let c0_i32_72 : BitVec 32 := 0#32
  let v167 : BitVec 1 := Scalar.cmpi .ne v166 c0_i32_72
  v167

def k0_mult1 (i : grid0.Coords) : BitVec 32 :=
  let arg1 : BitVec 32 := BitVec.ofNat 32 (i 1).val
  let c3_i32_73 : BitVec 32 := 3#32
  let v169 : BitVec 32 := Scalar.subi arg1 c3_i32_73
  let c256_i32_74 : BitVec 32 := 256#32
  let v170 : BitVec 32 := Scalar.muli v169 c256_i32_74
  v170
def k0_off1 (i : grid0.Coords) : Fin 2 → Nat :=
  let arg1 : BitVec 32 := BitVec.ofNat 32 (i 1).val
  let c3_i32_73 : BitVec 32 := 3#32
  let v169 : BitVec 32 := Scalar.subi arg1 c3_i32_73
  let c256_i32_74 : BitVec 32 := 256#32
  let v170 : BitVec 32 := Scalar.muli v169 c256_i32_74
  let v171 : BitVec 32 := v170
  let v172 : Index := Scalar.indexCast v171
  let c0_75 : Index := 0#32
  ![v172.toNat, 0]
def k0_off2 (i : grid0.Coords) : Fin 2 → Nat :=
  let c0_98 : Index := 0#32
  let arg1 : BitVec 32 := BitVec.ofNat 32 (i 1).val
  let c3_i32_73 : BitVec 32 := 3#32
  let v169 : BitVec 32 := Scalar.subi arg1 c3_i32_73
  let c256_i32_74 : BitVec 32 := 256#32
  let v170 : BitVec 32 := Scalar.muli v169 c256_i32_74
  let v171 : BitVec 32 := v170
  let v301 : Index := Scalar.indexCast v171
  ![0, v301.toNat]
def k0_mult2 (i : grid0.Coords) : BitVec 32 :=
  let arg1 : BitVec 32 := BitVec.ofNat 32 (i 1).val
  let c2_i32_73 : BitVec 32 := 2#32
  let v169 : BitVec 32 := Scalar.subi arg1 c2_i32_73
  let c256_i32_74 : BitVec 32 := 256#32
  let v170 : BitVec 32 := Scalar.muli v169 c256_i32_74
  v170
def k0_off3 (i : grid0.Coords) : Fin 2 → Nat :=
  let arg1 : BitVec 32 := BitVec.ofNat 32 (i 1).val
  let c2_i32_73 : BitVec 32 := 2#32
  let v169 : BitVec 32 := Scalar.subi arg1 c2_i32_73
  let c256_i32_74 : BitVec 32 := 256#32
  let v170 : BitVec 32 := Scalar.muli v169 c256_i32_74
  let v171 : BitVec 32 := v170
  let v172 : Index := Scalar.indexCast v171
  let c0_75 : Index := 0#32
  ![v172.toNat, 0]
def k0_off4 (i : grid0.Coords) : Fin 2 → Nat :=
  let c0_96 : Index := 0#32
  let arg1 : BitVec 32 := BitVec.ofNat 32 (i 1).val
  let c2_i32_73 : BitVec 32 := 2#32
  let v169 : BitVec 32 := Scalar.subi arg1 c2_i32_73
  let c256_i32_74 : BitVec 32 := 256#32
  let v170 : BitVec 32 := Scalar.muli v169 c256_i32_74
  let v171 : BitVec 32 := v170
  let v282 : Index := Scalar.indexCast v171
  ![0, v282.toNat]
def k0_mult3 (i : grid0.Coords) : BitVec 32 :=
  let arg1 : BitVec 32 := BitVec.ofNat 32 (i 1).val
  let c1_i32_71 : BitVec 32 := 1#32
  let v166 : BitVec 32 := Scalar.subi arg1 c1_i32_71
  let c256_i32_72 : BitVec 32 := 256#32
  let v167 : BitVec 32 := Scalar.muli v166 c256_i32_72
  v167
def k0_off5 (i : grid0.Coords) : Fin 2 → Nat :=
  let arg1 : BitVec 32 := BitVec.ofNat 32 (i 1).val
  let c1_i32_71 : BitVec 32 := 1#32
  let v166 : BitVec 32 := Scalar.subi arg1 c1_i32_71
  let c256_i32_72 : BitVec 32 := 256#32
  let v167 : BitVec 32 := Scalar.muli v166 c256_i32_72
  let v168 : BitVec 32 := v167
  let v169 : Index := Scalar.indexCast v168
  let c0_73 : Index := 0#32
  ![v169.toNat, 0]
def k0_off6 (i : grid0.Coords) : Fin 2 → Nat :=
  let c0_92 : Index := 0#32
  let arg1 : BitVec 32 := BitVec.ofNat 32 (i 1).val
  let c1_i32_71 : BitVec 32 := 1#32
  let v166 : BitVec 32 := Scalar.subi arg1 c1_i32_71
  let c256_i32_72 : BitVec 32 := 256#32
  let v167 : BitVec 32 := Scalar.muli v166 c256_i32_72
  let v168 : BitVec 32 := v167
  let v260 : Index := Scalar.indexCast v168
  ![0, v260.toNat]
def k0_mult4 (i : grid0.Coords) : BitVec 32 :=
  let arg1 : BitVec 32 := BitVec.ofNat 32 (i 1).val
  let c0_i32_69 : BitVec 32 := 0#32
  let v163 : BitVec 32 := Scalar.subi arg1 c0_i32_69
  let c256_i32_70 : BitVec 32 := 256#32
  let v164 : BitVec 32 := Scalar.muli v163 c256_i32_70
  v164
def k0_off7 (i : grid0.Coords) : Fin 2 → Nat :=
  let arg1 : BitVec 32 := BitVec.ofNat 32 (i 1).val
  let c0_i32_69 : BitVec 32 := 0#32
  let v163 : BitVec 32 := Scalar.subi arg1 c0_i32_69
  let c256_i32_70 : BitVec 32 := 256#32
  let v164 : BitVec 32 := Scalar.muli v163 c256_i32_70
  let v165 : BitVec 32 := v164
  let v166 : Index := Scalar.indexCast v165
  let c0_71 : Index := 0#32
  ![v166.toNat, 0]
def k0_off8 (i : grid0.Coords) : Fin 2 → Nat :=
  let c0_88 : Index := 0#32
  let arg1 : BitVec 32 := BitVec.ofNat 32 (i 1).val
  let c0_i32_69 : BitVec 32 := 0#32
  let v163 : BitVec 32 := Scalar.subi arg1 c0_i32_69
  let c256_i32_70 : BitVec 32 := 256#32
  let v164 : BitVec 32 := Scalar.muli v163 c256_i32_70
  let v165 : BitVec 32 := v164
  let v234 : Index := Scalar.indexCast v165
  ![0, v234.toNat]
@[reducible] def k0_t1_loop (i : grid0.Coords) : Scf.Loop 32 :=
  let c0_i32_51 : BitVec 32 := 0#32
  let arg1 : BitVec 32 := BitVec.ofNat 32 (i 1).val
  let c4_i32 : BitVec 32 := 4#32
  let c0_i32_32 : BitVec 32 := 0#32
  let v86 : BitVec 1 := Scalar.cmpi .eq c4_i32 c0_i32_32
  let c1_i32_33 : BitVec 32 := 1#32
  let v87 : BitVec 32 := Scalar.select v86 c1_i32_33 c4_i32
  let v88 : BitVec 32 := Scalar.remsi arg1 v87
  let c0_i32_35 : BitVec 32 := 0#32
  let v90 : BitVec 1 := Scalar.cmpi .slt v88 c0_i32_35
  let c0_i32_36 : BitVec 32 := 0#32
  let v91 : BitVec 1 := Scalar.cmpi .slt v87 c0_i32_36
  let v92 : BitVec 1 := Scalar.xori v90 v91
  let c0_i32_34 : BitVec 32 := 0#32
  let v89 : BitVec 1 := Scalar.cmpi .ne v88 c0_i32_34
  let v93 : BitVec 1 := Scalar.andi v92 v89
  let v94 : BitVec 32 := Scalar.addi v88 v87
  let v95 : BitVec 32 := Scalar.select v93 v94 v88
  let v100 : BitVec 32 := Scalar.subi arg1 v95
  let c0_i32_40 : BitVec 32 := 0#32
  let v102 : BitVec 1 := Scalar.cmpi .sgt v100 c0_i32_40
  let v103 : BitVec 32 := Scalar.extui v102
  let c0_i32_41 : BitVec 32 := 0#32
  let v104 : BitVec 1 := Scalar.cmpi .slt v100 c0_i32_41
  let v105 : BitVec 32 := Scalar.extui v104
  let v106 : BitVec 32 := Scalar.subi v103 v105
  let c4_i32_39 : BitVec 32 := 4#32
  let c0_i32_42 : BitVec 32 := 0#32
  let v107 : BitVec 1 := Scalar.cmpi .sgt c4_i32_39 c0_i32_42
  let v108 : BitVec 32 := Scalar.extui v107
  let c0_i32_43 : BitVec 32 := 0#32
  let v109 : BitVec 1 := Scalar.cmpi .slt c4_i32_39 c0_i32_43
  let v110 : BitVec 32 := Scalar.extui v109
  let v111 : BitVec 32 := Scalar.subi v108 v110
  let v112 : BitVec 1 := Scalar.cmpi .ne v106 v111
  let v113 : BitVec 32 := Scalar.remsi v100 c4_i32_39
  let c0_i32_44 : BitVec 32 := 0#32
  let v114 : BitVec 1 := Scalar.cmpi .ne v113 c0_i32_44
  let v115 : BitVec 1 := Scalar.andi v112 v114
  let v101 : BitVec 32 := Scalar.divsi v100 c4_i32_39
  let c1_i32_45 : BitVec 32 := 1#32
  let v116 : BitVec 32 := Scalar.subi v101 c1_i32_45
  let v117 : BitVec 32 := Scalar.select v115 v116 v101
  let c2_i32 : BitVec 32 := 2#32
  let c0_i32_46 : BitVec 32 := 0#32
  let v118 : BitVec 1 := Scalar.cmpi .eq c2_i32 c0_i32_46
  let c1_i32_47 : BitVec 32 := 1#32
  let v119 : BitVec 32 := Scalar.select v118 c1_i32_47 c2_i32
  let v120 : BitVec 32 := Scalar.remsi v117 v119
  let c0_i32_49 : BitVec 32 := 0#32
  let v122 : BitVec 1 := Scalar.cmpi .slt v120 c0_i32_49
  let c0_i32_50 : BitVec 32 := 0#32
  let v123 : BitVec 1 := Scalar.cmpi .slt v119 c0_i32_50
  let v124 : BitVec 1 := Scalar.xori v122 v123
  let c0_i32_48 : BitVec 32 := 0#32
  let v121 : BitVec 1 := Scalar.cmpi .ne v120 c0_i32_48
  let v125 : BitVec 1 := Scalar.andi v124 v121
  let v126 : BitVec 32 := Scalar.addi v120 v119
  let v127 : BitVec 32 := Scalar.select v125 v126 v120
  let v128 : BitVec 32 := Scalar.subi v127 c0_i32_51
  let c1_i32_52 : BitVec 32 := 1#32
  let v130 : BitVec 32 := Scalar.divsi v128 c1_i32_52
  let v131 : BitVec 32 := Scalar.muli v130 c1_i32_52
  let v132 : BitVec 32 := Scalar.addi c0_i32_51 v131
  let c1_i32_53 : BitVec 32 := 1#32
  ⟨c0_i32_51, v132, c1_i32_53⟩
def k0_mult5 (i : grid0.Coords) : BitVec 32 :=
  let arg1 : BitVec 32 := BitVec.ofNat 32 (i 1).val
  let c4_i32 : BitVec 32 := 4#32
  let c0_i32_32 : BitVec 32 := 0#32
  let v86 : BitVec 1 := Scalar.cmpi .eq c4_i32 c0_i32_32
  let c1_i32_33 : BitVec 32 := 1#32
  let v87 : BitVec 32 := Scalar.select v86 c1_i32_33 c4_i32
  let v88 : BitVec 32 := Scalar.remsi arg1 v87
  let c0_i32_35 : BitVec 32 := 0#32
  let v90 : BitVec 1 := Scalar.cmpi .slt v88 c0_i32_35
  let c0_i32_36 : BitVec 32 := 0#32
  let v91 : BitVec 1 := Scalar.cmpi .slt v87 c0_i32_36
  let v92 : BitVec 1 := Scalar.xori v90 v91
  let c0_i32_34 : BitVec 32 := 0#32
  let v89 : BitVec 1 := Scalar.cmpi .ne v88 c0_i32_34
  let v93 : BitVec 1 := Scalar.andi v92 v89
  let v94 : BitVec 32 := Scalar.addi v88 v87
  let v95 : BitVec 32 := Scalar.select v93 v94 v88
  let v100 : BitVec 32 := Scalar.subi arg1 v95
  let c4_i32_69 : BitVec 32 := 4#32
  let v163 : BitVec 32 := Scalar.subi v100 c4_i32_69
  let c256_i32_70 : BitVec 32 := 256#32
  let v164 : BitVec 32 := Scalar.muli v163 c256_i32_70
  v164
def k0_off9 (i : grid0.Coords) : Fin 2 → Nat :=
  let arg1 : BitVec 32 := BitVec.ofNat 32 (i 1).val
  let c4_i32 : BitVec 32 := 4#32
  let c0_i32_32 : BitVec 32 := 0#32
  let v86 : BitVec 1 := Scalar.cmpi .eq c4_i32 c0_i32_32
  let c1_i32_33 : BitVec 32 := 1#32
  let v87 : BitVec 32 := Scalar.select v86 c1_i32_33 c4_i32
  let v88 : BitVec 32 := Scalar.remsi arg1 v87
  let c0_i32_35 : BitVec 32 := 0#32
  let v90 : BitVec 1 := Scalar.cmpi .slt v88 c0_i32_35
  let c0_i32_36 : BitVec 32 := 0#32
  let v91 : BitVec 1 := Scalar.cmpi .slt v87 c0_i32_36
  let v92 : BitVec 1 := Scalar.xori v90 v91
  let c0_i32_34 : BitVec 32 := 0#32
  let v89 : BitVec 1 := Scalar.cmpi .ne v88 c0_i32_34
  let v93 : BitVec 1 := Scalar.andi v92 v89
  let v94 : BitVec 32 := Scalar.addi v88 v87
  let v95 : BitVec 32 := Scalar.select v93 v94 v88
  let v100 : BitVec 32 := Scalar.subi arg1 v95
  let c4_i32_69 : BitVec 32 := 4#32
  let v163 : BitVec 32 := Scalar.subi v100 c4_i32_69
  let c256_i32_70 : BitVec 32 := 256#32
  let v164 : BitVec 32 := Scalar.muli v163 c256_i32_70
  let v165 : BitVec 32 := v164
  let v166 : Index := Scalar.indexCast v165
  let c0_71 : Index := 0#32
  ![v166.toNat, 0]
def k0_off10 (i : grid0.Coords) : Fin 2 → Nat :=
  let c0_91 : Index := 0#32
  let arg1 : BitVec 32 := BitVec.ofNat 32 (i 1).val
  let c4_i32 : BitVec 32 := 4#32
  let c0_i32_32 : BitVec 32 := 0#32
  let v86 : BitVec 1 := Scalar.cmpi .eq c4_i32 c0_i32_32
  let c1_i32_33 : BitVec 32 := 1#32
  let v87 : BitVec 32 := Scalar.select v86 c1_i32_33 c4_i32
  let v88 : BitVec 32 := Scalar.remsi arg1 v87
  let c0_i32_35 : BitVec 32 := 0#32
  let v90 : BitVec 1 := Scalar.cmpi .slt v88 c0_i32_35
  let c0_i32_36 : BitVec 32 := 0#32
  let v91 : BitVec 1 := Scalar.cmpi .slt v87 c0_i32_36
  let v92 : BitVec 1 := Scalar.xori v90 v91
  let c0_i32_34 : BitVec 32 := 0#32
  let v89 : BitVec 1 := Scalar.cmpi .ne v88 c0_i32_34
  let v93 : BitVec 1 := Scalar.andi v92 v89
  let v94 : BitVec 32 := Scalar.addi v88 v87
  let v95 : BitVec 32 := Scalar.select v93 v94 v88
  let v100 : BitVec 32 := Scalar.subi arg1 v95
  let c4_i32_69 : BitVec 32 := 4#32
  let v163 : BitVec 32 := Scalar.subi v100 c4_i32_69
  let c256_i32_70 : BitVec 32 := 256#32
  let v164 : BitVec 32 := Scalar.muli v163 c256_i32_70
  let v165 : BitVec 32 := v164
  let v283 : Index := Scalar.indexCast v165
  ![0, v283.toNat]
@[reducible] def k0_t2_loop (i : grid0.Coords) : Scf.Loop 32 :=
  let c0_i32_51 : BitVec 32 := 0#32
  let arg1 : BitVec 32 := BitVec.ofNat 32 (i 1).val
  let c4_i32 : BitVec 32 := 4#32
  let c0_i32_32 : BitVec 32 := 0#32
  let v86 : BitVec 1 := Scalar.cmpi .eq c4_i32 c0_i32_32
  let c1_i32_33 : BitVec 32 := 1#32
  let v87 : BitVec 32 := Scalar.select v86 c1_i32_33 c4_i32
  let v88 : BitVec 32 := Scalar.remsi arg1 v87
  let c0_i32_35 : BitVec 32 := 0#32
  let v90 : BitVec 1 := Scalar.cmpi .slt v88 c0_i32_35
  let c0_i32_36 : BitVec 32 := 0#32
  let v91 : BitVec 1 := Scalar.cmpi .slt v87 c0_i32_36
  let v92 : BitVec 1 := Scalar.xori v90 v91
  let c0_i32_34 : BitVec 32 := 0#32
  let v89 : BitVec 1 := Scalar.cmpi .ne v88 c0_i32_34
  let v93 : BitVec 1 := Scalar.andi v92 v89
  let v94 : BitVec 32 := Scalar.addi v88 v87
  let v95 : BitVec 32 := Scalar.select v93 v94 v88
  let v100 : BitVec 32 := Scalar.subi arg1 v95
  let c0_i32_40 : BitVec 32 := 0#32
  let v102 : BitVec 1 := Scalar.cmpi .sgt v100 c0_i32_40
  let v103 : BitVec 32 := Scalar.extui v102
  let c0_i32_41 : BitVec 32 := 0#32
  let v104 : BitVec 1 := Scalar.cmpi .slt v100 c0_i32_41
  let v105 : BitVec 32 := Scalar.extui v104
  let v106 : BitVec 32 := Scalar.subi v103 v105
  let c4_i32_39 : BitVec 32 := 4#32
  let c0_i32_42 : BitVec 32 := 0#32
  let v107 : BitVec 1 := Scalar.cmpi .sgt c4_i32_39 c0_i32_42
  let v108 : BitVec 32 := Scalar.extui v107
  let c0_i32_43 : BitVec 32 := 0#32
  let v109 : BitVec 1 := Scalar.cmpi .slt c4_i32_39 c0_i32_43
  let v110 : BitVec 32 := Scalar.extui v109
  let v111 : BitVec 32 := Scalar.subi v108 v110
  let v112 : BitVec 1 := Scalar.cmpi .ne v106 v111
  let v113 : BitVec 32 := Scalar.remsi v100 c4_i32_39
  let c0_i32_44 : BitVec 32 := 0#32
  let v114 : BitVec 1 := Scalar.cmpi .ne v113 c0_i32_44
  let v115 : BitVec 1 := Scalar.andi v112 v114
  let v101 : BitVec 32 := Scalar.divsi v100 c4_i32_39
  let c1_i32_45 : BitVec 32 := 1#32
  let v116 : BitVec 32 := Scalar.subi v101 c1_i32_45
  let v117 : BitVec 32 := Scalar.select v115 v116 v101
  let c2_i32 : BitVec 32 := 2#32
  let c0_i32_46 : BitVec 32 := 0#32
  let v118 : BitVec 1 := Scalar.cmpi .eq c2_i32 c0_i32_46
  let c1_i32_47 : BitVec 32 := 1#32
  let v119 : BitVec 32 := Scalar.select v118 c1_i32_47 c2_i32
  let v120 : BitVec 32 := Scalar.remsi v117 v119
  let c0_i32_49 : BitVec 32 := 0#32
  let v122 : BitVec 1 := Scalar.cmpi .slt v120 c0_i32_49
  let c0_i32_50 : BitVec 32 := 0#32
  let v123 : BitVec 1 := Scalar.cmpi .slt v119 c0_i32_50
  let v124 : BitVec 1 := Scalar.xori v122 v123
  let c0_i32_48 : BitVec 32 := 0#32
  let v121 : BitVec 1 := Scalar.cmpi .ne v120 c0_i32_48
  let v125 : BitVec 1 := Scalar.andi v124 v121
  let v126 : BitVec 32 := Scalar.addi v120 v119
  let v127 : BitVec 32 := Scalar.select v125 v126 v120
  let v128 : BitVec 32 := Scalar.subi v127 c0_i32_51
  let c1_i32_52 : BitVec 32 := 1#32
  let v130 : BitVec 32 := Scalar.divsi v128 c1_i32_52
  let v131 : BitVec 32 := Scalar.muli v130 c1_i32_52
  let v132 : BitVec 32 := Scalar.addi c0_i32_51 v131
  let v129 : BitVec 32 := Scalar.addi c0_i32_51 v128
  let c1_i32_54 : BitVec 32 := 1#32
  ⟨v132, v129, c1_i32_54⟩
def k0_mult6 (i : grid0.Coords) : BitVec 32 :=
  let arg1 : BitVec 32 := BitVec.ofNat 32 (i 1).val
  let c4_i32 : BitVec 32 := 4#32
  let c0_i32_32 : BitVec 32 := 0#32
  let v86 : BitVec 1 := Scalar.cmpi .eq c4_i32 c0_i32_32
  let c1_i32_33 : BitVec 32 := 1#32
  let v87 : BitVec 32 := Scalar.select v86 c1_i32_33 c4_i32
  let v88 : BitVec 32 := Scalar.remsi arg1 v87
  let c0_i32_35 : BitVec 32 := 0#32
  let v90 : BitVec 1 := Scalar.cmpi .slt v88 c0_i32_35
  let c0_i32_36 : BitVec 32 := 0#32
  let v91 : BitVec 1 := Scalar.cmpi .slt v87 c0_i32_36
  let v92 : BitVec 1 := Scalar.xori v90 v91
  let c0_i32_34 : BitVec 32 := 0#32
  let v89 : BitVec 1 := Scalar.cmpi .ne v88 c0_i32_34
  let v93 : BitVec 1 := Scalar.andi v92 v89
  let v94 : BitVec 32 := Scalar.addi v88 v87
  let v95 : BitVec 32 := Scalar.select v93 v94 v88
  let v100 : BitVec 32 := Scalar.subi arg1 v95
  let c4_i32_69 : BitVec 32 := 4#32
  let v163 : BitVec 32 := Scalar.subi v100 c4_i32_69
  let c256_i32_70 : BitVec 32 := 256#32
  let v164 : BitVec 32 := Scalar.muli v163 c256_i32_70
  v164
def k0_off11 (i : grid0.Coords) : Fin 2 → Nat :=
  let arg1 : BitVec 32 := BitVec.ofNat 32 (i 1).val
  let c4_i32 : BitVec 32 := 4#32
  let c0_i32_32 : BitVec 32 := 0#32
  let v86 : BitVec 1 := Scalar.cmpi .eq c4_i32 c0_i32_32
  let c1_i32_33 : BitVec 32 := 1#32
  let v87 : BitVec 32 := Scalar.select v86 c1_i32_33 c4_i32
  let v88 : BitVec 32 := Scalar.remsi arg1 v87
  let c0_i32_35 : BitVec 32 := 0#32
  let v90 : BitVec 1 := Scalar.cmpi .slt v88 c0_i32_35
  let c0_i32_36 : BitVec 32 := 0#32
  let v91 : BitVec 1 := Scalar.cmpi .slt v87 c0_i32_36
  let v92 : BitVec 1 := Scalar.xori v90 v91
  let c0_i32_34 : BitVec 32 := 0#32
  let v89 : BitVec 1 := Scalar.cmpi .ne v88 c0_i32_34
  let v93 : BitVec 1 := Scalar.andi v92 v89
  let v94 : BitVec 32 := Scalar.addi v88 v87
  let v95 : BitVec 32 := Scalar.select v93 v94 v88
  let v100 : BitVec 32 := Scalar.subi arg1 v95
  let c4_i32_69 : BitVec 32 := 4#32
  let v163 : BitVec 32 := Scalar.subi v100 c4_i32_69
  let c256_i32_70 : BitVec 32 := 256#32
  let v164 : BitVec 32 := Scalar.muli v163 c256_i32_70
  let v165 : BitVec 32 := v164
  let v166 : Index := Scalar.indexCast v165
  let c0_71 : Index := 0#32
  ![v166.toNat, 0]
def k0_off12 (i : grid0.Coords) : Fin 2 → Nat :=
  let c0_91 : Index := 0#32
  let arg1 : BitVec 32 := BitVec.ofNat 32 (i 1).val
  let c4_i32 : BitVec 32 := 4#32
  let c0_i32_32 : BitVec 32 := 0#32
  let v86 : BitVec 1 := Scalar.cmpi .eq c4_i32 c0_i32_32
  let c1_i32_33 : BitVec 32 := 1#32
  let v87 : BitVec 32 := Scalar.select v86 c1_i32_33 c4_i32
  let v88 : BitVec 32 := Scalar.remsi arg1 v87
  let c0_i32_35 : BitVec 32 := 0#32
  let v90 : BitVec 1 := Scalar.cmpi .slt v88 c0_i32_35
  let c0_i32_36 : BitVec 32 := 0#32
  let v91 : BitVec 1 := Scalar.cmpi .slt v87 c0_i32_36
  let v92 : BitVec 1 := Scalar.xori v90 v91
  let c0_i32_34 : BitVec 32 := 0#32
  let v89 : BitVec 1 := Scalar.cmpi .ne v88 c0_i32_34
  let v93 : BitVec 1 := Scalar.andi v92 v89
  let v94 : BitVec 32 := Scalar.addi v88 v87
  let v95 : BitVec 32 := Scalar.select v93 v94 v88
  let v100 : BitVec 32 := Scalar.subi arg1 v95
  let c4_i32_69 : BitVec 32 := 4#32
  let v163 : BitVec 32 := Scalar.subi v100 c4_i32_69
  let c256_i32_70 : BitVec 32 := 256#32
  let v164 : BitVec 32 := Scalar.muli v163 c256_i32_70
  let v165 : BitVec 32 := v164
  let v283 : Index := Scalar.indexCast v165
  ![0, v283.toNat]
@[reducible] def k0_t3_loop (i : grid0.Coords) : Scf.Loop 32 :=
  let c0_i32_63 : BitVec 32 := 0#32
  let arg1 : BitVec 32 := BitVec.ofNat 32 (i 1).val
  let c4_i32 : BitVec 32 := 4#32
  let c0_i32_32 : BitVec 32 := 0#32
  let v86 : BitVec 1 := Scalar.cmpi .eq c4_i32 c0_i32_32
  let c1_i32_33 : BitVec 32 := 1#32
  let v87 : BitVec 32 := Scalar.select v86 c1_i32_33 c4_i32
  let v88 : BitVec 32 := Scalar.remsi arg1 v87
  let c0_i32_35 : BitVec 32 := 0#32
  let v90 : BitVec 1 := Scalar.cmpi .slt v88 c0_i32_35
  let c0_i32_36 : BitVec 32 := 0#32
  let v91 : BitVec 1 := Scalar.cmpi .slt v87 c0_i32_36
  let v92 : BitVec 1 := Scalar.xori v90 v91
  let c0_i32_34 : BitVec 32 := 0#32
  let v89 : BitVec 1 := Scalar.cmpi .ne v88 c0_i32_34
  let v93 : BitVec 1 := Scalar.andi v92 v89
  let v94 : BitVec 32 := Scalar.addi v88 v87
  let v95 : BitVec 32 := Scalar.select v93 v94 v88
  let v100 : BitVec 32 := Scalar.subi arg1 v95
  let c0_i32_40 : BitVec 32 := 0#32
  let v102 : BitVec 1 := Scalar.cmpi .sgt v100 c0_i32_40
  let v103 : BitVec 32 := Scalar.extui v102
  let c0_i32_41 : BitVec 32 := 0#32
  let v104 : BitVec 1 := Scalar.cmpi .slt v100 c0_i32_41
  let v105 : BitVec 32 := Scalar.extui v104
  let v106 : BitVec 32 := Scalar.subi v103 v105
  let c4_i32_39 : BitVec 32 := 4#32
  let c0_i32_42 : BitVec 32 := 0#32
  let v107 : BitVec 1 := Scalar.cmpi .sgt c4_i32_39 c0_i32_42
  let v108 : BitVec 32 := Scalar.extui v107
  let c0_i32_43 : BitVec 32 := 0#32
  let v109 : BitVec 1 := Scalar.cmpi .slt c4_i32_39 c0_i32_43
  let v110 : BitVec 32 := Scalar.extui v109
  let v111 : BitVec 32 := Scalar.subi v108 v110
  let v112 : BitVec 1 := Scalar.cmpi .ne v106 v111
  let v113 : BitVec 32 := Scalar.remsi v100 c4_i32_39
  let c0_i32_44 : BitVec 32 := 0#32
  let v114 : BitVec 1 := Scalar.cmpi .ne v113 c0_i32_44
  let v115 : BitVec 1 := Scalar.andi v112 v114
  let v101 : BitVec 32 := Scalar.divsi v100 c4_i32_39
  let c1_i32_45 : BitVec 32 := 1#32
  let v116 : BitVec 32 := Scalar.subi v101 c1_i32_45
  let v117 : BitVec 32 := Scalar.select v115 v116 v101
  let c2_i32 : BitVec 32 := 2#32
  let c0_i32_46 : BitVec 32 := 0#32
  let v118 : BitVec 1 := Scalar.cmpi .eq c2_i32 c0_i32_46
  let c1_i32_47 : BitVec 32 := 1#32
  let v119 : BitVec 32 := Scalar.select v118 c1_i32_47 c2_i32
  let v120 : BitVec 32 := Scalar.remsi v117 v119
  let c0_i32_49 : BitVec 32 := 0#32
  let v122 : BitVec 1 := Scalar.cmpi .slt v120 c0_i32_49
  let c0_i32_50 : BitVec 32 := 0#32
  let v123 : BitVec 1 := Scalar.cmpi .slt v119 c0_i32_50
  let v124 : BitVec 1 := Scalar.xori v122 v123
  let c0_i32_48 : BitVec 32 := 0#32
  let v121 : BitVec 1 := Scalar.cmpi .ne v120 c0_i32_48
  let v125 : BitVec 1 := Scalar.andi v124 v121
  let v126 : BitVec 32 := Scalar.addi v120 v119
  let v127 : BitVec 32 := Scalar.select v125 v126 v120
  let c4_i32_55 : BitVec 32 := 4#32
  let v135 : BitVec 32 := Scalar.muli v127 c4_i32_55
  let v136 : BitVec 32 := Scalar.subi v100 v135
  let c0_i32_57 : BitVec 32 := 0#32
  let v138 : BitVec 1 := Scalar.cmpi .sgt v136 c0_i32_57
  let v139 : BitVec 32 := Scalar.extui v138
  let c0_i32_58 : BitVec 32 := 0#32
  let v140 : BitVec 1 := Scalar.cmpi .slt v136 c0_i32_58
  let v141 : BitVec 32 := Scalar.extui v140
  let v142 : BitVec 32 := Scalar.subi v139 v141
  let c8_i32_56 : BitVec 32 := 8#32
  let c0_i32_59 : BitVec 32 := 0#32
  let v143 : BitVec 1 := Scalar.cmpi .sgt c8_i32_56 c0_i32_59
  let v144 : BitVec 32 := Scalar.extui v143
  let c0_i32_60 : BitVec 32 := 0#32
  let v145 : BitVec 1 := Scalar.cmpi .slt c8_i32_56 c0_i32_60
  let v146 : BitVec 32 := Scalar.extui v145
  let v147 : BitVec 32 := Scalar.subi v144 v146
  let v148 : BitVec 1 := Scalar.cmpi .ne v142 v147
  let v149 : BitVec 32 := Scalar.remsi v136 c8_i32_56
  let c0_i32_61 : BitVec 32 := 0#32
  let v150 : BitVec 1 := Scalar.cmpi .ne v149 c0_i32_61
  let v151 : BitVec 1 := Scalar.andi v148 v150
  let v137 : BitVec 32 := Scalar.divsi v136 c8_i32_56
  let c1_i32_62 : BitVec 32 := 1#32
  let v152 : BitVec 32 := Scalar.subi v137 c1_i32_62
  let v153 : BitVec 32 := Scalar.select v151 v152 v137
  let v154 : BitVec 32 := Scalar.subi v153 c0_i32_63
  let c1_i32_64 : BitVec 32 := 1#32
  let v156 : BitVec 32 := Scalar.divsi v154 c1_i32_64
  let v157 : BitVec 32 := Scalar.muli v156 c1_i32_64
  let v158 : BitVec 32 := Scalar.addi c0_i32_63 v157
  let c1_i32_65 : BitVec 32 := 1#32
  ⟨c0_i32_63, v158, c1_i32_65⟩
def k0_mult7 (i : grid0.Coords) (k0_t3 : Fin (k0_t3_loop i).trips) : BitVec 32 :=
  let arg1 : BitVec 32 := BitVec.ofNat 32 (i 1).val
  let c4_i32 : BitVec 32 := 4#32
  let c0_i32_32 : BitVec 32 := 0#32
  let v86 : BitVec 1 := Scalar.cmpi .eq c4_i32 c0_i32_32
  let c1_i32_33 : BitVec 32 := 1#32
  let v87 : BitVec 32 := Scalar.select v86 c1_i32_33 c4_i32
  let v88 : BitVec 32 := Scalar.remsi arg1 v87
  let c0_i32_35 : BitVec 32 := 0#32
  let v90 : BitVec 1 := Scalar.cmpi .slt v88 c0_i32_35
  let c0_i32_36 : BitVec 32 := 0#32
  let v91 : BitVec 1 := Scalar.cmpi .slt v87 c0_i32_36
  let v92 : BitVec 1 := Scalar.xori v90 v91
  let c0_i32_34 : BitVec 32 := 0#32
  let v89 : BitVec 1 := Scalar.cmpi .ne v88 c0_i32_34
  let v93 : BitVec 1 := Scalar.andi v92 v89
  let v94 : BitVec 32 := Scalar.addi v88 v87
  let v95 : BitVec 32 := Scalar.select v93 v94 v88
  let v100 : BitVec 32 := Scalar.subi arg1 v95
  let c0_i32_40 : BitVec 32 := 0#32
  let v102 : BitVec 1 := Scalar.cmpi .sgt v100 c0_i32_40
  let v103 : BitVec 32 := Scalar.extui v102
  let c0_i32_41 : BitVec 32 := 0#32
  let v104 : BitVec 1 := Scalar.cmpi .slt v100 c0_i32_41
  let v105 : BitVec 32 := Scalar.extui v104
  let v106 : BitVec 32 := Scalar.subi v103 v105
  let c4_i32_39 : BitVec 32 := 4#32
  let c0_i32_42 : BitVec 32 := 0#32
  let v107 : BitVec 1 := Scalar.cmpi .sgt c4_i32_39 c0_i32_42
  let v108 : BitVec 32 := Scalar.extui v107
  let c0_i32_43 : BitVec 32 := 0#32
  let v109 : BitVec 1 := Scalar.cmpi .slt c4_i32_39 c0_i32_43
  let v110 : BitVec 32 := Scalar.extui v109
  let v111 : BitVec 32 := Scalar.subi v108 v110
  let v112 : BitVec 1 := Scalar.cmpi .ne v106 v111
  let v113 : BitVec 32 := Scalar.remsi v100 c4_i32_39
  let c0_i32_44 : BitVec 32 := 0#32
  let v114 : BitVec 1 := Scalar.cmpi .ne v113 c0_i32_44
  let v115 : BitVec 1 := Scalar.andi v112 v114
  let v101 : BitVec 32 := Scalar.divsi v100 c4_i32_39
  let c1_i32_45 : BitVec 32 := 1#32
  let v116 : BitVec 32 := Scalar.subi v101 c1_i32_45
  let v117 : BitVec 32 := Scalar.select v115 v116 v101
  let c2_i32 : BitVec 32 := 2#32
  let c0_i32_46 : BitVec 32 := 0#32
  let v118 : BitVec 1 := Scalar.cmpi .eq c2_i32 c0_i32_46
  let c1_i32_47 : BitVec 32 := 1#32
  let v119 : BitVec 32 := Scalar.select v118 c1_i32_47 c2_i32
  let v120 : BitVec 32 := Scalar.remsi v117 v119
  let c0_i32_49 : BitVec 32 := 0#32
  let v122 : BitVec 1 := Scalar.cmpi .slt v120 c0_i32_49
  let c0_i32_50 : BitVec 32 := 0#32
  let v123 : BitVec 1 := Scalar.cmpi .slt v119 c0_i32_50
  let v124 : BitVec 1 := Scalar.xori v122 v123
  let c0_i32_48 : BitVec 32 := 0#32
  let v121 : BitVec 1 := Scalar.cmpi .ne v120 c0_i32_48
  let v125 : BitVec 1 := Scalar.andi v124 v121
  let v126 : BitVec 32 := Scalar.addi v120 v119
  let v127 : BitVec 32 := Scalar.select v125 v126 v120
  let c4_i32_55 : BitVec 32 := 4#32
  let v135 : BitVec 32 := Scalar.muli v127 c4_i32_55
  let v136 : BitVec 32 := Scalar.subi v100 v135
  let c8_i32_70 : BitVec 32 := 8#32
  let c0_i32_63 : BitVec 32 := 0#32
  let c1_i32_65 : BitVec 32 := 1#32
  let arg18 : BitVec 32 := Scf.iv c0_i32_63 c1_i32_65 k0_t3
  let c1_i32_69 : BitVec 32 := 1#32
  let v163 : BitVec 32 := Scalar.addi arg18 c1_i32_69
  let v164 : BitVec 32 := Scalar.muli c8_i32_70 v163
  let v165 : BitVec 32 := Scalar.subi v136 v164
  let c256_i32_71 : BitVec 32 := 256#32
  let v166 : BitVec 32 := Scalar.muli v165 c256_i32_71
  v166
def k0_off13 (i : grid0.Coords) (k0_t3 : Fin (k0_t3_loop i).trips) : Fin 2 → Nat :=
  let arg1 : BitVec 32 := BitVec.ofNat 32 (i 1).val
  let c4_i32 : BitVec 32 := 4#32
  let c0_i32_32 : BitVec 32 := 0#32
  let v86 : BitVec 1 := Scalar.cmpi .eq c4_i32 c0_i32_32
  let c1_i32_33 : BitVec 32 := 1#32
  let v87 : BitVec 32 := Scalar.select v86 c1_i32_33 c4_i32
  let v88 : BitVec 32 := Scalar.remsi arg1 v87
  let c0_i32_35 : BitVec 32 := 0#32
  let v90 : BitVec 1 := Scalar.cmpi .slt v88 c0_i32_35
  let c0_i32_36 : BitVec 32 := 0#32
  let v91 : BitVec 1 := Scalar.cmpi .slt v87 c0_i32_36
  let v92 : BitVec 1 := Scalar.xori v90 v91
  let c0_i32_34 : BitVec 32 := 0#32
  let v89 : BitVec 1 := Scalar.cmpi .ne v88 c0_i32_34
  let v93 : BitVec 1 := Scalar.andi v92 v89
  let v94 : BitVec 32 := Scalar.addi v88 v87
  let v95 : BitVec 32 := Scalar.select v93 v94 v88
  let v100 : BitVec 32 := Scalar.subi arg1 v95
  let c0_i32_40 : BitVec 32 := 0#32
  let v102 : BitVec 1 := Scalar.cmpi .sgt v100 c0_i32_40
  let v103 : BitVec 32 := Scalar.extui v102
  let c0_i32_41 : BitVec 32 := 0#32
  let v104 : BitVec 1 := Scalar.cmpi .slt v100 c0_i32_41
  let v105 : BitVec 32 := Scalar.extui v104
  let v106 : BitVec 32 := Scalar.subi v103 v105
  let c4_i32_39 : BitVec 32 := 4#32
  let c0_i32_42 : BitVec 32 := 0#32
  let v107 : BitVec 1 := Scalar.cmpi .sgt c4_i32_39 c0_i32_42
  let v108 : BitVec 32 := Scalar.extui v107
  let c0_i32_43 : BitVec 32 := 0#32
  let v109 : BitVec 1 := Scalar.cmpi .slt c4_i32_39 c0_i32_43
  let v110 : BitVec 32 := Scalar.extui v109
  let v111 : BitVec 32 := Scalar.subi v108 v110
  let v112 : BitVec 1 := Scalar.cmpi .ne v106 v111
  let v113 : BitVec 32 := Scalar.remsi v100 c4_i32_39
  let c0_i32_44 : BitVec 32 := 0#32
  let v114 : BitVec 1 := Scalar.cmpi .ne v113 c0_i32_44
  let v115 : BitVec 1 := Scalar.andi v112 v114
  let v101 : BitVec 32 := Scalar.divsi v100 c4_i32_39
  let c1_i32_45 : BitVec 32 := 1#32
  let v116 : BitVec 32 := Scalar.subi v101 c1_i32_45
  let v117 : BitVec 32 := Scalar.select v115 v116 v101
  let c2_i32 : BitVec 32 := 2#32
  let c0_i32_46 : BitVec 32 := 0#32
  let v118 : BitVec 1 := Scalar.cmpi .eq c2_i32 c0_i32_46
  let c1_i32_47 : BitVec 32 := 1#32
  let v119 : BitVec 32 := Scalar.select v118 c1_i32_47 c2_i32
  let v120 : BitVec 32 := Scalar.remsi v117 v119
  let c0_i32_49 : BitVec 32 := 0#32
  let v122 : BitVec 1 := Scalar.cmpi .slt v120 c0_i32_49
  let c0_i32_50 : BitVec 32 := 0#32
  let v123 : BitVec 1 := Scalar.cmpi .slt v119 c0_i32_50
  let v124 : BitVec 1 := Scalar.xori v122 v123
  let c0_i32_48 : BitVec 32 := 0#32
  let v121 : BitVec 1 := Scalar.cmpi .ne v120 c0_i32_48
  let v125 : BitVec 1 := Scalar.andi v124 v121
  let v126 : BitVec 32 := Scalar.addi v120 v119
  let v127 : BitVec 32 := Scalar.select v125 v126 v120
  let c4_i32_55 : BitVec 32 := 4#32
  let v135 : BitVec 32 := Scalar.muli v127 c4_i32_55
  let v136 : BitVec 32 := Scalar.subi v100 v135
  let c8_i32_70 : BitVec 32 := 8#32
  let c0_i32_63 : BitVec 32 := 0#32
  let c1_i32_65 : BitVec 32 := 1#32
  let arg18 : BitVec 32 := Scf.iv c0_i32_63 c1_i32_65 k0_t3
  let c1_i32_69 : BitVec 32 := 1#32
  let v163 : BitVec 32 := Scalar.addi arg18 c1_i32_69
  let v164 : BitVec 32 := Scalar.muli c8_i32_70 v163
  let v165 : BitVec 32 := Scalar.subi v136 v164
  let c256_i32_71 : BitVec 32 := 256#32
  let v166 : BitVec 32 := Scalar.muli v165 c256_i32_71
  let v167 : BitVec 32 := v166
  let v168 : Index := Scalar.indexCast v167
  let c0_72 : Index := 0#32
  ![v168.toNat, 0]
def k0_off14 (i : grid0.Coords) (k0_t3 : Fin (k0_t3_loop i).trips) : Fin 2 → Nat :=
  let c0_100 : Index := 0#32
  let arg1 : BitVec 32 := BitVec.ofNat 32 (i 1).val
  let c4_i32 : BitVec 32 := 4#32
  let c0_i32_32 : BitVec 32 := 0#32
  let v86 : BitVec 1 := Scalar.cmpi .eq c4_i32 c0_i32_32
  let c1_i32_33 : BitVec 32 := 1#32
  let v87 : BitVec 32 := Scalar.select v86 c1_i32_33 c4_i32
  let v88 : BitVec 32 := Scalar.remsi arg1 v87
  let c0_i32_35 : BitVec 32 := 0#32
  let v90 : BitVec 1 := Scalar.cmpi .slt v88 c0_i32_35
  let c0_i32_36 : BitVec 32 := 0#32
  let v91 : BitVec 1 := Scalar.cmpi .slt v87 c0_i32_36
  let v92 : BitVec 1 := Scalar.xori v90 v91
  let c0_i32_34 : BitVec 32 := 0#32
  let v89 : BitVec 1 := Scalar.cmpi .ne v88 c0_i32_34
  let v93 : BitVec 1 := Scalar.andi v92 v89
  let v94 : BitVec 32 := Scalar.addi v88 v87
  let v95 : BitVec 32 := Scalar.select v93 v94 v88
  let v100 : BitVec 32 := Scalar.subi arg1 v95
  let c0_i32_40 : BitVec 32 := 0#32
  let v102 : BitVec 1 := Scalar.cmpi .sgt v100 c0_i32_40
  let v103 : BitVec 32 := Scalar.extui v102
  let c0_i32_41 : BitVec 32 := 0#32
  let v104 : BitVec 1 := Scalar.cmpi .slt v100 c0_i32_41
  let v105 : BitVec 32 := Scalar.extui v104
  let v106 : BitVec 32 := Scalar.subi v103 v105
  let c4_i32_39 : BitVec 32 := 4#32
  let c0_i32_42 : BitVec 32 := 0#32
  let v107 : BitVec 1 := Scalar.cmpi .sgt c4_i32_39 c0_i32_42
  let v108 : BitVec 32 := Scalar.extui v107
  let c0_i32_43 : BitVec 32 := 0#32
  let v109 : BitVec 1 := Scalar.cmpi .slt c4_i32_39 c0_i32_43
  let v110 : BitVec 32 := Scalar.extui v109
  let v111 : BitVec 32 := Scalar.subi v108 v110
  let v112 : BitVec 1 := Scalar.cmpi .ne v106 v111
  let v113 : BitVec 32 := Scalar.remsi v100 c4_i32_39
  let c0_i32_44 : BitVec 32 := 0#32
  let v114 : BitVec 1 := Scalar.cmpi .ne v113 c0_i32_44
  let v115 : BitVec 1 := Scalar.andi v112 v114
  let v101 : BitVec 32 := Scalar.divsi v100 c4_i32_39
  let c1_i32_45 : BitVec 32 := 1#32
  let v116 : BitVec 32 := Scalar.subi v101 c1_i32_45
  let v117 : BitVec 32 := Scalar.select v115 v116 v101
  let c2_i32 : BitVec 32 := 2#32
  let c0_i32_46 : BitVec 32 := 0#32
  let v118 : BitVec 1 := Scalar.cmpi .eq c2_i32 c0_i32_46
  let c1_i32_47 : BitVec 32 := 1#32
  let v119 : BitVec 32 := Scalar.select v118 c1_i32_47 c2_i32
  let v120 : BitVec 32 := Scalar.remsi v117 v119
  let c0_i32_49 : BitVec 32 := 0#32
  let v122 : BitVec 1 := Scalar.cmpi .slt v120 c0_i32_49
  let c0_i32_50 : BitVec 32 := 0#32
  let v123 : BitVec 1 := Scalar.cmpi .slt v119 c0_i32_50
  let v124 : BitVec 1 := Scalar.xori v122 v123
  let c0_i32_48 : BitVec 32 := 0#32
  let v121 : BitVec 1 := Scalar.cmpi .ne v120 c0_i32_48
  let v125 : BitVec 1 := Scalar.andi v124 v121
  let v126 : BitVec 32 := Scalar.addi v120 v119
  let v127 : BitVec 32 := Scalar.select v125 v126 v120
  let c4_i32_55 : BitVec 32 := 4#32
  let v135 : BitVec 32 := Scalar.muli v127 c4_i32_55
  let v136 : BitVec 32 := Scalar.subi v100 v135
  let c8_i32_70 : BitVec 32 := 8#32
  let c0_i32_63 : BitVec 32 := 0#32
  let c1_i32_65 : BitVec 32 := 1#32
  let arg18 : BitVec 32 := Scf.iv c0_i32_63 c1_i32_65 k0_t3
  let c1_i32_69 : BitVec 32 := 1#32
  let v163 : BitVec 32 := Scalar.addi arg18 c1_i32_69
  let v164 : BitVec 32 := Scalar.muli c8_i32_70 v163
  let v165 : BitVec 32 := Scalar.subi v136 v164
  let c256_i32_71 : BitVec 32 := 256#32
  let v166 : BitVec 32 := Scalar.muli v165 c256_i32_71
  let v167 : BitVec 32 := v166
  let v361 : Index := Scalar.indexCast v167
  ![0, v361.toNat]
@[reducible] def k0_t4_loop (i : grid0.Coords) : Scf.Loop 32 :=
  let c0_i32_63 : BitVec 32 := 0#32
  let arg1 : BitVec 32 := BitVec.ofNat 32 (i 1).val
  let c4_i32 : BitVec 32 := 4#32
  let c0_i32_32 : BitVec 32 := 0#32
  let v86 : BitVec 1 := Scalar.cmpi .eq c4_i32 c0_i32_32
  let c1_i32_33 : BitVec 32 := 1#32
  let v87 : BitVec 32 := Scalar.select v86 c1_i32_33 c4_i32
  let v88 : BitVec 32 := Scalar.remsi arg1 v87
  let c0_i32_35 : BitVec 32 := 0#32
  let v90 : BitVec 1 := Scalar.cmpi .slt v88 c0_i32_35
  let c0_i32_36 : BitVec 32 := 0#32
  let v91 : BitVec 1 := Scalar.cmpi .slt v87 c0_i32_36
  let v92 : BitVec 1 := Scalar.xori v90 v91
  let c0_i32_34 : BitVec 32 := 0#32
  let v89 : BitVec 1 := Scalar.cmpi .ne v88 c0_i32_34
  let v93 : BitVec 1 := Scalar.andi v92 v89
  let v94 : BitVec 32 := Scalar.addi v88 v87
  let v95 : BitVec 32 := Scalar.select v93 v94 v88
  let v100 : BitVec 32 := Scalar.subi arg1 v95
  let c0_i32_40 : BitVec 32 := 0#32
  let v102 : BitVec 1 := Scalar.cmpi .sgt v100 c0_i32_40
  let v103 : BitVec 32 := Scalar.extui v102
  let c0_i32_41 : BitVec 32 := 0#32
  let v104 : BitVec 1 := Scalar.cmpi .slt v100 c0_i32_41
  let v105 : BitVec 32 := Scalar.extui v104
  let v106 : BitVec 32 := Scalar.subi v103 v105
  let c4_i32_39 : BitVec 32 := 4#32
  let c0_i32_42 : BitVec 32 := 0#32
  let v107 : BitVec 1 := Scalar.cmpi .sgt c4_i32_39 c0_i32_42
  let v108 : BitVec 32 := Scalar.extui v107
  let c0_i32_43 : BitVec 32 := 0#32
  let v109 : BitVec 1 := Scalar.cmpi .slt c4_i32_39 c0_i32_43
  let v110 : BitVec 32 := Scalar.extui v109
  let v111 : BitVec 32 := Scalar.subi v108 v110
  let v112 : BitVec 1 := Scalar.cmpi .ne v106 v111
  let v113 : BitVec 32 := Scalar.remsi v100 c4_i32_39
  let c0_i32_44 : BitVec 32 := 0#32
  let v114 : BitVec 1 := Scalar.cmpi .ne v113 c0_i32_44
  let v115 : BitVec 1 := Scalar.andi v112 v114
  let v101 : BitVec 32 := Scalar.divsi v100 c4_i32_39
  let c1_i32_45 : BitVec 32 := 1#32
  let v116 : BitVec 32 := Scalar.subi v101 c1_i32_45
  let v117 : BitVec 32 := Scalar.select v115 v116 v101
  let c2_i32 : BitVec 32 := 2#32
  let c0_i32_46 : BitVec 32 := 0#32
  let v118 : BitVec 1 := Scalar.cmpi .eq c2_i32 c0_i32_46
  let c1_i32_47 : BitVec 32 := 1#32
  let v119 : BitVec 32 := Scalar.select v118 c1_i32_47 c2_i32
  let v120 : BitVec 32 := Scalar.remsi v117 v119
  let c0_i32_49 : BitVec 32 := 0#32
  let v122 : BitVec 1 := Scalar.cmpi .slt v120 c0_i32_49
  let c0_i32_50 : BitVec 32 := 0#32
  let v123 : BitVec 1 := Scalar.cmpi .slt v119 c0_i32_50
  let v124 : BitVec 1 := Scalar.xori v122 v123
  let c0_i32_48 : BitVec 32 := 0#32
  let v121 : BitVec 1 := Scalar.cmpi .ne v120 c0_i32_48
  let v125 : BitVec 1 := Scalar.andi v124 v121
  let v126 : BitVec 32 := Scalar.addi v120 v119
  let v127 : BitVec 32 := Scalar.select v125 v126 v120
  let c4_i32_55 : BitVec 32 := 4#32
  let v135 : BitVec 32 := Scalar.muli v127 c4_i32_55
  let v136 : BitVec 32 := Scalar.subi v100 v135
  let c0_i32_57 : BitVec 32 := 0#32
  let v138 : BitVec 1 := Scalar.cmpi .sgt v136 c0_i32_57
  let v139 : BitVec 32 := Scalar.extui v138
  let c0_i32_58 : BitVec 32 := 0#32
  let v140 : BitVec 1 := Scalar.cmpi .slt v136 c0_i32_58
  let v141 : BitVec 32 := Scalar.extui v140
  let v142 : BitVec 32 := Scalar.subi v139 v141
  let c8_i32_56 : BitVec 32 := 8#32
  let c0_i32_59 : BitVec 32 := 0#32
  let v143 : BitVec 1 := Scalar.cmpi .sgt c8_i32_56 c0_i32_59
  let v144 : BitVec 32 := Scalar.extui v143
  let c0_i32_60 : BitVec 32 := 0#32
  let v145 : BitVec 1 := Scalar.cmpi .slt c8_i32_56 c0_i32_60
  let v146 : BitVec 32 := Scalar.extui v145
  let v147 : BitVec 32 := Scalar.subi v144 v146
  let v148 : BitVec 1 := Scalar.cmpi .ne v142 v147
  let v149 : BitVec 32 := Scalar.remsi v136 c8_i32_56
  let c0_i32_61 : BitVec 32 := 0#32
  let v150 : BitVec 1 := Scalar.cmpi .ne v149 c0_i32_61
  let v151 : BitVec 1 := Scalar.andi v148 v150
  let v137 : BitVec 32 := Scalar.divsi v136 c8_i32_56
  let c1_i32_62 : BitVec 32 := 1#32
  let v152 : BitVec 32 := Scalar.subi v137 c1_i32_62
  let v153 : BitVec 32 := Scalar.select v151 v152 v137
  let v154 : BitVec 32 := Scalar.subi v153 c0_i32_63
  let c1_i32_64 : BitVec 32 := 1#32
  let v156 : BitVec 32 := Scalar.divsi v154 c1_i32_64
  let v157 : BitVec 32 := Scalar.muli v156 c1_i32_64
  let v158 : BitVec 32 := Scalar.addi c0_i32_63 v157
  let v155 : BitVec 32 := Scalar.addi c0_i32_63 v154
  let c1_i32_66 : BitVec 32 := 1#32
  ⟨v158, v155, c1_i32_66⟩
def k0_mult8 (i : grid0.Coords) (k0_t4 : Fin (k0_t4_loop i).trips) : BitVec 32 :=
  let arg1 : BitVec 32 := BitVec.ofNat 32 (i 1).val
  let c4_i32 : BitVec 32 := 4#32
  let c0_i32_32 : BitVec 32 := 0#32
  let v86 : BitVec 1 := Scalar.cmpi .eq c4_i32 c0_i32_32
  let c1_i32_33 : BitVec 32 := 1#32
  let v87 : BitVec 32 := Scalar.select v86 c1_i32_33 c4_i32
  let v88 : BitVec 32 := Scalar.remsi arg1 v87
  let c0_i32_35 : BitVec 32 := 0#32
  let v90 : BitVec 1 := Scalar.cmpi .slt v88 c0_i32_35
  let c0_i32_36 : BitVec 32 := 0#32
  let v91 : BitVec 1 := Scalar.cmpi .slt v87 c0_i32_36
  let v92 : BitVec 1 := Scalar.xori v90 v91
  let c0_i32_34 : BitVec 32 := 0#32
  let v89 : BitVec 1 := Scalar.cmpi .ne v88 c0_i32_34
  let v93 : BitVec 1 := Scalar.andi v92 v89
  let v94 : BitVec 32 := Scalar.addi v88 v87
  let v95 : BitVec 32 := Scalar.select v93 v94 v88
  let v100 : BitVec 32 := Scalar.subi arg1 v95
  let c0_i32_40 : BitVec 32 := 0#32
  let v102 : BitVec 1 := Scalar.cmpi .sgt v100 c0_i32_40
  let v103 : BitVec 32 := Scalar.extui v102
  let c0_i32_41 : BitVec 32 := 0#32
  let v104 : BitVec 1 := Scalar.cmpi .slt v100 c0_i32_41
  let v105 : BitVec 32 := Scalar.extui v104
  let v106 : BitVec 32 := Scalar.subi v103 v105
  let c4_i32_39 : BitVec 32 := 4#32
  let c0_i32_42 : BitVec 32 := 0#32
  let v107 : BitVec 1 := Scalar.cmpi .sgt c4_i32_39 c0_i32_42
  let v108 : BitVec 32 := Scalar.extui v107
  let c0_i32_43 : BitVec 32 := 0#32
  let v109 : BitVec 1 := Scalar.cmpi .slt c4_i32_39 c0_i32_43
  let v110 : BitVec 32 := Scalar.extui v109
  let v111 : BitVec 32 := Scalar.subi v108 v110
  let v112 : BitVec 1 := Scalar.cmpi .ne v106 v111
  let v113 : BitVec 32 := Scalar.remsi v100 c4_i32_39
  let c0_i32_44 : BitVec 32 := 0#32
  let v114 : BitVec 1 := Scalar.cmpi .ne v113 c0_i32_44
  let v115 : BitVec 1 := Scalar.andi v112 v114
  let v101 : BitVec 32 := Scalar.divsi v100 c4_i32_39
  let c1_i32_45 : BitVec 32 := 1#32
  let v116 : BitVec 32 := Scalar.subi v101 c1_i32_45
  let v117 : BitVec 32 := Scalar.select v115 v116 v101
  let c2_i32 : BitVec 32 := 2#32
  let c0_i32_46 : BitVec 32 := 0#32
  let v118 : BitVec 1 := Scalar.cmpi .eq c2_i32 c0_i32_46
  let c1_i32_47 : BitVec 32 := 1#32
  let v119 : BitVec 32 := Scalar.select v118 c1_i32_47 c2_i32
  let v120 : BitVec 32 := Scalar.remsi v117 v119
  let c0_i32_49 : BitVec 32 := 0#32
  let v122 : BitVec 1 := Scalar.cmpi .slt v120 c0_i32_49
  let c0_i32_50 : BitVec 32 := 0#32
  let v123 : BitVec 1 := Scalar.cmpi .slt v119 c0_i32_50
  let v124 : BitVec 1 := Scalar.xori v122 v123
  let c0_i32_48 : BitVec 32 := 0#32
  let v121 : BitVec 1 := Scalar.cmpi .ne v120 c0_i32_48
  let v125 : BitVec 1 := Scalar.andi v124 v121
  let v126 : BitVec 32 := Scalar.addi v120 v119
  let v127 : BitVec 32 := Scalar.select v125 v126 v120
  let c4_i32_55 : BitVec 32 := 4#32
  let v135 : BitVec 32 := Scalar.muli v127 c4_i32_55
  let v136 : BitVec 32 := Scalar.subi v100 v135
  let c8_i32_70 : BitVec 32 := 8#32
  let c0_i32_63 : BitVec 32 := 0#32
  let c0_i32_57 : BitVec 32 := 0#32
  let v138 : BitVec 1 := Scalar.cmpi .sgt v136 c0_i32_57
  let v139 : BitVec 32 := Scalar.extui v138
  let c0_i32_58 : BitVec 32 := 0#32
  let v140 : BitVec 1 := Scalar.cmpi .slt v136 c0_i32_58
  let v141 : BitVec 32 := Scalar.extui v140
  let v142 : BitVec 32 := Scalar.subi v139 v141
  let c8_i32_56 : BitVec 32 := 8#32
  let c0_i32_59 : BitVec 32 := 0#32
  let v143 : BitVec 1 := Scalar.cmpi .sgt c8_i32_56 c0_i32_59
  let v144 : BitVec 32 := Scalar.extui v143
  let c0_i32_60 : BitVec 32 := 0#32
  let v145 : BitVec 1 := Scalar.cmpi .slt c8_i32_56 c0_i32_60
  let v146 : BitVec 32 := Scalar.extui v145
  let v147 : BitVec 32 := Scalar.subi v144 v146
  let v148 : BitVec 1 := Scalar.cmpi .ne v142 v147
  let v149 : BitVec 32 := Scalar.remsi v136 c8_i32_56
  let c0_i32_61 : BitVec 32 := 0#32
  let v150 : BitVec 1 := Scalar.cmpi .ne v149 c0_i32_61
  let v151 : BitVec 1 := Scalar.andi v148 v150
  let v137 : BitVec 32 := Scalar.divsi v136 c8_i32_56
  let c1_i32_62 : BitVec 32 := 1#32
  let v152 : BitVec 32 := Scalar.subi v137 c1_i32_62
  let v153 : BitVec 32 := Scalar.select v151 v152 v137
  let v154 : BitVec 32 := Scalar.subi v153 c0_i32_63
  let c1_i32_64 : BitVec 32 := 1#32
  let v156 : BitVec 32 := Scalar.divsi v154 c1_i32_64
  let v157 : BitVec 32 := Scalar.muli v156 c1_i32_64
  let v158 : BitVec 32 := Scalar.addi c0_i32_63 v157
  let c1_i32_66 : BitVec 32 := 1#32
  let arg18 : BitVec 32 := Scf.iv v158 c1_i32_66 k0_t4
  let c1_i32_69 : BitVec 32 := 1#32
  let v163 : BitVec 32 := Scalar.addi arg18 c1_i32_69
  let v164 : BitVec 32 := Scalar.muli c8_i32_70 v163
  let v165 : BitVec 32 := Scalar.subi v136 v164
  let c256_i32_71 : BitVec 32 := 256#32
  let v166 : BitVec 32 := Scalar.muli v165 c256_i32_71
  v166
def k0_off15 (i : grid0.Coords) (k0_t4 : Fin (k0_t4_loop i).trips) : Fin 2 → Nat :=
  let arg1 : BitVec 32 := BitVec.ofNat 32 (i 1).val
  let c4_i32 : BitVec 32 := 4#32
  let c0_i32_32 : BitVec 32 := 0#32
  let v86 : BitVec 1 := Scalar.cmpi .eq c4_i32 c0_i32_32
  let c1_i32_33 : BitVec 32 := 1#32
  let v87 : BitVec 32 := Scalar.select v86 c1_i32_33 c4_i32
  let v88 : BitVec 32 := Scalar.remsi arg1 v87
  let c0_i32_35 : BitVec 32 := 0#32
  let v90 : BitVec 1 := Scalar.cmpi .slt v88 c0_i32_35
  let c0_i32_36 : BitVec 32 := 0#32
  let v91 : BitVec 1 := Scalar.cmpi .slt v87 c0_i32_36
  let v92 : BitVec 1 := Scalar.xori v90 v91
  let c0_i32_34 : BitVec 32 := 0#32
  let v89 : BitVec 1 := Scalar.cmpi .ne v88 c0_i32_34
  let v93 : BitVec 1 := Scalar.andi v92 v89
  let v94 : BitVec 32 := Scalar.addi v88 v87
  let v95 : BitVec 32 := Scalar.select v93 v94 v88
  let v100 : BitVec 32 := Scalar.subi arg1 v95
  let c0_i32_40 : BitVec 32 := 0#32
  let v102 : BitVec 1 := Scalar.cmpi .sgt v100 c0_i32_40
  let v103 : BitVec 32 := Scalar.extui v102
  let c0_i32_41 : BitVec 32 := 0#32
  let v104 : BitVec 1 := Scalar.cmpi .slt v100 c0_i32_41
  let v105 : BitVec 32 := Scalar.extui v104
  let v106 : BitVec 32 := Scalar.subi v103 v105
  let c4_i32_39 : BitVec 32 := 4#32
  let c0_i32_42 : BitVec 32 := 0#32
  let v107 : BitVec 1 := Scalar.cmpi .sgt c4_i32_39 c0_i32_42
  let v108 : BitVec 32 := Scalar.extui v107
  let c0_i32_43 : BitVec 32 := 0#32
  let v109 : BitVec 1 := Scalar.cmpi .slt c4_i32_39 c0_i32_43
  let v110 : BitVec 32 := Scalar.extui v109
  let v111 : BitVec 32 := Scalar.subi v108 v110
  let v112 : BitVec 1 := Scalar.cmpi .ne v106 v111
  let v113 : BitVec 32 := Scalar.remsi v100 c4_i32_39
  let c0_i32_44 : BitVec 32 := 0#32
  let v114 : BitVec 1 := Scalar.cmpi .ne v113 c0_i32_44
  let v115 : BitVec 1 := Scalar.andi v112 v114
  let v101 : BitVec 32 := Scalar.divsi v100 c4_i32_39
  let c1_i32_45 : BitVec 32 := 1#32
  let v116 : BitVec 32 := Scalar.subi v101 c1_i32_45
  let v117 : BitVec 32 := Scalar.select v115 v116 v101
  let c2_i32 : BitVec 32 := 2#32
  let c0_i32_46 : BitVec 32 := 0#32
  let v118 : BitVec 1 := Scalar.cmpi .eq c2_i32 c0_i32_46
  let c1_i32_47 : BitVec 32 := 1#32
  let v119 : BitVec 32 := Scalar.select v118 c1_i32_47 c2_i32
  let v120 : BitVec 32 := Scalar.remsi v117 v119
  let c0_i32_49 : BitVec 32 := 0#32
  let v122 : BitVec 1 := Scalar.cmpi .slt v120 c0_i32_49
  let c0_i32_50 : BitVec 32 := 0#32
  let v123 : BitVec 1 := Scalar.cmpi .slt v119 c0_i32_50
  let v124 : BitVec 1 := Scalar.xori v122 v123
  let c0_i32_48 : BitVec 32 := 0#32
  let v121 : BitVec 1 := Scalar.cmpi .ne v120 c0_i32_48
  let v125 : BitVec 1 := Scalar.andi v124 v121
  let v126 : BitVec 32 := Scalar.addi v120 v119
  let v127 : BitVec 32 := Scalar.select v125 v126 v120
  let c4_i32_55 : BitVec 32 := 4#32
  let v135 : BitVec 32 := Scalar.muli v127 c4_i32_55
  let v136 : BitVec 32 := Scalar.subi v100 v135
  let c8_i32_70 : BitVec 32 := 8#32
  let c0_i32_63 : BitVec 32 := 0#32
  let c0_i32_57 : BitVec 32 := 0#32
  let v138 : BitVec 1 := Scalar.cmpi .sgt v136 c0_i32_57
  let v139 : BitVec 32 := Scalar.extui v138
  let c0_i32_58 : BitVec 32 := 0#32
  let v140 : BitVec 1 := Scalar.cmpi .slt v136 c0_i32_58
  let v141 : BitVec 32 := Scalar.extui v140
  let v142 : BitVec 32 := Scalar.subi v139 v141
  let c8_i32_56 : BitVec 32 := 8#32
  let c0_i32_59 : BitVec 32 := 0#32
  let v143 : BitVec 1 := Scalar.cmpi .sgt c8_i32_56 c0_i32_59
  let v144 : BitVec 32 := Scalar.extui v143
  let c0_i32_60 : BitVec 32 := 0#32
  let v145 : BitVec 1 := Scalar.cmpi .slt c8_i32_56 c0_i32_60
  let v146 : BitVec 32 := Scalar.extui v145
  let v147 : BitVec 32 := Scalar.subi v144 v146
  let v148 : BitVec 1 := Scalar.cmpi .ne v142 v147
  let v149 : BitVec 32 := Scalar.remsi v136 c8_i32_56
  let c0_i32_61 : BitVec 32 := 0#32
  let v150 : BitVec 1 := Scalar.cmpi .ne v149 c0_i32_61
  let v151 : BitVec 1 := Scalar.andi v148 v150
  let v137 : BitVec 32 := Scalar.divsi v136 c8_i32_56
  let c1_i32_62 : BitVec 32 := 1#32
  let v152 : BitVec 32 := Scalar.subi v137 c1_i32_62
  let v153 : BitVec 32 := Scalar.select v151 v152 v137
  let v154 : BitVec 32 := Scalar.subi v153 c0_i32_63
  let c1_i32_64 : BitVec 32 := 1#32
  let v156 : BitVec 32 := Scalar.divsi v154 c1_i32_64
  let v157 : BitVec 32 := Scalar.muli v156 c1_i32_64
  let v158 : BitVec 32 := Scalar.addi c0_i32_63 v157
  let c1_i32_66 : BitVec 32 := 1#32
  let arg18 : BitVec 32 := Scf.iv v158 c1_i32_66 k0_t4
  let c1_i32_69 : BitVec 32 := 1#32
  let v163 : BitVec 32 := Scalar.addi arg18 c1_i32_69
  let v164 : BitVec 32 := Scalar.muli c8_i32_70 v163
  let v165 : BitVec 32 := Scalar.subi v136 v164
  let c256_i32_71 : BitVec 32 := 256#32
  let v166 : BitVec 32 := Scalar.muli v165 c256_i32_71
  let v167 : BitVec 32 := v166
  let v168 : Index := Scalar.indexCast v167
  let c0_72 : Index := 0#32
  ![v168.toNat, 0]
def k0_off16 (i : grid0.Coords) (k0_t4 : Fin (k0_t4_loop i).trips) : Fin 2 → Nat :=
  let c0_100 : Index := 0#32
  let arg1 : BitVec 32 := BitVec.ofNat 32 (i 1).val
  let c4_i32 : BitVec 32 := 4#32
  let c0_i32_32 : BitVec 32 := 0#32
  let v86 : BitVec 1 := Scalar.cmpi .eq c4_i32 c0_i32_32
  let c1_i32_33 : BitVec 32 := 1#32
  let v87 : BitVec 32 := Scalar.select v86 c1_i32_33 c4_i32
  let v88 : BitVec 32 := Scalar.remsi arg1 v87
  let c0_i32_35 : BitVec 32 := 0#32
  let v90 : BitVec 1 := Scalar.cmpi .slt v88 c0_i32_35
  let c0_i32_36 : BitVec 32 := 0#32
  let v91 : BitVec 1 := Scalar.cmpi .slt v87 c0_i32_36
  let v92 : BitVec 1 := Scalar.xori v90 v91
  let c0_i32_34 : BitVec 32 := 0#32
  let v89 : BitVec 1 := Scalar.cmpi .ne v88 c0_i32_34
  let v93 : BitVec 1 := Scalar.andi v92 v89
  let v94 : BitVec 32 := Scalar.addi v88 v87
  let v95 : BitVec 32 := Scalar.select v93 v94 v88
  let v100 : BitVec 32 := Scalar.subi arg1 v95
  let c0_i32_40 : BitVec 32 := 0#32
  let v102 : BitVec 1 := Scalar.cmpi .sgt v100 c0_i32_40
  let v103 : BitVec 32 := Scalar.extui v102
  let c0_i32_41 : BitVec 32 := 0#32
  let v104 : BitVec 1 := Scalar.cmpi .slt v100 c0_i32_41
  let v105 : BitVec 32 := Scalar.extui v104
  let v106 : BitVec 32 := Scalar.subi v103 v105
  let c4_i32_39 : BitVec 32 := 4#32
  let c0_i32_42 : BitVec 32 := 0#32
  let v107 : BitVec 1 := Scalar.cmpi .sgt c4_i32_39 c0_i32_42
  let v108 : BitVec 32 := Scalar.extui v107
  let c0_i32_43 : BitVec 32 := 0#32
  let v109 : BitVec 1 := Scalar.cmpi .slt c4_i32_39 c0_i32_43
  let v110 : BitVec 32 := Scalar.extui v109
  let v111 : BitVec 32 := Scalar.subi v108 v110
  let v112 : BitVec 1 := Scalar.cmpi .ne v106 v111
  let v113 : BitVec 32 := Scalar.remsi v100 c4_i32_39
  let c0_i32_44 : BitVec 32 := 0#32
  let v114 : BitVec 1 := Scalar.cmpi .ne v113 c0_i32_44
  let v115 : BitVec 1 := Scalar.andi v112 v114
  let v101 : BitVec 32 := Scalar.divsi v100 c4_i32_39
  let c1_i32_45 : BitVec 32 := 1#32
  let v116 : BitVec 32 := Scalar.subi v101 c1_i32_45
  let v117 : BitVec 32 := Scalar.select v115 v116 v101
  let c2_i32 : BitVec 32 := 2#32
  let c0_i32_46 : BitVec 32 := 0#32
  let v118 : BitVec 1 := Scalar.cmpi .eq c2_i32 c0_i32_46
  let c1_i32_47 : BitVec 32 := 1#32
  let v119 : BitVec 32 := Scalar.select v118 c1_i32_47 c2_i32
  let v120 : BitVec 32 := Scalar.remsi v117 v119
  let c0_i32_49 : BitVec 32 := 0#32
  let v122 : BitVec 1 := Scalar.cmpi .slt v120 c0_i32_49
  let c0_i32_50 : BitVec 32 := 0#32
  let v123 : BitVec 1 := Scalar.cmpi .slt v119 c0_i32_50
  let v124 : BitVec 1 := Scalar.xori v122 v123
  let c0_i32_48 : BitVec 32 := 0#32
  let v121 : BitVec 1 := Scalar.cmpi .ne v120 c0_i32_48
  let v125 : BitVec 1 := Scalar.andi v124 v121
  let v126 : BitVec 32 := Scalar.addi v120 v119
  let v127 : BitVec 32 := Scalar.select v125 v126 v120
  let c4_i32_55 : BitVec 32 := 4#32
  let v135 : BitVec 32 := Scalar.muli v127 c4_i32_55
  let v136 : BitVec 32 := Scalar.subi v100 v135
  let c8_i32_70 : BitVec 32 := 8#32
  let c0_i32_63 : BitVec 32 := 0#32
  let c0_i32_57 : BitVec 32 := 0#32
  let v138 : BitVec 1 := Scalar.cmpi .sgt v136 c0_i32_57
  let v139 : BitVec 32 := Scalar.extui v138
  let c0_i32_58 : BitVec 32 := 0#32
  let v140 : BitVec 1 := Scalar.cmpi .slt v136 c0_i32_58
  let v141 : BitVec 32 := Scalar.extui v140
  let v142 : BitVec 32 := Scalar.subi v139 v141
  let c8_i32_56 : BitVec 32 := 8#32
  let c0_i32_59 : BitVec 32 := 0#32
  let v143 : BitVec 1 := Scalar.cmpi .sgt c8_i32_56 c0_i32_59
  let v144 : BitVec 32 := Scalar.extui v143
  let c0_i32_60 : BitVec 32 := 0#32
  let v145 : BitVec 1 := Scalar.cmpi .slt c8_i32_56 c0_i32_60
  let v146 : BitVec 32 := Scalar.extui v145
  let v147 : BitVec 32 := Scalar.subi v144 v146
  let v148 : BitVec 1 := Scalar.cmpi .ne v142 v147
  let v149 : BitVec 32 := Scalar.remsi v136 c8_i32_56
  let c0_i32_61 : BitVec 32 := 0#32
  let v150 : BitVec 1 := Scalar.cmpi .ne v149 c0_i32_61
  let v151 : BitVec 1 := Scalar.andi v148 v150
  let v137 : BitVec 32 := Scalar.divsi v136 c8_i32_56
  let c1_i32_62 : BitVec 32 := 1#32
  let v152 : BitVec 32 := Scalar.subi v137 c1_i32_62
  let v153 : BitVec 32 := Scalar.select v151 v152 v137
  let v154 : BitVec 32 := Scalar.subi v153 c0_i32_63
  let c1_i32_64 : BitVec 32 := 1#32
  let v156 : BitVec 32 := Scalar.divsi v154 c1_i32_64
  let v157 : BitVec 32 := Scalar.muli v156 c1_i32_64
  let v158 : BitVec 32 := Scalar.addi c0_i32_63 v157
  let c1_i32_66 : BitVec 32 := 1#32
  let arg18 : BitVec 32 := Scf.iv v158 c1_i32_66 k0_t4
  let c1_i32_69 : BitVec 32 := 1#32
  let v163 : BitVec 32 := Scalar.addi arg18 c1_i32_69
  let v164 : BitVec 32 := Scalar.muli c8_i32_70 v163
  let v165 : BitVec 32 := Scalar.subi v136 v164
  let c256_i32_71 : BitVec 32 := 256#32
  let v166 : BitVec 32 := Scalar.muli v165 c256_i32_71
  let v167 : BitVec 32 := v166
  let v361 : Index := Scalar.indexCast v167
  ![0, v361.toNat]
def k0_cond6 (i : grid0.Coords) : BitVec 1 :=
  let arg0 : BitVec 32 := BitVec.ofNat 32 (i 0).val
  let c8_i32_22 : BitVec 32 := 8#32
  let v56 : BitVec 1 := Scalar.cmpi .sge arg0 c8_i32_22
  let v57 : BitVec 32 := Scalar.extui v56
  let c0_i32_23 : BitVec 32 := 0#32
  let v58 : BitVec 1 := Scalar.cmpi .ne v57 c0_i32_23
  v58

def k0_cond7 (i : grid0.Coords) : BitVec 1 :=
  let arg1 : BitVec 32 := BitVec.ofNat 32 (i 1).val
  let c4_i32 : BitVec 32 := 4#32
  let c0_i32_33 : BitVec 32 := 0#32
  let v70 : BitVec 1 := Scalar.cmpi .eq c4_i32 c0_i32_33
  let c1_i32 : BitVec 32 := 1#32
  let v71 : BitVec 32 := Scalar.select v70 c1_i32 c4_i32
  let v72 : BitVec 32 := Scalar.remsi arg1 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  let c0_i32_37 : BitVec 32 := 0#32
  let v80 : BitVec 32 := Scalar.maxsi v79 c0_i32_37
  let c3_i32 : BitVec 32 := 3#32
  let v81 : BitVec 32 := Scalar.minsi v80 c3_i32
  let c0_i32_38 : BitVec 32 := 0#32
  let v82 : BitVec 1 := Scalar.cmpi .ne v81 c0_i32_38
  v82

def k0_cond8 (i : grid0.Coords) : BitVec 1 :=
  let arg1 : BitVec 32 := BitVec.ofNat 32 (i 1).val
  let c4_i32 : BitVec 32 := 4#32
  let c0_i32_33 : BitVec 32 := 0#32
  let v70 : BitVec 1 := Scalar.cmpi .eq c4_i32 c0_i32_33
  let c1_i32 : BitVec 32 := 1#32
  let v71 : BitVec 32 := Scalar.select v70 c1_i32 c4_i32
  let v72 : BitVec 32 := Scalar.remsi arg1 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  let c0_i32_37 : BitVec 32 := 0#32
  let v80 : BitVec 32 := Scalar.maxsi v79 c0_i32_37
  let c3_i32 : BitVec 32 := 3#32
  let v81 : BitVec 32 := Scalar.minsi v80 c3_i32
  let c1_i32_69 : BitVec 32 := 1#32
  let v147 : BitVec 32 := Scalar.subi v81 c1_i32_69
  let c0_i32_70 : BitVec 32 := 0#32
  let v148 : BitVec 1 := Scalar.cmpi .ne v147 c0_i32_70
  v148

def k0_cond9 (i : grid0.Coords) : BitVec 1 :=
  let arg1 : BitVec 32 := BitVec.ofNat 32 (i 1).val
  let c4_i32 : BitVec 32 := 4#32
  let c0_i32_33 : BitVec 32 := 0#32
  let v70 : BitVec 1 := Scalar.cmpi .eq c4_i32 c0_i32_33
  let c1_i32 : BitVec 32 := 1#32
  let v71 : BitVec 32 := Scalar.select v70 c1_i32 c4_i32
  let v72 : BitVec 32 := Scalar.remsi arg1 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  let c0_i32_37 : BitVec 32 := 0#32
  let v80 : BitVec 32 := Scalar.maxsi v79 c0_i32_37
  let c3_i32 : BitVec 32 := 3#32
  let v81 : BitVec 32 := Scalar.minsi v80 c3_i32
  let c1_i32_69 : BitVec 32 := 1#32
  let v147 : BitVec 32 := Scalar.subi v81 c1_i32_69
  let c1_i32_71 : BitVec 32 := 1#32
  let v150 : BitVec 32 := Scalar.subi v147 c1_i32_71
  let c0_i32_72 : BitVec 32 := 0#32
  let v151 : BitVec 1 := Scalar.cmpi .ne v150 c0_i32_72
  v151

def k0_mult9 (i : grid0.Coords) : BitVec 32 :=
  let arg1 : BitVec 32 := BitVec.ofNat 32 (i 1).val
  let c3_i32_73 : BitVec 32 := 3#32
  let v153 : BitVec 32 := Scalar.subi arg1 c3_i32_73
  let c256_i32_74 : BitVec 32 := 256#32
  let v154 : BitVec 32 := Scalar.muli v153 c256_i32_74
  v154
def k0_off17 (i : grid0.Coords) : Fin 2 → Nat :=
  let arg1 : BitVec 32 := BitVec.ofNat 32 (i 1).val
  let c3_i32_73 : BitVec 32 := 3#32
  let v153 : BitVec 32 := Scalar.subi arg1 c3_i32_73
  let c256_i32_74 : BitVec 32 := 256#32
  let v154 : BitVec 32 := Scalar.muli v153 c256_i32_74
  let v155 : BitVec 32 := v154
  let v156 : Index := Scalar.indexCast v155
  let c0_75 : Index := 0#32
  ![v156.toNat, 0]
def k0_off18 (i : grid0.Coords) : Fin 3 → Nat :=
  let c0_79 : Index := 0#32
  let c0_80 : Index := 0#32
  let arg1 : BitVec 32 := BitVec.ofNat 32 (i 1).val
  let c3_i32_73 : BitVec 32 := 3#32
  let v153 : BitVec 32 := Scalar.subi arg1 c3_i32_73
  let c256_i32_74 : BitVec 32 := 256#32
  let v154 : BitVec 32 := Scalar.muli v153 c256_i32_74
  let v155 : BitVec 32 := v154
  let v163 : Index := Scalar.indexCast v155
  ![0, 0, v163.toNat]
def k0_off19 (i : grid0.Coords) : Fin 2 → Nat :=
  let c0_86 : Index := 0#32
  let arg1 : BitVec 32 := BitVec.ofNat 32 (i 1).val
  let c3_i32_73 : BitVec 32 := 3#32
  let v153 : BitVec 32 := Scalar.subi arg1 c3_i32_73
  let c256_i32_74 : BitVec 32 := 256#32
  let v154 : BitVec 32 := Scalar.muli v153 c256_i32_74
  let v155 : BitVec 32 := v154
  let v190 : Index := Scalar.indexCast v155
  ![0, v190.toNat]
def k0_mult10 (i : grid0.Coords) : BitVec 32 :=
  let arg1 : BitVec 32 := BitVec.ofNat 32 (i 1).val
  let c2_i32_73 : BitVec 32 := 2#32
  let v153 : BitVec 32 := Scalar.subi arg1 c2_i32_73
  let c256_i32_74 : BitVec 32 := 256#32
  let v154 : BitVec 32 := Scalar.muli v153 c256_i32_74
  v154
def k0_off20 (i : grid0.Coords) : Fin 2 → Nat :=
  let arg1 : BitVec 32 := BitVec.ofNat 32 (i 1).val
  let c2_i32_73 : BitVec 32 := 2#32
  let v153 : BitVec 32 := Scalar.subi arg1 c2_i32_73
  let c256_i32_74 : BitVec 32 := 256#32
  let v154 : BitVec 32 := Scalar.muli v153 c256_i32_74
  let v155 : BitVec 32 := v154
  let v156 : Index := Scalar.indexCast v155
  let c0_75 : Index := 0#32
  ![v156.toNat, 0]
def k0_off21 (i : grid0.Coords) : Fin 3 → Nat :=
  let c0_79 : Index := 0#32
  let c0_80 : Index := 0#32
  let arg1 : BitVec 32 := BitVec.ofNat 32 (i 1).val
  let c2_i32_73 : BitVec 32 := 2#32
  let v153 : BitVec 32 := Scalar.subi arg1 c2_i32_73
  let c256_i32_74 : BitVec 32 := 256#32
  let v154 : BitVec 32 := Scalar.muli v153 c256_i32_74
  let v155 : BitVec 32 := v154
  let v163 : Index := Scalar.indexCast v155
  ![0, 0, v163.toNat]
def k0_off22 (i : grid0.Coords) : Fin 2 → Nat :=
  let c0_86 : Index := 0#32
  let arg1 : BitVec 32 := BitVec.ofNat 32 (i 1).val
  let c2_i32_73 : BitVec 32 := 2#32
  let v153 : BitVec 32 := Scalar.subi arg1 c2_i32_73
  let c256_i32_74 : BitVec 32 := 256#32
  let v154 : BitVec 32 := Scalar.muli v153 c256_i32_74
  let v155 : BitVec 32 := v154
  let v190 : Index := Scalar.indexCast v155
  ![0, v190.toNat]
def k0_mult11 (i : grid0.Coords) : BitVec 32 :=
  let arg1 : BitVec 32 := BitVec.ofNat 32 (i 1).val
  let c1_i32_71 : BitVec 32 := 1#32
  let v150 : BitVec 32 := Scalar.subi arg1 c1_i32_71
  let c256_i32_72 : BitVec 32 := 256#32
  let v151 : BitVec 32 := Scalar.muli v150 c256_i32_72
  v151
def k0_off23 (i : grid0.Coords) : Fin 2 → Nat :=
  let arg1 : BitVec 32 := BitVec.ofNat 32 (i 1).val
  let c1_i32_71 : BitVec 32 := 1#32
  let v150 : BitVec 32 := Scalar.subi arg1 c1_i32_71
  let c256_i32_72 : BitVec 32 := 256#32
  let v151 : BitVec 32 := Scalar.muli v150 c256_i32_72
  let v152 : BitVec 32 := v151
  let v153 : Index := Scalar.indexCast v152
  let c0_73 : Index := 0#32
  ![v153.toNat, 0]
def k0_off24 (i : grid0.Coords) : Fin 3 → Nat :=
  let c0_77 : Index := 0#32
  let c0_78 : Index := 0#32
  let arg1 : BitVec 32 := BitVec.ofNat 32 (i 1).val
  let c1_i32_71 : BitVec 32 := 1#32
  let v150 : BitVec 32 := Scalar.subi arg1 c1_i32_71
  let c256_i32_72 : BitVec 32 := 256#32
  let v151 : BitVec 32 := Scalar.muli v150 c256_i32_72
  let v152 : BitVec 32 := v151
  let v160 : Index := Scalar.indexCast v152
  ![0, 0, v160.toNat]
def k0_off25 (i : grid0.Coords) : Fin 2 → Nat :=
  let c0_84 : Index := 0#32
  let arg1 : BitVec 32 := BitVec.ofNat 32 (i 1).val
  let c1_i32_71 : BitVec 32 := 1#32
  let v150 : BitVec 32 := Scalar.subi arg1 c1_i32_71
  let c256_i32_72 : BitVec 32 := 256#32
  let v151 : BitVec 32 := Scalar.muli v150 c256_i32_72
  let v152 : BitVec 32 := v151
  let v187 : Index := Scalar.indexCast v152
  ![0, v187.toNat]
def k0_mult12 (i : grid0.Coords) : BitVec 32 :=
  let arg1 : BitVec 32 := BitVec.ofNat 32 (i 1).val
  let c0_i32_69 : BitVec 32 := 0#32
  let v147 : BitVec 32 := Scalar.subi arg1 c0_i32_69
  let c256_i32_70 : BitVec 32 := 256#32
  let v148 : BitVec 32 := Scalar.muli v147 c256_i32_70
  v148
def k0_off26 (i : grid0.Coords) : Fin 2 → Nat :=
  let arg1 : BitVec 32 := BitVec.ofNat 32 (i 1).val
  let c0_i32_69 : BitVec 32 := 0#32
  let v147 : BitVec 32 := Scalar.subi arg1 c0_i32_69
  let c256_i32_70 : BitVec 32 := 256#32
  let v148 : BitVec 32 := Scalar.muli v147 c256_i32_70
  let v149 : BitVec 32 := v148
  let v150 : Index := Scalar.indexCast v149
  let c0_71 : Index := 0#32
  ![v150.toNat, 0]
def k0_off27 (i : grid0.Coords) : Fin 3 → Nat :=
  let c0_75 : Index := 0#32
  let c0_76 : Index := 0#32
  let arg1 : BitVec 32 := BitVec.ofNat 32 (i 1).val
  let c0_i32_69 : BitVec 32 := 0#32
  let v147 : BitVec 32 := Scalar.subi arg1 c0_i32_69
  let c256_i32_70 : BitVec 32 := 256#32
  let v148 : BitVec 32 := Scalar.muli v147 c256_i32_70
  let v149 : BitVec 32 := v148
  let v157 : Index := Scalar.indexCast v149
  ![0, 0, v157.toNat]
def k0_off28 (i : grid0.Coords) : Fin 2 → Nat :=
  let c0_82 : Index := 0#32
  let arg1 : BitVec 32 := BitVec.ofNat 32 (i 1).val
  let c0_i32_69 : BitVec 32 := 0#32
  let v147 : BitVec 32 := Scalar.subi arg1 c0_i32_69
  let c256_i32_70 : BitVec 32 := 256#32
  let v148 : BitVec 32 := Scalar.muli v147 c256_i32_70
  let v149 : BitVec 32 := v148
  let v184 : Index := Scalar.indexCast v149
  ![0, v184.toNat]
@[reducible] def k0_t5_loop (i : grid0.Coords) : Scf.Loop 32 :=
  let c0_i32_51 : BitVec 32 := 0#32
  let arg1 : BitVec 32 := BitVec.ofNat 32 (i 1).val
  let c4_i32 : BitVec 32 := 4#32
  let c0_i32_33 : BitVec 32 := 0#32
  let v70 : BitVec 1 := Scalar.cmpi .eq c4_i32 c0_i32_33
  let c1_i32 : BitVec 32 := 1#32
  let v71 : BitVec 32 := Scalar.select v70 c1_i32 c4_i32
  let v72 : BitVec 32 := Scalar.remsi arg1 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  let v84 : BitVec 32 := Scalar.subi arg1 v79
  let c0_i32_40 : BitVec 32 := 0#32
  let v86 : BitVec 1 := Scalar.cmpi .sgt v84 c0_i32_40
  let v87 : BitVec 32 := Scalar.extui v86
  let c0_i32_41 : BitVec 32 := 0#32
  let v88 : BitVec 1 := Scalar.cmpi .slt v84 c0_i32_41
  let v89 : BitVec 32 := Scalar.extui v88
  let v90 : BitVec 32 := Scalar.subi v87 v89
  let c4_i32_39 : BitVec 32 := 4#32
  let c0_i32_42 : BitVec 32 := 0#32
  let v91 : BitVec 1 := Scalar.cmpi .sgt c4_i32_39 c0_i32_42
  let v92 : BitVec 32 := Scalar.extui v91
  let c0_i32_43 : BitVec 32 := 0#32
  let v93 : BitVec 1 := Scalar.cmpi .slt c4_i32_39 c0_i32_43
  let v94 : BitVec 32 := Scalar.extui v93
  let v95 : BitVec 32 := Scalar.subi v92 v94
  let v96 : BitVec 1 := Scalar.cmpi .ne v90 v95
  let v97 : BitVec 32 := Scalar.remsi v84 c4_i32_39
  let c0_i32_44 : BitVec 32 := 0#32
  let v98 : BitVec 1 := Scalar.cmpi .ne v97 c0_i32_44
  let v99 : BitVec 1 := Scalar.andi v96 v98
  let v85 : BitVec 32 := Scalar.divsi v84 c4_i32_39
  let c1_i32_45 : BitVec 32 := 1#32
  let v100 : BitVec 32 := Scalar.subi v85 c1_i32_45
  let v101 : BitVec 32 := Scalar.select v99 v100 v85
  let c2_i32 : BitVec 32 := 2#32
  let c0_i32_46 : BitVec 32 := 0#32
  let v102 : BitVec 1 := Scalar.cmpi .eq c2_i32 c0_i32_46
  let c1_i32_47 : BitVec 32 := 1#32
  let v103 : BitVec 32 := Scalar.select v102 c1_i32_47 c2_i32
  let v104 : BitVec 32 := Scalar.remsi v101 v103
  let c0_i32_49 : BitVec 32 := 0#32
  let v106 : BitVec 1 := Scalar.cmpi .slt v104 c0_i32_49
  let c0_i32_50 : BitVec 32 := 0#32
  let v107 : BitVec 1 := Scalar.cmpi .slt v103 c0_i32_50
  let v108 : BitVec 1 := Scalar.xori v106 v107
  let c0_i32_48 : BitVec 32 := 0#32
  let v105 : BitVec 1 := Scalar.cmpi .ne v104 c0_i32_48
  let v109 : BitVec 1 := Scalar.andi v108 v105
  let v110 : BitVec 32 := Scalar.addi v104 v103
  let v111 : BitVec 32 := Scalar.select v109 v110 v104
  let v112 : BitVec 32 := Scalar.subi v111 c0_i32_51
  let c1_i32_52 : BitVec 32 := 1#32
  let v114 : BitVec 32 := Scalar.divsi v112 c1_i32_52
  let v115 : BitVec 32 := Scalar.muli v114 c1_i32_52
  let v116 : BitVec 32 := Scalar.addi c0_i32_51 v115
  let c1_i32_53 : BitVec 32 := 1#32
  ⟨c0_i32_51, v116, c1_i32_53⟩
def k0_mult13 (i : grid0.Coords) : BitVec 32 :=
  let arg1 : BitVec 32 := BitVec.ofNat 32 (i 1).val
  let c4_i32 : BitVec 32 := 4#32
  let c0_i32_33 : BitVec 32 := 0#32
  let v70 : BitVec 1 := Scalar.cmpi .eq c4_i32 c0_i32_33
  let c1_i32 : BitVec 32 := 1#32
  let v71 : BitVec 32 := Scalar.select v70 c1_i32 c4_i32
  let v72 : BitVec 32 := Scalar.remsi arg1 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  let v84 : BitVec 32 := Scalar.subi arg1 v79
  let c4_i32_69 : BitVec 32 := 4#32
  let v147 : BitVec 32 := Scalar.subi v84 c4_i32_69
  let c256_i32_70 : BitVec 32 := 256#32
  let v148 : BitVec 32 := Scalar.muli v147 c256_i32_70
  v148
def k0_off29 (i : grid0.Coords) : Fin 2 → Nat :=
  let arg1 : BitVec 32 := BitVec.ofNat 32 (i 1).val
  let c4_i32 : BitVec 32 := 4#32
  let c0_i32_33 : BitVec 32 := 0#32
  let v70 : BitVec 1 := Scalar.cmpi .eq c4_i32 c0_i32_33
  let c1_i32 : BitVec 32 := 1#32
  let v71 : BitVec 32 := Scalar.select v70 c1_i32 c4_i32
  let v72 : BitVec 32 := Scalar.remsi arg1 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  let v84 : BitVec 32 := Scalar.subi arg1 v79
  let c4_i32_69 : BitVec 32 := 4#32
  let v147 : BitVec 32 := Scalar.subi v84 c4_i32_69
  let c256_i32_70 : BitVec 32 := 256#32
  let v148 : BitVec 32 := Scalar.muli v147 c256_i32_70
  let v149 : BitVec 32 := v148
  let v150 : Index := Scalar.indexCast v149
  let c0_71 : Index := 0#32
  ![v150.toNat, 0]
def k0_off30 (i : grid0.Coords) : Fin 3 → Nat :=
  let c0_75 : Index := 0#32
  let c0_76 : Index := 0#32
  let arg1 : BitVec 32 := BitVec.ofNat 32 (i 1).val
  let c4_i32 : BitVec 32 := 4#32
  let c0_i32_33 : BitVec 32 := 0#32
  let v70 : BitVec 1 := Scalar.cmpi .eq c4_i32 c0_i32_33
  let c1_i32 : BitVec 32 := 1#32
  let v71 : BitVec 32 := Scalar.select v70 c1_i32 c4_i32
  let v72 : BitVec 32 := Scalar.remsi arg1 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  let v84 : BitVec 32 := Scalar.subi arg1 v79
  let c4_i32_69 : BitVec 32 := 4#32
  let v147 : BitVec 32 := Scalar.subi v84 c4_i32_69
  let c256_i32_70 : BitVec 32 := 256#32
  let v148 : BitVec 32 := Scalar.muli v147 c256_i32_70
  let v149 : BitVec 32 := v148
  let v157 : Index := Scalar.indexCast v149
  ![0, 0, v157.toNat]
def k0_off31 (i : grid0.Coords) : Fin 2 → Nat :=
  let c0_81 : Index := 0#32
  let arg1 : BitVec 32 := BitVec.ofNat 32 (i 1).val
  let c4_i32 : BitVec 32 := 4#32
  let c0_i32_33 : BitVec 32 := 0#32
  let v70 : BitVec 1 := Scalar.cmpi .eq c4_i32 c0_i32_33
  let c1_i32 : BitVec 32 := 1#32
  let v71 : BitVec 32 := Scalar.select v70 c1_i32 c4_i32
  let v72 : BitVec 32 := Scalar.remsi arg1 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  let v84 : BitVec 32 := Scalar.subi arg1 v79
  let c4_i32_69 : BitVec 32 := 4#32
  let v147 : BitVec 32 := Scalar.subi v84 c4_i32_69
  let c256_i32_70 : BitVec 32 := 256#32
  let v148 : BitVec 32 := Scalar.muli v147 c256_i32_70
  let v149 : BitVec 32 := v148
  let v176 : Index := Scalar.indexCast v149
  ![0, v176.toNat]
@[reducible] def k0_t6_loop (i : grid0.Coords) : Scf.Loop 32 :=
  let c0_i32_51 : BitVec 32 := 0#32
  let arg1 : BitVec 32 := BitVec.ofNat 32 (i 1).val
  let c4_i32 : BitVec 32 := 4#32
  let c0_i32_33 : BitVec 32 := 0#32
  let v70 : BitVec 1 := Scalar.cmpi .eq c4_i32 c0_i32_33
  let c1_i32 : BitVec 32 := 1#32
  let v71 : BitVec 32 := Scalar.select v70 c1_i32 c4_i32
  let v72 : BitVec 32 := Scalar.remsi arg1 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  let v84 : BitVec 32 := Scalar.subi arg1 v79
  let c0_i32_40 : BitVec 32 := 0#32
  let v86 : BitVec 1 := Scalar.cmpi .sgt v84 c0_i32_40
  let v87 : BitVec 32 := Scalar.extui v86
  let c0_i32_41 : BitVec 32 := 0#32
  let v88 : BitVec 1 := Scalar.cmpi .slt v84 c0_i32_41
  let v89 : BitVec 32 := Scalar.extui v88
  let v90 : BitVec 32 := Scalar.subi v87 v89
  let c4_i32_39 : BitVec 32 := 4#32
  let c0_i32_42 : BitVec 32 := 0#32
  let v91 : BitVec 1 := Scalar.cmpi .sgt c4_i32_39 c0_i32_42
  let v92 : BitVec 32 := Scalar.extui v91
  let c0_i32_43 : BitVec 32 := 0#32
  let v93 : BitVec 1 := Scalar.cmpi .slt c4_i32_39 c0_i32_43
  let v94 : BitVec 32 := Scalar.extui v93
  let v95 : BitVec 32 := Scalar.subi v92 v94
  let v96 : BitVec 1 := Scalar.cmpi .ne v90 v95
  let v97 : BitVec 32 := Scalar.remsi v84 c4_i32_39
  let c0_i32_44 : BitVec 32 := 0#32
  let v98 : BitVec 1 := Scalar.cmpi .ne v97 c0_i32_44
  let v99 : BitVec 1 := Scalar.andi v96 v98
  let v85 : BitVec 32 := Scalar.divsi v84 c4_i32_39
  let c1_i32_45 : BitVec 32 := 1#32
  let v100 : BitVec 32 := Scalar.subi v85 c1_i32_45
  let v101 : BitVec 32 := Scalar.select v99 v100 v85
  let c2_i32 : BitVec 32 := 2#32
  let c0_i32_46 : BitVec 32 := 0#32
  let v102 : BitVec 1 := Scalar.cmpi .eq c2_i32 c0_i32_46
  let c1_i32_47 : BitVec 32 := 1#32
  let v103 : BitVec 32 := Scalar.select v102 c1_i32_47 c2_i32
  let v104 : BitVec 32 := Scalar.remsi v101 v103
  let c0_i32_49 : BitVec 32 := 0#32
  let v106 : BitVec 1 := Scalar.cmpi .slt v104 c0_i32_49
  let c0_i32_50 : BitVec 32 := 0#32
  let v107 : BitVec 1 := Scalar.cmpi .slt v103 c0_i32_50
  let v108 : BitVec 1 := Scalar.xori v106 v107
  let c0_i32_48 : BitVec 32 := 0#32
  let v105 : BitVec 1 := Scalar.cmpi .ne v104 c0_i32_48
  let v109 : BitVec 1 := Scalar.andi v108 v105
  let v110 : BitVec 32 := Scalar.addi v104 v103
  let v111 : BitVec 32 := Scalar.select v109 v110 v104
  let v112 : BitVec 32 := Scalar.subi v111 c0_i32_51
  let c1_i32_52 : BitVec 32 := 1#32
  let v114 : BitVec 32 := Scalar.divsi v112 c1_i32_52
  let v115 : BitVec 32 := Scalar.muli v114 c1_i32_52
  let v116 : BitVec 32 := Scalar.addi c0_i32_51 v115
  let v113 : BitVec 32 := Scalar.addi c0_i32_51 v112
  let c1_i32_54 : BitVec 32 := 1#32
  ⟨v116, v113, c1_i32_54⟩
def k0_mult14 (i : grid0.Coords) : BitVec 32 :=
  let arg1 : BitVec 32 := BitVec.ofNat 32 (i 1).val
  let c4_i32 : BitVec 32 := 4#32
  let c0_i32_33 : BitVec 32 := 0#32
  let v70 : BitVec 1 := Scalar.cmpi .eq c4_i32 c0_i32_33
  let c1_i32 : BitVec 32 := 1#32
  let v71 : BitVec 32 := Scalar.select v70 c1_i32 c4_i32
  let v72 : BitVec 32 := Scalar.remsi arg1 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  let v84 : BitVec 32 := Scalar.subi arg1 v79
  let c4_i32_69 : BitVec 32 := 4#32
  let v147 : BitVec 32 := Scalar.subi v84 c4_i32_69
  let c256_i32_70 : BitVec 32 := 256#32
  let v148 : BitVec 32 := Scalar.muli v147 c256_i32_70
  v148
def k0_off32 (i : grid0.Coords) : Fin 2 → Nat :=
  let arg1 : BitVec 32 := BitVec.ofNat 32 (i 1).val
  let c4_i32 : BitVec 32 := 4#32
  let c0_i32_33 : BitVec 32 := 0#32
  let v70 : BitVec 1 := Scalar.cmpi .eq c4_i32 c0_i32_33
  let c1_i32 : BitVec 32 := 1#32
  let v71 : BitVec 32 := Scalar.select v70 c1_i32 c4_i32
  let v72 : BitVec 32 := Scalar.remsi arg1 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  let v84 : BitVec 32 := Scalar.subi arg1 v79
  let c4_i32_69 : BitVec 32 := 4#32
  let v147 : BitVec 32 := Scalar.subi v84 c4_i32_69
  let c256_i32_70 : BitVec 32 := 256#32
  let v148 : BitVec 32 := Scalar.muli v147 c256_i32_70
  let v149 : BitVec 32 := v148
  let v150 : Index := Scalar.indexCast v149
  let c0_71 : Index := 0#32
  ![v150.toNat, 0]
def k0_off33 (i : grid0.Coords) : Fin 3 → Nat :=
  let c0_75 : Index := 0#32
  let c0_76 : Index := 0#32
  let arg1 : BitVec 32 := BitVec.ofNat 32 (i 1).val
  let c4_i32 : BitVec 32 := 4#32
  let c0_i32_33 : BitVec 32 := 0#32
  let v70 : BitVec 1 := Scalar.cmpi .eq c4_i32 c0_i32_33
  let c1_i32 : BitVec 32 := 1#32
  let v71 : BitVec 32 := Scalar.select v70 c1_i32 c4_i32
  let v72 : BitVec 32 := Scalar.remsi arg1 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  let v84 : BitVec 32 := Scalar.subi arg1 v79
  let c4_i32_69 : BitVec 32 := 4#32
  let v147 : BitVec 32 := Scalar.subi v84 c4_i32_69
  let c256_i32_70 : BitVec 32 := 256#32
  let v148 : BitVec 32 := Scalar.muli v147 c256_i32_70
  let v149 : BitVec 32 := v148
  let v157 : Index := Scalar.indexCast v149
  ![0, 0, v157.toNat]
def k0_off34 (i : grid0.Coords) : Fin 2 → Nat :=
  let c0_81 : Index := 0#32
  let arg1 : BitVec 32 := BitVec.ofNat 32 (i 1).val
  let c4_i32 : BitVec 32 := 4#32
  let c0_i32_33 : BitVec 32 := 0#32
  let v70 : BitVec 1 := Scalar.cmpi .eq c4_i32 c0_i32_33
  let c1_i32 : BitVec 32 := 1#32
  let v71 : BitVec 32 := Scalar.select v70 c1_i32 c4_i32
  let v72 : BitVec 32 := Scalar.remsi arg1 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  let v84 : BitVec 32 := Scalar.subi arg1 v79
  let c4_i32_69 : BitVec 32 := 4#32
  let v147 : BitVec 32 := Scalar.subi v84 c4_i32_69
  let c256_i32_70 : BitVec 32 := 256#32
  let v148 : BitVec 32 := Scalar.muli v147 c256_i32_70
  let v149 : BitVec 32 := v148
  let v176 : Index := Scalar.indexCast v149
  ![0, v176.toNat]
@[reducible] def k0_t7_loop (i : grid0.Coords) : Scf.Loop 32 :=
  let c0_i32_63 : BitVec 32 := 0#32
  let arg1 : BitVec 32 := BitVec.ofNat 32 (i 1).val
  let c4_i32 : BitVec 32 := 4#32
  let c0_i32_33 : BitVec 32 := 0#32
  let v70 : BitVec 1 := Scalar.cmpi .eq c4_i32 c0_i32_33
  let c1_i32 : BitVec 32 := 1#32
  let v71 : BitVec 32 := Scalar.select v70 c1_i32 c4_i32
  let v72 : BitVec 32 := Scalar.remsi arg1 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  let v84 : BitVec 32 := Scalar.subi arg1 v79
  let c0_i32_40 : BitVec 32 := 0#32
  let v86 : BitVec 1 := Scalar.cmpi .sgt v84 c0_i32_40
  let v87 : BitVec 32 := Scalar.extui v86
  let c0_i32_41 : BitVec 32 := 0#32
  let v88 : BitVec 1 := Scalar.cmpi .slt v84 c0_i32_41
  let v89 : BitVec 32 := Scalar.extui v88
  let v90 : BitVec 32 := Scalar.subi v87 v89
  let c4_i32_39 : BitVec 32 := 4#32
  let c0_i32_42 : BitVec 32 := 0#32
  let v91 : BitVec 1 := Scalar.cmpi .sgt c4_i32_39 c0_i32_42
  let v92 : BitVec 32 := Scalar.extui v91
  let c0_i32_43 : BitVec 32 := 0#32
  let v93 : BitVec 1 := Scalar.cmpi .slt c4_i32_39 c0_i32_43
  let v94 : BitVec 32 := Scalar.extui v93
  let v95 : BitVec 32 := Scalar.subi v92 v94
  let v96 : BitVec 1 := Scalar.cmpi .ne v90 v95
  let v97 : BitVec 32 := Scalar.remsi v84 c4_i32_39
  let c0_i32_44 : BitVec 32 := 0#32
  let v98 : BitVec 1 := Scalar.cmpi .ne v97 c0_i32_44
  let v99 : BitVec 1 := Scalar.andi v96 v98
  let v85 : BitVec 32 := Scalar.divsi v84 c4_i32_39
  let c1_i32_45 : BitVec 32 := 1#32
  let v100 : BitVec 32 := Scalar.subi v85 c1_i32_45
  let v101 : BitVec 32 := Scalar.select v99 v100 v85
  let c2_i32 : BitVec 32 := 2#32
  let c0_i32_46 : BitVec 32 := 0#32
  let v102 : BitVec 1 := Scalar.cmpi .eq c2_i32 c0_i32_46
  let c1_i32_47 : BitVec 32 := 1#32
  let v103 : BitVec 32 := Scalar.select v102 c1_i32_47 c2_i32
  let v104 : BitVec 32 := Scalar.remsi v101 v103
  let c0_i32_49 : BitVec 32 := 0#32
  let v106 : BitVec 1 := Scalar.cmpi .slt v104 c0_i32_49
  let c0_i32_50 : BitVec 32 := 0#32
  let v107 : BitVec 1 := Scalar.cmpi .slt v103 c0_i32_50
  let v108 : BitVec 1 := Scalar.xori v106 v107
  let c0_i32_48 : BitVec 32 := 0#32
  let v105 : BitVec 1 := Scalar.cmpi .ne v104 c0_i32_48
  let v109 : BitVec 1 := Scalar.andi v108 v105
  let v110 : BitVec 32 := Scalar.addi v104 v103
  let v111 : BitVec 32 := Scalar.select v109 v110 v104
  let c4_i32_55 : BitVec 32 := 4#32
  let v119 : BitVec 32 := Scalar.muli v111 c4_i32_55
  let v120 : BitVec 32 := Scalar.subi v84 v119
  let c0_i32_57 : BitVec 32 := 0#32
  let v122 : BitVec 1 := Scalar.cmpi .sgt v120 c0_i32_57
  let v123 : BitVec 32 := Scalar.extui v122
  let c0_i32_58 : BitVec 32 := 0#32
  let v124 : BitVec 1 := Scalar.cmpi .slt v120 c0_i32_58
  let v125 : BitVec 32 := Scalar.extui v124
  let v126 : BitVec 32 := Scalar.subi v123 v125
  let c8_i32_56 : BitVec 32 := 8#32
  let c0_i32_59 : BitVec 32 := 0#32
  let v127 : BitVec 1 := Scalar.cmpi .sgt c8_i32_56 c0_i32_59
  let v128 : BitVec 32 := Scalar.extui v127
  let c0_i32_60 : BitVec 32 := 0#32
  let v129 : BitVec 1 := Scalar.cmpi .slt c8_i32_56 c0_i32_60
  let v130 : BitVec 32 := Scalar.extui v129
  let v131 : BitVec 32 := Scalar.subi v128 v130
  let v132 : BitVec 1 := Scalar.cmpi .ne v126 v131
  let v133 : BitVec 32 := Scalar.remsi v120 c8_i32_56
  let c0_i32_61 : BitVec 32 := 0#32
  let v134 : BitVec 1 := Scalar.cmpi .ne v133 c0_i32_61
  let v135 : BitVec 1 := Scalar.andi v132 v134
  let v121 : BitVec 32 := Scalar.divsi v120 c8_i32_56
  let c1_i32_62 : BitVec 32 := 1#32
  let v136 : BitVec 32 := Scalar.subi v121 c1_i32_62
  let v137 : BitVec 32 := Scalar.select v135 v136 v121
  let v138 : BitVec 32 := Scalar.subi v137 c0_i32_63
  let c1_i32_64 : BitVec 32 := 1#32
  let v140 : BitVec 32 := Scalar.divsi v138 c1_i32_64
  let v141 : BitVec 32 := Scalar.muli v140 c1_i32_64
  let v142 : BitVec 32 := Scalar.addi c0_i32_63 v141
  let c1_i32_65 : BitVec 32 := 1#32
  ⟨c0_i32_63, v142, c1_i32_65⟩
def k0_mult15 (i : grid0.Coords) (k0_t7 : Fin (k0_t7_loop i).trips) : BitVec 32 :=
  let arg1 : BitVec 32 := BitVec.ofNat 32 (i 1).val
  let c4_i32 : BitVec 32 := 4#32
  let c0_i32_33 : BitVec 32 := 0#32
  let v70 : BitVec 1 := Scalar.cmpi .eq c4_i32 c0_i32_33
  let c1_i32 : BitVec 32 := 1#32
  let v71 : BitVec 32 := Scalar.select v70 c1_i32 c4_i32
  let v72 : BitVec 32 := Scalar.remsi arg1 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  let v84 : BitVec 32 := Scalar.subi arg1 v79
  let c0_i32_40 : BitVec 32 := 0#32
  let v86 : BitVec 1 := Scalar.cmpi .sgt v84 c0_i32_40
  let v87 : BitVec 32 := Scalar.extui v86
  let c0_i32_41 : BitVec 32 := 0#32
  let v88 : BitVec 1 := Scalar.cmpi .slt v84 c0_i32_41
  let v89 : BitVec 32 := Scalar.extui v88
  let v90 : BitVec 32 := Scalar.subi v87 v89
  let c4_i32_39 : BitVec 32 := 4#32
  let c0_i32_42 : BitVec 32 := 0#32
  let v91 : BitVec 1 := Scalar.cmpi .sgt c4_i32_39 c0_i32_42
  let v92 : BitVec 32 := Scalar.extui v91
  let c0_i32_43 : BitVec 32 := 0#32
  let v93 : BitVec 1 := Scalar.cmpi .slt c4_i32_39 c0_i32_43
  let v94 : BitVec 32 := Scalar.extui v93
  let v95 : BitVec 32 := Scalar.subi v92 v94
  let v96 : BitVec 1 := Scalar.cmpi .ne v90 v95
  let v97 : BitVec 32 := Scalar.remsi v84 c4_i32_39
  let c0_i32_44 : BitVec 32 := 0#32
  let v98 : BitVec 1 := Scalar.cmpi .ne v97 c0_i32_44
  let v99 : BitVec 1 := Scalar.andi v96 v98
  let v85 : BitVec 32 := Scalar.divsi v84 c4_i32_39
  let c1_i32_45 : BitVec 32 := 1#32
  let v100 : BitVec 32 := Scalar.subi v85 c1_i32_45
  let v101 : BitVec 32 := Scalar.select v99 v100 v85
  let c2_i32 : BitVec 32 := 2#32
  let c0_i32_46 : BitVec 32 := 0#32
  let v102 : BitVec 1 := Scalar.cmpi .eq c2_i32 c0_i32_46
  let c1_i32_47 : BitVec 32 := 1#32
  let v103 : BitVec 32 := Scalar.select v102 c1_i32_47 c2_i32
  let v104 : BitVec 32 := Scalar.remsi v101 v103
  let c0_i32_49 : BitVec 32 := 0#32
  let v106 : BitVec 1 := Scalar.cmpi .slt v104 c0_i32_49
  let c0_i32_50 : BitVec 32 := 0#32
  let v107 : BitVec 1 := Scalar.cmpi .slt v103 c0_i32_50
  let v108 : BitVec 1 := Scalar.xori v106 v107
  let c0_i32_48 : BitVec 32 := 0#32
  let v105 : BitVec 1 := Scalar.cmpi .ne v104 c0_i32_48
  let v109 : BitVec 1 := Scalar.andi v108 v105
  let v110 : BitVec 32 := Scalar.addi v104 v103
  let v111 : BitVec 32 := Scalar.select v109 v110 v104
  let c4_i32_55 : BitVec 32 := 4#32
  let v119 : BitVec 32 := Scalar.muli v111 c4_i32_55
  let v120 : BitVec 32 := Scalar.subi v84 v119
  let c8_i32_70 : BitVec 32 := 8#32
  let c0_i32_63 : BitVec 32 := 0#32
  let c1_i32_65 : BitVec 32 := 1#32
  let arg18 : BitVec 32 := Scf.iv c0_i32_63 c1_i32_65 k0_t7
  let c1_i32_69 : BitVec 32 := 1#32
  let v147 : BitVec 32 := Scalar.addi arg18 c1_i32_69
  let v148 : BitVec 32 := Scalar.muli c8_i32_70 v147
  let v149 : BitVec 32 := Scalar.subi v120 v148
  let c256_i32_71 : BitVec 32 := 256#32
  let v150 : BitVec 32 := Scalar.muli v149 c256_i32_71
  v150
def k0_off35 (i : grid0.Coords) (k0_t7 : Fin (k0_t7_loop i).trips) : Fin 2 → Nat :=
  let arg1 : BitVec 32 := BitVec.ofNat 32 (i 1).val
  let c4_i32 : BitVec 32 := 4#32
  let c0_i32_33 : BitVec 32 := 0#32
  let v70 : BitVec 1 := Scalar.cmpi .eq c4_i32 c0_i32_33
  let c1_i32 : BitVec 32 := 1#32
  let v71 : BitVec 32 := Scalar.select v70 c1_i32 c4_i32
  let v72 : BitVec 32 := Scalar.remsi arg1 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  let v84 : BitVec 32 := Scalar.subi arg1 v79
  let c0_i32_40 : BitVec 32 := 0#32
  let v86 : BitVec 1 := Scalar.cmpi .sgt v84 c0_i32_40
  let v87 : BitVec 32 := Scalar.extui v86
  let c0_i32_41 : BitVec 32 := 0#32
  let v88 : BitVec 1 := Scalar.cmpi .slt v84 c0_i32_41
  let v89 : BitVec 32 := Scalar.extui v88
  let v90 : BitVec 32 := Scalar.subi v87 v89
  let c4_i32_39 : BitVec 32 := 4#32
  let c0_i32_42 : BitVec 32 := 0#32
  let v91 : BitVec 1 := Scalar.cmpi .sgt c4_i32_39 c0_i32_42
  let v92 : BitVec 32 := Scalar.extui v91
  let c0_i32_43 : BitVec 32 := 0#32
  let v93 : BitVec 1 := Scalar.cmpi .slt c4_i32_39 c0_i32_43
  let v94 : BitVec 32 := Scalar.extui v93
  let v95 : BitVec 32 := Scalar.subi v92 v94
  let v96 : BitVec 1 := Scalar.cmpi .ne v90 v95
  let v97 : BitVec 32 := Scalar.remsi v84 c4_i32_39
  let c0_i32_44 : BitVec 32 := 0#32
  let v98 : BitVec 1 := Scalar.cmpi .ne v97 c0_i32_44
  let v99 : BitVec 1 := Scalar.andi v96 v98
  let v85 : BitVec 32 := Scalar.divsi v84 c4_i32_39
  let c1_i32_45 : BitVec 32 := 1#32
  let v100 : BitVec 32 := Scalar.subi v85 c1_i32_45
  let v101 : BitVec 32 := Scalar.select v99 v100 v85
  let c2_i32 : BitVec 32 := 2#32
  let c0_i32_46 : BitVec 32 := 0#32
  let v102 : BitVec 1 := Scalar.cmpi .eq c2_i32 c0_i32_46
  let c1_i32_47 : BitVec 32 := 1#32
  let v103 : BitVec 32 := Scalar.select v102 c1_i32_47 c2_i32
  let v104 : BitVec 32 := Scalar.remsi v101 v103
  let c0_i32_49 : BitVec 32 := 0#32
  let v106 : BitVec 1 := Scalar.cmpi .slt v104 c0_i32_49
  let c0_i32_50 : BitVec 32 := 0#32
  let v107 : BitVec 1 := Scalar.cmpi .slt v103 c0_i32_50
  let v108 : BitVec 1 := Scalar.xori v106 v107
  let c0_i32_48 : BitVec 32 := 0#32
  let v105 : BitVec 1 := Scalar.cmpi .ne v104 c0_i32_48
  let v109 : BitVec 1 := Scalar.andi v108 v105
  let v110 : BitVec 32 := Scalar.addi v104 v103
  let v111 : BitVec 32 := Scalar.select v109 v110 v104
  let c4_i32_55 : BitVec 32 := 4#32
  let v119 : BitVec 32 := Scalar.muli v111 c4_i32_55
  let v120 : BitVec 32 := Scalar.subi v84 v119
  let c8_i32_70 : BitVec 32 := 8#32
  let c0_i32_63 : BitVec 32 := 0#32
  let c1_i32_65 : BitVec 32 := 1#32
  let arg18 : BitVec 32 := Scf.iv c0_i32_63 c1_i32_65 k0_t7
  let c1_i32_69 : BitVec 32 := 1#32
  let v147 : BitVec 32 := Scalar.addi arg18 c1_i32_69
  let v148 : BitVec 32 := Scalar.muli c8_i32_70 v147
  let v149 : BitVec 32 := Scalar.subi v120 v148
  let c256_i32_71 : BitVec 32 := 256#32
  let v150 : BitVec 32 := Scalar.muli v149 c256_i32_71
  let v151 : BitVec 32 := v150
  let v152 : Index := Scalar.indexCast v151
  let c0_72 : Index := 0#32
  ![v152.toNat, 0]
def k0_off36 (i : grid0.Coords) (k0_t7 : Fin (k0_t7_loop i).trips) : Fin 3 → Nat :=
  let c0_76 : Index := 0#32
  let c0_77 : Index := 0#32
  let arg1 : BitVec 32 := BitVec.ofNat 32 (i 1).val
  let c4_i32 : BitVec 32 := 4#32
  let c0_i32_33 : BitVec 32 := 0#32
  let v70 : BitVec 1 := Scalar.cmpi .eq c4_i32 c0_i32_33
  let c1_i32 : BitVec 32 := 1#32
  let v71 : BitVec 32 := Scalar.select v70 c1_i32 c4_i32
  let v72 : BitVec 32 := Scalar.remsi arg1 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  let v84 : BitVec 32 := Scalar.subi arg1 v79
  let c0_i32_40 : BitVec 32 := 0#32
  let v86 : BitVec 1 := Scalar.cmpi .sgt v84 c0_i32_40
  let v87 : BitVec 32 := Scalar.extui v86
  let c0_i32_41 : BitVec 32 := 0#32
  let v88 : BitVec 1 := Scalar.cmpi .slt v84 c0_i32_41
  let v89 : BitVec 32 := Scalar.extui v88
  let v90 : BitVec 32 := Scalar.subi v87 v89
  let c4_i32_39 : BitVec 32 := 4#32
  let c0_i32_42 : BitVec 32 := 0#32
  let v91 : BitVec 1 := Scalar.cmpi .sgt c4_i32_39 c0_i32_42
  let v92 : BitVec 32 := Scalar.extui v91
  let c0_i32_43 : BitVec 32 := 0#32
  let v93 : BitVec 1 := Scalar.cmpi .slt c4_i32_39 c0_i32_43
  let v94 : BitVec 32 := Scalar.extui v93
  let v95 : BitVec 32 := Scalar.subi v92 v94
  let v96 : BitVec 1 := Scalar.cmpi .ne v90 v95
  let v97 : BitVec 32 := Scalar.remsi v84 c4_i32_39
  let c0_i32_44 : BitVec 32 := 0#32
  let v98 : BitVec 1 := Scalar.cmpi .ne v97 c0_i32_44
  let v99 : BitVec 1 := Scalar.andi v96 v98
  let v85 : BitVec 32 := Scalar.divsi v84 c4_i32_39
  let c1_i32_45 : BitVec 32 := 1#32
  let v100 : BitVec 32 := Scalar.subi v85 c1_i32_45
  let v101 : BitVec 32 := Scalar.select v99 v100 v85
  let c2_i32 : BitVec 32 := 2#32
  let c0_i32_46 : BitVec 32 := 0#32
  let v102 : BitVec 1 := Scalar.cmpi .eq c2_i32 c0_i32_46
  let c1_i32_47 : BitVec 32 := 1#32
  let v103 : BitVec 32 := Scalar.select v102 c1_i32_47 c2_i32
  let v104 : BitVec 32 := Scalar.remsi v101 v103
  let c0_i32_49 : BitVec 32 := 0#32
  let v106 : BitVec 1 := Scalar.cmpi .slt v104 c0_i32_49
  let c0_i32_50 : BitVec 32 := 0#32
  let v107 : BitVec 1 := Scalar.cmpi .slt v103 c0_i32_50
  let v108 : BitVec 1 := Scalar.xori v106 v107
  let c0_i32_48 : BitVec 32 := 0#32
  let v105 : BitVec 1 := Scalar.cmpi .ne v104 c0_i32_48
  let v109 : BitVec 1 := Scalar.andi v108 v105
  let v110 : BitVec 32 := Scalar.addi v104 v103
  let v111 : BitVec 32 := Scalar.select v109 v110 v104
  let c4_i32_55 : BitVec 32 := 4#32
  let v119 : BitVec 32 := Scalar.muli v111 c4_i32_55
  let v120 : BitVec 32 := Scalar.subi v84 v119
  let c8_i32_70 : BitVec 32 := 8#32
  let c0_i32_63 : BitVec 32 := 0#32
  let c1_i32_65 : BitVec 32 := 1#32
  let arg18 : BitVec 32 := Scf.iv c0_i32_63 c1_i32_65 k0_t7
  let c1_i32_69 : BitVec 32 := 1#32
  let v147 : BitVec 32 := Scalar.addi arg18 c1_i32_69
  let v148 : BitVec 32 := Scalar.muli c8_i32_70 v147
  let v149 : BitVec 32 := Scalar.subi v120 v148
  let c256_i32_71 : BitVec 32 := 256#32
  let v150 : BitVec 32 := Scalar.muli v149 c256_i32_71
  let v151 : BitVec 32 := v150
  let v159 : Index := Scalar.indexCast v151
  ![0, 0, v159.toNat]
def k0_off37 (i : grid0.Coords) (k0_t7 : Fin (k0_t7_loop i).trips) : Fin 2 → Nat :=
  let c0_82 : Index := 0#32
  let arg1 : BitVec 32 := BitVec.ofNat 32 (i 1).val
  let c4_i32 : BitVec 32 := 4#32
  let c0_i32_33 : BitVec 32 := 0#32
  let v70 : BitVec 1 := Scalar.cmpi .eq c4_i32 c0_i32_33
  let c1_i32 : BitVec 32 := 1#32
  let v71 : BitVec 32 := Scalar.select v70 c1_i32 c4_i32
  let v72 : BitVec 32 := Scalar.remsi arg1 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  let v84 : BitVec 32 := Scalar.subi arg1 v79
  let c0_i32_40 : BitVec 32 := 0#32
  let v86 : BitVec 1 := Scalar.cmpi .sgt v84 c0_i32_40
  let v87 : BitVec 32 := Scalar.extui v86
  let c0_i32_41 : BitVec 32 := 0#32
  let v88 : BitVec 1 := Scalar.cmpi .slt v84 c0_i32_41
  let v89 : BitVec 32 := Scalar.extui v88
  let v90 : BitVec 32 := Scalar.subi v87 v89
  let c4_i32_39 : BitVec 32 := 4#32
  let c0_i32_42 : BitVec 32 := 0#32
  let v91 : BitVec 1 := Scalar.cmpi .sgt c4_i32_39 c0_i32_42
  let v92 : BitVec 32 := Scalar.extui v91
  let c0_i32_43 : BitVec 32 := 0#32
  let v93 : BitVec 1 := Scalar.cmpi .slt c4_i32_39 c0_i32_43
  let v94 : BitVec 32 := Scalar.extui v93
  let v95 : BitVec 32 := Scalar.subi v92 v94
  let v96 : BitVec 1 := Scalar.cmpi .ne v90 v95
  let v97 : BitVec 32 := Scalar.remsi v84 c4_i32_39
  let c0_i32_44 : BitVec 32 := 0#32
  let v98 : BitVec 1 := Scalar.cmpi .ne v97 c0_i32_44
  let v99 : BitVec 1 := Scalar.andi v96 v98
  let v85 : BitVec 32 := Scalar.divsi v84 c4_i32_39
  let c1_i32_45 : BitVec 32 := 1#32
  let v100 : BitVec 32 := Scalar.subi v85 c1_i32_45
  let v101 : BitVec 32 := Scalar.select v99 v100 v85
  let c2_i32 : BitVec 32 := 2#32
  let c0_i32_46 : BitVec 32 := 0#32
  let v102 : BitVec 1 := Scalar.cmpi .eq c2_i32 c0_i32_46
  let c1_i32_47 : BitVec 32 := 1#32
  let v103 : BitVec 32 := Scalar.select v102 c1_i32_47 c2_i32
  let v104 : BitVec 32 := Scalar.remsi v101 v103
  let c0_i32_49 : BitVec 32 := 0#32
  let v106 : BitVec 1 := Scalar.cmpi .slt v104 c0_i32_49
  let c0_i32_50 : BitVec 32 := 0#32
  let v107 : BitVec 1 := Scalar.cmpi .slt v103 c0_i32_50
  let v108 : BitVec 1 := Scalar.xori v106 v107
  let c0_i32_48 : BitVec 32 := 0#32
  let v105 : BitVec 1 := Scalar.cmpi .ne v104 c0_i32_48
  let v109 : BitVec 1 := Scalar.andi v108 v105
  let v110 : BitVec 32 := Scalar.addi v104 v103
  let v111 : BitVec 32 := Scalar.select v109 v110 v104
  let c4_i32_55 : BitVec 32 := 4#32
  let v119 : BitVec 32 := Scalar.muli v111 c4_i32_55
  let v120 : BitVec 32 := Scalar.subi v84 v119
  let c8_i32_70 : BitVec 32 := 8#32
  let c0_i32_63 : BitVec 32 := 0#32
  let c1_i32_65 : BitVec 32 := 1#32
  let arg18 : BitVec 32 := Scf.iv c0_i32_63 c1_i32_65 k0_t7
  let c1_i32_69 : BitVec 32 := 1#32
  let v147 : BitVec 32 := Scalar.addi arg18 c1_i32_69
  let v148 : BitVec 32 := Scalar.muli c8_i32_70 v147
  let v149 : BitVec 32 := Scalar.subi v120 v148
  let c256_i32_71 : BitVec 32 := 256#32
  let v150 : BitVec 32 := Scalar.muli v149 c256_i32_71
  let v151 : BitVec 32 := v150
  let v178 : Index := Scalar.indexCast v151
  ![0, v178.toNat]
@[reducible] def k0_t8_loop (i : grid0.Coords) : Scf.Loop 32 :=
  let c0_i32_63 : BitVec 32 := 0#32
  let arg1 : BitVec 32 := BitVec.ofNat 32 (i 1).val
  let c4_i32 : BitVec 32 := 4#32
  let c0_i32_33 : BitVec 32 := 0#32
  let v70 : BitVec 1 := Scalar.cmpi .eq c4_i32 c0_i32_33
  let c1_i32 : BitVec 32 := 1#32
  let v71 : BitVec 32 := Scalar.select v70 c1_i32 c4_i32
  let v72 : BitVec 32 := Scalar.remsi arg1 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  let v84 : BitVec 32 := Scalar.subi arg1 v79
  let c0_i32_40 : BitVec 32 := 0#32
  let v86 : BitVec 1 := Scalar.cmpi .sgt v84 c0_i32_40
  let v87 : BitVec 32 := Scalar.extui v86
  let c0_i32_41 : BitVec 32 := 0#32
  let v88 : BitVec 1 := Scalar.cmpi .slt v84 c0_i32_41
  let v89 : BitVec 32 := Scalar.extui v88
  let v90 : BitVec 32 := Scalar.subi v87 v89
  let c4_i32_39 : BitVec 32 := 4#32
  let c0_i32_42 : BitVec 32 := 0#32
  let v91 : BitVec 1 := Scalar.cmpi .sgt c4_i32_39 c0_i32_42
  let v92 : BitVec 32 := Scalar.extui v91
  let c0_i32_43 : BitVec 32 := 0#32
  let v93 : BitVec 1 := Scalar.cmpi .slt c4_i32_39 c0_i32_43
  let v94 : BitVec 32 := Scalar.extui v93
  let v95 : BitVec 32 := Scalar.subi v92 v94
  let v96 : BitVec 1 := Scalar.cmpi .ne v90 v95
  let v97 : BitVec 32 := Scalar.remsi v84 c4_i32_39
  let c0_i32_44 : BitVec 32 := 0#32
  let v98 : BitVec 1 := Scalar.cmpi .ne v97 c0_i32_44
  let v99 : BitVec 1 := Scalar.andi v96 v98
  let v85 : BitVec 32 := Scalar.divsi v84 c4_i32_39
  let c1_i32_45 : BitVec 32 := 1#32
  let v100 : BitVec 32 := Scalar.subi v85 c1_i32_45
  let v101 : BitVec 32 := Scalar.select v99 v100 v85
  let c2_i32 : BitVec 32 := 2#32
  let c0_i32_46 : BitVec 32 := 0#32
  let v102 : BitVec 1 := Scalar.cmpi .eq c2_i32 c0_i32_46
  let c1_i32_47 : BitVec 32 := 1#32
  let v103 : BitVec 32 := Scalar.select v102 c1_i32_47 c2_i32
  let v104 : BitVec 32 := Scalar.remsi v101 v103
  let c0_i32_49 : BitVec 32 := 0#32
  let v106 : BitVec 1 := Scalar.cmpi .slt v104 c0_i32_49
  let c0_i32_50 : BitVec 32 := 0#32
  let v107 : BitVec 1 := Scalar.cmpi .slt v103 c0_i32_50
  let v108 : BitVec 1 := Scalar.xori v106 v107
  let c0_i32_48 : BitVec 32 := 0#32
  let v105 : BitVec 1 := Scalar.cmpi .ne v104 c0_i32_48
  let v109 : BitVec 1 := Scalar.andi v108 v105
  let v110 : BitVec 32 := Scalar.addi v104 v103
  let v111 : BitVec 32 := Scalar.select v109 v110 v104
  let c4_i32_55 : BitVec 32 := 4#32
  let v119 : BitVec 32 := Scalar.muli v111 c4_i32_55
  let v120 : BitVec 32 := Scalar.subi v84 v119
  let c0_i32_57 : BitVec 32 := 0#32
  let v122 : BitVec 1 := Scalar.cmpi .sgt v120 c0_i32_57
  let v123 : BitVec 32 := Scalar.extui v122
  let c0_i32_58 : BitVec 32 := 0#32
  let v124 : BitVec 1 := Scalar.cmpi .slt v120 c0_i32_58
  let v125 : BitVec 32 := Scalar.extui v124
  let v126 : BitVec 32 := Scalar.subi v123 v125
  let c8_i32_56 : BitVec 32 := 8#32
  let c0_i32_59 : BitVec 32 := 0#32
  let v127 : BitVec 1 := Scalar.cmpi .sgt c8_i32_56 c0_i32_59
  let v128 : BitVec 32 := Scalar.extui v127
  let c0_i32_60 : BitVec 32 := 0#32
  let v129 : BitVec 1 := Scalar.cmpi .slt c8_i32_56 c0_i32_60
  let v130 : BitVec 32 := Scalar.extui v129
  let v131 : BitVec 32 := Scalar.subi v128 v130
  let v132 : BitVec 1 := Scalar.cmpi .ne v126 v131
  let v133 : BitVec 32 := Scalar.remsi v120 c8_i32_56
  let c0_i32_61 : BitVec 32 := 0#32
  let v134 : BitVec 1 := Scalar.cmpi .ne v133 c0_i32_61
  let v135 : BitVec 1 := Scalar.andi v132 v134
  let v121 : BitVec 32 := Scalar.divsi v120 c8_i32_56
  let c1_i32_62 : BitVec 32 := 1#32
  let v136 : BitVec 32 := Scalar.subi v121 c1_i32_62
  let v137 : BitVec 32 := Scalar.select v135 v136 v121
  let v138 : BitVec 32 := Scalar.subi v137 c0_i32_63
  let c1_i32_64 : BitVec 32 := 1#32
  let v140 : BitVec 32 := Scalar.divsi v138 c1_i32_64
  let v141 : BitVec 32 := Scalar.muli v140 c1_i32_64
  let v142 : BitVec 32 := Scalar.addi c0_i32_63 v141
  let v139 : BitVec 32 := Scalar.addi c0_i32_63 v138
  let c1_i32_66 : BitVec 32 := 1#32
  ⟨v142, v139, c1_i32_66⟩
def k0_mult16 (i : grid0.Coords) (k0_t8 : Fin (k0_t8_loop i).trips) : BitVec 32 :=
  let arg1 : BitVec 32 := BitVec.ofNat 32 (i 1).val
  let c4_i32 : BitVec 32 := 4#32
  let c0_i32_33 : BitVec 32 := 0#32
  let v70 : BitVec 1 := Scalar.cmpi .eq c4_i32 c0_i32_33
  let c1_i32 : BitVec 32 := 1#32
  let v71 : BitVec 32 := Scalar.select v70 c1_i32 c4_i32
  let v72 : BitVec 32 := Scalar.remsi arg1 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  let v84 : BitVec 32 := Scalar.subi arg1 v79
  let c0_i32_40 : BitVec 32 := 0#32
  let v86 : BitVec 1 := Scalar.cmpi .sgt v84 c0_i32_40
  let v87 : BitVec 32 := Scalar.extui v86
  let c0_i32_41 : BitVec 32 := 0#32
  let v88 : BitVec 1 := Scalar.cmpi .slt v84 c0_i32_41
  let v89 : BitVec 32 := Scalar.extui v88
  let v90 : BitVec 32 := Scalar.subi v87 v89
  let c4_i32_39 : BitVec 32 := 4#32
  let c0_i32_42 : BitVec 32 := 0#32
  let v91 : BitVec 1 := Scalar.cmpi .sgt c4_i32_39 c0_i32_42
  let v92 : BitVec 32 := Scalar.extui v91
  let c0_i32_43 : BitVec 32 := 0#32
  let v93 : BitVec 1 := Scalar.cmpi .slt c4_i32_39 c0_i32_43
  let v94 : BitVec 32 := Scalar.extui v93
  let v95 : BitVec 32 := Scalar.subi v92 v94
  let v96 : BitVec 1 := Scalar.cmpi .ne v90 v95
  let v97 : BitVec 32 := Scalar.remsi v84 c4_i32_39
  let c0_i32_44 : BitVec 32 := 0#32
  let v98 : BitVec 1 := Scalar.cmpi .ne v97 c0_i32_44
  let v99 : BitVec 1 := Scalar.andi v96 v98
  let v85 : BitVec 32 := Scalar.divsi v84 c4_i32_39
  let c1_i32_45 : BitVec 32 := 1#32
  let v100 : BitVec 32 := Scalar.subi v85 c1_i32_45
  let v101 : BitVec 32 := Scalar.select v99 v100 v85
  let c2_i32 : BitVec 32 := 2#32
  let c0_i32_46 : BitVec 32 := 0#32
  let v102 : BitVec 1 := Scalar.cmpi .eq c2_i32 c0_i32_46
  let c1_i32_47 : BitVec 32 := 1#32
  let v103 : BitVec 32 := Scalar.select v102 c1_i32_47 c2_i32
  let v104 : BitVec 32 := Scalar.remsi v101 v103
  let c0_i32_49 : BitVec 32 := 0#32
  let v106 : BitVec 1 := Scalar.cmpi .slt v104 c0_i32_49
  let c0_i32_50 : BitVec 32 := 0#32
  let v107 : BitVec 1 := Scalar.cmpi .slt v103 c0_i32_50
  let v108 : BitVec 1 := Scalar.xori v106 v107
  let c0_i32_48 : BitVec 32 := 0#32
  let v105 : BitVec 1 := Scalar.cmpi .ne v104 c0_i32_48
  let v109 : BitVec 1 := Scalar.andi v108 v105
  let v110 : BitVec 32 := Scalar.addi v104 v103
  let v111 : BitVec 32 := Scalar.select v109 v110 v104
  let c4_i32_55 : BitVec 32 := 4#32
  let v119 : BitVec 32 := Scalar.muli v111 c4_i32_55
  let v120 : BitVec 32 := Scalar.subi v84 v119
  let c8_i32_70 : BitVec 32 := 8#32
  let c0_i32_63 : BitVec 32 := 0#32
  let c0_i32_57 : BitVec 32 := 0#32
  let v122 : BitVec 1 := Scalar.cmpi .sgt v120 c0_i32_57
  let v123 : BitVec 32 := Scalar.extui v122
  let c0_i32_58 : BitVec 32 := 0#32
  let v124 : BitVec 1 := Scalar.cmpi .slt v120 c0_i32_58
  let v125 : BitVec 32 := Scalar.extui v124
  let v126 : BitVec 32 := Scalar.subi v123 v125
  let c8_i32_56 : BitVec 32 := 8#32
  let c0_i32_59 : BitVec 32 := 0#32
  let v127 : BitVec 1 := Scalar.cmpi .sgt c8_i32_56 c0_i32_59
  let v128 : BitVec 32 := Scalar.extui v127
  let c0_i32_60 : BitVec 32 := 0#32
  let v129 : BitVec 1 := Scalar.cmpi .slt c8_i32_56 c0_i32_60
  let v130 : BitVec 32 := Scalar.extui v129
  let v131 : BitVec 32 := Scalar.subi v128 v130
  let v132 : BitVec 1 := Scalar.cmpi .ne v126 v131
  let v133 : BitVec 32 := Scalar.remsi v120 c8_i32_56
  let c0_i32_61 : BitVec 32 := 0#32
  let v134 : BitVec 1 := Scalar.cmpi .ne v133 c0_i32_61
  let v135 : BitVec 1 := Scalar.andi v132 v134
  let v121 : BitVec 32 := Scalar.divsi v120 c8_i32_56
  let c1_i32_62 : BitVec 32 := 1#32
  let v136 : BitVec 32 := Scalar.subi v121 c1_i32_62
  let v137 : BitVec 32 := Scalar.select v135 v136 v121
  let v138 : BitVec 32 := Scalar.subi v137 c0_i32_63
  let c1_i32_64 : BitVec 32 := 1#32
  let v140 : BitVec 32 := Scalar.divsi v138 c1_i32_64
  let v141 : BitVec 32 := Scalar.muli v140 c1_i32_64
  let v142 : BitVec 32 := Scalar.addi c0_i32_63 v141
  let c1_i32_66 : BitVec 32 := 1#32
  let arg18 : BitVec 32 := Scf.iv v142 c1_i32_66 k0_t8
  let c1_i32_69 : BitVec 32 := 1#32
  let v147 : BitVec 32 := Scalar.addi arg18 c1_i32_69
  let v148 : BitVec 32 := Scalar.muli c8_i32_70 v147
  let v149 : BitVec 32 := Scalar.subi v120 v148
  let c256_i32_71 : BitVec 32 := 256#32
  let v150 : BitVec 32 := Scalar.muli v149 c256_i32_71
  v150
def k0_off38 (i : grid0.Coords) (k0_t8 : Fin (k0_t8_loop i).trips) : Fin 2 → Nat :=
  let arg1 : BitVec 32 := BitVec.ofNat 32 (i 1).val
  let c4_i32 : BitVec 32 := 4#32
  let c0_i32_33 : BitVec 32 := 0#32
  let v70 : BitVec 1 := Scalar.cmpi .eq c4_i32 c0_i32_33
  let c1_i32 : BitVec 32 := 1#32
  let v71 : BitVec 32 := Scalar.select v70 c1_i32 c4_i32
  let v72 : BitVec 32 := Scalar.remsi arg1 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  let v84 : BitVec 32 := Scalar.subi arg1 v79
  let c0_i32_40 : BitVec 32 := 0#32
  let v86 : BitVec 1 := Scalar.cmpi .sgt v84 c0_i32_40
  let v87 : BitVec 32 := Scalar.extui v86
  let c0_i32_41 : BitVec 32 := 0#32
  let v88 : BitVec 1 := Scalar.cmpi .slt v84 c0_i32_41
  let v89 : BitVec 32 := Scalar.extui v88
  let v90 : BitVec 32 := Scalar.subi v87 v89
  let c4_i32_39 : BitVec 32 := 4#32
  let c0_i32_42 : BitVec 32 := 0#32
  let v91 : BitVec 1 := Scalar.cmpi .sgt c4_i32_39 c0_i32_42
  let v92 : BitVec 32 := Scalar.extui v91
  let c0_i32_43 : BitVec 32 := 0#32
  let v93 : BitVec 1 := Scalar.cmpi .slt c4_i32_39 c0_i32_43
  let v94 : BitVec 32 := Scalar.extui v93
  let v95 : BitVec 32 := Scalar.subi v92 v94
  let v96 : BitVec 1 := Scalar.cmpi .ne v90 v95
  let v97 : BitVec 32 := Scalar.remsi v84 c4_i32_39
  let c0_i32_44 : BitVec 32 := 0#32
  let v98 : BitVec 1 := Scalar.cmpi .ne v97 c0_i32_44
  let v99 : BitVec 1 := Scalar.andi v96 v98
  let v85 : BitVec 32 := Scalar.divsi v84 c4_i32_39
  let c1_i32_45 : BitVec 32 := 1#32
  let v100 : BitVec 32 := Scalar.subi v85 c1_i32_45
  let v101 : BitVec 32 := Scalar.select v99 v100 v85
  let c2_i32 : BitVec 32 := 2#32
  let c0_i32_46 : BitVec 32 := 0#32
  let v102 : BitVec 1 := Scalar.cmpi .eq c2_i32 c0_i32_46
  let c1_i32_47 : BitVec 32 := 1#32
  let v103 : BitVec 32 := Scalar.select v102 c1_i32_47 c2_i32
  let v104 : BitVec 32 := Scalar.remsi v101 v103
  let c0_i32_49 : BitVec 32 := 0#32
  let v106 : BitVec 1 := Scalar.cmpi .slt v104 c0_i32_49
  let c0_i32_50 : BitVec 32 := 0#32
  let v107 : BitVec 1 := Scalar.cmpi .slt v103 c0_i32_50
  let v108 : BitVec 1 := Scalar.xori v106 v107
  let c0_i32_48 : BitVec 32 := 0#32
  let v105 : BitVec 1 := Scalar.cmpi .ne v104 c0_i32_48
  let v109 : BitVec 1 := Scalar.andi v108 v105
  let v110 : BitVec 32 := Scalar.addi v104 v103
  let v111 : BitVec 32 := Scalar.select v109 v110 v104
  let c4_i32_55 : BitVec 32 := 4#32
  let v119 : BitVec 32 := Scalar.muli v111 c4_i32_55
  let v120 : BitVec 32 := Scalar.subi v84 v119
  let c8_i32_70 : BitVec 32 := 8#32
  let c0_i32_63 : BitVec 32 := 0#32
  let c0_i32_57 : BitVec 32 := 0#32
  let v122 : BitVec 1 := Scalar.cmpi .sgt v120 c0_i32_57
  let v123 : BitVec 32 := Scalar.extui v122
  let c0_i32_58 : BitVec 32 := 0#32
  let v124 : BitVec 1 := Scalar.cmpi .slt v120 c0_i32_58
  let v125 : BitVec 32 := Scalar.extui v124
  let v126 : BitVec 32 := Scalar.subi v123 v125
  let c8_i32_56 : BitVec 32 := 8#32
  let c0_i32_59 : BitVec 32 := 0#32
  let v127 : BitVec 1 := Scalar.cmpi .sgt c8_i32_56 c0_i32_59
  let v128 : BitVec 32 := Scalar.extui v127
  let c0_i32_60 : BitVec 32 := 0#32
  let v129 : BitVec 1 := Scalar.cmpi .slt c8_i32_56 c0_i32_60
  let v130 : BitVec 32 := Scalar.extui v129
  let v131 : BitVec 32 := Scalar.subi v128 v130
  let v132 : BitVec 1 := Scalar.cmpi .ne v126 v131
  let v133 : BitVec 32 := Scalar.remsi v120 c8_i32_56
  let c0_i32_61 : BitVec 32 := 0#32
  let v134 : BitVec 1 := Scalar.cmpi .ne v133 c0_i32_61
  let v135 : BitVec 1 := Scalar.andi v132 v134
  let v121 : BitVec 32 := Scalar.divsi v120 c8_i32_56
  let c1_i32_62 : BitVec 32 := 1#32
  let v136 : BitVec 32 := Scalar.subi v121 c1_i32_62
  let v137 : BitVec 32 := Scalar.select v135 v136 v121
  let v138 : BitVec 32 := Scalar.subi v137 c0_i32_63
  let c1_i32_64 : BitVec 32 := 1#32
  let v140 : BitVec 32 := Scalar.divsi v138 c1_i32_64
  let v141 : BitVec 32 := Scalar.muli v140 c1_i32_64
  let v142 : BitVec 32 := Scalar.addi c0_i32_63 v141
  let c1_i32_66 : BitVec 32 := 1#32
  let arg18 : BitVec 32 := Scf.iv v142 c1_i32_66 k0_t8
  let c1_i32_69 : BitVec 32 := 1#32
  let v147 : BitVec 32 := Scalar.addi arg18 c1_i32_69
  let v148 : BitVec 32 := Scalar.muli c8_i32_70 v147
  let v149 : BitVec 32 := Scalar.subi v120 v148
  let c256_i32_71 : BitVec 32 := 256#32
  let v150 : BitVec 32 := Scalar.muli v149 c256_i32_71
  let v151 : BitVec 32 := v150
  let v152 : Index := Scalar.indexCast v151
  let c0_72 : Index := 0#32
  ![v152.toNat, 0]
def k0_off39 (i : grid0.Coords) (k0_t8 : Fin (k0_t8_loop i).trips) : Fin 3 → Nat :=
  let c0_76 : Index := 0#32
  let c0_77 : Index := 0#32
  let arg1 : BitVec 32 := BitVec.ofNat 32 (i 1).val
  let c4_i32 : BitVec 32 := 4#32
  let c0_i32_33 : BitVec 32 := 0#32
  let v70 : BitVec 1 := Scalar.cmpi .eq c4_i32 c0_i32_33
  let c1_i32 : BitVec 32 := 1#32
  let v71 : BitVec 32 := Scalar.select v70 c1_i32 c4_i32
  let v72 : BitVec 32 := Scalar.remsi arg1 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  let v84 : BitVec 32 := Scalar.subi arg1 v79
  let c0_i32_40 : BitVec 32 := 0#32
  let v86 : BitVec 1 := Scalar.cmpi .sgt v84 c0_i32_40
  let v87 : BitVec 32 := Scalar.extui v86
  let c0_i32_41 : BitVec 32 := 0#32
  let v88 : BitVec 1 := Scalar.cmpi .slt v84 c0_i32_41
  let v89 : BitVec 32 := Scalar.extui v88
  let v90 : BitVec 32 := Scalar.subi v87 v89
  let c4_i32_39 : BitVec 32 := 4#32
  let c0_i32_42 : BitVec 32 := 0#32
  let v91 : BitVec 1 := Scalar.cmpi .sgt c4_i32_39 c0_i32_42
  let v92 : BitVec 32 := Scalar.extui v91
  let c0_i32_43 : BitVec 32 := 0#32
  let v93 : BitVec 1 := Scalar.cmpi .slt c4_i32_39 c0_i32_43
  let v94 : BitVec 32 := Scalar.extui v93
  let v95 : BitVec 32 := Scalar.subi v92 v94
  let v96 : BitVec 1 := Scalar.cmpi .ne v90 v95
  let v97 : BitVec 32 := Scalar.remsi v84 c4_i32_39
  let c0_i32_44 : BitVec 32 := 0#32
  let v98 : BitVec 1 := Scalar.cmpi .ne v97 c0_i32_44
  let v99 : BitVec 1 := Scalar.andi v96 v98
  let v85 : BitVec 32 := Scalar.divsi v84 c4_i32_39
  let c1_i32_45 : BitVec 32 := 1#32
  let v100 : BitVec 32 := Scalar.subi v85 c1_i32_45
  let v101 : BitVec 32 := Scalar.select v99 v100 v85
  let c2_i32 : BitVec 32 := 2#32
  let c0_i32_46 : BitVec 32 := 0#32
  let v102 : BitVec 1 := Scalar.cmpi .eq c2_i32 c0_i32_46
  let c1_i32_47 : BitVec 32 := 1#32
  let v103 : BitVec 32 := Scalar.select v102 c1_i32_47 c2_i32
  let v104 : BitVec 32 := Scalar.remsi v101 v103
  let c0_i32_49 : BitVec 32 := 0#32
  let v106 : BitVec 1 := Scalar.cmpi .slt v104 c0_i32_49
  let c0_i32_50 : BitVec 32 := 0#32
  let v107 : BitVec 1 := Scalar.cmpi .slt v103 c0_i32_50
  let v108 : BitVec 1 := Scalar.xori v106 v107
  let c0_i32_48 : BitVec 32 := 0#32
  let v105 : BitVec 1 := Scalar.cmpi .ne v104 c0_i32_48
  let v109 : BitVec 1 := Scalar.andi v108 v105
  let v110 : BitVec 32 := Scalar.addi v104 v103
  let v111 : BitVec 32 := Scalar.select v109 v110 v104
  let c4_i32_55 : BitVec 32 := 4#32
  let v119 : BitVec 32 := Scalar.muli v111 c4_i32_55
  let v120 : BitVec 32 := Scalar.subi v84 v119
  let c8_i32_70 : BitVec 32 := 8#32
  let c0_i32_63 : BitVec 32 := 0#32
  let c0_i32_57 : BitVec 32 := 0#32
  let v122 : BitVec 1 := Scalar.cmpi .sgt v120 c0_i32_57
  let v123 : BitVec 32 := Scalar.extui v122
  let c0_i32_58 : BitVec 32 := 0#32
  let v124 : BitVec 1 := Scalar.cmpi .slt v120 c0_i32_58
  let v125 : BitVec 32 := Scalar.extui v124
  let v126 : BitVec 32 := Scalar.subi v123 v125
  let c8_i32_56 : BitVec 32 := 8#32
  let c0_i32_59 : BitVec 32 := 0#32
  let v127 : BitVec 1 := Scalar.cmpi .sgt c8_i32_56 c0_i32_59
  let v128 : BitVec 32 := Scalar.extui v127
  let c0_i32_60 : BitVec 32 := 0#32
  let v129 : BitVec 1 := Scalar.cmpi .slt c8_i32_56 c0_i32_60
  let v130 : BitVec 32 := Scalar.extui v129
  let v131 : BitVec 32 := Scalar.subi v128 v130
  let v132 : BitVec 1 := Scalar.cmpi .ne v126 v131
  let v133 : BitVec 32 := Scalar.remsi v120 c8_i32_56
  let c0_i32_61 : BitVec 32 := 0#32
  let v134 : BitVec 1 := Scalar.cmpi .ne v133 c0_i32_61
  let v135 : BitVec 1 := Scalar.andi v132 v134
  let v121 : BitVec 32 := Scalar.divsi v120 c8_i32_56
  let c1_i32_62 : BitVec 32 := 1#32
  let v136 : BitVec 32 := Scalar.subi v121 c1_i32_62
  let v137 : BitVec 32 := Scalar.select v135 v136 v121
  let v138 : BitVec 32 := Scalar.subi v137 c0_i32_63
  let c1_i32_64 : BitVec 32 := 1#32
  let v140 : BitVec 32 := Scalar.divsi v138 c1_i32_64
  let v141 : BitVec 32 := Scalar.muli v140 c1_i32_64
  let v142 : BitVec 32 := Scalar.addi c0_i32_63 v141
  let c1_i32_66 : BitVec 32 := 1#32
  let arg18 : BitVec 32 := Scf.iv v142 c1_i32_66 k0_t8
  let c1_i32_69 : BitVec 32 := 1#32
  let v147 : BitVec 32 := Scalar.addi arg18 c1_i32_69
  let v148 : BitVec 32 := Scalar.muli c8_i32_70 v147
  let v149 : BitVec 32 := Scalar.subi v120 v148
  let c256_i32_71 : BitVec 32 := 256#32
  let v150 : BitVec 32 := Scalar.muli v149 c256_i32_71
  let v151 : BitVec 32 := v150
  let v159 : Index := Scalar.indexCast v151
  ![0, 0, v159.toNat]
def k0_off40 (i : grid0.Coords) (k0_t8 : Fin (k0_t8_loop i).trips) : Fin 2 → Nat :=
  let c0_82 : Index := 0#32
  let arg1 : BitVec 32 := BitVec.ofNat 32 (i 1).val
  let c4_i32 : BitVec 32 := 4#32
  let c0_i32_33 : BitVec 32 := 0#32
  let v70 : BitVec 1 := Scalar.cmpi .eq c4_i32 c0_i32_33
  let c1_i32 : BitVec 32 := 1#32
  let v71 : BitVec 32 := Scalar.select v70 c1_i32 c4_i32
  let v72 : BitVec 32 := Scalar.remsi arg1 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  let v84 : BitVec 32 := Scalar.subi arg1 v79
  let c0_i32_40 : BitVec 32 := 0#32
  let v86 : BitVec 1 := Scalar.cmpi .sgt v84 c0_i32_40
  let v87 : BitVec 32 := Scalar.extui v86
  let c0_i32_41 : BitVec 32 := 0#32
  let v88 : BitVec 1 := Scalar.cmpi .slt v84 c0_i32_41
  let v89 : BitVec 32 := Scalar.extui v88
  let v90 : BitVec 32 := Scalar.subi v87 v89
  let c4_i32_39 : BitVec 32 := 4#32
  let c0_i32_42 : BitVec 32 := 0#32
  let v91 : BitVec 1 := Scalar.cmpi .sgt c4_i32_39 c0_i32_42
  let v92 : BitVec 32 := Scalar.extui v91
  let c0_i32_43 : BitVec 32 := 0#32
  let v93 : BitVec 1 := Scalar.cmpi .slt c4_i32_39 c0_i32_43
  let v94 : BitVec 32 := Scalar.extui v93
  let v95 : BitVec 32 := Scalar.subi v92 v94
  let v96 : BitVec 1 := Scalar.cmpi .ne v90 v95
  let v97 : BitVec 32 := Scalar.remsi v84 c4_i32_39
  let c0_i32_44 : BitVec 32 := 0#32
  let v98 : BitVec 1 := Scalar.cmpi .ne v97 c0_i32_44
  let v99 : BitVec 1 := Scalar.andi v96 v98
  let v85 : BitVec 32 := Scalar.divsi v84 c4_i32_39
  let c1_i32_45 : BitVec 32 := 1#32
  let v100 : BitVec 32 := Scalar.subi v85 c1_i32_45
  let v101 : BitVec 32 := Scalar.select v99 v100 v85
  let c2_i32 : BitVec 32 := 2#32
  let c0_i32_46 : BitVec 32 := 0#32
  let v102 : BitVec 1 := Scalar.cmpi .eq c2_i32 c0_i32_46
  let c1_i32_47 : BitVec 32 := 1#32
  let v103 : BitVec 32 := Scalar.select v102 c1_i32_47 c2_i32
  let v104 : BitVec 32 := Scalar.remsi v101 v103
  let c0_i32_49 : BitVec 32 := 0#32
  let v106 : BitVec 1 := Scalar.cmpi .slt v104 c0_i32_49
  let c0_i32_50 : BitVec 32 := 0#32
  let v107 : BitVec 1 := Scalar.cmpi .slt v103 c0_i32_50
  let v108 : BitVec 1 := Scalar.xori v106 v107
  let c0_i32_48 : BitVec 32 := 0#32
  let v105 : BitVec 1 := Scalar.cmpi .ne v104 c0_i32_48
  let v109 : BitVec 1 := Scalar.andi v108 v105
  let v110 : BitVec 32 := Scalar.addi v104 v103
  let v111 : BitVec 32 := Scalar.select v109 v110 v104
  let c4_i32_55 : BitVec 32 := 4#32
  let v119 : BitVec 32 := Scalar.muli v111 c4_i32_55
  let v120 : BitVec 32 := Scalar.subi v84 v119
  let c8_i32_70 : BitVec 32 := 8#32
  let c0_i32_63 : BitVec 32 := 0#32
  let c0_i32_57 : BitVec 32 := 0#32
  let v122 : BitVec 1 := Scalar.cmpi .sgt v120 c0_i32_57
  let v123 : BitVec 32 := Scalar.extui v122
  let c0_i32_58 : BitVec 32 := 0#32
  let v124 : BitVec 1 := Scalar.cmpi .slt v120 c0_i32_58
  let v125 : BitVec 32 := Scalar.extui v124
  let v126 : BitVec 32 := Scalar.subi v123 v125
  let c8_i32_56 : BitVec 32 := 8#32
  let c0_i32_59 : BitVec 32 := 0#32
  let v127 : BitVec 1 := Scalar.cmpi .sgt c8_i32_56 c0_i32_59
  let v128 : BitVec 32 := Scalar.extui v127
  let c0_i32_60 : BitVec 32 := 0#32
  let v129 : BitVec 1 := Scalar.cmpi .slt c8_i32_56 c0_i32_60
  let v130 : BitVec 32 := Scalar.extui v129
  let v131 : BitVec 32 := Scalar.subi v128 v130
  let v132 : BitVec 1 := Scalar.cmpi .ne v126 v131
  let v133 : BitVec 32 := Scalar.remsi v120 c8_i32_56
  let c0_i32_61 : BitVec 32 := 0#32
  let v134 : BitVec 1 := Scalar.cmpi .ne v133 c0_i32_61
  let v135 : BitVec 1 := Scalar.andi v132 v134
  let v121 : BitVec 32 := Scalar.divsi v120 c8_i32_56
  let c1_i32_62 : BitVec 32 := 1#32
  let v136 : BitVec 32 := Scalar.subi v121 c1_i32_62
  let v137 : BitVec 32 := Scalar.select v135 v136 v121
  let v138 : BitVec 32 := Scalar.subi v137 c0_i32_63
  let c1_i32_64 : BitVec 32 := 1#32
  let v140 : BitVec 32 := Scalar.divsi v138 c1_i32_64
  let v141 : BitVec 32 := Scalar.muli v140 c1_i32_64
  let v142 : BitVec 32 := Scalar.addi c0_i32_63 v141
  let c1_i32_66 : BitVec 32 := 1#32
  let arg18 : BitVec 32 := Scf.iv v142 c1_i32_66 k0_t8
  let c1_i32_69 : BitVec 32 := 1#32
  let v147 : BitVec 32 := Scalar.addi arg18 c1_i32_69
  let v148 : BitVec 32 := Scalar.muli c8_i32_70 v147
  let v149 : BitVec 32 := Scalar.subi v120 v148
  let c256_i32_71 : BitVec 32 := 256#32
  let v150 : BitVec 32 := Scalar.muli v149 c256_i32_71
  let v151 : BitVec 32 := v150
  let v178 : Index := Scalar.indexCast v151
  ![0, v178.toNat]
def k0_cond10 (i : grid0.Coords) : BitVec 1 :=
  let arg1 : BitVec 32 := BitVec.ofNat 32 (i 1).val
  let c16_i32 : BitVec 32 := 16#32
  let v59 : BitVec 1 := Scalar.cmpi .eq arg1 c16_i32
  let v60 : BitVec 32 := Scalar.extui v59
  let c0_i32_24 : BitVec 32 := 0#32
  let v61 : BitVec 1 := Scalar.cmpi .ne v60 c0_i32_24
  v61

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c24_i32 : BitVec 32 := 24#32
  let v17 : BitVec 32 := Scalar.muli v16 c24_i32
  let c0_i32_4 : BitVec 32 := 0#32
  let v18 : BitVec 32 := Scalar.addi v17 c0_i32_4
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi arg0 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let v29 : BitVec 32 := Scalar.addi v18 v28
  let c0_i32_11 : BitVec 32 := 0#32
  ![arg1.toNat, v29.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c24_i32 : BitVec 32 := 24#32
  let v17 : BitVec 32 := Scalar.muli v16 c24_i32
  let c8_i32_4 : BitVec 32 := 8#32
  let v18 : BitVec 32 := Scalar.addi v17 c8_i32_4
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi arg0 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let v29 : BitVec 32 := Scalar.addi v18 v28
  let c0_i32_11 : BitVec 32 := 0#32
  let c0_i32_12 : BitVec 32 := 0#32
  ![c0_i32_11.toNat, v29.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c24_i32 : BitVec 32 := 24#32
  let v17 : BitVec 32 := Scalar.muli v16 c24_i32
  let c16_i32 : BitVec 32 := 16#32
  let v18 : BitVec 32 := Scalar.addi v17 c16_i32
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let v29 : BitVec 32 := Scalar.addi v18 v28
  let c0_i32_10 : BitVec 32 := 0#32
  let c0_i32_11 : BitVec 32 := 0#32
  ![c0_i32_10.toNat, v29.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4352x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x4352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S4352x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S4352x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x1x4352 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== Kernel18.lean ====
abbrev S4352x2048 : Shape := ⟨2, ![4352, 2048]⟩
abbrev S2048 : Shape := ⟨1, ![2048]⟩
abbrev S1x2048 : Shape := ⟨2, ![1, 2048]⟩
abbrev S272x2048 : Shape := ⟨2, ![272, 2048]⟩
abbrev S272 : Shape := ⟨1, ![272]⟩
abbrev S272x1 : Shape := ⟨2, ![272, 1]⟩

abbrev nBuf : Space → Nat
  | .hbm => 8
  | .vmem => 10
  | .smem => 0
  | _ => 0

abbrev bufTy : (tb : Table) → Fin (tcTables nBuf tb) → BufTy
  | .hbm, ⟨0, _⟩ => ⟨S4352x2048, .f32⟩
  | .hbm, ⟨1, _⟩ => ⟨S4352x2048, .f32⟩
  | .hbm, ⟨2, _⟩ => ⟨S2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S4352x2048, .f32⟩
  | .hbm, ⟨7, _⟩ => ⟨S4352x2048, .bf16⟩
  | .local _ .vmem, ⟨0, _⟩ => ⟨S272x2048, .f32⟩
  | .local _ .vmem, ⟨1, _⟩ => ⟨S272x2048, .f32⟩
  | .local _ .vmem, ⟨2, _⟩ => ⟨S272x2048, .f32⟩
  | .local _ .vmem, ⟨3, _⟩ => ⟨S272x2048, .f32⟩
  | .local _ .vmem, ⟨4, _⟩ => ⟨S1x2048, .f32⟩
  | .local _ .vmem, ⟨5, _⟩ => ⟨S1x2048, .f32⟩
  | .local _ .vmem, ⟨6, _⟩ => ⟨S272x2048, .f32⟩
  | .local _ .vmem, ⟨7, _⟩ => ⟨S272x2048, .f32⟩
  | .local _ .vmem, ⟨8, _⟩ => ⟨S272x2048, .bf16⟩
  | .local _ .vmem, ⟨9, _⟩ => ⟨S272x2048, .bf16⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S272x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S272x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S272x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S272x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference18Ideal.lean ====
abbrev S4352x2048 : Shape := ⟨2, ![4352, 2048]⟩
abbrev S2048 : Shape := ⟨1, ![2048]⟩
abbrev S_ : Shape := ⟨0, ![]⟩
abbrev S4352 : Shape := ⟨1, ![4352]⟩
abbrev S4352x1 : Shape := ⟨2, ![4352, 1]⟩
abbrev S1x2048 : Shape := ⟨2, ![1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S4352x2048, .f32⟩
  | .hbm, ⟨2, _⟩ => ⟨S2048, .f32⟩
  | .hbm, ⟨3, _⟩ => ⟨S2048, .f32⟩
  | .hbm, ⟨4, _⟩ => ⟨S4352x2048, .f32⟩
  | .hbm, ⟨5, _⟩ => ⟨S_, .f32⟩
  | .hbm, ⟨6, _⟩ => ⟨S4352, .f32⟩
  | .hbm, ⟨7, _⟩ => ⟨S4352x1, .f32⟩
  | .hbm, ⟨8, _⟩ => ⟨S_, .f32⟩
  | .hbm, ⟨9, _⟩ => ⟨S4352x1, .f32⟩
  | .hbm, ⟨10, _⟩ => ⟨S4352x1, .f32⟩
  | .hbm, ⟨11, _⟩ => ⟨S_, .f32⟩
  | .hbm, ⟨12, _⟩ => ⟨S4352x1, .f32⟩
  | .hbm, ⟨13, _⟩ => ⟨S4352x1, .f32⟩
  | .hbm, ⟨14, _⟩ => ⟨S4352x1, .f32⟩
  | .hbm, ⟨15, _⟩ => ⟨S4352x2048, .f32⟩
  | .hbm, ⟨16, _⟩ => ⟨S4352x2048, .f32⟩
  | .hbm, ⟨17, _⟩ => ⟨S1x2048, .f32⟩
  | .hbm, ⟨18, _⟩ => ⟨S4352x2048, .f32⟩
  | .hbm, ⟨19, _⟩ => ⟨S4352x2048, .f32⟩
  | .hbm, ⟨20, _⟩ => ⟨S4352x2048, .f32⟩
  | .hbm, ⟨21, _⟩ => ⟨S4352x2048, .f32⟩
  | .hbm, ⟨22, _⟩ => ⟨S_, .f32⟩
  | .hbm, ⟨23, _⟩ => ⟨S4352, .f32⟩
  | .hbm, ⟨24, _⟩ => ⟨S4352x1, .f32⟩
  | .hbm, ⟨25, _⟩ => ⟨S_, .f32⟩
  | .hbm, ⟨26, _⟩ => ⟨S4352x1, .f32⟩
  | .hbm, ⟨27, _⟩ => ⟨S4352x1, .f32⟩
  | .hbm, ⟨28, _⟩ => ⟨S_, .f32⟩
  | .hbm, ⟨29, _⟩ => ⟨S4352x1, .f32⟩
  | .hbm, ⟨30, _⟩ => ⟨S4352x1, .f32⟩
  | .hbm, ⟨31, _⟩ => ⟨S4352x1, .f32⟩
  | .hbm, ⟨32, _⟩ => ⟨S4352x2048, .f32⟩
  | .hbm, ⟨33, _⟩ => ⟨S4352x2048, .f32⟩
  | .hbm, ⟨34, _⟩ => ⟨S1x2048, .f32⟩
  | .hbm, ⟨35, _⟩ => ⟨S4352x2048, .f32⟩
  | .hbm, ⟨36, _⟩ => ⟨S4352x2048, .f32⟩
  | .hbm, ⟨37, _⟩ => ⟨S4352x2048, .bf16⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Kernel19.lean ====
abbrev S4352x2048 : Shape := ⟨2, ![4352, 2048]⟩
abbrev S2048 : Shape := ⟨1, ![2048]⟩
abbrev S1x2048 : Shape := ⟨2, ![1, 2048]⟩
abbrev S8x2048 : Shape := ⟨2, ![8, 2048]⟩
abbrev S272x2048 : Shape := ⟨2, ![272, 2048]⟩
abbrev S272 : Shape := ⟨1, ![272]⟩
abbrev S272x1 : Shape := ⟨2, ![272, 1]⟩
abbrev S34x8x2048 : Shape := ⟨3, ![34, 8, 2048]⟩

abbrev nBuf : Space → Nat
  | .hbm => 12
  | .vmem => 16
  | .smem => 0
  | _ => 0

abbrev bufTy : (tb : Table) → Fin (tcTables nBuf tb) → BufTy
  | .hbm, ⟨0, _⟩ => ⟨S4352x2048, .f32⟩
  | .hbm, ⟨1, _⟩ => ⟨S4352x2048, .f32⟩
  | .hbm, ⟨2, _⟩ => ⟨S4352x2048, .f32⟩
  | .hbm, ⟨3, _⟩ => ⟨S4352x2048, .f32⟩
  | .hbm, ⟨4, _⟩ => ⟨S2048, .f32⟩
  | .hbm, ⟨5, _⟩ => ⟨S2048, .f32⟩
  | .hbm, ⟨6, _⟩ => ⟨S1x2048, .f32⟩
  | .hbm, ⟨7, _⟩ => ⟨S1x2048, .f32⟩
  | .hbm, ⟨8, _⟩ => ⟨S4352x2048, .f32⟩
  | .hbm, ⟨9, _⟩ => ⟨S8x2048, .f32⟩
  | .hbm, ⟨10, _⟩ => ⟨S4352x2048, .bf16⟩
  | .hbm, ⟨11, _⟩ => ⟨S8x2048, .f32⟩
  | .local _ .vmem, ⟨0, _⟩ => ⟨S272x2048, .f32⟩
  | .local _ .vmem, ⟨1, _⟩ => ⟨S272x2048, .f32⟩
  | .local _ .vmem, ⟨2, _⟩ => ⟨S272x2048, .f32⟩
  | .local _ .vmem, ⟨3, _⟩ => ⟨S272x2048, .f32⟩
  | .local _ .vmem, ⟨4, _⟩ => ⟨S272x2048, .f32⟩
  | .local _ .vmem, ⟨5, _⟩ => ⟨S272x2048, .f32⟩
  | .local _ .vmem, ⟨6, _⟩ => ⟨S1x2048, .f32⟩
  | .local _ .vmem, ⟨7, _⟩ => ⟨S272x2048, .f32⟩
  | .local _ .vmem, ⟨8, _⟩ => ⟨S272x2048, .f32⟩
  | .local _ .vmem, ⟨9, _⟩ => ⟨S1x2048, .f32⟩
  | .local _ .vmem, ⟨10, _⟩ => ⟨S272x2048, .f32⟩
  | .local _ .vmem, ⟨11, _⟩ => ⟨S272x2048, .f32⟩
  | .local _ .vmem, ⟨12, _⟩ => ⟨S8x2048, .f32⟩
  | .local _ .vmem, ⟨13, _⟩ => ⟨S272x2048, .bf16⟩
  | .local _ .vmem, ⟨14, _⟩ => ⟨S272x2048, .bf16⟩
  | .local _ .vmem, ⟨15, _⟩ => ⟨S8x2048, .f32⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S272x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S272x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S272x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S272x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S272x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S272x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference19Ideal.lean ====
abbrev S4352x2048 : Shape := ⟨2, ![4352, 2048]⟩
abbrev S2048 : Shape := ⟨1, ![2048]⟩
abbrev S_ : Shape := ⟨0, ![]⟩
abbrev S4352 : Shape := ⟨1, ![4352]⟩
abbrev S4352x1 : Shape := ⟨2, ![4352, 1]⟩
abbrev S1x2048 : Shape := ⟨2, ![1, 2048]⟩

abbrev nBuf : Space → Nat
  | .hbm => 86
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S4352x2048, .f32⟩
  | .hbm, ⟨2, _⟩ => ⟨S4352x2048, .f32⟩
  | .hbm, ⟨3, _⟩ => ⟨S4352x2048, .f32⟩
  | .hbm, ⟨4, _⟩ => ⟨S2048, .f32⟩
  | .hbm, ⟨5, _⟩ => ⟨S2048, .f32⟩
  | .hbm, ⟨6, _⟩ => ⟨S4352x2048, .f32⟩
  | .hbm, ⟨7, _⟩ => ⟨S_, .f32⟩
  | .hbm, ⟨8, _⟩ => ⟨S4352, .f32⟩
  | .hbm, ⟨9, _⟩ => ⟨S4352x1, .f32⟩
  | .hbm, ⟨10, _⟩ => ⟨S_, .f32⟩
  | .hbm, ⟨11, _⟩ => ⟨S4352x1, .f32⟩
  | .hbm, ⟨12, _⟩ => ⟨S4352x1, .f32⟩
  | .hbm, ⟨13, _⟩ => ⟨S_, .f32⟩
  | .hbm, ⟨14, _⟩ => ⟨S4352x1, .f32⟩
  | .hbm, ⟨15, _⟩ => ⟨S4352x1, .f32⟩
  | .hbm, ⟨16, _⟩ => ⟨S4352x1, .f32⟩
  | .hbm, ⟨17, _⟩ => ⟨S4352x1, .f32⟩
  | .hbm, ⟨18, _⟩ => ⟨S_, .f32⟩
  | .hbm, ⟨19, _⟩ => ⟨S4352x1, .f32⟩
  | .hbm, ⟨20, _⟩ => ⟨S4352x1, .f32⟩
  | .hbm, ⟨21, _⟩ => ⟨S4352x2048, .f32⟩
  | .hbm, ⟨22, _⟩ => ⟨S4352x2048, .f32⟩
  | .hbm, ⟨23, _⟩ => ⟨S1x2048, .f32⟩
  | .hbm, ⟨24, _⟩ => ⟨S4352x2048, .f32⟩
  | .hbm, ⟨25, _⟩ => ⟨S4352x2048, .f32⟩
  | .hbm, ⟨26, _⟩ => ⟨S4352x2048, .f32⟩
  | .hbm, ⟨27, _⟩ => ⟨S4352x2048, .f32⟩
  | .hbm, ⟨28, _⟩ => ⟨S4352x2048, .f32⟩
  | .hbm, ⟨29, _⟩ => ⟨S_, .f32⟩
  | .hbm, ⟨30, _⟩ => ⟨S4352, .f32⟩
  | .hbm, ⟨31, _⟩ => ⟨S4352x1, .f32⟩
  | .hbm, ⟨32, _⟩ => ⟨S4352x2048, .f32⟩
  | .hbm, ⟨33, _⟩ => ⟨S4352x2048, .f32⟩
  | .hbm, ⟨34, _⟩ => ⟨S4352x1, .f32⟩
  | .hbm, ⟨35, _⟩ => ⟨S_, .f32⟩
  | .hbm, ⟨36, _⟩ => ⟨S4352x1, .f32⟩
  | .hbm, ⟨37, _⟩ => ⟨S4352x1, .f32⟩
  | .hbm, ⟨38, _⟩ => ⟨S_, .f32⟩
  | .hbm, ⟨39, _⟩ => ⟨S4352, .f32⟩
  | .hbm, ⟨40, _⟩ => ⟨S4352x2048, .f32⟩
  | .hbm, ⟨41, _⟩ => ⟨S4352x2048, .f32⟩
  | .hbm, ⟨42, _⟩ => ⟨S4352x2048, .f32⟩
  | .hbm, ⟨43, _⟩ => ⟨S4352x2048, .f32⟩
  | .hbm, ⟨44, _⟩ => ⟨S4352x2048, .f32⟩
  | .hbm, ⟨45, _⟩ => ⟨S4352x2048, .f32⟩
  | .hbm, ⟨46, _⟩ => ⟨S4352x2048, .f32⟩
  | .hbm, ⟨47, _⟩ => ⟨S_, .f32⟩
  | .hbm, ⟨48, _⟩ => ⟨S4352, .f32⟩
  | .hbm, ⟨49, _⟩ => ⟨S4352x1, .f32⟩
  | .hbm, ⟨50, _⟩ => ⟨S_, .f32⟩
  | .hbm, ⟨51, _⟩ => ⟨S4352x1, .f32⟩
  | .hbm, ⟨52, _⟩ => ⟨S4352x1, .f32⟩
  | .hbm, ⟨53, _⟩ => ⟨S_, .f32⟩
  | .hbm, ⟨54, _⟩ => ⟨S4352x1, .f32⟩
  | .hbm, ⟨55, _⟩ => ⟨S4352x1, .f32⟩
  | .hbm, ⟨56, _⟩ => ⟨S4352x1, .f32⟩
  | .hbm, ⟨57, _⟩ => ⟨S4352x1, .f32⟩
  | .hbm, ⟨58, _⟩ => ⟨S_, .f32⟩
  | .hbm, ⟨59, _⟩ => ⟨S4352x1, .f32⟩
  | .hbm, ⟨60, _⟩ => ⟨S4352x1, .f32⟩
  | .hbm, ⟨61, _⟩ => ⟨S4352x2048, .f32⟩
  | .hbm, ⟨62, _⟩ => ⟨S4352x2048, .f32⟩
  | .hbm, ⟨63, _⟩ => ⟨S1x2048, .f32⟩
  | .hbm, ⟨64, _⟩ => ⟨S4352x2048, .f32⟩
  | .hbm, ⟨65, _⟩ => ⟨S4352x2048, .f32⟩
  | .hbm, ⟨66, _⟩ => ⟨S4352x2048, .f32⟩
  | .hbm, ⟨67, _⟩ => ⟨S4352x2048, .f32⟩
  | .hbm, ⟨68, _⟩ => ⟨S4352x2048, .f32⟩
  | .hbm, ⟨69, _⟩ => ⟨S_, .f32⟩
  | .hbm, ⟨70, _⟩ => ⟨S4352, .f32⟩
  | .hbm, ⟨71, _⟩ => ⟨S4352x1, .f32⟩
  | .hbm, ⟨72, _⟩ => ⟨S4352x2048, .f32⟩
  | .hbm, ⟨73, _⟩ => ⟨S4352x2048, .f32⟩
  | .hbm, ⟨74, _⟩ => ⟨S4352x1, .f32⟩
  | .hbm, ⟨75, _⟩ => ⟨S_, .f32⟩
  | .hbm, ⟨76, _⟩ => ⟨S4352x1, .f32⟩
  | .hbm, ⟨77, _⟩ => ⟨S4352x1, .f32⟩
  | .hbm, ⟨78, _⟩ => ⟨S_, .f32⟩
  | .hbm, ⟨79, _⟩ => ⟨S4352, .f32⟩
  | .hbm, ⟨80, _⟩ => ⟨S4352x2048, .f32⟩
  | .hbm, ⟨81, _⟩ => ⟨S4352x2048, .f32⟩
  | .hbm, ⟨82, _⟩ => ⟨S4352x2048, .f32⟩
  | .hbm, ⟨83, _⟩ => ⟨S4352x2048, .f32⟩
  | .hbm, ⟨84, _⟩ => ⟨S4352x2048, .f32⟩
  | .hbm, ⟨85, _⟩ => ⟨S4352x2048, .bf16⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_10 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_11 : Ref sig .tc := ⟨.hbm, 75, rfl⟩
abbrev main_v57 : Ref sig .tc := ⟨.hbm, 76, rfl⟩
abbrev main_v58 : Ref sig .tc := ⟨.hbm, 77, rfl⟩
abbrev main_cst_12 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩

abbrev nD : Nat := 1
abbrev τ : Topo := Topo.v7x

variable {F : FTy → Type} [FloatOps F]
-- ==== Kernel20.lean ====
abbrev S4352x2048 : Shape := ⟨2, ![4352, 2048]⟩
abbrev S2048 : Shape := ⟨1, ![2048]⟩
abbrev S1x2048 : Shape := ⟨2, ![1, 2048]⟩
abbrev S272x2048 : Shape := ⟨2, ![272, 2048]⟩
abbrev S272 : Shape := ⟨1, ![272]⟩
abbrev S272x1 : Shape := ⟨2, ![272, 1]⟩

abbrev nBuf : Space → Nat
  | .hbm => 4
  | .vmem => 5
  | .smem => 0
  | _ => 0

abbrev bufTy : (tb : Table) → Fin (tcTables nBuf tb) → BufTy
  | .hbm, ⟨0, _⟩ => ⟨S4352x2048, .f32⟩
  | .hbm, ⟨1, _⟩ => ⟨S2048, .f32⟩
  | .hbm, ⟨2, _⟩ => ⟨S1x2048, .f32⟩
  | .hbm, ⟨3, _⟩ => ⟨S4352x2048, .bf16⟩
  | .local _ .vmem, ⟨0, _⟩ => ⟨S272x2048, .f32⟩
  | .local _ .vmem, ⟨1, _⟩ => ⟨S272x2048, .f32⟩
  | .local _ .vmem, ⟨2, _⟩ => ⟨S1x2048, .f32⟩
  | .local _ .vmem, ⟨3, _⟩ => ⟨S272x2048, .bf16⟩
  | .local _ .vmem, ⟨4, _⟩ => ⟨S272x2048, .bf16⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S272x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S272x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference20Ideal.lean ====
abbrev S4352x2048 : Shape := ⟨2, ![4352, 2048]⟩
abbrev S2048 : Shape := ⟨1, ![2048]⟩
abbrev S_ : Shape := ⟨0, ![]⟩
abbrev S4352 : Shape := ⟨1, ![4352]⟩
abbrev S4352x1 : Shape := ⟨2, ![4352, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S2048, .f32⟩
  | .hbm, ⟨2, _⟩ => ⟨S4352x2048, .f32⟩
  | .hbm, ⟨3, _⟩ => ⟨S_, .f32⟩
  | .hbm, ⟨4, _⟩ => ⟨S4352, .f32⟩
  | .hbm, ⟨5, _⟩ => ⟨S4352x1, .f32⟩
  | .hbm, ⟨6, _⟩ => ⟨S_, .f32⟩
  | .hbm, ⟨7, _⟩ => ⟨S4352x1, .f32⟩
  | .hbm, ⟨8, _⟩ => ⟨S4352x1, .f32⟩
  | .hbm, ⟨9, _⟩ => ⟨S_, .f32⟩
  | .hbm, ⟨10, _⟩ => ⟨S4352x1, .f32⟩
  | .hbm, ⟨11, _⟩ => ⟨S4352x1, .f32⟩
  | .hbm, ⟨12, _⟩ => ⟨S4352x1, .f32⟩
  | .hbm, ⟨13, _⟩ => ⟨S4352x2048, .f32⟩
  | .hbm, ⟨14, _⟩ => ⟨S4352x2048, .f32⟩
  | .hbm, ⟨15, _⟩ => ⟨S1x2048, .f32⟩
  | .hbm, ⟨16, _⟩ => ⟨S4352x2048, .f32⟩
  | .hbm, ⟨17, _⟩ => ⟨S4352x2048, .f32⟩
  | .hbm, ⟨18, _⟩ => ⟨S4352x2048, .bf16⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel21.lean ====
abbrev S4352x2048 : Shape := ⟨2, ![4352, 2048]⟩
abbrev S2048 : Shape := ⟨1, ![2048]⟩
abbrev S1x2048 : Shape := ⟨2, ![1, 2048]⟩
abbrev S272x2048 : Shape := ⟨2, ![272, 2048]⟩
abbrev S272 : Shape := ⟨1, ![272]⟩
abbrev S272x1 : Shape := ⟨2, ![272, 1]⟩

abbrev nBuf : Space → Nat
  | .hbm => 5
  | .vmem => 7
  | .smem => 0
  | _ => 0

abbrev bufTy : (tb : Table) → Fin (tcTables nBuf tb) → BufTy
  | .hbm, ⟨0, _⟩ => ⟨S4352x2048, .f32⟩
  | .hbm, ⟨1, _⟩ => ⟨S4352x2048, .f32⟩
  | .hbm, ⟨2, _⟩ => ⟨S2048, .f32⟩
  | .hbm, ⟨3, _⟩ => ⟨S1x2048, .f32⟩
  | .hbm, ⟨4, _⟩ => ⟨S4352x2048, .f32⟩
  | .local _ .vmem, ⟨0, _⟩ => ⟨S272x2048, .f32⟩
  | .local _ .vmem, ⟨1, _⟩ => ⟨S272x2048, .f32⟩
  | .local _ .vmem, ⟨2, _⟩ => ⟨S272x2048, .f32⟩
  | .local _ .vmem, ⟨3, _⟩ => ⟨S272x2048, .f32⟩
  | .local _ .vmem, ⟨4, _⟩ => ⟨S1x2048, .f32⟩
  | .local _ .vmem, ⟨5, _⟩ => ⟨S272x2048, .f32⟩
  | .local _ .vmem, ⟨6, _⟩ => ⟨S272x2048, .f32⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S272x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S272x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S272x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference21Ideal.lean ====
abbrev S4352x2048 : Shape := ⟨2, ![4352, 2048]⟩
abbrev S2048 : Shape := ⟨1, ![2048]⟩
abbrev S_ : Shape := ⟨0, ![]⟩
abbrev S4352 : Shape := ⟨1, ![4352]⟩
abbrev S4352x1 : Shape := ⟨2, ![4352, 1]⟩
abbrev S1x2048 : Shape := ⟨2, ![1, 2048]⟩

abbrev nBuf : Space → Nat
  | .hbm => 20
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S4352x2048, .f32⟩
  | .hbm, ⟨2, _⟩ => ⟨S2048, .f32⟩
  | .hbm, ⟨3, _⟩ => ⟨S4352x2048, .f32⟩
  | .hbm, ⟨4, _⟩ => ⟨S_, .f32⟩
  | .hbm, ⟨5, _⟩ => ⟨S4352, .f32⟩
  | .hbm, ⟨6, _⟩ => ⟨S4352x1, .f32⟩
  | .hbm, ⟨7, _⟩ => ⟨S_, .f32⟩
  | .hbm, ⟨8, _⟩ => ⟨S4352x1, .f32⟩
  | .hbm, ⟨9, _⟩ => ⟨S4352x1, .f32⟩
  | .hbm, ⟨10, _⟩ => ⟨S_, .f32⟩
  | .hbm, ⟨11, _⟩ => ⟨S4352x1, .f32⟩
  | .hbm, ⟨12, _⟩ => ⟨S4352x1, .f32⟩
  | .hbm, ⟨13, _⟩ => ⟨S4352x1, .f32⟩
  | .hbm, ⟨14, _⟩ => ⟨S4352x2048, .f32⟩
  | .hbm, ⟨15, _⟩ => ⟨S4352x2048, .f32⟩
  | .hbm, ⟨16, _⟩ => ⟨S1x2048, .f32⟩
  | .hbm, ⟨17, _⟩ => ⟨S4352x2048, .f32⟩
  | .hbm, ⟨18, _⟩ => ⟨S4352x2048, .f32⟩
  | .hbm, ⟨19, _⟩ => ⟨S4352x2048, .f32⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel22.lean ====
abbrev S4352x2048 : Shape := ⟨2, ![4352, 2048]⟩
abbrev S2048 : Shape := ⟨1, ![2048]⟩
abbrev S1x2048 : Shape := ⟨2, ![1, 2048]⟩
abbrev S8x2048 : Shape := ⟨2, ![8, 2048]⟩
abbrev S272x2048 : Shape := ⟨2, ![272, 2048]⟩
abbrev S272 : Shape := ⟨1, ![272]⟩
abbrev S272x1 : Shape := ⟨2, ![272, 1]⟩
abbrev S34x8x2048 : Shape := ⟨3, ![34, 8, 2048]⟩

abbrev nBuf : Space → Nat
  | .hbm => 6
  | .vmem => 8
  | .smem => 0
  | _ => 0

abbrev bufTy : (tb : Table) → Fin (tcTables nBuf tb) → BufTy
  | .hbm, ⟨0, _⟩ => ⟨S4352x2048, .f32⟩
  | .hbm, ⟨1, _⟩ => ⟨S4352x2048, .f32⟩
  | .hbm, ⟨2, _⟩ => ⟨S2048, .f32⟩
  | .hbm, ⟨3, _⟩ => ⟨S1x2048, .f32⟩
  | .hbm, ⟨4, _⟩ => ⟨S4352x2048, .bf16⟩
  | .hbm, ⟨5, _⟩ => ⟨S8x2048, .f32⟩
  | .local _ .vmem, ⟨0, _⟩ => ⟨S272x2048, .f32⟩
  | .local _ .vmem, ⟨1, _⟩ => ⟨S272x2048, .f32⟩
  | .local _ .vmem, ⟨2, _⟩ => ⟨S272x2048, .f32⟩
  | .local _ .vmem, ⟨3, _⟩ => ⟨S272x2048, .f32⟩
  | .local _ .vmem, ⟨4, _⟩ => ⟨S1x2048, .f32⟩
  | .local _ .vmem, ⟨5, _⟩ => ⟨S272x2048, .bf16⟩
  | .local _ .vmem, ⟨6, _⟩ => ⟨S272x2048, .bf16⟩
  | .local _ .vmem, ⟨7, _⟩ => ⟨S8x2048, .f32⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S272x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S272x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S272x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference22Ideal.lean ====
abbrev S4352x2048 : Shape := ⟨2, ![4352, 2048]⟩
abbrev S2048 : Shape := ⟨1, ![2048]⟩
abbrev S_ : Shape := ⟨0, ![]⟩
abbrev S4352 : Shape := ⟨1, ![4352]⟩
abbrev S4352x1 : Shape := ⟨2, ![4352, 1]⟩
abbrev S1x2048 : Shape := ⟨2, ![1, 2048]⟩

abbrev nBuf : Space → Nat
  | .hbm => 43
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S4352x2048, .f32⟩
  | .hbm, ⟨2, _⟩ => ⟨S2048, .f32⟩
  | .hbm, ⟨3, _⟩ => ⟨S4352x2048, .f32⟩
  | .hbm, ⟨4, _⟩ => ⟨S_, .f32⟩
  | .hbm, ⟨5, _⟩ => ⟨S4352, .f32⟩
  | .hbm, ⟨6, _⟩ => ⟨S4352x1, .f32⟩
  | .hbm, ⟨7, _⟩ => ⟨S_, .f32⟩
  | .hbm, ⟨8, _⟩ => ⟨S4352x1, .f32⟩
  | .hbm, ⟨9, _⟩ => ⟨S4352x1, .f32⟩
  | .hbm, ⟨10, _⟩ => ⟨S_, .f32⟩
  | .hbm, ⟨11, _⟩ => ⟨S4352x1, .f32⟩
  | .hbm, ⟨12, _⟩ => ⟨S4352x1, .f32⟩
  | .hbm, ⟨13, _⟩ => ⟨S4352x1, .f32⟩
  | .hbm, ⟨14, _⟩ => ⟨S4352x1, .f32⟩
  | .hbm, ⟨15, _⟩ => ⟨S_, .f32⟩
  | .hbm, ⟨16, _⟩ => ⟨S4352x1, .f32⟩
  | .hbm, ⟨17, _⟩ => ⟨S4352x1, .f32⟩
  | .hbm, ⟨18, _⟩ => ⟨S4352x2048, .f32⟩
  | .hbm, ⟨19, _⟩ => ⟨S4352x2048, .f32⟩
  | .hbm, ⟨20, _⟩ => ⟨S1x2048, .f32⟩
  | .hbm, ⟨21, _⟩ => ⟨S4352x2048, .f32⟩
  | .hbm, ⟨22, _⟩ => ⟨S4352x2048, .f32⟩
  | .hbm, ⟨23, _⟩ => ⟨S4352x2048, .f32⟩
  | .hbm, ⟨24, _⟩ => ⟨S4352x2048, .f32⟩
  | .hbm, ⟨25, _⟩ => ⟨S4352x2048, .f32⟩
  | .hbm, ⟨26, _⟩ => ⟨S_, .f32⟩
  | .hbm, ⟨27, _⟩ => ⟨S4352, .f32⟩
  | .hbm, ⟨28, _⟩ => ⟨S4352x1, .f32⟩
  | .hbm, ⟨29, _⟩ => ⟨S4352x2048, .f32⟩
  | .hbm, ⟨30, _⟩ => ⟨S4352x2048, .f32⟩
  | .hbm, ⟨31, _⟩ => ⟨S4352x1, .f32⟩
  | .hbm, ⟨32, _⟩ => ⟨S_, .f32⟩
  | .hbm, ⟨33, _⟩ => ⟨S4352x1, .f32⟩
  | .hbm, ⟨34, _⟩ => ⟨S4352x1, .f32⟩
  | .hbm, ⟨35, _⟩ => ⟨S_, .f32⟩
  | .hbm, ⟨36, _⟩ => ⟨S4352, .f32⟩
  | .hbm, ⟨37, _⟩ => ⟨S4352x2048, .f32⟩
  | .hbm, ⟨38, _⟩ => ⟨S4352x2048, .f32⟩
  | .hbm, ⟨39, _⟩ => ⟨S4352x2048, .f32⟩
  | .hbm, ⟨40, _⟩ => ⟨S4352x2048, .f32⟩
  | .hbm, ⟨41, _⟩ => ⟨S4352x2048, .f32⟩
  | .hbm, ⟨42, _⟩ => ⟨S4352x2048, .bf16⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Kernel23.lean ====
abbrev S4352x2048 : Shape := ⟨2, ![4352, 2048]⟩
abbrev S2048 : Shape := ⟨1, ![2048]⟩
abbrev S1x2048 : Shape := ⟨2, ![1, 2048]⟩
abbrev S8x2048 : Shape := ⟨2, ![8, 2048]⟩
abbrev S272x2048 : Shape := ⟨2, ![272, 2048]⟩
abbrev S272 : Shape := ⟨1, ![272]⟩
abbrev S272x1 : Shape := ⟨2, ![272, 1]⟩
abbrev S34x8x2048 : Shape := ⟨3, ![34, 8, 2048]⟩

abbrev nBuf : Space → Nat
  | .hbm => 7
  | .vmem => 10
  | .smem => 0
  | _ => 0

abbrev bufTy : (tb : Table) → Fin (tcTables nBuf tb) → BufTy
  | .hbm, ⟨0, _⟩ => ⟨S4352x2048, .f32⟩
  | .hbm, ⟨1, _⟩ => ⟨S4352x2048, .f32⟩
  | .hbm, ⟨2, _⟩ => ⟨S4352x2048, .f32⟩
  | .hbm, ⟨3, _⟩ => ⟨S2048, .f32⟩
  | .hbm, ⟨4, _⟩ => ⟨S1x2048, .f32⟩
  | .hbm, ⟨5, _⟩ => ⟨S4352x2048, .f32⟩
  | .hbm, ⟨6, _⟩ => ⟨S8x2048, .f32⟩
  | .local _ .vmem, ⟨0, _⟩ => ⟨S272x2048, .f32⟩
  | .local _ .vmem, ⟨1, _⟩ => ⟨S272x2048, .f32⟩
  | .local _ .vmem, ⟨2, _⟩ => ⟨S272x2048, .f32⟩
  | .local _ .vmem, ⟨3, _⟩ => ⟨S272x2048, .f32⟩
  | .local _ .vmem, ⟨4, _⟩ => ⟨S272x2048, .f32⟩
  | .local _ .vmem, ⟨5, _⟩ => ⟨S272x2048, .f32⟩
  | .local _ .vmem, ⟨6, _⟩ => ⟨S1x2048, .f32⟩
  | .local _ .vmem, ⟨7, _⟩ => ⟨S272x2048, .f32⟩
  | .local _ .vmem, ⟨8, _⟩ => ⟨S272x2048, .f32⟩
  | .local _ .vmem, ⟨9, _⟩ => ⟨S8x2048, .f32⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S272x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S272x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S272x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S272x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference23Ideal.lean ====
abbrev S4352x2048 : Shape := ⟨2, ![4352, 2048]⟩
abbrev S2048 : Shape := ⟨1, ![2048]⟩
abbrev S_ : Shape := ⟨0, ![]⟩
abbrev S4352 : Shape := ⟨1, ![4352]⟩
abbrev S4352x1 : Shape := ⟨2, ![4352, 1]⟩
abbrev S1x2048 : Shape := ⟨2, ![1, 2048]⟩

abbrev nBuf : Space → Nat
  | .hbm => 44
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S4352x2048, .f32⟩
  | .hbm, ⟨2, _⟩ => ⟨S4352x2048, .f32⟩
  | .hbm, ⟨3, _⟩ => ⟨S2048, .f32⟩
  | .hbm, ⟨4, _⟩ => ⟨S4352x2048, .f32⟩
  | .hbm, ⟨5, _⟩ => ⟨S_, .f32⟩
  | .hbm, ⟨6, _⟩ => ⟨S4352, .f32⟩
  | .hbm, ⟨7, _⟩ => ⟨S4352x1, .f32⟩
  | .hbm, ⟨8, _⟩ => ⟨S_, .f32⟩
  | .hbm, ⟨9, _⟩ => ⟨S4352x1, .f32⟩
  | .hbm, ⟨10, _⟩ => ⟨S4352x1, .f32⟩
  | .hbm, ⟨11, _⟩ => ⟨S_, .f32⟩
  | .hbm, ⟨12, _⟩ => ⟨S4352x1, .f32⟩
  | .hbm, ⟨13, _⟩ => ⟨S4352x1, .f32⟩
  | .hbm, ⟨14, _⟩ => ⟨S4352x1, .f32⟩
  | .hbm, ⟨15, _⟩ => ⟨S4352x1, .f32⟩
  | .hbm, ⟨16, _⟩ => ⟨S_, .f32⟩
  | .hbm, ⟨17, _⟩ => ⟨S4352x1, .f32⟩
  | .hbm, ⟨18, _⟩ => ⟨S4352x1, .f32⟩
  | .hbm, ⟨19, _⟩ => ⟨S4352x2048, .f32⟩
  | .hbm, ⟨20, _⟩ => ⟨S4352x2048, .f32⟩
  | .hbm, ⟨21, _⟩ => ⟨S1x2048, .f32⟩
  | .hbm, ⟨22, _⟩ => ⟨S4352x2048, .f32⟩
  | .hbm, ⟨23, _⟩ => ⟨S4352x2048, .f32⟩
  | .hbm, ⟨24, _⟩ => ⟨S4352x2048, .f32⟩
  | .hbm, ⟨25, _⟩ => ⟨S4352x2048, .f32⟩
  | .hbm, ⟨26, _⟩ => ⟨S4352x2048, .f32⟩
  | .hbm, ⟨27, _⟩ => ⟨S_, .f32⟩
  | .hbm, ⟨28, _⟩ => ⟨S4352, .f32⟩
  | .hbm, ⟨29, _⟩ => ⟨S4352x1, .f32⟩
  | .hbm, ⟨30, _⟩ => ⟨S4352x2048, .f32⟩
  | .hbm, ⟨31, _⟩ => ⟨S4352x2048, .f32⟩
  | .hbm, ⟨32, _⟩ => ⟨S4352x1, .f32⟩
  | .hbm, ⟨33, _⟩ => ⟨S_, .f32⟩
  | .hbm, ⟨34, _⟩ => ⟨S4352x1, .f32⟩
  | .hbm, ⟨35, _⟩ => ⟨S4352x1, .f32⟩
  | .hbm, ⟨36, _⟩ => ⟨S_, .f32⟩
  | .hbm, ⟨37, _⟩ => ⟨S4352, .f32⟩
  | .hbm, ⟨38, _⟩ => ⟨S4352x2048, .f32⟩
  | .hbm, ⟨39, _⟩ => ⟨S4352x2048, .f32⟩
  | .hbm, ⟨40, _⟩ => ⟨S4352x2048, .f32⟩
  | .hbm, ⟨41, _⟩ => ⟨S4352x2048, .f32⟩
  | .hbm, ⟨42, _⟩ => ⟨S4352x2048, .f32⟩
  | .hbm, ⟨43, _⟩ => ⟨S4352x2048, .f32⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Kernel24.lean ====
abbrev S4352x2048 : Shape := ⟨2, ![4352, 2048]⟩
abbrev S8x128 : Shape := ⟨2, ![8, 128]⟩
abbrev S272x2048 : Shape := ⟨2, ![272, 2048]⟩
abbrev S272x1 : Shape := ⟨2, ![272, 1]⟩
abbrev S272 : Shape := ⟨1, ![272]⟩
abbrev S1x272x1 : Shape := ⟨3, ![1, 272, 1]⟩
abbrev S1 : Shape := ⟨1, ![1]⟩
abbrev S1x1x1 : Shape := ⟨3, ![1, 1, 1]⟩

abbrev nBuf : Space → Nat
  | .hbm => 4
  | .vmem => 7
  | .smem => 0
  | _ => 0

abbrev bufTy : (tb : Table) → Fin (tcTables nBuf tb) → BufTy
  | .hbm, ⟨0, _⟩ => ⟨S4352x2048, .f32⟩
  | .hbm, ⟨1, _⟩ => ⟨S4352x2048, .f32⟩
  | .hbm, ⟨2, _⟩ => ⟨S4352x2048, .f32⟩
  | .hbm, ⟨3, _⟩ => ⟨S8x128, .f32⟩
  | .local _ .vmem, ⟨0, _⟩ => ⟨S272x2048, .f32⟩
  | .local _ .vmem, ⟨1, _⟩ => ⟨S272x2048, .f32⟩
  | .local _ .vmem, ⟨2, _⟩ => ⟨S272x2048, .f32⟩
  | .local _ .vmem, ⟨3, _⟩ => ⟨S272x2048, .f32⟩
  | .local _ .vmem, ⟨4, _⟩ => ⟨S272x2048, .f32⟩
  | .local _ .vmem, ⟨5, _⟩ => ⟨S272x2048, .f32⟩
  | .local _ .vmem, ⟨6, _⟩ => ⟨S8x128, .f32⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S272x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S272x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S272x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference24Ideal.lean ====
abbrev S4352x2048 : Shape := ⟨2, ![4352, 2048]⟩
abbrev S4096x2048 : Shape := ⟨2, ![4096, 2048]⟩
abbrev S_ : Shape := ⟨0, ![]⟩
abbrev S4096 : Shape := ⟨1, ![4096]⟩

abbrev nBuf : Space → Nat
  | .hbm => 29
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S4352x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096, .f32⟩
  | .hbm, ⟨11, _⟩ => ⟨S_, .f32⟩
  | .hbm, ⟨12, _⟩ => ⟨S4096, .f32⟩
  | .hbm, ⟨13, _⟩ => ⟨S4096, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S4096, .f32⟩
  | .hbm, ⟨22, _⟩ => ⟨S_, .f32⟩
  | .hbm, ⟨23, _⟩ => ⟨S4096, .f32⟩
  | .hbm, ⟨24, _⟩ => ⟨S4096, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4352x2048, .f32⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_cst_4 : Ref sig .tc := ⟨.hbm, 18, rfl⟩
abbrev main_cst_5 : Ref sig .tc := ⟨.hbm, 19, rfl⟩
abbrev main_v11 : Ref sig .tc := ⟨.hbm, 20, rfl⟩
abbrev main_v12 : Ref sig .tc := ⟨.hbm, 21, rfl⟩
abbrev main_cst_6 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_7 : Ref sig .tc := ⟨.hbm, 27, rfl⟩
abbrev main_v17 : Ref sig .tc := ⟨.hbm, 28, rfl⟩

abbrev nD : Nat := 1
abbrev τ : Topo := Topo.v7x

variable {F : FTy → Type} [FloatOps F]
-- ==== Kernel25.lean ====
abbrev S4352x11264 : Shape := ⟨2, ![4352, 11264]⟩
abbrev S3x11264 : Shape := ⟨2, ![3, 11264]⟩
abbrev S11264 : Shape := ⟨1, ![11264]⟩
abbrev S1x11264 : Shape := ⟨2, ![1, 11264]⟩
abbrev S4352x5632 : Shape := ⟨2, ![4352, 5632]⟩
abbrev S544x512 : Shape := ⟨2, ![544, 512]⟩
abbrev S16x512 : Shape := ⟨2, ![16, 512]⟩
abbrev S3x512 : Shape := ⟨2, ![3, 512]⟩
abbrev S1x512 : Shape := ⟨2, ![1, 512]⟩
abbrev S8x512 : Shape := ⟨2, ![8, 512]⟩
abbrev S552x512 : Shape := ⟨2, ![552, 512]⟩

abbrev nBuf : Space → Nat
  | .hbm => 6
  | .vmem => 18
  | .smem => 0
  | _ => 0

abbrev bufTy : (tb : Table) → Fin (tcTables nBuf tb) → BufTy
  | .hbm, ⟨0, _⟩ => ⟨S4352x11264, .bf16⟩
  | .hbm, ⟨1, _⟩ => ⟨S3x11264, .f32⟩
  | .hbm, ⟨2, _⟩ => ⟨S11264, .f32⟩
  | .hbm, ⟨3, _⟩ => ⟨S1x11264, .f32⟩
  | .hbm, ⟨4, _⟩ => ⟨S1x11264, .f32⟩
  | .hbm, ⟨5, _⟩ => ⟨S4352x5632, .bf16⟩
  | .local _ .vmem, ⟨0, _⟩ => ⟨S544x512, .bf16⟩
  | .local _ .vmem, ⟨1, _⟩ => ⟨S544x512, .bf16⟩
  | .local _ .vmem, ⟨2, _⟩ => ⟨S16x512, .bf16⟩
  | .local _ .vmem, ⟨3, _⟩ => ⟨S16x512, .bf16⟩
  | .local _ .vmem, ⟨4, _⟩ => ⟨S544x512, .bf16⟩
  | .local _ .vmem, ⟨5, _⟩ => ⟨S544x512, .bf16⟩
  | .local _ .vmem, ⟨6, _⟩ => ⟨S16x512, .bf16⟩
  | .local _ .vmem, ⟨7, _⟩ => ⟨S16x512, .bf16⟩
  | .local _ .vmem, ⟨8, _⟩ => ⟨S3x512, .f32⟩
  | .local _ .vmem, ⟨9, _⟩ => ⟨S3x512, .f32⟩
  | .local _ .vmem, ⟨10, _⟩ => ⟨S3x512, .f32⟩
  | .local _ .vmem, ⟨11, _⟩ => ⟨S3x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S544x512, .bf16⟩
  | .local _ .vmem, ⟨17, _⟩ => ⟨S544x512, .bf16⟩
  | _, _ => ⟨S4352x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c34_i32 : BitVec 32 := 34#32
  let v0 : BitVec 32 := Scalar.muli arg0 c34_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c34_i32 : BitVec 32 := 34#32
  let v0 : BitVec 32 := Scalar.muli arg0 c34_i32
  let c1_i32 : BitVec 32 := 1#32
  let v1 : BitVec 32 := Scalar.subi v0 c1_i32
  let c0_i32 : BitVec 32 := 0#32
  let v2 : BitVec 32 := Scalar.maxsi v1 c0_i32
  let c11_i32 : BitVec 32 := 11#32
  let v3 : BitVec 32 := Scalar.addi c11_i32 arg1
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S544x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S544x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S544x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference25Ideal.lean ====
abbrev S4352x11264 : Shape := ⟨2, ![4352, 11264]⟩
abbrev S3x11264 : Shape := ⟨2, ![3, 11264]⟩
abbrev S11264 : Shape := ⟨1, ![11264]⟩
abbrev S_ : Shape := ⟨0, ![]⟩
abbrev S2x11264 : Shape := ⟨2, ![2, 11264]⟩
abbrev S4354x11264 : Shape := ⟨2, ![4354, 11264]⟩
abbrev S1x11264 : Shape := ⟨2, ![1, 11264]⟩
abbrev S4352x5632 : Shape := ⟨2, ![4352, 5632]⟩

abbrev nBuf : Space → Nat
  | .hbm => 46
  | .vmem => 0
  | .smem => 0
  | _ => 0

abbrev bufTy : (tb : Table) → Fin (tcTables nBuf tb) → BufTy
  | .hbm, ⟨0, _⟩ => ⟨S4352x11264, .bf16⟩
  | .hbm, ⟨1, _⟩ => ⟨S3x11264, .f32⟩
  | .hbm, ⟨2, _⟩ => ⟨S11264, .f32⟩
  | .hbm, ⟨3, _⟩ => ⟨S4352x11264, .f32⟩
  | .hbm, ⟨4, _⟩ => ⟨S_, .f32⟩
  | .hbm, ⟨5, _⟩ => ⟨S2x11264, .f32⟩
  | .hbm, ⟨6, _⟩ => ⟨S4354x11264, .f32⟩
  | .hbm, ⟨7, _⟩ => ⟨S1x11264, .f32⟩
  | .hbm, ⟨8, _⟩ => ⟨S11264, .f32⟩
  | .hbm, ⟨9, _⟩ => ⟨S4352x11264, .f32⟩
  | .hbm, ⟨10, _⟩ => ⟨S1x11264, .f32⟩
  | .hbm, ⟨11, _⟩ => ⟨S4352x11264, .f32⟩
  | .hbm, ⟨12, _⟩ => ⟨S4352x11264, .f32⟩
  | .hbm, ⟨13, _⟩ => ⟨S_, .f32⟩
  | .hbm, ⟨14, _⟩ => ⟨S4352x11264, .f32⟩
  | .hbm, ⟨15, _⟩ => ⟨S4352x11264, .f32⟩
  | .hbm, ⟨16, _⟩ => ⟨S1x11264, .f32⟩
  | .hbm, ⟨17, _⟩ => ⟨S11264, .f32⟩
  | .hbm, ⟨18, _⟩ => ⟨S4352x11264, .f32⟩
  | .hbm, ⟨19, _⟩ => ⟨S1x11264, .f32⟩
  | .hbm, ⟨20, _⟩ => ⟨S4352x11264, .f32⟩
  | .hbm, ⟨21, _⟩ => ⟨S4352x11264, .f32⟩
  | .hbm, ⟨22, _⟩ => ⟨S4352x11264, .f32⟩
  | .hbm, ⟨23, _⟩ => ⟨S1x11264, .f32⟩
  | .hbm, ⟨24, _⟩ => ⟨S11264, .f32⟩
  | .hbm, ⟨25, _⟩ => ⟨S4352x11264, .f32⟩
  | .hbm, ⟨26, _⟩ => ⟨S1x11264, .f32⟩
  | .hbm, ⟨27, _⟩ => ⟨S4352x11264, .f32⟩
  | .hbm, ⟨28, _⟩ => ⟨S4352x11264, .f32⟩
  | .hbm, ⟨29, _⟩ => ⟨S4352x11264, .f32⟩
  | .hbm, ⟨30, _⟩ => ⟨S1x11264, .f32⟩
  | .hbm, ⟨31, _⟩ => ⟨S4352x11264, .f32⟩
  | .hbm, ⟨32, _⟩ => ⟨S4352x11264, .f32⟩
  | .hbm, ⟨33, _⟩ => ⟨S4352x5632, .f32⟩
  | .hbm, ⟨34, _⟩ => ⟨S4352x5632, .f32⟩
  | .hbm, ⟨35, _⟩ => ⟨S4352x5632, .f32⟩
  | .hbm, ⟨36, _⟩ => ⟨S_, .f32⟩
  | .hbm, ⟨37, _⟩ => ⟨S4352x5632, .f32⟩
  | .hbm, ⟨38, _⟩ => ⟨S4352x5632, .f32⟩
  | .hbm, ⟨39, _⟩ => ⟨S_, .f32⟩
  | .hbm, ⟨40, _⟩ => ⟨S4352x5632, .f32⟩
  | .hbm, ⟨41, _⟩ => ⟨S4352x5632, .f32⟩
  | .hbm, ⟨42, _⟩ => ⟨S4352x5632, .f32⟩
  | .hbm, ⟨43, _⟩ => ⟨S4352x5632, .f32⟩
  | .hbm, ⟨44, _⟩ => ⟨S4352x5632, .f32⟩
  | .hbm, ⟨45, _⟩ => ⟨S4352x5632, .bf16⟩
  | _, _ => ⟨S4352x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== Proof.AttnTrips.lean ====
/- The attention backward body, piece by piece: what one trip of each loop over the key tiles, and each odd leading tile, takes the running value to. -/
module

public import proofs.«01_k».proof.Proof.Gen.Kernel17Ideal.Skeleton
public import Idealize.ShloMosaic.Lib.Exec
public import Idealize.ShloMosaic.Lib.Tactic
public import Idealize.ShloMosaic.Lib.Pipeline.Kit
public import Idealize.ShloMosaic.Lib.Pipeline.Frame
public import Idealize.ShloMosaic.Lib.WholeRead

@[expose] public section

set_option maxRecDepth 65536

noncomputable section

namespace Cert.Kernel17Ideal.Hand

open Cert.Kernel17Ideal Cert.Kernel17Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The value carried before trip `n`, each trip taking it on by `R`. -/
def upTo {σ : Type} {N : ℕ} (R : Fin N → σ → σ) (init : σ) : ℕ → σ
  | 0 => init
  | n + 1 => if h : n < N then R ⟨n, h⟩ (upTo R init n) else upTo R init n

variable (c : Dev nD)

/-- A loop whose every trip keeps `P` and takes the carried value on by `R` keeps `P`, and ends at the trips folded. -/
theorem loop_of_trip {σ : Type} (P : sProp 𝕄) (E : Set ℕ) (L : Scf.Loop 32) (ok : L.OK) (init : σ)
    (body : Fin L.trips → σ → Prog (TpuEff nD τ sig (Elt F) Λ₀ .tc) σ) (R : Fin L.trips → σ → σ)
    (h : ∀ k acc, P ⊢ wp frame (wpE (defs₀ (F := F)) Variants.none (c : Thread nD τ) none) E (body k acc) (fun y => iprop(⌜y = R k acc⌝ ∗ P))) :
    P ⊢ wp frame (wpE (defs₀ (F := F)) Variants.none (c : Thread nD τ) none) E (Scf.Loop.for L ok init body) (fun y => iprop(⌜y = upTo R init L.trips⌝ ∗ P)) := by
  refine BIBase.Entails.trans ?_ (Scf.wp_for frame (wpE (defs₀ (F := F)) Variants.none (c : Thread nD τ) none) E L.lb L.ub L.st ok init body
    (fun n acc => iprop(⌜acc = upTo R init n⌝ ∗ P)) ?_)
  · iintro HP
    isplitl [HP]
    · isplitr
      · ipureintro; rfl
      · iexact HP
    · iintro %acc H
      iexact H
  · intro k acc
    iintro ⟨%e, HP⟩
    subst e
    iapply (wp_wand_r frame (wpE (defs₀ (F := F)) Variants.none (c : Thread nD τ) none) E)
    isplitl [HP]
    · iapply (h k (upTo R init k.val)); iexact HP
    · iintro %y ⟨%ey, HP⟩
      isplitr
      · ipureintro; rw [ey]; simp only [upTo, dif_pos k.isLt]
      · iexact HP

variable (i : grid0.Coords) (arg2 : Memref sig .tc .vmem S256x128 .bf16) (harg2 : arg2.IsWhole) (arg3 : Memref sig .tc .vmem S4352x128 .bf16) (harg3 : arg3.IsWhole) (arg4 : Memref sig .tc .vmem S4352x128 .bf16) (harg4 : arg4.IsWhole) (arg5 : Memref sig .tc .vmem S1x1x4352 .f32) (harg5 : arg5.IsWhole) (arg6 : Memref sig .tc .vmem S1x256x1 .f32) (harg6 : arg6.IsWhole) (arg7 : Memref sig .tc .vmem S1x1x128 .f32) (harg7 : arg7.IsWhole) (arg8 : Memref sig .tc .vmem S256x128 .f32) (harg8 : arg8.IsWhole) (arg9 : Memref sig .tc .vmem S1x256x1 .f32) (harg9 : arg9.IsWhole) (arg10 : Memref sig .tc .vmem S256x128 .f32) (harg10 : arg10.IsWhole) (arg11 : Memref sig .tc .vmem S256x128 .bf16) (harg11 : arg11.IsWhole) (arg12 : Memref sig .tc .vmem S4352x128 .bf16) (harg12 : arg12.IsWhole) (arg13 : Memref sig .tc .vmem S4352x128 .bf16) (harg13 : arg13.IsWhole) (arg14 : Memref sig .tc .vmem S1x1x128 .f32) (harg14 : arg14.IsWhole) (arg15 : Memref sig .tc .vmem S1x1x4352 .f32) (harg15 : arg15.IsWhole) (arg16 : Memref sig .tc .vmem S128x4352 .f32) (harg16 : arg16.IsWhole) (arg17 : Memref sig .tc .vmem S128x4352 .f32) (harg17 : arg17.IsWhole)

/-- What the body holds while it goes through the key tiles: every staged input at its block, and the gradient tiles other than that of the queries and the two scratch buffers at anything. -/
abbrev Res (x0 : Vec F S256x128 .bf16) (x1 : Vec F S4352x128 .bf16) (x2 : Vec F S4352x128 .bf16) (x3 : Vec F S1x1x4352 .f32) (x4 : Vec F S1x256x1 .f32) (x5 : Vec F S1x1x128 .f32) (x6 : Vec F S256x128 .f32) (x7 : Vec F S1x256x1 .f32) (x8 : Vec F S256x128 .f32) : sProp 𝕄 :=
  iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg7.view.loc (c : Thread nD τ) ↦[arg7.view.set]{fullShare} harg7.unread x5) ∗ (arg8.view.loc (c : Thread nD τ) ↦[arg8.view.set]{fullShare} harg8.unread x6) ∗ (arg9.view.loc (c : Thread nD τ) ↦[arg9.view.set]{fullShare} harg9.unread x7) ∗ (arg10.view.loc (c : Thread nD τ) ↦[arg10.view.set]{fullShare} harg10.unread x8) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)))

set_option maxHeartbeats 4000000 in
/-- One trip of the first loop of fours of the stick-breaking heads: the inputs are left as they are, and the carried value goes to a value of the inputs' blocks alone. -/
def trip1 (x0 : Vec F S256x128 .bf16) (x1 : Vec F S4352x128 .bf16) (x2 : Vec F S4352x128 .bf16) (x3 : Vec F S1x1x4352 .f32) (x4 : Vec F S1x256x1 .f32) (x5 : Vec F S1x1x128 .f32) (x6 : Vec F S256x128 .f32) (x7 : Vec F S1x256x1 .f32) (x8 : Vec F S256x128 .f32) (v3 : Vec F S256x128 .bf16) (v43 : FVec F S256x128 .bf16) (v47 : FVec F S256x1 .f32) (v50 : FVec F S128x256 .bf16) (v52 : FVec F S128x256 .bf16) (k0_h2 : k0_cond2 i = 1#1) (v83 : FVec F S512x256 .bf16) (v99_0 : FVec F S256x1 .f32) (v99_1 : FVec F S256x1 .f32) (v99_2 : FVec F S256x128 .f32) (v100 : BitVec 32) (c4_i32_39 : BitVec 32) (v101 : BitVec 32) (v102 : BitVec 1) (k : Fin (k0_t1_loop i).trips) :
    { R : (FVec F S256x1 .f32 × FVec F S256x1 .f32 × FVec F S256x128 .f32) → (FVec F S256x1 .f32 × FVec F S256x1 .f32 × FVec F S256x128 .f32) // ∀ (E : Set ℕ) (acc : FVec F S256x1 .f32 × FVec F S256x1 .f32 × FVec F S256x128 .f32),
      Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8 ⊢ wp frame (wpE (defs₀ (F := F)) Variants.none (c : Thread nD τ) none) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v43 v47 v50 v52 k0_h2 v83 v99_0 v99_1 v99_2 v100 c4_i32_39 v101 v102 k acc)
        (fun y => iprop(⌜y = R acc⌝ ∗ Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8)) } := by
  refine ⟨?_, fun E acc => ?run⟩
  case run =>
    unfold k0_t1_body
    iintro ⟨H2, H3, H4, H5, H6, H7, H8, H9, H10, ⟨%f12, H12⟩, ⟨%f13, H13⟩, ⟨%f14, H14⟩, ⟨%f15, H15⟩, ⟨%f16, H16⟩, ⟨%f17, H17⟩⟩
    sl_exec
    sl_step
    isplitr; · ipureintro; rfl
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H12]; · iexists _; iexact H12
    isplitl [H13]; · iexists _; iexact H13
    isplitl [H14]; · iexists _; iexact H14
    isplitl [H15]; · iexists _; iexact H15
    isplitl [H16]; · iexists _; iexact H16
    iexists _; iexact H17

set_option maxHeartbeats 4000000 in
/-- One trip of the second loop of fours of the stick-breaking heads (no trips): the inputs are left as they are, and the carried value goes to a value of the inputs' blocks alone. -/
def trip2 (x0 : Vec F S256x128 .bf16) (x1 : Vec F S4352x128 .bf16) (x2 : Vec F S4352x128 .bf16) (x3 : Vec F S1x1x4352 .f32) (x4 : Vec F S1x256x1 .f32) (x5 : Vec F S1x1x128 .f32) (x6 : Vec F S256x128 .f32) (x7 : Vec F S1x256x1 .f32) (x8 : Vec F S256x128 .f32) (v3 : Vec F S256x128 .bf16) (v43 : FVec F S256x128 .bf16) (v47 : FVec F S256x1 .f32) (v50 : FVec F S128x256 .bf16) (v52 : FVec F S128x256 .bf16) (k0_h2 : k0_cond2 i = 1#1) (v83 : FVec F S512x256 .bf16) (v99_0 : FVec F S256x1 .f32) (v99_1 : FVec F S256x1 .f32) (v99_2 : FVec F S256x128 .f32) (v100 : BitVec 32) (c4_i32_39 : BitVec 32) (v101 : BitVec 32) (v102 : BitVec 1) (v132 : BitVec 32) (k : Fin (k0_t2_loop i).trips) :
    { R : (FVec F S256x1 .f32 × FVec F S256x1 .f32 × FVec F S256x128 .f32) → (FVec F S256x1 .f32 × FVec F S256x1 .f32 × FVec F S256x128 .f32) // ∀ (E : Set ℕ) (acc : FVec F S256x1 .f32 × FVec F S256x1 .f32 × FVec F S256x128 .f32),
      Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8 ⊢ wp frame (wpE (defs₀ (F := F)) Variants.none (c : Thread nD τ) none) E (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v43 v47 v50 v52 k0_h2 v83 v99_0 v99_1 v99_2 v100 c4_i32_39 v101 v102 v132 k acc)
        (fun y => iprop(⌜y = R acc⌝ ∗ Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8)) } := by
  refine ⟨?_, fun E acc => ?run⟩
  case run =>
    unfold k0_t2_body
    iintro ⟨H2, H3, H4, H5, H6, H7, H8, H9, H10, ⟨%f12, H12⟩, ⟨%f13, H13⟩, ⟨%f14, H14⟩, ⟨%f15, H15⟩, ⟨%f16, H16⟩, ⟨%f17, H17⟩⟩
    sl_exec
    sl_step
    isplitr; · ipureintro; rfl
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H12]; · iexists _; iexact H12
    isplitl [H13]; · iexists _; iexact H13
    isplitl [H14]; · iexists _; iexact H14
    isplitl [H15]; · iexists _; iexact H15
    isplitl [H16]; · iexists _; iexact H16
    iexists _; iexact H17

set_option maxHeartbeats 4000000 in
/-- One trip of the loop of eights of the stick-breaking heads: the inputs are left as they are, and the carried value goes to a value of the inputs' blocks alone. -/
def trip3 (x0 : Vec F S256x128 .bf16) (x1 : Vec F S4352x128 .bf16) (x2 : Vec F S4352x128 .bf16) (x3 : Vec F S1x1x4352 .f32) (x4 : Vec F S1x256x1 .f32) (x5 : Vec F S1x1x128 .f32) (x6 : Vec F S256x128 .f32) (x7 : Vec F S1x256x1 .f32) (x8 : Vec F S256x128 .f32) (v3 : Vec F S256x128 .bf16) (v8 : Vec F S256x128 .f32) (v33 : FVec F S256x128 .f32) (k0_h2 : k0_cond2 i = 1#1) (v83 : FVec F S512x256 .bf16) (v136 : BitVec 32) (k : Fin (k0_t3_loop i).trips) :
    { R : (FVec F S256x1 .f32 × FVec F S256x1 .f32 × FVec F S256x128 .f32) → (FVec F S256x1 .f32 × FVec F S256x1 .f32 × FVec F S256x128 .f32) // ∀ (E : Set ℕ) (acc : FVec F S256x1 .f32 × FVec F S256x1 .f32 × FVec F S256x128 .f32),
      Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8 ⊢ wp frame (wpE (defs₀ (F := F)) Variants.none (c : Thread nD τ) none) E (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v8 v33 k0_h2 v83 v136 k acc)
        (fun y => iprop(⌜y = R acc⌝ ∗ Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8)) } := by
  refine ⟨?_, fun E acc => ?run⟩
  case run =>
    unfold k0_t3_body
    iintro ⟨H2, H3, H4, H5, H6, H7, H8, H9, H10, ⟨%f12, H12⟩, ⟨%f13, H13⟩, ⟨%f14, H14⟩, ⟨%f15, H15⟩, ⟨%f16, H16⟩, ⟨%f17, H17⟩⟩
    sl_exec
    sl_step
    isplitr; · ipureintro; rfl
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H12]; · iexists _; iexact H12
    isplitl [H13]; · iexists _; iexact H13
    isplitl [H14]; · iexists _; iexact H14
    isplitl [H15]; · iexists _; iexact H15
    isplitl [H16]; · iexists _; iexact H16
    iexists _; iexact H17

set_option maxHeartbeats 4000000 in
/-- One trip of the second loop of eights of the stick-breaking heads (no trips): the inputs are left as they are, and the carried value goes to a value of the inputs' blocks alone. -/
def trip4 (x0 : Vec F S256x128 .bf16) (x1 : Vec F S4352x128 .bf16) (x2 : Vec F S4352x128 .bf16) (x3 : Vec F S1x1x4352 .f32) (x4 : Vec F S1x256x1 .f32) (x5 : Vec F S1x1x128 .f32) (x6 : Vec F S256x128 .f32) (x7 : Vec F S1x256x1 .f32) (x8 : Vec F S256x128 .f32) (v3 : Vec F S256x128 .bf16) (v8 : Vec F S256x128 .f32) (v33 : FVec F S256x128 .f32) (k0_h2 : k0_cond2 i = 1#1) (v83 : FVec F S512x256 .bf16) (v136 : BitVec 32) (v158 : BitVec 32) (k : Fin (k0_t4_loop i).trips) :
    { R : (FVec F S256x1 .f32 × FVec F S256x1 .f32 × FVec F S256x128 .f32) → (FVec F S256x1 .f32 × FVec F S256x1 .f32 × FVec F S256x128 .f32) // ∀ (E : Set ℕ) (acc : FVec F S256x1 .f32 × FVec F S256x1 .f32 × FVec F S256x128 .f32),
      Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8 ⊢ wp frame (wpE (defs₀ (F := F)) Variants.none (c : Thread nD τ) none) E (k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v8 v33 k0_h2 v83 v136 v158 k acc)
        (fun y => iprop(⌜y = R acc⌝ ∗ Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8)) } := by
  refine ⟨?_, fun E acc => ?run⟩
  case run =>
    unfold k0_t4_body
    iintro ⟨H2, H3, H4, H5, H6, H7, H8, H9, H10, ⟨%f12, H12⟩, ⟨%f13, H13⟩, ⟨%f14, H14⟩, ⟨%f15, H15⟩, ⟨%f16, H16⟩, ⟨%f17, H17⟩⟩
    sl_exec
    sl_step
    isplitr; · ipureintro; rfl
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H12]; · iexists _; iexact H12
    isplitl [H13]; · iexists _; iexact H13
    isplitl [H14]; · iexists _; iexact H14
    isplitl [H15]; · iexists _; iexact H15
    isplitl [H16]; · iexists _; iexact H16
    iexists _; iexact H17

set_option maxHeartbeats 4000000 in
/-- One trip of the first loop of fours of the forgetting heads: the inputs are left as they are, and the carried value goes to a value of the inputs' blocks alone. -/
def trip5 (x0 : Vec F S256x128 .bf16) (x1 : Vec F S4352x128 .bf16) (x2 : Vec F S4352x128 .bf16) (x3 : Vec F S1x1x4352 .f32) (x4 : Vec F S1x256x1 .f32) (x5 : Vec F S1x1x128 .f32) (x6 : Vec F S256x128 .f32) (x7 : Vec F S1x256x1 .f32) (x8 : Vec F S256x128 .f32) (v3 : Vec F S256x128 .bf16) (v43 : FVec F S256x128 .bf16) (v47 : FVec F S256x1 .f32) (v50 : FVec F S128x256 .bf16) (v52 : FVec F S128x256 .bf16) (k0_h6 : k0_cond6 i = 1#1) (v68 : FVec F S256x1 .f32) (v83 : FVec F S256x128 .f32) (v84 : BitVec 32) (v85 : BitVec 32) (v96 : BitVec 1) (v98 : BitVec 1) (k : Fin (k0_t5_loop i).trips) :
    { R : (FVec F S256x128 .f32) → (FVec F S256x128 .f32) // ∀ (E : Set ℕ) (acc : FVec F S256x128 .f32),
      Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8 ⊢ wp frame (wpE (defs₀ (F := F)) Variants.none (c : Thread nD τ) none) E (k0_t5_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v43 v47 v50 v52 k0_h6 v68 v83 v84 v85 v96 v98 k acc)
        (fun y => iprop(⌜y = R acc⌝ ∗ Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8)) } := by
  refine ⟨?_, fun E acc => ?run⟩
  case run =>
    unfold k0_t5_body
    iintro ⟨H2, H3, H4, H5, H6, H7, H8, H9, H10, ⟨%f12, H12⟩, ⟨%f13, H13⟩, ⟨%f14, H14⟩, ⟨%f15, H15⟩, ⟨%f16, H16⟩, ⟨%f17, H17⟩⟩
    sl_exec
    sl_step
    isplitr; · ipureintro; rfl
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H12]; · iexists _; iexact H12
    isplitl [H13]; · iexists _; iexact H13
    isplitl [H14]; · iexists _; iexact H14
    isplitl [H15]; · iexists _; iexact H15
    isplitl [H16]; · iexists _; iexact H16
    iexists _; iexact H17

set_option maxHeartbeats 4000000 in
/-- One trip of the second loop of fours of the forgetting heads (no trips): the inputs are left as they are, and the carried value goes to a value of the inputs' blocks alone. -/
def trip6 (x0 : Vec F S256x128 .bf16) (x1 : Vec F S4352x128 .bf16) (x2 : Vec F S4352x128 .bf16) (x3 : Vec F S1x1x4352 .f32) (x4 : Vec F S1x256x1 .f32) (x5 : Vec F S1x1x128 .f32) (x6 : Vec F S256x128 .f32) (x7 : Vec F S1x256x1 .f32) (x8 : Vec F S256x128 .f32) (v3 : Vec F S256x128 .bf16) (v43 : FVec F S256x128 .bf16) (v47 : FVec F S256x1 .f32) (v50 : FVec F S128x256 .bf16) (v52 : FVec F S128x256 .bf16) (k0_h6 : k0_cond6 i = 1#1) (v68 : FVec F S256x1 .f32) (v83 : FVec F S256x128 .f32) (v84 : BitVec 32) (v85 : BitVec 32) (v96 : BitVec 1) (v98 : BitVec 1) (v116 : BitVec 32) (k : Fin (k0_t6_loop i).trips) :
    { R : (FVec F S256x128 .f32) → (FVec F S256x128 .f32) // ∀ (E : Set ℕ) (acc : FVec F S256x128 .f32),
      Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8 ⊢ wp frame (wpE (defs₀ (F := F)) Variants.none (c : Thread nD τ) none) E (k0_t6_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v43 v47 v50 v52 k0_h6 v68 v83 v84 v85 v96 v98 v116 k acc)
        (fun y => iprop(⌜y = R acc⌝ ∗ Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8)) } := by
  refine ⟨?_, fun E acc => ?run⟩
  case run =>
    unfold k0_t6_body
    iintro ⟨H2, H3, H4, H5, H6, H7, H8, H9, H10, ⟨%f12, H12⟩, ⟨%f13, H13⟩, ⟨%f14, H14⟩, ⟨%f15, H15⟩, ⟨%f16, H16⟩, ⟨%f17, H17⟩⟩
    sl_exec
    sl_step
    isplitr; · ipureintro; rfl
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H12]; · iexists _; iexact H12
    isplitl [H13]; · iexists _; iexact H13
    isplitl [H14]; · iexists _; iexact H14
    isplitl [H15]; · iexists _; iexact H15
    isplitl [H16]; · iexists _; iexact H16
    iexists _; iexact H17

set_option maxHeartbeats 4000000 in
/-- One trip of the loop of eights of the forgetting heads: the inputs are left as they are, and the carried value goes to a value of the inputs' blocks alone. -/
def trip7 (x0 : Vec F S256x128 .bf16) (x1 : Vec F S4352x128 .bf16) (x2 : Vec F S4352x128 .bf16) (x3 : Vec F S1x1x4352 .f32) (x4 : Vec F S1x256x1 .f32) (x5 : Vec F S1x1x128 .f32) (x6 : Vec F S256x128 .f32) (x7 : Vec F S1x256x1 .f32) (x8 : Vec F S256x128 .f32) (v3 : Vec F S256x128 .bf16) (v8 : Vec F S256x128 .f32) (v33 : FVec F S256x128 .f32) (k0_h6 : k0_cond6 i = 1#1) (v68 : FVec F S256x1 .f32) (v120 : BitVec 32) (c0_i32_63 : BitVec 32) (k : Fin (k0_t7_loop i).trips) :
    { R : (FVec F S256x128 .f32) → (FVec F S256x128 .f32) // ∀ (E : Set ℕ) (acc : FVec F S256x128 .f32),
      Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8 ⊢ wp frame (wpE (defs₀ (F := F)) Variants.none (c : Thread nD τ) none) E (k0_t7_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v8 v33 k0_h6 v68 v120 c0_i32_63 k acc)
        (fun y => iprop(⌜y = R acc⌝ ∗ Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8)) } := by
  refine ⟨?_, fun E acc => ?run⟩
  case run =>
    unfold k0_t7_body
    iintro ⟨H2, H3, H4, H5, H6, H7, H8, H9, H10, ⟨%f12, H12⟩, ⟨%f13, H13⟩, ⟨%f14, H14⟩, ⟨%f15, H15⟩, ⟨%f16, H16⟩, ⟨%f17, H17⟩⟩
    sl_exec
    sl_step
    isplitr; · ipureintro; rfl
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H12]; · iexists _; iexact H12
    isplitl [H13]; · iexists _; iexact H13
    isplitl [H14]; · iexists _; iexact H14
    isplitl [H15]; · iexists _; iexact H15
    isplitl [H16]; · iexists _; iexact H16
    iexists _; iexact H17

set_option maxHeartbeats 4000000 in
/-- One trip of the second loop of eights of the forgetting heads (no trips): the inputs are left as they are, and the carried value goes to a value of the inputs' blocks alone. -/
def trip8 (x0 : Vec F S256x128 .bf16) (x1 : Vec F S4352x128 .bf16) (x2 : Vec F S4352x128 .bf16) (x3 : Vec F S1x1x4352 .f32) (x4 : Vec F S1x256x1 .f32) (x5 : Vec F S1x1x128 .f32) (x6 : Vec F S256x128 .f32) (x7 : Vec F S1x256x1 .f32) (x8 : Vec F S256x128 .f32) (v3 : Vec F S256x128 .bf16) (v8 : Vec F S256x128 .f32) (v33 : FVec F S256x128 .f32) (k0_h6 : k0_cond6 i = 1#1) (v68 : FVec F S256x1 .f32) (v120 : BitVec 32) (v142 : BitVec 32) (k : Fin (k0_t8_loop i).trips) :
    { R : (FVec F S256x128 .f32) → (FVec F S256x128 .f32) // ∀ (E : Set ℕ) (acc : FVec F S256x128 .f32),
      Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8 ⊢ wp frame (wpE (defs₀ (F := F)) Variants.none (c : Thread nD τ) none) E (k0_t8_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v8 v33 k0_h6 v68 v120 v142 k acc)
        (fun y => iprop(⌜y = R acc⌝ ∗ Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8)) } := by
  refine ⟨?_, fun E acc => ?run⟩
  case run =>
    unfold k0_t8_body
    iintro ⟨H2, H3, H4, H5, H6, H7, H8, H9, H10, ⟨%f12, H12⟩, ⟨%f13, H13⟩, ⟨%f14, H14⟩, ⟨%f15, H15⟩, ⟨%f16, H16⟩, ⟨%f17, H17⟩⟩
    sl_exec
    sl_step
    isplitr; · ipureintro; rfl
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H12]; · iexists _; iexact H12
    isplitl [H13]; · iexists _; iexact H13
    isplitl [H14]; · iexists _; iexact H14
    isplitl [H15]; · iexists _; iexact H15
    isplitl [H16]; · iexists _; iexact H16
    iexists _; iexact H17

set_option maxHeartbeats 4000000 in
/-- The odd leading key tiles of the forgetting heads, 3 of the three conditions on the row's place holding. -/
def lead31_3 (x0 : Vec F S256x128 .bf16) (x1 : Vec F S4352x128 .bf16) (x2 : Vec F S4352x128 .bf16) (x3 : Vec F S1x1x4352 .f32) (x4 : Vec F S1x256x1 .f32) (x5 : Vec F S1x1x128 .f32) (x6 : Vec F S256x128 .f32) (x7 : Vec F S1x256x1 .f32) (x8 : Vec F S256x128 .f32) (arg1 : BitVec 32) (v3 : Vec F S256x128 .bf16) (v7 : IVec S256x1 32) (v43 : FVec F S256x128 .bf16) (v47 : FVec F S256x1 .f32) (v50 : FVec F S128x256 .bf16) (v52 : FVec F S128x256 .bf16) (k0_h6 : k0_cond6 i = 1#1) (k0_h7 : k0_cond7 i = 1#1) (k0_h8 : k0_cond8 i = 1#1) (k0_h9 : k0_cond9 i = 1#1) :
    { R : (Σ' (v68 : FVec F S256x1 .f32) (v83 : FVec F S256x128 .f32) (v84 : BitVec 32) (v85 : BitVec 32) (v96 : BitVec 1), BitVec 1) // ∀ (E : Set ℕ),
      Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8 ⊢ wp frame (wpE (defs₀ (F := F)) Variants.none (c : Thread nD τ) none) E (k0_part31 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v7 v43 v47 v50 v52 k0_h6)
        (fun y => iprop(⌜y = R⌝ ∗ Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8)) } := by
  refine ⟨?_, fun E => ?run⟩
  case run =>
    rw [k0_part31_eq_skeleton]
    unfold k0_part31_skel
    simp only [dif_pos k0_h7, dif_pos k0_h8, dif_pos k0_h9]
    iintro ⟨H2, H3, H4, H5, H6, H7, H8, H9, H10, ⟨%f12, H12⟩, ⟨%f13, H13⟩, ⟨%f14, H14⟩, ⟨%f15, H15⟩, ⟨%f16, H16⟩, ⟨%f17, H17⟩⟩
    sl_exec
    sl_step
    isplitr; · ipureintro; rfl
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H12]; · iexists _; iexact H12
    isplitl [H13]; · iexists _; iexact H13
    isplitl [H14]; · iexists _; iexact H14
    isplitl [H15]; · iexists _; iexact H15
    isplitl [H16]; · iexists _; iexact H16
    iexists _; iexact H17

set_option maxHeartbeats 4000000 in
/-- The odd leading key tiles of the forgetting heads, 2 of the three conditions on the row's place holding. -/
def lead31_2 (x0 : Vec F S256x128 .bf16) (x1 : Vec F S4352x128 .bf16) (x2 : Vec F S4352x128 .bf16) (x3 : Vec F S1x1x4352 .f32) (x4 : Vec F S1x256x1 .f32) (x5 : Vec F S1x1x128 .f32) (x6 : Vec F S256x128 .f32) (x7 : Vec F S1x256x1 .f32) (x8 : Vec F S256x128 .f32) (arg1 : BitVec 32) (v3 : Vec F S256x128 .bf16) (v7 : IVec S256x1 32) (v43 : FVec F S256x128 .bf16) (v47 : FVec F S256x1 .f32) (v50 : FVec F S128x256 .bf16) (v52 : FVec F S128x256 .bf16) (k0_h6 : k0_cond6 i = 1#1) (k0_h7 : k0_cond7 i = 1#1) (k0_h8 : k0_cond8 i = 1#1) (k0_h9 : ¬ k0_cond9 i = 1#1) :
    { R : (Σ' (v68 : FVec F S256x1 .f32) (v83 : FVec F S256x128 .f32) (v84 : BitVec 32) (v85 : BitVec 32) (v96 : BitVec 1), BitVec 1) // ∀ (E : Set ℕ),
      Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8 ⊢ wp frame (wpE (defs₀ (F := F)) Variants.none (c : Thread nD τ) none) E (k0_part31 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v7 v43 v47 v50 v52 k0_h6)
        (fun y => iprop(⌜y = R⌝ ∗ Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8)) } := by
  refine ⟨?_, fun E => ?run⟩
  case run =>
    rw [k0_part31_eq_skeleton]
    unfold k0_part31_skel
    simp only [dif_pos k0_h7, dif_pos k0_h8, dif_neg k0_h9]
    iintro ⟨H2, H3, H4, H5, H6, H7, H8, H9, H10, ⟨%f12, H12⟩, ⟨%f13, H13⟩, ⟨%f14, H14⟩, ⟨%f15, H15⟩, ⟨%f16, H16⟩, ⟨%f17, H17⟩⟩
    sl_exec
    sl_step
    isplitr; · ipureintro; rfl
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H12]; · iexists _; iexact H12
    isplitl [H13]; · iexists _; iexact H13
    isplitl [H14]; · iexists _; iexact H14
    isplitl [H15]; · iexists _; iexact H15
    isplitl [H16]; · iexists _; iexact H16
    iexists _; iexact H17

set_option maxHeartbeats 4000000 in
/-- The odd leading key tiles of the forgetting heads, 1 of the three conditions on the row's place holding. -/
def lead31_1 (x0 : Vec F S256x128 .bf16) (x1 : Vec F S4352x128 .bf16) (x2 : Vec F S4352x128 .bf16) (x3 : Vec F S1x1x4352 .f32) (x4 : Vec F S1x256x1 .f32) (x5 : Vec F S1x1x128 .f32) (x6 : Vec F S256x128 .f32) (x7 : Vec F S1x256x1 .f32) (x8 : Vec F S256x128 .f32) (arg1 : BitVec 32) (v3 : Vec F S256x128 .bf16) (v7 : IVec S256x1 32) (v43 : FVec F S256x128 .bf16) (v47 : FVec F S256x1 .f32) (v50 : FVec F S128x256 .bf16) (v52 : FVec F S128x256 .bf16) (k0_h6 : k0_cond6 i = 1#1) (k0_h7 : k0_cond7 i = 1#1) (k0_h8 : ¬ k0_cond8 i = 1#1) :
    { R : (Σ' (v68 : FVec F S256x1 .f32) (v83 : FVec F S256x128 .f32) (v84 : BitVec 32) (v85 : BitVec 32) (v96 : BitVec 1), BitVec 1) // ∀ (E : Set ℕ),
      Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8 ⊢ wp frame (wpE (defs₀ (F := F)) Variants.none (c : Thread nD τ) none) E (k0_part31 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v7 v43 v47 v50 v52 k0_h6)
        (fun y => iprop(⌜y = R⌝ ∗ Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8)) } := by
  refine ⟨?_, fun E => ?run⟩
  case run =>
    rw [k0_part31_eq_skeleton]
    unfold k0_part31_skel
    simp only [dif_pos k0_h7, dif_neg k0_h8]
    iintro ⟨H2, H3, H4, H5, H6, H7, H8, H9, H10, ⟨%f12, H12⟩, ⟨%f13, H13⟩, ⟨%f14, H14⟩, ⟨%f15, H15⟩, ⟨%f16, H16⟩, ⟨%f17, H17⟩⟩
    sl_exec
    sl_step
    isplitr; · ipureintro; rfl
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H12]; · iexists _; iexact H12
    isplitl [H13]; · iexists _; iexact H13
    isplitl [H14]; · iexists _; iexact H14
    isplitl [H15]; · iexists _; iexact H15
    isplitl [H16]; · iexists _; iexact H16
    iexists _; iexact H17

set_option maxHeartbeats 4000000 in
/-- The odd leading key tiles of the forgetting heads, 0 of the three conditions on the row's place holding. -/
def lead31_0 (x0 : Vec F S256x128 .bf16) (x1 : Vec F S4352x128 .bf16) (x2 : Vec F S4352x128 .bf16) (x3 : Vec F S1x1x4352 .f32) (x4 : Vec F S1x256x1 .f32) (x5 : Vec F S1x1x128 .f32) (x6 : Vec F S256x128 .f32) (x7 : Vec F S1x256x1 .f32) (x8 : Vec F S256x128 .f32) (arg1 : BitVec 32) (v3 : Vec F S256x128 .bf16) (v7 : IVec S256x1 32) (v43 : FVec F S256x128 .bf16) (v47 : FVec F S256x1 .f32) (v50 : FVec F S128x256 .bf16) (v52 : FVec F S128x256 .bf16) (k0_h6 : k0_cond6 i = 1#1) (k0_h7 : ¬ k0_cond7 i = 1#1) :
    { R : (Σ' (v68 : FVec F S256x1 .f32) (v83 : FVec F S256x128 .f32) (v84 : BitVec 32) (v85 : BitVec 32) (v96 : BitVec 1), BitVec 1) // ∀ (E : Set ℕ),
      Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8 ⊢ wp frame (wpE (defs₀ (F := F)) Variants.none (c : Thread nD τ) none) E (k0_part31 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v7 v43 v47 v50 v52 k0_h6)
        (fun y => iprop(⌜y = R⌝ ∗ Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8)) } := by
  refine ⟨?_, fun E => ?run⟩
  case run =>
    rw [k0_part31_eq_skeleton]
    unfold k0_part31_skel
    simp only [dif_neg k0_h7]
    iintro ⟨H2, H3, H4, H5, H6, H7, H8, H9, H10, ⟨%f12, H12⟩, ⟨%f13, H13⟩, ⟨%f14, H14⟩, ⟨%f15, H15⟩, ⟨%f16, H16⟩, ⟨%f17, H17⟩⟩
    sl_exec
    sl_step
    isplitr; · ipureintro; rfl
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H12]; · iexists _; iexact H12
    isplitl [H13]; · iexists _; iexact H13
    isplitl [H14]; · iexists _; iexact H14
    isplitl [H15]; · iexists _; iexact H15
    isplitl [H16]; · iexists _; iexact H16
    iexists _; iexact H17

set_option maxHeartbeats 4000000 in
/-- The odd leading key tiles of the stick-breaking heads, 3 of the three conditions on the row's place holding. -/
def lead21_3 (x0 : Vec F S256x128 .bf16) (x1 : Vec F S4352x128 .bf16) (x2 : Vec F S4352x128 .bf16) (x3 : Vec F S1x1x4352 .f32) (x4 : Vec F S1x256x1 .f32) (x5 : Vec F S1x1x128 .f32) (x6 : Vec F S256x128 .f32) (x7 : Vec F S1x256x1 .f32) (x8 : Vec F S256x128 .f32) (arg1 : BitVec 32) (v3 : Vec F S256x128 .bf16) (v7 : IVec S256x1 32) (v43 : FVec F S256x128 .bf16) (v47 : FVec F S256x1 .f32) (v50 : FVec F S128x256 .bf16) (v52 : FVec F S128x256 .bf16) (k0_h2 : k0_cond2 i = 1#1) (k0_h3 : k0_cond3 i = 1#1) (k0_h4 : k0_cond4 i = 1#1) (k0_h5 : k0_cond5 i = 1#1) :
    { R : (Σ' (v83 : FVec F S512x256 .bf16) (v99_0 : FVec F S256x1 .f32) (v99_1 : FVec F S256x1 .f32) (v99_2 : FVec F S256x128 .f32) (v100 : BitVec 32) (c4_i32_39 : BitVec 32) (v101 : BitVec 32), BitVec 1) // ∀ (E : Set ℕ),
      Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8 ⊢ wp frame (wpE (defs₀ (F := F)) Variants.none (c : Thread nD τ) none) E (k0_part21 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v7 v43 v47 v50 v52 k0_h2)
        (fun y => iprop(⌜y = R⌝ ∗ Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8)) } := by
  refine ⟨?_, fun E => ?run⟩
  case run =>
    rw [k0_part21_eq_skeleton]
    unfold k0_part21_skel
    simp only [dif_pos k0_h3, dif_pos k0_h4, dif_pos k0_h5]
    iintro ⟨H2, H3, H4, H5, H6, H7, H8, H9, H10, ⟨%f12, H12⟩, ⟨%f13, H13⟩, ⟨%f14, H14⟩, ⟨%f15, H15⟩, ⟨%f16, H16⟩, ⟨%f17, H17⟩⟩
    sl_exec
    sl_step
    isplitr; · ipureintro; rfl
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H12]; · iexists _; iexact H12
    isplitl [H13]; · iexists _; iexact H13
    isplitl [H14]; · iexists _; iexact H14
    isplitl [H15]; · iexists _; iexact H15
    isplitl [H16]; · iexists _; iexact H16
    iexists _; iexact H17

set_option maxHeartbeats 4000000 in
/-- The odd leading key tiles of the stick-breaking heads, 2 of the three conditions on the row's place holding. -/
def lead21_2 (x0 : Vec F S256x128 .bf16) (x1 : Vec F S4352x128 .bf16) (x2 : Vec F S4352x128 .bf16) (x3 : Vec F S1x1x4352 .f32) (x4 : Vec F S1x256x1 .f32) (x5 : Vec F S1x1x128 .f32) (x6 : Vec F S256x128 .f32) (x7 : Vec F S1x256x1 .f32) (x8 : Vec F S256x128 .f32) (arg1 : BitVec 32) (v3 : Vec F S256x128 .bf16) (v7 : IVec S256x1 32) (v43 : FVec F S256x128 .bf16) (v47 : FVec F S256x1 .f32) (v50 : FVec F S128x256 .bf16) (v52 : FVec F S128x256 .bf16) (k0_h2 : k0_cond2 i = 1#1) (k0_h3 : k0_cond3 i = 1#1) (k0_h4 : k0_cond4 i = 1#1) (k0_h5 : ¬ k0_cond5 i = 1#1) :
    { R : (Σ' (v83 : FVec F S512x256 .bf16) (v99_0 : FVec F S256x1 .f32) (v99_1 : FVec F S256x1 .f32) (v99_2 : FVec F S256x128 .f32) (v100 : BitVec 32) (c4_i32_39 : BitVec 32) (v101 : BitVec 32), BitVec 1) // ∀ (E : Set ℕ),
      Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8 ⊢ wp frame (wpE (defs₀ (F := F)) Variants.none (c : Thread nD τ) none) E (k0_part21 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v7 v43 v47 v50 v52 k0_h2)
        (fun y => iprop(⌜y = R⌝ ∗ Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8)) } := by
  refine ⟨?_, fun E => ?run⟩
  case run =>
    rw [k0_part21_eq_skeleton]
    unfold k0_part21_skel
    simp only [dif_pos k0_h3, dif_pos k0_h4, dif_neg k0_h5]
    iintro ⟨H2, H3, H4, H5, H6, H7, H8, H9, H10, ⟨%f12, H12⟩, ⟨%f13, H13⟩, ⟨%f14, H14⟩, ⟨%f15, H15⟩, ⟨%f16, H16⟩, ⟨%f17, H17⟩⟩
    sl_exec
    sl_step
    isplitr; · ipureintro; rfl
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H12]; · iexists _; iexact H12
    isplitl [H13]; · iexists _; iexact H13
    isplitl [H14]; · iexists _; iexact H14
    isplitl [H15]; · iexists _; iexact H15
    isplitl [H16]; · iexists _; iexact H16
    iexists _; iexact H17

set_option maxHeartbeats 4000000 in
/-- The odd leading key tiles of the stick-breaking heads, 1 of the three conditions on the row's place holding. -/
def lead21_1 (x0 : Vec F S256x128 .bf16) (x1 : Vec F S4352x128 .bf16) (x2 : Vec F S4352x128 .bf16) (x3 : Vec F S1x1x4352 .f32) (x4 : Vec F S1x256x1 .f32) (x5 : Vec F S1x1x128 .f32) (x6 : Vec F S256x128 .f32) (x7 : Vec F S1x256x1 .f32) (x8 : Vec F S256x128 .f32) (arg1 : BitVec 32) (v3 : Vec F S256x128 .bf16) (v7 : IVec S256x1 32) (v43 : FVec F S256x128 .bf16) (v47 : FVec F S256x1 .f32) (v50 : FVec F S128x256 .bf16) (v52 : FVec F S128x256 .bf16) (k0_h2 : k0_cond2 i = 1#1) (k0_h3 : k0_cond3 i = 1#1) (k0_h4 : ¬ k0_cond4 i = 1#1) :
    { R : (Σ' (v83 : FVec F S512x256 .bf16) (v99_0 : FVec F S256x1 .f32) (v99_1 : FVec F S256x1 .f32) (v99_2 : FVec F S256x128 .f32) (v100 : BitVec 32) (c4_i32_39 : BitVec 32) (v101 : BitVec 32), BitVec 1) // ∀ (E : Set ℕ),
      Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8 ⊢ wp frame (wpE (defs₀ (F := F)) Variants.none (c : Thread nD τ) none) E (k0_part21 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v7 v43 v47 v50 v52 k0_h2)
        (fun y => iprop(⌜y = R⌝ ∗ Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8)) } := by
  refine ⟨?_, fun E => ?run⟩
  case run =>
    rw [k0_part21_eq_skeleton]
    unfold k0_part21_skel
    simp only [dif_pos k0_h3, dif_neg k0_h4]
    iintro ⟨H2, H3, H4, H5, H6, H7, H8, H9, H10, ⟨%f12, H12⟩, ⟨%f13, H13⟩, ⟨%f14, H14⟩, ⟨%f15, H15⟩, ⟨%f16, H16⟩, ⟨%f17, H17⟩⟩
    sl_exec
    sl_step
    isplitr; · ipureintro; rfl
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H12]; · iexists _; iexact H12
    isplitl [H13]; · iexists _; iexact H13
    isplitl [H14]; · iexists _; iexact H14
    isplitl [H15]; · iexists _; iexact H15
    isplitl [H16]; · iexists _; iexact H16
    iexists _; iexact H17

set_option maxHeartbeats 4000000 in
/-- The odd leading key tiles of the stick-breaking heads, 0 of the three conditions on the row's place holding. -/
def lead21_0 (x0 : Vec F S256x128 .bf16) (x1 : Vec F S4352x128 .bf16) (x2 : Vec F S4352x128 .bf16) (x3 : Vec F S1x1x4352 .f32) (x4 : Vec F S1x256x1 .f32) (x5 : Vec F S1x1x128 .f32) (x6 : Vec F S256x128 .f32) (x7 : Vec F S1x256x1 .f32) (x8 : Vec F S256x128 .f32) (arg1 : BitVec 32) (v3 : Vec F S256x128 .bf16) (v7 : IVec S256x1 32) (v43 : FVec F S256x128 .bf16) (v47 : FVec F S256x1 .f32) (v50 : FVec F S128x256 .bf16) (v52 : FVec F S128x256 .bf16) (k0_h2 : k0_cond2 i = 1#1) (k0_h3 : ¬ k0_cond3 i = 1#1) :
    { R : (Σ' (v83 : FVec F S512x256 .bf16) (v99_0 : FVec F S256x1 .f32) (v99_1 : FVec F S256x1 .f32) (v99_2 : FVec F S256x128 .f32) (v100 : BitVec 32) (c4_i32_39 : BitVec 32) (v101 : BitVec 32), BitVec 1) // ∀ (E : Set ℕ),
      Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8 ⊢ wp frame (wpE (defs₀ (F := F)) Variants.none (c : Thread nD τ) none) E (k0_part21 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v7 v43 v47 v50 v52 k0_h2)
        (fun y => iprop(⌜y = R⌝ ∗ Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8)) } := by
  refine ⟨?_, fun E => ?run⟩
  case run =>
    rw [k0_part21_eq_skeleton]
    unfold k0_part21_skel
    simp only [dif_neg k0_h3]
    iintro ⟨H2, H3, H4, H5, H6, H7, H8, H9, H10, ⟨%f12, H12⟩, ⟨%f13, H13⟩, ⟨%f14, H14⟩, ⟨%f15, H15⟩, ⟨%f16, H16⟩, ⟨%f17, H17⟩⟩
    sl_exec
    sl_step
    isplitr; · ipureintro; rfl
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H12]; · iexists _; iexact H12
    isplitl [H13]; · iexists _; iexact H13
    isplitl [H14]; · iexists _; iexact H14
    isplitl [H15]; · iexists _; iexact H15
    isplitl [H16]; · iexists _; iexact H16
    iexists _; iexact H17

end Cert.Kernel17Ideal.Hand

end
-- ==== Proof.AttnBody.lean ====
/- The attention backward body as a whole: the inputs are kept, and the tile of query gradients is a function of the inputs alone. -/
module

public import Idealize.ShloMosaic.Lib.VecWindow
public import proofs.«01_k».proof.Proof.AttnTrips

@[expose] public section

set_option maxRecDepth 65536

noncomputable section

namespace Cert.Kernel17Ideal.Hand

open Cert.Kernel17Ideal Cert.Kernel17Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords) (arg2 : Memref sig .tc .vmem S256x128 .bf16) (harg2 : arg2.IsWhole) (arg3 : Memref sig .tc .vmem S4352x128 .bf16) (harg3 : arg3.IsWhole) (arg4 : Memref sig .tc .vmem S4352x128 .bf16) (harg4 : arg4.IsWhole) (arg5 : Memref sig .tc .vmem S1x1x4352 .f32) (harg5 : arg5.IsWhole) (arg6 : Memref sig .tc .vmem S1x256x1 .f32) (harg6 : arg6.IsWhole) (arg7 : Memref sig .tc .vmem S1x1x128 .f32) (harg7 : arg7.IsWhole) (arg8 : Memref sig .tc .vmem S256x128 .f32) (harg8 : arg8.IsWhole) (arg9 : Memref sig .tc .vmem S1x256x1 .f32) (harg9 : arg9.IsWhole) (arg10 : Memref sig .tc .vmem S256x128 .f32) (harg10 : arg10.IsWhole) (arg11 : Memref sig .tc .vmem S256x128 .bf16) (harg11 : arg11.IsWhole) (arg12 : Memref sig .tc .vmem S4352x128 .bf16) (harg12 : arg12.IsWhole) (arg13 : Memref sig .tc .vmem S4352x128 .bf16) (harg13 : arg13.IsWhole) (arg14 : Memref sig .tc .vmem S1x1x128 .f32) (harg14 : arg14.IsWhole) (arg15 : Memref sig .tc .vmem S1x1x4352 .f32) (harg15 : arg15.IsWhole) (arg16 : Memref sig .tc .vmem S128x4352 .f32) (harg16 : arg16.IsWhole) (arg17 : Memref sig .tc .vmem S128x4352 .f32) (harg17 : arg17.IsWhole)

/-- A loop carrying three values, its end spelt value by value. -/
theorem loop_of_trip3 {A B C : Type} (P : sProp 𝕄) (E : Set ℕ) (L : Scf.Loop 32) (ok : L.OK) (init : A × B × C)
    (body : Fin L.trips → A × B × C → Prog (TpuEff nD τ sig (Elt F) Λ₀ .tc) (A × B × C)) (R : Fin L.trips → A × B × C → A × B × C)
    (h : ∀ k acc, P ⊢ wp frame (wpE (defs₀ (F := F)) Variants.none (c : Thread nD τ) none) E (body k acc) (fun y => iprop(⌜y = R k acc⌝ ∗ P))) :
    P ⊢ wp frame (wpE (defs₀ (F := F)) Variants.none (c : Thread nD τ) none) E (Scf.Loop.for L ok init body)
      (fun y => iprop(⌜y = ((upTo R init L.trips).1, (upTo R init L.trips).2.1, (upTo R init L.trips).2.2)⌝ ∗ P)) :=
  loop_of_trip c P E L ok init body R h

/-- A result of 6 values, spelt value by value. -/
theorem spelt6 {A B C D G H : Type} (P : sProp 𝕄) (E : Set ℕ) (p : Prog (TpuEff nD τ sig (Elt F) Λ₀ .tc) (Σ' (_ : A) (_ : B) (_ : C) (_ : D) (_ : G), H)) (R : Σ' (_ : A) (_ : B) (_ : C) (_ : D) (_ : G), H)
    (h : P ⊢ wp frame (wpE (defs₀ (F := F)) Variants.none (c : Thread nD τ) none) E p (fun y => iprop(⌜y = R⌝ ∗ P))) :
    P ⊢ wp frame (wpE (defs₀ (F := F)) Variants.none (c : Thread nD τ) none) E p (fun y => iprop(⌜y = ⟨R.1, R.2.1, R.2.2.1, R.2.2.2.1, R.2.2.2.2.1, R.2.2.2.2.2⟩⌝ ∗ P)) := h

/-- A result of 8 values, spelt value by value. -/
theorem spelt8 {A B C D G H J K : Type} (P : sProp 𝕄) (E : Set ℕ) (p : Prog (TpuEff nD τ sig (Elt F) Λ₀ .tc) (Σ' (_ : A) (_ : B) (_ : C) (_ : D) (_ : G) (_ : H) (_ : J), K)) (R : Σ' (_ : A) (_ : B) (_ : C) (_ : D) (_ : G) (_ : H) (_ : J), K)
    (h : P ⊢ wp frame (wpE (defs₀ (F := F)) Variants.none (c : Thread nD τ) none) E p (fun y => iprop(⌜y = R⌝ ∗ P))) :
    P ⊢ wp frame (wpE (defs₀ (F := F)) Variants.none (c : Thread nD τ) none) E p (fun y => iprop(⌜y = ⟨R.1, R.2.1, R.2.2.1, R.2.2.2.1, R.2.2.2.2.1, R.2.2.2.2.2.1, R.2.2.2.2.2.2.1, R.2.2.2.2.2.2.2⟩⌝ ∗ P)) := h

/-- The odd leading key tiles of the forgetting heads. -/
def lead31 (x0 : Vec F S256x128 .bf16) (x1 : Vec F S4352x128 .bf16) (x2 : Vec F S4352x128 .bf16) (x3 : Vec F S1x1x4352 .f32) (x4 : Vec F S1x256x1 .f32) (x5 : Vec F S1x1x128 .f32) (x6 : Vec F S256x128 .f32) (x7 : Vec F S1x256x1 .f32) (x8 : Vec F S256x128 .f32) (arg1 : BitVec 32) (v3 : Vec F S256x128 .bf16) (v7 : IVec S256x1 32) (v43 : FVec F S256x128 .bf16) (v47 : FVec F S256x1 .f32) (v50 : FVec F S128x256 .bf16) (v52 : FVec F S128x256 .bf16) (k0_h6 : k0_cond6 i = 1#1) :
    { R : (Σ' (v68 : FVec F S256x1 .f32) (v83 : FVec F S256x128 .f32) (v84 : BitVec 32) (v85 : BitVec 32) (v96 : BitVec 1), BitVec 1) // ∀ (E : Set ℕ),
      Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8 ⊢ wp frame (wpE (defs₀ (F := F)) Variants.none (c : Thread nD τ) none) E (k0_part31 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v7 v43 v47 v50 v52 k0_h6)
        (fun y => iprop(⌜y = R⌝ ∗ Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8)) } :=
  if k0_h7 : k0_cond7 i = 1#1 then
    if k0_h8 : k0_cond8 i = 1#1 then
      if k0_h9 : k0_cond9 i = 1#1 then lead31_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 arg1 v3 v7 v43 v47 v50 v52 k0_h6 k0_h7 k0_h8 k0_h9
      else lead31_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 arg1 v3 v7 v43 v47 v50 v52 k0_h6 k0_h7 k0_h8 k0_h9
    else lead31_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 arg1 v3 v7 v43 v47 v50 v52 k0_h6 k0_h7 k0_h8
  else lead31_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 arg1 v3 v7 v43 v47 v50 v52 k0_h6 k0_h7

/-- The same, its results spelt one by one. -/
theorem lead31_run (x0 : Vec F S256x128 .bf16) (x1 : Vec F S4352x128 .bf16) (x2 : Vec F S4352x128 .bf16) (x3 : Vec F S1x1x4352 .f32) (x4 : Vec F S1x256x1 .f32) (x5 : Vec F S1x1x128 .f32) (x6 : Vec F S256x128 .f32) (x7 : Vec F S1x256x1 .f32) (x8 : Vec F S256x128 .f32) (arg1 : BitVec 32) (v3 : Vec F S256x128 .bf16) (v7 : IVec S256x1 32) (v43 : FVec F S256x128 .bf16) (v47 : FVec F S256x1 .f32) (v50 : FVec F S128x256 .bf16) (v52 : FVec F S128x256 .bf16) (k0_h6 : k0_cond6 i = 1#1) (E : Set ℕ) :
      Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8 ⊢ wp frame (wpE (defs₀ (F := F)) Variants.none (c : Thread nD τ) none) E (k0_part31 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v7 v43 v47 v50 v52 k0_h6)
        (fun y => iprop(⌜y = ⟨(lead31 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 arg1 v3 v7 v43 v47 v50 v52 k0_h6).1.1, (lead31 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 arg1 v3 v7 v43 v47 v50 v52 k0_h6).1.2.1, (lead31 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 arg1 v3 v7 v43 v47 v50 v52 k0_h6).1.2.2.1, (lead31 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 arg1 v3 v7 v43 v47 v50 v52 k0_h6).1.2.2.2.1, (lead31 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 arg1 v3 v7 v43 v47 v50 v52 k0_h6).1.2.2.2.2.1, (lead31 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 arg1 v3 v7 v43 v47 v50 v52 k0_h6).1.2.2.2.2.2⟩⌝ ∗ Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8)) :=
  spelt6 c _ E _ (lead31 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 arg1 v3 v7 v43 v47 v50 v52 k0_h6).1 ((lead31 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 arg1 v3 v7 v43 v47 v50 v52 k0_h6).2 E)

/-- The odd leading key tiles of the stick-breaking heads. -/
def lead21 (x0 : Vec F S256x128 .bf16) (x1 : Vec F S4352x128 .bf16) (x2 : Vec F S4352x128 .bf16) (x3 : Vec F S1x1x4352 .f32) (x4 : Vec F S1x256x1 .f32) (x5 : Vec F S1x1x128 .f32) (x6 : Vec F S256x128 .f32) (x7 : Vec F S1x256x1 .f32) (x8 : Vec F S256x128 .f32) (arg1 : BitVec 32) (v3 : Vec F S256x128 .bf16) (v7 : IVec S256x1 32) (v43 : FVec F S256x128 .bf16) (v47 : FVec F S256x1 .f32) (v50 : FVec F S128x256 .bf16) (v52 : FVec F S128x256 .bf16) (k0_h2 : k0_cond2 i = 1#1) :
    { R : (Σ' (v83 : FVec F S512x256 .bf16) (v99_0 : FVec F S256x1 .f32) (v99_1 : FVec F S256x1 .f32) (v99_2 : FVec F S256x128 .f32) (v100 : BitVec 32) (c4_i32_39 : BitVec 32) (v101 : BitVec 32), BitVec 1) // ∀ (E : Set ℕ),
      Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8 ⊢ wp frame (wpE (defs₀ (F := F)) Variants.none (c : Thread nD τ) none) E (k0_part21 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v7 v43 v47 v50 v52 k0_h2)
        (fun y => iprop(⌜y = R⌝ ∗ Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8)) } :=
  if k0_h3 : k0_cond3 i = 1#1 then
    if k0_h4 : k0_cond4 i = 1#1 then
      if k0_h5 : k0_cond5 i = 1#1 then lead21_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 arg1 v3 v7 v43 v47 v50 v52 k0_h2 k0_h3 k0_h4 k0_h5
      else lead21_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 arg1 v3 v7 v43 v47 v50 v52 k0_h2 k0_h3 k0_h4 k0_h5
    else lead21_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 arg1 v3 v7 v43 v47 v50 v52 k0_h2 k0_h3 k0_h4
  else lead21_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 arg1 v3 v7 v43 v47 v50 v52 k0_h2 k0_h3

/-- The same, its results spelt one by one. -/
theorem lead21_run (x0 : Vec F S256x128 .bf16) (x1 : Vec F S4352x128 .bf16) (x2 : Vec F S4352x128 .bf16) (x3 : Vec F S1x1x4352 .f32) (x4 : Vec F S1x256x1 .f32) (x5 : Vec F S1x1x128 .f32) (x6 : Vec F S256x128 .f32) (x7 : Vec F S1x256x1 .f32) (x8 : Vec F S256x128 .f32) (arg1 : BitVec 32) (v3 : Vec F S256x128 .bf16) (v7 : IVec S256x1 32) (v43 : FVec F S256x128 .bf16) (v47 : FVec F S256x1 .f32) (v50 : FVec F S128x256 .bf16) (v52 : FVec F S128x256 .bf16) (k0_h2 : k0_cond2 i = 1#1) (E : Set ℕ) :
      Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8 ⊢ wp frame (wpE (defs₀ (F := F)) Variants.none (c : Thread nD τ) none) E (k0_part21 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v7 v43 v47 v50 v52 k0_h2)
        (fun y => iprop(⌜y = ⟨(lead21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 arg1 v3 v7 v43 v47 v50 v52 k0_h2).1.1, (lead21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 arg1 v3 v7 v43 v47 v50 v52 k0_h2).1.2.1, (lead21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 arg1 v3 v7 v43 v47 v50 v52 k0_h2).1.2.2.1, (lead21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 arg1 v3 v7 v43 v47 v50 v52 k0_h2).1.2.2.2.1, (lead21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 arg1 v3 v7 v43 v47 v50 v52 k0_h2).1.2.2.2.2.1, (lead21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 arg1 v3 v7 v43 v47 v50 v52 k0_h2).1.2.2.2.2.2.1, (lead21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 arg1 v3 v7 v43 v47 v50 v52 k0_h2).1.2.2.2.2.2.2.1, (lead21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 arg1 v3 v7 v43 v47 v50 v52 k0_h2).1.2.2.2.2.2.2.2⟩⌝ ∗ Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8)) :=
  spelt8 c _ E _ (lead21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 arg1 v3 v7 v43 v47 v50 v52 k0_h2).1 ((lead21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 arg1 v3 v7 v43 v47 v50 v52 k0_h2).2 E)

set_option maxHeartbeats 4000000 in
/-- The loops of fours of the forgetting heads. -/
def fours32 (x0 : Vec F S256x128 .bf16) (x1 : Vec F S4352x128 .bf16) (x2 : Vec F S4352x128 .bf16) (x3 : Vec F S1x1x4352 .f32) (x4 : Vec F S1x256x1 .f32) (x5 : Vec F S1x1x128 .f32) (x6 : Vec F S256x128 .f32) (x7 : Vec F S1x256x1 .f32) (x8 : Vec F S256x128 .f32) (v3 : Vec F S256x128 .bf16) (v43 : FVec F S256x128 .bf16) (v47 : FVec F S256x1 .f32) (v50 : FVec F S128x256 .bf16) (v52 : FVec F S128x256 .bf16) (k0_h6 : k0_cond6 i = 1#1) (v68 : FVec F S256x1 .f32) (v83 : FVec F S256x128 .f32) (v84 : BitVec 32) (v85 : BitVec 32) (v96 : BitVec 1) (v98 : BitVec 1) :
    { R : (Σ' (v118 : FVec F S256x128 .f32) (v120 : BitVec 32) (c0_i32_63 : BitVec 32), BitVec 32) // ∀ (E : Set ℕ),
      Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8 ⊢ wp frame (wpE (defs₀ (F := F)) Variants.none (c : Thread nD τ) none) E (k0_part32 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v43 v47 v50 v52 k0_h6 v68 v83 v84 v85 v96 v98)
        (fun y => iprop(⌜y = R⌝ ∗ Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8)) } := by
  refine ⟨?_, fun E => ?run⟩
  case run =>
    rw [k0_part32_eq_skeleton]
    unfold k0_part32_skel
    (try dsimp only)
    iintro HR
    rw [wp_bind]
    iapply (wp_wand_r frame (wpE (defs₀ (F := F)) Variants.none (c : Thread nD τ) none) E)
    isplitl [HR]
    · iapply (loop_of_trip c (Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8) E (k0_t5_loop i) _ _ _ _ (fun k acc => (trip5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 v3 v43 v47 v50 v52 k0_h6 v68 v83 v84 v85 v96 v98 k).2 E acc)); iexact HR
    iintro %y ⟨%e, HR⟩; subst e
    (try dsimp only)
    rw [wp_bind]
    iapply (wp_wand_r frame (wpE (defs₀ (F := F)) Variants.none (c : Thread nD τ) none) E)
    isplitl [HR]
    · iapply (loop_of_trip c (Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8) E (k0_t6_loop i) _ _ _ _ (fun k acc => (trip6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 v3 v43 v47 v50 v52 k0_h6 v68 v83 v84 v85 v96 v98 _ k).2 E acc)); iexact HR
    iintro %y ⟨%e, HR⟩; subst e
    (try dsimp only)
    sl_step
    isplitr; · ipureintro; rfl
    iexact HR

/-- The same, its results spelt one by one. -/
theorem fours32_run (x0 : Vec F S256x128 .bf16) (x1 : Vec F S4352x128 .bf16) (x2 : Vec F S4352x128 .bf16) (x3 : Vec F S1x1x4352 .f32) (x4 : Vec F S1x256x1 .f32) (x5 : Vec F S1x1x128 .f32) (x6 : Vec F S256x128 .f32) (x7 : Vec F S1x256x1 .f32) (x8 : Vec F S256x128 .f32) (v3 : Vec F S256x128 .bf16) (v43 : FVec F S256x128 .bf16) (v47 : FVec F S256x1 .f32) (v50 : FVec F S128x256 .bf16) (v52 : FVec F S128x256 .bf16) (k0_h6 : k0_cond6 i = 1#1) (v68 : FVec F S256x1 .f32) (v83 : FVec F S256x128 .f32) (v84 : BitVec 32) (v85 : BitVec 32) (v96 : BitVec 1) (v98 : BitVec 1) (E : Set ℕ) :
      Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8 ⊢ wp frame (wpE (defs₀ (F := F)) Variants.none (c : Thread nD τ) none) E (k0_part32 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v43 v47 v50 v52 k0_h6 v68 v83 v84 v85 v96 v98)
        (fun y => iprop(⌜y = ⟨(fours32 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 v3 v43 v47 v50 v52 k0_h6 v68 v83 v84 v85 v96 v98).1.1, (fours32 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 v3 v43 v47 v50 v52 k0_h6 v68 v83 v84 v85 v96 v98).1.2.1, (fours32 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 v3 v43 v47 v50 v52 k0_h6 v68 v83 v84 v85 v96 v98).1.2.2.1, (fours32 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 v3 v43 v47 v50 v52 k0_h6 v68 v83 v84 v85 v96 v98).1.2.2.2⟩⌝ ∗ Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8)) :=
  (fours32 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 v3 v43 v47 v50 v52 k0_h6 v68 v83 v84 v85 v96 v98).2 E

set_option maxHeartbeats 4000000 in
/-- The loops of fours of the stick-breaking heads. -/
def fours22 (x0 : Vec F S256x128 .bf16) (x1 : Vec F S4352x128 .bf16) (x2 : Vec F S4352x128 .bf16) (x3 : Vec F S1x1x4352 .f32) (x4 : Vec F S1x256x1 .f32) (x5 : Vec F S1x1x128 .f32) (x6 : Vec F S256x128 .f32) (x7 : Vec F S1x256x1 .f32) (x8 : Vec F S256x128 .f32) (v3 : Vec F S256x128 .bf16) (v43 : FVec F S256x128 .bf16) (v47 : FVec F S256x1 .f32) (v50 : FVec F S128x256 .bf16) (v52 : FVec F S128x256 .bf16) (k0_h2 : k0_cond2 i = 1#1) (v83 : FVec F S512x256 .bf16) (v99_0 : FVec F S256x1 .f32) (v99_1 : FVec F S256x1 .f32) (v99_2 : FVec F S256x128 .f32) (v100 : BitVec 32) (c4_i32_39 : BitVec 32) (v101 : BitVec 32) (v102 : BitVec 1) :
    { R : (Σ' (v134_0 : FVec F S256x1 .f32) (v134_1 : FVec F S256x1 .f32) (v134_2 : FVec F S256x128 .f32) (v136 : BitVec 32) (c8_i32_56 : BitVec 32) (v137 : BitVec 32) (v142 : BitVec 32), BitVec 32) // ∀ (E : Set ℕ),
      Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8 ⊢ wp frame (wpE (defs₀ (F := F)) Variants.none (c : Thread nD τ) none) E (k0_part22 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v43 v47 v50 v52 k0_h2 v83 v99_0 v99_1 v99_2 v100 c4_i32_39 v101 v102)
        (fun y => iprop(⌜y = R⌝ ∗ Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8)) } := by
  refine ⟨?_, fun E => ?run⟩
  case run =>
    rw [k0_part22_eq_skeleton]
    unfold k0_part22_skel
    (try dsimp only)
    iintro HR
    rw [wp_bind]
    iapply (wp_wand_r frame (wpE (defs₀ (F := F)) Variants.none (c : Thread nD τ) none) E)
    isplitl [HR]
    · iapply (loop_of_trip3 c (Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8) E (k0_t1_loop i) _ _ _ _ (fun k acc => (trip1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 v3 v43 v47 v50 v52 k0_h2 v83 v99_0 v99_1 v99_2 v100 c4_i32_39 v101 v102 k).2 E acc)); iexact HR
    iintro %y ⟨%e, HR⟩; subst e
    (try dsimp only)
    rw [wp_bind]
    iapply (wp_wand_r frame (wpE (defs₀ (F := F)) Variants.none (c : Thread nD τ) none) E)
    isplitl [HR]
    · iapply (loop_of_trip3 c (Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8) E (k0_t2_loop i) _ _ _ _ (fun k acc => (trip2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 v3 v43 v47 v50 v52 k0_h2 v83 v99_0 v99_1 v99_2 v100 c4_i32_39 v101 v102 _ k).2 E acc)); iexact HR
    iintro %y ⟨%e, HR⟩; subst e
    (try dsimp only)
    sl_step
    isplitr; · ipureintro; rfl
    iexact HR

/-- The same, its results spelt one by one. -/
theorem fours22_run (x0 : Vec F S256x128 .bf16) (x1 : Vec F S4352x128 .bf16) (x2 : Vec F S4352x128 .bf16) (x3 : Vec F S1x1x4352 .f32) (x4 : Vec F S1x256x1 .f32) (x5 : Vec F S1x1x128 .f32) (x6 : Vec F S256x128 .f32) (x7 : Vec F S1x256x1 .f32) (x8 : Vec F S256x128 .f32) (v3 : Vec F S256x128 .bf16) (v43 : FVec F S256x128 .bf16) (v47 : FVec F S256x1 .f32) (v50 : FVec F S128x256 .bf16) (v52 : FVec F S128x256 .bf16) (k0_h2 : k0_cond2 i = 1#1) (v83 : FVec F S512x256 .bf16) (v99_0 : FVec F S256x1 .f32) (v99_1 : FVec F S256x1 .f32) (v99_2 : FVec F S256x128 .f32) (v100 : BitVec 32) (c4_i32_39 : BitVec 32) (v101 : BitVec 32) (v102 : BitVec 1) (E : Set ℕ) :
      Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8 ⊢ wp frame (wpE (defs₀ (F := F)) Variants.none (c : Thread nD τ) none) E (k0_part22 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v43 v47 v50 v52 k0_h2 v83 v99_0 v99_1 v99_2 v100 c4_i32_39 v101 v102)
        (fun y => iprop(⌜y = ⟨(fours22 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 v3 v43 v47 v50 v52 k0_h2 v83 v99_0 v99_1 v99_2 v100 c4_i32_39 v101 v102).1.1, (fours22 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 v3 v43 v47 v50 v52 k0_h2 v83 v99_0 v99_1 v99_2 v100 c4_i32_39 v101 v102).1.2.1, (fours22 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 v3 v43 v47 v50 v52 k0_h2 v83 v99_0 v99_1 v99_2 v100 c4_i32_39 v101 v102).1.2.2.1, (fours22 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 v3 v43 v47 v50 v52 k0_h2 v83 v99_0 v99_1 v99_2 v100 c4_i32_39 v101 v102).1.2.2.2.1, (fours22 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 v3 v43 v47 v50 v52 k0_h2 v83 v99_0 v99_1 v99_2 v100 c4_i32_39 v101 v102).1.2.2.2.2.1, (fours22 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 v3 v43 v47 v50 v52 k0_h2 v83 v99_0 v99_1 v99_2 v100 c4_i32_39 v101 v102).1.2.2.2.2.2.1, (fours22 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 v3 v43 v47 v50 v52 k0_h2 v83 v99_0 v99_1 v99_2 v100 c4_i32_39 v101 v102).1.2.2.2.2.2.2.1, (fours22 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 v3 v43 v47 v50 v52 k0_h2 v83 v99_0 v99_1 v99_2 v100 c4_i32_39 v101 v102).1.2.2.2.2.2.2.2⟩⌝ ∗ Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8)) :=
  (fours22 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 v3 v43 v47 v50 v52 k0_h2 v83 v99_0 v99_1 v99_2 v100 c4_i32_39 v101 v102).2 E

/-- The forgetting heads' part of the body. -/
def forgetBlock (arg1 : BitVec 32) (v3 : Vec F S256x128 .bf16) (v7 : IVec S256x1 32) (v8 : Vec F S256x128 .f32) (v33 : FVec F S256x128 .f32) (k0_h6 : k0_cond6 i = 1#1) : Prog (TpuEff nD τ sig (Elt F) Λ₀ .tc) PUnit := do
  let ⟨v68, v83, v84, v85, v96, v98⟩ : Σ' (v68 : FVec F S256x1 .f32) (v83 : FVec F S256x128 .f32) (v84 : BitVec 32) (v85 : BitVec 32) (v96 : BitVec 1), BitVec 1 ← k0_part31 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v7 (k0_pay2 v33) (k0_pay3 v8 v33) (k0_pay4 v3) (k0_pay5 v33) k0_h6 -- statements 1–60 of 135: their part
  let ⟨v118, v120, c0_i32_63, v138⟩ : Σ' (v118 : FVec F S256x128 .f32) (v120 : BitVec 32) (c0_i32_63 : BitVec 32), BitVec 32 ← k0_part32 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 (k0_pay2 v33) (k0_pay3 v8 v33) (k0_pay4 v3) (k0_pay5 v33) k0_h6 v68 v83 v84 v85 v96 v98 -- statements 61–120 of 135: their part
  let v140 : BitVec 32 := Scalar.divsi v138 1#32                      -- %140 = arith.divsi %138, %c1_i32_64 : i32  @ test_k:561
  let v141 : BitVec 32 := Scalar.muli v140 1#32                       -- %141 = arith.muli %140, %c1_i32_64 : i32  @ test_k:561
  let v142 : BitVec 32 := Scalar.addi c0_i32_63 v141                  -- %142 = arith.addi %c0_i32_63, %141 : i32  @ test_k:561
  let v143 : FVec F S256x128 .f32 ← Scf.Loop.for (k0_t7_loop i) (k0_t7_ok i k0_h6) v118 (k0_t7_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v8 v33 k0_h6 v68 v120 c0_i32_63) -- %143 = scf.for %arg18 = %c0_i32_63 to %142 step %c1_i32_65 iter_args(%arg19 = %118) -> (vector<256x128xf32>) : i32 {  @ test_k:561
  let v144 : FVec F S256x128 .f32 ← Scf.Loop.for (k0_t8_loop i) (k0_t8_ok i k0_h6) v143 (k0_t8_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v8 v33 k0_h6 v68 v120 v142) -- %144 = scf.for %arg18 = %142 to %139 step %c1_i32_66 iter_args(%arg19 = %143) -> (vector<256x128xf32>) : i32 {  @ test_k:561
  let v146 : Vec F S256x128 .bf16 ← Prog.lift (.load arg11 (Rect.unit (s := S256x128) ![0, 0] S256x128.size inb_S256x128_S256x128_0_0).toLoadRect (View.loadsAt_vmem h_S256x128)) -- %146 = vector.load %arg11[%c0_67, %c0_68] : memref<256x128xbf16, #tpu.memory_space<vmem>>, vector<256x128xbf16>  @ test_k:714
  Prog.lift (.store arg11 (Rect.unit (s := S256x128) ![0, 0] S256x128.size inb_S256x128_S256x128_0_0) (k0_pay15 v144) Finset.univ (View.stores_vmem h_S256x128 (harg11.storeExact_slice rfl _ packedbf16_S256x128_S256x128_0_0) (fun _ => rfl)) (.inl rfl)) -- tpu.vector_store %arg11[%c0_67, %c0_68], %145 {strides = array<i32>} : memref<256x128xbf16, #tpu.memory_space<vmem>>, vector<256x128xbf16>,  @ test_k:714
  pure ⟨⟩                                                             -- scf.yield / }

set_option maxHeartbeats 4000000 in
/-- What the forgetting heads' part leaves: the inputs as they are, and the tile of query gradients at a function of the inputs' blocks. -/
def forgetRun (x0 : Vec F S256x128 .bf16) (x1 : Vec F S4352x128 .bf16) (x2 : Vec F S4352x128 .bf16) (x3 : Vec F S1x1x4352 .f32) (x4 : Vec F S1x256x1 .f32) (x5 : Vec F S1x1x128 .f32) (x6 : Vec F S256x128 .f32) (x7 : Vec F S1x256x1 .f32) (x8 : Vec F S256x128 .f32) (arg1 : BitVec 32) (v3 : Vec F S256x128 .bf16) (v7 : IVec S256x1 32) (v8 : Vec F S256x128 .f32) (v33 : FVec F S256x128 .f32) (k0_h6 : k0_cond6 i = 1#1) :
    { R : Vec F S256x128 .bf16 // ∀ (E : Set ℕ),
      iprop(Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8 ∗ (∃ f, (arg11.view.loc (c : Thread nD τ) ↦[arg11.view.set]{fullShare} f))) ⊢ wp frame (wpE (defs₀ (F := F)) Variants.none (c : Thread nD τ) none) E (forgetBlock (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v7 v8 v33 k0_h6)
        (fun _ => iprop(Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8 ∗ (∃ f, ⌜arg11.view.read (Elt F) f = R⌝ ∗ (arg11.view.loc (c : Thread nD τ) ↦[arg11.view.set]{fullShare} f)))) } := by
  refine ⟨?_, fun E => ?run⟩
  case run =>
    unfold forgetBlock
    iintro ⟨HR, %f11, H11⟩
    rw [wp_bind]
    iapply (wp_wand_r frame (wpE (defs₀ (F := F)) Variants.none (c : Thread nD τ) none) E)
    isplitl [HR]
    · iapply (lead31_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8); iexact HR
    iintro %y ⟨%e, HR⟩; subst e
    (try dsimp only)
    rw [wp_bind]
    iapply (wp_wand_r frame (wpE (defs₀ (F := F)) Variants.none (c : Thread nD τ) none) E)
    isplitl [HR]
    · iapply (fours32_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8); iexact HR
    iintro %y ⟨%e, HR⟩; subst e
    (try dsimp only)
    rw [wp_bind]
    iapply (wp_wand_r frame (wpE (defs₀ (F := F)) Variants.none (c : Thread nD τ) none) E)
    isplitl [HR]
    · iapply (loop_of_trip c (Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8) E (k0_t7_loop i) _ _ _ _ (fun k acc => (trip7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 v3 v8 v33 k0_h6 _ _ _ k).2 E acc)); iexact HR
    iintro %y ⟨%e, HR⟩; subst e
    (try dsimp only)
    rw [wp_bind]
    iapply (wp_wand_r frame (wpE (defs₀ (F := F)) Variants.none (c : Thread nD τ) none) E)
    isplitl [HR]
    · iapply (loop_of_trip c (Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8) E (k0_t8_loop i) _ _ _ _ (fun k acc => (trip8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 v3 v8 v33 k0_h6 _ _ _ k).2 E acc)); iexact HR
    iintro %y ⟨%e, HR⟩; subst e
    (try dsimp only)
    sl_exec
    sl_step
    isplitl [HR]; · iexact HR
    iexists _; isplitr
    swap; · iexact H11
    ipureintro
    exact View.read_writes_full _ _ _ _ _

/-- The stick-breaking heads' part of the body. -/
def stickBlock (arg1 : BitVec 32) (v3 : Vec F S256x128 .bf16) (v7 : IVec S256x1 32) (v8 : Vec F S256x128 .f32) (v33 : FVec F S256x128 .f32) (k0_h2 : k0_cond2 i = 1#1) : Prog (TpuEff nD τ sig (Elt F) Λ₀ .tc) PUnit := do
  let ⟨v83, v99_0, v99_1, v99_2, v100, c4_i32_39, v101, v102⟩ : Σ' (v83 : FVec F S512x256 .bf16) (v99_0 : FVec F S256x1 .f32) (v99_1 : FVec F S256x1 .f32) (v99_2 : FVec F S256x128 .f32) (v100 : BitVec 32) (c4_i32_39 : BitVec 32) (v101 : BitVec 32), BitVec 1 ← k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v7 (k0_pay2 v33) (k0_pay3 v8 v33) (k0_pay4 v3) (k0_pay5 v33) k0_h2 -- statements 1–60 of 151: their part
  let ⟨v134_0, v134_1, v134_2, v136, c8_i32_56, v137, v142, c0_i32_59⟩ : Σ' (v134_0 : FVec F S256x1 .f32) (v134_1 : FVec F S256x1 .f32) (v134_2 : FVec F S256x128 .f32) (v136 : BitVec 32) (c8_i32_56 : BitVec 32) (v137 : BitVec 32) (v142 : BitVec 32), BitVec 32 ← k0_part22 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 (k0_pay2 v33) (k0_pay3 v8 v33) (k0_pay4 v3) (k0_pay5 v33) k0_h2 v83 v99_0 v99_1 v99_2 v100 c4_i32_39 v101 v102 -- statements 61–120 of 151: their part
  let v143 : BitVec 1 := Scalar.cmpi .sgt c8_i32_56 c0_i32_59         -- %143 = arith.cmpi sgt, %c8_i32_56, %c0_i32_59 : i32
  let v144 : BitVec 32 := Scalar.extui v143                           -- %144 = arith.extui %143 : i1 to i32  @ test_k:673
  let v145 : BitVec 1 := Scalar.cmpi .slt c8_i32_56 0#32              -- %145 = arith.cmpi slt, %c8_i32_56, %c0_i32_60 : i32
  let v146 : BitVec 32 := Scalar.extui v145                           -- %146 = arith.extui %145 : i1 to i32  @ test_k:673
  let v147 : BitVec 32 := Scalar.subi v144 v146                       -- %147 = arith.subi %144, %146 : i32
  let v148 : BitVec 1 := Scalar.cmpi .ne v142 v147                    -- %148 = arith.cmpi ne, %142, %147 : i32
  let v149 : BitVec 32 := Scalar.remsi v136 c8_i32_56                 -- %149 = arith.remsi %136, %c8_i32_56 : i32
  let v150 : BitVec 1 := Scalar.cmpi .ne v149 0#32                    -- %150 = arith.cmpi ne, %149, %c0_i32_61 : i32
  let v151 : BitVec 1 := Scalar.andi v148 v150                        -- %151 = arith.andi %148, %150 : i1
  let v152 : BitVec 32 := Scalar.subi v137 1#32                       -- %152 = arith.subi %137, %c1_i32_62 : i32
  let v153 : BitVec 32 := Scalar.select v151 v152 v137                -- %153 = arith.select %151, %152, %137 : i32
  let v154 : BitVec 32 := Scalar.subi v153 0#32                       -- %154 = arith.subi %153, %c0_i32_63 : i32  @ test_k:561
  let v156 : BitVec 32 := Scalar.divsi v154 1#32                      -- %156 = arith.divsi %154, %c1_i32_64 : i32  @ test_k:561
  let v157 : BitVec 32 := Scalar.muli v156 1#32                       -- %157 = arith.muli %156, %c1_i32_64 : i32  @ test_k:561
  let v158 : BitVec 32 := Scalar.addi 0#32 v157                       -- %158 = arith.addi %c0_i32_63, %157 : i32  @ test_k:561
  let (v159_0, v159_1, v159_2) ← Scf.Loop.for (k0_t3_loop i) (k0_t3_ok i k0_h2) (v134_0, v134_1, v134_2) (k0_t3_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v8 v33 k0_h2 v83 v136) -- %159:3 = scf.for %arg18 = %c0_i32_63 to %158 step %c1_i32_65 iter_args(%arg19 = %134#0, %arg20 = %134#1, %arg21 = %134#2) -> (vector<256x1xf32>, vector<256x1xf32>, vector<256x128xf32>) : i32 {  @ test_k:561
  let (v160_0, v160_1, v160_2) ← Scf.Loop.for (k0_t4_loop i) (k0_t4_ok i k0_h2) (v159_0, v159_1, v159_2) (k0_t4_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v8 v33 k0_h2 v83 v136 v158) -- %160:3 = scf.for %arg18 = %158 to %155 step %c1_i32_66 iter_args(%arg19 = %159#0, %arg20 = %159#1, %arg21 = %159#2) -> (vector<256x1xf32>, vector<256x1xf32>, vector<256x128xf32>) : i32 {  @ test_k:561
  let v162 : Vec F S256x128 .bf16 ← Prog.lift (.load arg11 (Rect.unit (s := S256x128) ![0, 0] S256x128.size inb_S256x128_S256x128_0_0).toLoadRect (View.loadsAt_vmem h_S256x128)) -- %162 = vector.load %arg11[%c0_67, %c0_68] : memref<256x128xbf16, #tpu.memory_space<vmem>>, vector<256x128xbf16>  @ test_k:714
  Prog.lift (.store arg11 (Rect.unit (s := S256x128) ![0, 0] S256x128.size inb_S256x128_S256x128_0_0) (k0_pay10 v160_2) Finset.univ (View.stores_vmem h_S256x128 (harg11.storeExact_slice rfl _ packedbf16_S256x128_S256x128_0_0) (fun _ => rfl)) (.inl rfl)) -- tpu.vector_store %arg11[%c0_67, %c0_68], %161 {strides = array<i32>} : memref<256x128xbf16, #tpu.memory_space<vmem>>, vector<256x128xbf16>,  @ test_k:714
  pure ⟨⟩                                                             -- scf.yield / }

set_option maxHeartbeats 4000000 in
/-- What the stick-breaking heads' part leaves: the inputs as they are, and the tile of query gradients at a function of the inputs' blocks. -/
def stickRun (x0 : Vec F S256x128 .bf16) (x1 : Vec F S4352x128 .bf16) (x2 : Vec F S4352x128 .bf16) (x3 : Vec F S1x1x4352 .f32) (x4 : Vec F S1x256x1 .f32) (x5 : Vec F S1x1x128 .f32) (x6 : Vec F S256x128 .f32) (x7 : Vec F S1x256x1 .f32) (x8 : Vec F S256x128 .f32) (arg1 : BitVec 32) (v3 : Vec F S256x128 .bf16) (v7 : IVec S256x1 32) (v8 : Vec F S256x128 .f32) (v33 : FVec F S256x128 .f32) (k0_h2 : k0_cond2 i = 1#1) :
    { R : Vec F S256x128 .bf16 // ∀ (E : Set ℕ),
      iprop(Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8 ∗ (∃ f, (arg11.view.loc (c : Thread nD τ) ↦[arg11.view.set]{fullShare} f))) ⊢ wp frame (wpE (defs₀ (F := F)) Variants.none (c : Thread nD τ) none) E (stickBlock (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v3 v7 v8 v33 k0_h2)
        (fun _ => iprop(Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8 ∗ (∃ f, ⌜arg11.view.read (Elt F) f = R⌝ ∗ (arg11.view.loc (c : Thread nD τ) ↦[arg11.view.set]{fullShare} f)))) } := by
  refine ⟨?_, fun E => ?run⟩
  case run =>
    unfold stickBlock
    iintro ⟨HR, %f11, H11⟩
    rw [wp_bind]
    iapply (wp_wand_r frame (wpE (defs₀ (F := F)) Variants.none (c : Thread nD τ) none) E)
    isplitl [HR]
    · iapply (lead21_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8); iexact HR
    iintro %y ⟨%e, HR⟩; subst e
    (try dsimp only)
    rw [wp_bind]
    iapply (wp_wand_r frame (wpE (defs₀ (F := F)) Variants.none (c : Thread nD τ) none) E)
    isplitl [HR]
    · iapply (fours22_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8); iexact HR
    iintro %y ⟨%e, HR⟩; subst e
    (try dsimp only)
    rw [wp_bind]
    iapply (wp_wand_r frame (wpE (defs₀ (F := F)) Variants.none (c : Thread nD τ) none) E)
    isplitl [HR]
    · iapply (loop_of_trip3 c (Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8) E (k0_t3_loop i) _ _ _ _ (fun k acc => (trip3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 v3 v8 v33 k0_h2 _ _ k).2 E acc)); iexact HR
    iintro %y ⟨%e, HR⟩; subst e
    (try dsimp only)
    rw [wp_bind]
    iapply (wp_wand_r frame (wpE (defs₀ (F := F)) Variants.none (c : Thread nD τ) none) E)
    isplitl [HR]
    · iapply (loop_of_trip3 c (Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8) E (k0_t4_loop i) _ _ _ _ (fun k acc => (trip4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 v3 v8 v33 k0_h2 _ _ _ k).2 E acc)); iexact HR
    iintro %y ⟨%e, HR⟩; subst e
    (try dsimp only)
    sl_exec
    sl_step
    isplitl [HR]; · iexact HR
    iexists _; isplitr
    swap; · iexact H11
    ipureintro
    exact View.read_writes_full _ _ _ _ _

end Cert.Kernel17Ideal.Hand

end
-- ==== Proof.AttnPoint.lean ====
/- The attention backward body at a point, from the staged blocks to the tile of query gradients. -/
module

public import proofs.«01_k».proof.Proof.AttnBody

@[expose] public section

set_option maxRecDepth 65536

noncomputable section

namespace Cert.Kernel17Ideal.Hand

open Cert.Kernel17Ideal Cert.Kernel17Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords) (arg2 : Memref sig .tc .vmem S256x128 .bf16) (harg2 : arg2.IsWhole) (arg3 : Memref sig .tc .vmem S4352x128 .bf16) (harg3 : arg3.IsWhole) (arg4 : Memref sig .tc .vmem S4352x128 .bf16) (harg4 : arg4.IsWhole) (arg5 : Memref sig .tc .vmem S1x1x4352 .f32) (harg5 : arg5.IsWhole) (arg6 : Memref sig .tc .vmem S1x256x1 .f32) (harg6 : arg6.IsWhole) (arg7 : Memref sig .tc .vmem S1x1x128 .f32) (harg7 : arg7.IsWhole) (arg8 : Memref sig .tc .vmem S256x128 .f32) (harg8 : arg8.IsWhole) (arg9 : Memref sig .tc .vmem S1x256x1 .f32) (harg9 : arg9.IsWhole) (arg10 : Memref sig .tc .vmem S256x128 .f32) (harg10 : arg10.IsWhole) (arg11 : Memref sig .tc .vmem S256x128 .bf16) (harg11 : arg11.IsWhole) (arg12 : Memref sig .tc .vmem S4352x128 .bf16) (harg12 : arg12.IsWhole) (arg13 : Memref sig .tc .vmem S4352x128 .bf16) (harg13 : arg13.IsWhole) (arg14 : Memref sig .tc .vmem S1x1x128 .f32) (harg14 : arg14.IsWhole) (arg15 : Memref sig .tc .vmem S1x1x4352 .f32) (harg15 : arg15.IsWhole) (arg16 : Memref sig .tc .vmem S128x4352 .f32) (harg16 : arg16.IsWhole) (arg17 : Memref sig .tc .vmem S128x4352 .f32) (harg17 : arg17.IsWhole)

set_option maxHeartbeats 4000000 in
/-- What is there of the gradient of the norm's scale is read. -/
theorem read_scale (x0 : Vec F S256x128 .bf16) (x1 : Vec F S4352x128 .bf16) (x2 : Vec F S4352x128 .bf16) (x3 : Vec F S1x1x4352 .f32) (x4 : Vec F S1x256x1 .f32) (x5 : Vec F S1x1x128 .f32) (x6 : Vec F S256x128 .f32) (x7 : Vec F S1x256x1 .f32) (x8 : Vec F S256x128 .f32) (E : Set ℕ) :
    Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8 ⊢ wp frame (wpE (defs₀ (F := F)) Variants.none (c : Thread nD τ) none) E (Prog.lift (.load arg14 (Rect.unit (s := S1x1x128) ![0, 0, 0] S1x1x128.size inb_S1x1x128_S1x1x128_0_0_0).toLoadRect (View.loadsAt_vmem h_S1x1x128)) : Prog (TpuEff nD τ sig (Elt F) Λ₀ .tc) (Vec F S1x1x128 .f32)) (fun _ => Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8) := by
  iintro ⟨H2, H3, H4, H5, H6, H7, H8, H9, H10, ⟨%f12, H12⟩, ⟨%f13, H13⟩, ⟨%f14, H14⟩, ⟨%f15, H15⟩, ⟨%f16, H16⟩, ⟨%f17, H17⟩⟩
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H12]; · iexists _; iexact H12
  isplitl [H13]; · iexists _; iexact H13
  isplitl [H14]; · iexists _; iexact H14
  isplitl [H15]; · iexists _; iexact H15
  isplitl [H16]; · iexists _; iexact H16
  iexists _; iexact H17

set_option maxHeartbeats 4000000 in
/-- The row tile's share of the gradient of the norm's scale is added to what is there. -/
theorem store_scale (x0 : Vec F S256x128 .bf16) (x1 : Vec F S4352x128 .bf16) (x2 : Vec F S4352x128 .bf16) (x3 : Vec F S1x1x4352 .f32) (x4 : Vec F S1x256x1 .f32) (x5 : Vec F S1x1x128 .f32) (x6 : Vec F S256x128 .f32) (x7 : Vec F S1x256x1 .f32) (x8 : Vec F S256x128 .f32) (v34 : FVec F S256x128 .f32) (v36 : FVec F S1x128 .f32) (E : Set ℕ) :
    Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8 ⊢ wp frame (wpE (defs₀ (F := F)) Variants.none (c : Thread nD τ) none) E (Prog.lift (.store arg14 (Rect.unit (s := S1x1x128) ![0, 0, 0] S1x1x128.size inb_S1x1x128_S1x1x128_0_0_0) (k0_pay1 v34 v36) Finset.univ (View.stores_vmem_bits_univ h_S1x1x128 rfl) (.inl rfl)) : Prog (TpuEff nD τ sig (Elt F) Λ₀ .tc) (PUnit)) (fun _ => Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8) := by
  iintro ⟨H2, H3, H4, H5, H6, H7, H8, H9, H10, ⟨%f12, H12⟩, ⟨%f13, H13⟩, ⟨%f14, H14⟩, ⟨%f15, H15⟩, ⟨%f16, H16⟩, ⟨%f17, H17⟩⟩
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H12]; · iexists _; iexact H12
  isplitl [H13]; · iexists _; iexact H13
  isplitl [H14]; · iexists _; iexact H14
  isplitl [H15]; · iexists _; iexact H15
  isplitl [H16]; · iexists _; iexact H16
  iexists _; iexact H17

set_option maxHeartbeats 4000000 in
/-- The start of the body: the scratch is cleared at a head's first row tile, and the row tile's own blocks are read. -/
theorem start_run (x0 : Vec F S256x128 .bf16) (x1 : Vec F S4352x128 .bf16) (x2 : Vec F S4352x128 .bf16) (x3 : Vec F S1x1x4352 .f32) (x4 : Vec F S1x256x1 .f32) (x5 : Vec F S1x1x128 .f32) (x6 : Vec F S256x128 .f32) (x7 : Vec F S1x256x1 .f32) (x8 : Vec F S256x128 .f32) (E : Set ℕ) :
    Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8 ⊢ wp frame (wpE (defs₀ (F := F)) Variants.none (c : Thread nD τ) none) E (k0_part33 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
      (fun y => iprop(∃ u, ⌜y = ⟨BitVec.ofNat 32 (i 0).val, BitVec.ofNat 32 (i 1).val, (View.readAt (Elt F) arg2.view (Rect.unit (s := S256x128) ![0, 0] S256x128.size inb_S256x128_S256x128_0_0).toLoadRect (harg2.unread x0)), k0_pay348 i, (View.readAt (Elt F) arg8.view (Rect.unit (s := S256x128) ![0, 0] S256x128.size inb_S256x128_S256x128_0_0).toLoadRect (harg8.unread x6)), k0_pay351 (View.readAt (Elt F) arg8.view (Rect.unit (s := S256x128) ![0, 0] S256x128.size inb_S256x128_S256x128_0_0).toLoadRect (harg8.unread x6)) (View.readAt (Elt F) arg7.view (Rect.unit (s := S1x1x128) ![0, 0, 0] S1x1x128.size inb_S1x1x128_S1x1x128_0_0_0).toLoadRect (harg7.unread x5)) (View.readAt (Elt F) arg10.view (Rect.unit (s := S256x128) ![0, 0] S256x128.size inb_S256x128_S256x128_0_0).toLoadRect (harg10.unread x8)), k0_pay352 (View.readAt (Elt F) arg8.view (Rect.unit (s := S256x128) ![0, 0] S256x128.size inb_S256x128_S256x128_0_0).toLoadRect (harg8.unread x6)) (View.readAt (Elt F) arg10.view (Rect.unit (s := S256x128) ![0, 0] S256x128.size inb_S256x128_S256x128_0_0).toLoadRect (harg10.unread x8)), u⟩⌝ ∗ Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8)) := by
  rw [k0_part33_eq_skeleton]
  unfold k0_part33_skel
  by_cases k0_h1 : k0_cond1 i = 1#1
  · simp only [dif_pos k0_h1]
    iintro ⟨H2, H3, H4, H5, H6, H7, H8, H9, H10, ⟨%f12, H12⟩, ⟨%f13, H13⟩, ⟨%f14, H14⟩, ⟨%f15, H15⟩, ⟨%f16, H16⟩, ⟨%f17, H17⟩⟩
    sl_exec
    sl_step
    iexists _
    isplitr; · ipureintro; rfl
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H12]; · iexists _; iexact H12
    isplitl [H13]; · iexists _; iexact H13
    isplitl [H14]; · iexists _; iexact H14
    isplitl [H15]; · iexists _; iexact H15
    isplitl [H16]; · iexists _; iexact H16
    iexists _; iexact H17
  · simp only [dif_neg k0_h1]
    iintro ⟨H2, H3, H4, H5, H6, H7, H8, H9, H10, ⟨%f12, H12⟩, ⟨%f13, H13⟩, ⟨%f14, H14⟩, ⟨%f15, H15⟩, ⟨%f16, H16⟩, ⟨%f17, H17⟩⟩
    sl_exec
    sl_step
    iexists _
    isplitr; · ipureintro; rfl
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H12]; · iexists _; iexact H12
    isplitl [H13]; · iexists _; iexact H13
    isplitl [H14]; · iexists _; iexact H14
    isplitl [H15]; · iexists _; iexact H15
    isplitl [H16]; · iexists _; iexact H16
    iexists _; iexact H17

set_option maxHeartbeats 4000000 in
/-- The body at a point of a stick-breaking head: the inputs are left as they are, and the tile of query gradients is a function of their blocks. -/
def stickBody (x0 : Vec F S256x128 .bf16) (x1 : Vec F S4352x128 .bf16) (x2 : Vec F S4352x128 .bf16) (x3 : Vec F S1x1x4352 .f32) (x4 : Vec F S1x256x1 .f32) (x5 : Vec F S1x1x128 .f32) (x6 : Vec F S256x128 .f32) (x7 : Vec F S1x256x1 .f32) (x8 : Vec F S256x128 .f32) (k0_h2 : k0_cond2 i = 1#1) (k0_h6 : ¬ k0_cond6 i = 1#1) :
    { R : Vec F S256x128 .bf16 // ∀ (E : Set ℕ),
      iprop(Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8 ∗ (∃ f, (arg11.view.loc (c : Thread nD τ) ↦[arg11.view.set]{fullShare} f))) ⊢ wp frame (wpE (defs₀ (F := F)) Variants.none (c : Thread nD τ) none) E (cc0_attn_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
        (fun _ => iprop(Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8 ∗ (∃ f, ⌜arg11.view.read (Elt F) f = R⌝ ∗ (arg11.view.loc (c : Thread nD τ) ↦[arg11.view.set]{fullShare} f)))) } := by
  refine ⟨?_, fun E => ?run⟩
  case run =>
    rw [cc0_attn_bwd_eq_skeleton]
    unfold cc0_attn_bwd_skel
    simp only [dif_pos k0_h2, dif_neg k0_h6]
    by_cases k0_h10 : k0_cond10 i = 1#1
    · simp only [dif_pos k0_h10]
      iintro ⟨HR, %f11, H11⟩
      rw [wp_bind]
      iapply (wp_wand_r frame (wpE (defs₀ (F := F)) Variants.none (c : Thread nD τ) none) E)
      isplitl [HR]
      · iapply (start_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 E); iexact HR
      iintro %y ⟨%u, %e, HR⟩; subst e
      dsimp only
      rw [wp_bind]
      iapply (wp_wand_r frame (wpE (defs₀ (F := F)) Variants.none (c : Thread nD τ) none) E)
      isplitl [HR]
      · iapply (read_scale c arg2 harg2 arg3 harg3 arg4 harg4 arg5 harg5 arg6 harg6 arg7 harg7 arg8 harg8 arg9 harg9 arg10 harg10 arg12 arg13 arg14 arg15 arg16 arg17 x0 x1 x2 x3 x4 x5 x6 x7 x8); iexact HR
      iintro %yread HR
      rw [wp_bind]
      iapply (wp_wand_r frame (wpE (defs₀ (F := F)) Variants.none (c : Thread nD τ) none) E)
      isplitl [HR]
      · iapply (store_scale c arg2 harg2 arg3 harg3 arg4 harg4 arg5 harg5 arg6 harg6 arg7 harg7 arg8 harg8 arg9 harg9 arg10 harg10 arg12 arg13 arg14 arg15 arg16 arg17 x0 x1 x2 x3 x4 x5 x6 x7 x8 _ _); iexact HR
      iintro %ystore HR
      rw [wp_bind]
      iapply (wp_wand_r frame (wpE (defs₀ (F := F)) Variants.none (c : Thread nD τ) none) E)
      isplitl [HR]
      · iapply (lead21_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8); iexact HR
      iintro %y ⟨%e, HR⟩; subst e
      (try dsimp only)
      rw [wp_bind]
      iapply (wp_wand_r frame (wpE (defs₀ (F := F)) Variants.none (c : Thread nD τ) none) E)
      isplitl [HR]
      · iapply (fours22_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8); iexact HR
      iintro %y ⟨%e, HR⟩; subst e
      (try dsimp only)
      rw [wp_bind]
      iapply (wp_wand_r frame (wpE (defs₀ (F := F)) Variants.none (c : Thread nD τ) none) E)
      isplitl [HR]
      · iapply (loop_of_trip3 c (Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8) E (k0_t3_loop i) _ _ _ _ (fun k acc => (trip3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 _ _ _ k0_h2 _ _ k).2 E acc)); iexact HR
      iintro %y ⟨%e, HR⟩; subst e
      (try dsimp only)
      rw [wp_bind]
      iapply (wp_wand_r frame (wpE (defs₀ (F := F)) Variants.none (c : Thread nD τ) none) E)
      isplitl [HR]
      · iapply (loop_of_trip3 c (Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8) E (k0_t4_loop i) _ _ _ _ (fun k acc => (trip4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 _ _ _ k0_h2 _ _ _ k).2 E acc)); iexact HR
      iintro %y ⟨%e, ⟨H2, H3, H4, H5, H6, H7, H8, H9, H10, ⟨%f12, H12⟩, ⟨%f13, H13⟩, ⟨%f14, H14⟩, ⟨%f15, H15⟩, ⟨%f16, H16⟩, ⟨%f17, H17⟩⟩⟩; subst e
      (try dsimp only)
      sl_exec
      sl_step
      isplitr [H11]
      · isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H12]; · iexists _; iexact H12
        isplitl [H13]; · iexists _; iexact H13
        isplitl [H14]; · iexists _; iexact H14
        isplitl [H15]; · iexists _; iexact H15
        isplitl [H16]; · iexists _; iexact H16
        iexists _; iexact H17
      iexists _; isplitr
      swap; · iexact H11
      ipureintro; exact View.read_writes_full _ _ _ _ _
    · simp only [dif_neg k0_h10]
      iintro ⟨HR, %f11, H11⟩
      rw [wp_bind]
      iapply (wp_wand_r frame (wpE (defs₀ (F := F)) Variants.none (c : Thread nD τ) none) E)
      isplitl [HR]
      · iapply (start_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 E); iexact HR
      iintro %y ⟨%u, %e, HR⟩; subst e
      dsimp only
      rw [wp_bind]
      iapply (wp_wand_r frame (wpE (defs₀ (F := F)) Variants.none (c : Thread nD τ) none) E)
      isplitl [HR]
      · iapply (read_scale c arg2 harg2 arg3 harg3 arg4 harg4 arg5 harg5 arg6 harg6 arg7 harg7 arg8 harg8 arg9 harg9 arg10 harg10 arg12 arg13 arg14 arg15 arg16 arg17 x0 x1 x2 x3 x4 x5 x6 x7 x8); iexact HR
      iintro %yread HR
      rw [wp_bind]
      iapply (wp_wand_r frame (wpE (defs₀ (F := F)) Variants.none (c : Thread nD τ) none) E)
      isplitl [HR]
      · iapply (store_scale c arg2 harg2 arg3 harg3 arg4 harg4 arg5 harg5 arg6 harg6 arg7 harg7 arg8 harg8 arg9 harg9 arg10 harg10 arg12 arg13 arg14 arg15 arg16 arg17 x0 x1 x2 x3 x4 x5 x6 x7 x8 _ _); iexact HR
      iintro %ystore HR
      rw [wp_bind]
      iapply (wp_wand_r frame (wpE (defs₀ (F := F)) Variants.none (c : Thread nD τ) none) E)
      isplitl [HR]
      · iapply (lead21_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8); iexact HR
      iintro %y ⟨%e, HR⟩; subst e
      (try dsimp only)
      rw [wp_bind]
      iapply (wp_wand_r frame (wpE (defs₀ (F := F)) Variants.none (c : Thread nD τ) none) E)
      isplitl [HR]
      · iapply (fours22_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8); iexact HR
      iintro %y ⟨%e, HR⟩; subst e
      (try dsimp only)
      rw [wp_bind]
      iapply (wp_wand_r frame (wpE (defs₀ (F := F)) Variants.none (c : Thread nD τ) none) E)
      isplitl [HR]
      · iapply (loop_of_trip3 c (Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8) E (k0_t3_loop i) _ _ _ _ (fun k acc => (trip3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 _ _ _ k0_h2 _ _ k).2 E acc)); iexact HR
      iintro %y ⟨%e, HR⟩; subst e
      (try dsimp only)
      rw [wp_bind]
      iapply (wp_wand_r frame (wpE (defs₀ (F := F)) Variants.none (c : Thread nD τ) none) E)
      isplitl [HR]
      · iapply (loop_of_trip3 c (Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8) E (k0_t4_loop i) _ _ _ _ (fun k acc => (trip4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 _ _ _ k0_h2 _ _ _ k).2 E acc)); iexact HR
      iintro %y ⟨%e, ⟨H2, H3, H4, H5, H6, H7, H8, H9, H10, ⟨%f12, H12⟩, ⟨%f13, H13⟩, ⟨%f14, H14⟩, ⟨%f15, H15⟩, ⟨%f16, H16⟩, ⟨%f17, H17⟩⟩⟩; subst e
      (try dsimp only)
      sl_exec
      sl_step
      isplitr [H11]
      · isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H12]; · iexists _; iexact H12
        isplitl [H13]; · iexists _; iexact H13
        isplitl [H14]; · iexists _; iexact H14
        isplitl [H15]; · iexists _; iexact H15
        isplitl [H16]; · iexists _; iexact H16
        iexists _; iexact H17
      iexists _; isplitr
      swap; · iexact H11
      ipureintro; exact View.read_writes_full _ _ _ _ _

set_option maxHeartbeats 4000000 in
/-- The body at a point of a forgetting head: the inputs are left as they are, and the tile of query gradients is a function of their blocks. -/
def forgetBody (x0 : Vec F S256x128 .bf16) (x1 : Vec F S4352x128 .bf16) (x2 : Vec F S4352x128 .bf16) (x3 : Vec F S1x1x4352 .f32) (x4 : Vec F S1x256x1 .f32) (x5 : Vec F S1x1x128 .f32) (x6 : Vec F S256x128 .f32) (x7 : Vec F S1x256x1 .f32) (x8 : Vec F S256x128 .f32) (k0_h6 : k0_cond6 i = 1#1) (k0_h2 : ¬ k0_cond2 i = 1#1) :
    { R : Vec F S256x128 .bf16 // ∀ (E : Set ℕ),
      iprop(Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8 ∗ (∃ f, (arg11.view.loc (c : Thread nD τ) ↦[arg11.view.set]{fullShare} f))) ⊢ wp frame (wpE (defs₀ (F := F)) Variants.none (c : Thread nD τ) none) E (cc0_attn_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
        (fun _ => iprop(Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8 ∗ (∃ f, ⌜arg11.view.read (Elt F) f = R⌝ ∗ (arg11.view.loc (c : Thread nD τ) ↦[arg11.view.set]{fullShare} f)))) } := by
  refine ⟨?_, fun E => ?run⟩
  case run =>
    rw [cc0_attn_bwd_eq_skeleton]
    unfold cc0_attn_bwd_skel
    simp only [dif_pos k0_h6, dif_neg k0_h2]
    by_cases k0_h10 : k0_cond10 i = 1#1
    · simp only [dif_pos k0_h10]
      iintro ⟨HR, %f11, H11⟩
      rw [wp_bind]
      iapply (wp_wand_r frame (wpE (defs₀ (F := F)) Variants.none (c : Thread nD τ) none) E)
      isplitl [HR]
      · iapply (start_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 E); iexact HR
      iintro %y ⟨%u, %e, HR⟩; subst e
      dsimp only
      rw [wp_bind]
      iapply (wp_wand_r frame (wpE (defs₀ (F := F)) Variants.none (c : Thread nD τ) none) E)
      isplitl [HR]
      · iapply (read_scale c arg2 harg2 arg3 harg3 arg4 harg4 arg5 harg5 arg6 harg6 arg7 harg7 arg8 harg8 arg9 harg9 arg10 harg10 arg12 arg13 arg14 arg15 arg16 arg17 x0 x1 x2 x3 x4 x5 x6 x7 x8); iexact HR
      iintro %yread HR
      rw [wp_bind]
      iapply (wp_wand_r frame (wpE (defs₀ (F := F)) Variants.none (c : Thread nD τ) none) E)
      isplitl [HR]
      · iapply (store_scale c arg2 harg2 arg3 harg3 arg4 harg4 arg5 harg5 arg6 harg6 arg7 harg7 arg8 harg8 arg9 harg9 arg10 harg10 arg12 arg13 arg14 arg15 arg16 arg17 x0 x1 x2 x3 x4 x5 x6 x7 x8 _ _); iexact HR
      iintro %ystore HR
      rw [wp_bind]
      iapply (wp_wand_r frame (wpE (defs₀ (F := F)) Variants.none (c : Thread nD τ) none) E)
      isplitl [HR]
      · iapply (lead31_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8); iexact HR
      iintro %y ⟨%e, HR⟩; subst e
      (try dsimp only)
      rw [wp_bind]
      iapply (wp_wand_r frame (wpE (defs₀ (F := F)) Variants.none (c : Thread nD τ) none) E)
      isplitl [HR]
      · iapply (fours32_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8); iexact HR
      iintro %y ⟨%e, HR⟩; subst e
      (try dsimp only)
      rw [wp_bind]
      iapply (wp_wand_r frame (wpE (defs₀ (F := F)) Variants.none (c : Thread nD τ) none) E)
      isplitl [HR]
      · iapply (loop_of_trip c (Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8) E (k0_t7_loop i) _ _ _ _ (fun k acc => (trip7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 _ _ _ k0_h6 _ _ _ k).2 E acc)); iexact HR
      iintro %y ⟨%e, HR⟩; subst e
      (try dsimp only)
      rw [wp_bind]
      iapply (wp_wand_r frame (wpE (defs₀ (F := F)) Variants.none (c : Thread nD τ) none) E)
      isplitl [HR]
      · iapply (loop_of_trip c (Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8) E (k0_t8_loop i) _ _ _ _ (fun k acc => (trip8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 _ _ _ k0_h6 _ _ _ k).2 E acc)); iexact HR
      iintro %y ⟨%e, ⟨H2, H3, H4, H5, H6, H7, H8, H9, H10, ⟨%f12, H12⟩, ⟨%f13, H13⟩, ⟨%f14, H14⟩, ⟨%f15, H15⟩, ⟨%f16, H16⟩, ⟨%f17, H17⟩⟩⟩; subst e
      (try dsimp only)
      sl_exec
      sl_step
      isplitr [H11]
      · isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H12]; · iexists _; iexact H12
        isplitl [H13]; · iexists _; iexact H13
        isplitl [H14]; · iexists _; iexact H14
        isplitl [H15]; · iexists _; iexact H15
        isplitl [H16]; · iexists _; iexact H16
        iexists _; iexact H17
      iexists _; isplitr
      swap; · iexact H11
      ipureintro; exact View.read_writes_full _ _ _ _ _
    · simp only [dif_neg k0_h10]
      iintro ⟨HR, %f11, H11⟩
      rw [wp_bind]
      iapply (wp_wand_r frame (wpE (defs₀ (F := F)) Variants.none (c : Thread nD τ) none) E)
      isplitl [HR]
      · iapply (start_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 E); iexact HR
      iintro %y ⟨%u, %e, HR⟩; subst e
      dsimp only
      rw [wp_bind]
      iapply (wp_wand_r frame (wpE (defs₀ (F := F)) Variants.none (c : Thread nD τ) none) E)
      isplitl [HR]
      · iapply (read_scale c arg2 harg2 arg3 harg3 arg4 harg4 arg5 harg5 arg6 harg6 arg7 harg7 arg8 harg8 arg9 harg9 arg10 harg10 arg12 arg13 arg14 arg15 arg16 arg17 x0 x1 x2 x3 x4 x5 x6 x7 x8); iexact HR
      iintro %yread HR
      rw [wp_bind]
      iapply (wp_wand_r frame (wpE (defs₀ (F := F)) Variants.none (c : Thread nD τ) none) E)
      isplitl [HR]
      · iapply (store_scale c arg2 harg2 arg3 harg3 arg4 harg4 arg5 harg5 arg6 harg6 arg7 harg7 arg8 harg8 arg9 harg9 arg10 harg10 arg12 arg13 arg14 arg15 arg16 arg17 x0 x1 x2 x3 x4 x5 x6 x7 x8 _ _); iexact HR
      iintro %ystore HR
      rw [wp_bind]
      iapply (wp_wand_r frame (wpE (defs₀ (F := F)) Variants.none (c : Thread nD τ) none) E)
      isplitl [HR]
      · iapply (lead31_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8); iexact HR
      iintro %y ⟨%e, HR⟩; subst e
      (try dsimp only)
      rw [wp_bind]
      iapply (wp_wand_r frame (wpE (defs₀ (F := F)) Variants.none (c : Thread nD τ) none) E)
      isplitl [HR]
      · iapply (fours32_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8); iexact HR
      iintro %y ⟨%e, HR⟩; subst e
      (try dsimp only)
      rw [wp_bind]
      iapply (wp_wand_r frame (wpE (defs₀ (F := F)) Variants.none (c : Thread nD τ) none) E)
      isplitl [HR]
      · iapply (loop_of_trip c (Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8) E (k0_t7_loop i) _ _ _ _ (fun k acc => (trip7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 _ _ _ k0_h6 _ _ _ k).2 E acc)); iexact HR
      iintro %y ⟨%e, HR⟩; subst e
      (try dsimp only)
      rw [wp_bind]
      iapply (wp_wand_r frame (wpE (defs₀ (F := F)) Variants.none (c : Thread nD τ) none) E)
      isplitl [HR]
      · iapply (loop_of_trip c (Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8) E (k0_t8_loop i) _ _ _ _ (fun k acc => (trip8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 _ _ _ k0_h6 _ _ _ k).2 E acc)); iexact HR
      iintro %y ⟨%e, ⟨H2, H3, H4, H5, H6, H7, H8, H9, H10, ⟨%f12, H12⟩, ⟨%f13, H13⟩, ⟨%f14, H14⟩, ⟨%f15, H15⟩, ⟨%f16, H16⟩, ⟨%f17, H17⟩⟩⟩; subst e
      (try dsimp only)
      sl_exec
      sl_step
      isplitr [H11]
      · isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H12]; · iexists _; iexact H12
        isplitl [H13]; · iexists _; iexact H13
        isplitl [H14]; · iexists _; iexact H14
        isplitl [H15]; · iexists _; iexact H15
        isplitl [H16]; · iexists _; iexact H16
        iexists _; iexact H17
      iexists _; isplitr
      swap; · iexact H11
      ipureintro; exact View.read_writes_full _ _ _ _ _

end Cert.Kernel17Ideal.Hand

end
-- ==== Proof.AttnFrame.lean ====
/- The attention backward body at every point of the grid. -/
module

public import proofs.«01_k».proof.Proof.AttnPoint
public import proofs.«01_k».proof.Proof.Gen.Kernel17Ideal.Frame

@[expose] public section

set_option maxRecDepth 65536

noncomputable section

namespace Cert.Kernel17Ideal.Hand

open Cert.Kernel17Ideal Cert.Kernel17Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Point
variable (c : Dev nD) (i : grid0.Coords) (arg2 : Memref sig .tc .vmem S256x128 .bf16) (harg2 : arg2.IsWhole) (arg3 : Memref sig .tc .vmem S4352x128 .bf16) (harg3 : arg3.IsWhole) (arg4 : Memref sig .tc .vmem S4352x128 .bf16) (harg4 : arg4.IsWhole) (arg5 : Memref sig .tc .vmem S1x1x4352 .f32) (harg5 : arg5.IsWhole) (arg6 : Memref sig .tc .vmem S1x256x1 .f32) (harg6 : arg6.IsWhole) (arg7 : Memref sig .tc .vmem S1x1x128 .f32) (harg7 : arg7.IsWhole) (arg8 : Memref sig .tc .vmem S256x128 .f32) (harg8 : arg8.IsWhole) (arg9 : Memref sig .tc .vmem S1x256x1 .f32) (harg9 : arg9.IsWhole) (arg10 : Memref sig .tc .vmem S256x128 .f32) (harg10 : arg10.IsWhole) (arg11 : Memref sig .tc .vmem S256x128 .bf16) (harg11 : arg11.IsWhole) (arg12 : Memref sig .tc .vmem S4352x128 .bf16) (harg12 : arg12.IsWhole) (arg13 : Memref sig .tc .vmem S4352x128 .bf16) (harg13 : arg13.IsWhole) (arg14 : Memref sig .tc .vmem S1x1x128 .f32) (harg14 : arg14.IsWhole) (arg15 : Memref sig .tc .vmem S1x1x4352 .f32) (harg15 : arg15.IsWhole) (arg16 : Memref sig .tc .vmem S128x4352 .f32) (harg16 : arg16.IsWhole) (arg17 : Memref sig .tc .vmem S128x4352 .f32) (harg17 : arg17.IsWhole)

/-- The tile of query gradients a point leaves: the stick-breaking body's or the forgetting body's. -/
def tileOf (x0 : Vec F S256x128 .bf16) (x1 : Vec F S4352x128 .bf16) (x2 : Vec F S4352x128 .bf16) (x3 : Vec F S1x1x4352 .f32) (x4 : Vec F S1x256x1 .f32) (x5 : Vec F S1x1x128 .f32) (x6 : Vec F S256x128 .f32) (x7 : Vec F S1x256x1 .f32) (x8 : Vec F S256x128 .f32) : Vec F S256x128 .bf16 :=
  if h2 : k0_cond2 i = 1#1 then
    if h6 : k0_cond6 i = 1#1 then x0
    else (stickBody c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 h2 h6).1
  else if h6 : k0_cond6 i = 1#1 then (forgetBody c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 h6 h2).1
  else x0

/-- The body at a point, whichever kind its head is. -/
theorem point_run (x0 : Vec F S256x128 .bf16) (x1 : Vec F S4352x128 .bf16) (x2 : Vec F S4352x128 .bf16) (x3 : Vec F S1x1x4352 .f32) (x4 : Vec F S1x256x1 .f32) (x5 : Vec F S1x1x128 .f32) (x6 : Vec F S256x128 .f32) (x7 : Vec F S1x256x1 .f32) (x8 : Vec F S256x128 .f32) (hx : k0_cond6 i = 1#1 ↔ ¬ k0_cond2 i = 1#1) (E : Set ℕ) :
    iprop(Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8 ∗ (∃ f, (arg11.view.loc (c : Thread nD τ) ↦[arg11.view.set]{fullShare} f))) ⊢ wp frame (wpE (defs₀ (F := F)) Variants.none (c : Thread nD τ) none) E (cc0_attn_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
        (fun _ => iprop(Res c arg2 harg2 arg3 harg3 arg4 harg4 arg5 harg5 arg6 harg6 arg7 harg7 arg8 harg8 arg9 harg9 arg10 harg10 arg12 arg13 arg14 arg15 arg16 arg17 x0 x1 x2 x3 x4 x5 x6 x7 x8 ∗ (∃ f, ⌜arg11.view.read (Elt F) f = tileOf c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8⌝ ∗ (arg11.view.loc (c : Thread nD τ) ↦[arg11.view.set]{fullShare} f)))) := by
  by_cases h2 : k0_cond2 i = 1#1
  · have h6 : ¬ k0_cond6 i = 1#1 := fun h => hx.mp h h2
    rw [show tileOf c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 = (stickBody c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 h2 h6).1 from (dif_pos h2).trans (dif_neg h6)]
    exact (stickBody c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 h2 h6).2 E
  · have h6 : k0_cond6 i = 1#1 := hx.mpr h2
    rw [show tileOf c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 = (forgetBody c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 h6 h2).1 from (dif_neg h2).trans (dif_pos h6)]
    exact (forgetBody c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 h6 h2).2 E
end Point

variable (m : (ℓ : Loc nD τ sig) → Buf (Elt F) ℓ) (ρ : Dev nD → PrngReg)

/-- At every point the head is of exactly one kind. -/
theorem one_kind : ∀ t : Fin grid0.N, k0_cond6 (grid0.coords t) = 1#1 ↔ ¬ k0_cond2 (grid0.coords t) = 1#1 := by decide +kernel

/-- The windows whose contents nothing here names: the gradients gathered over a head's row tiles. -/
def loosed : Fin 14 → Bool := fun w => match w with
  | ⟨10, _⟩ => true
  | ⟨11, _⟩ => true
  | ⟨12, _⟩ => true
  | ⟨13, _⟩ => true
  | _ => false

/-- The tile of query gradients of a point, from the blocks its windows stage. -/
def dqTile (c : Dev nD) (t : Fin cfg0.N) : Vec F S256x128 .bf16 :=
  tileOf c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t) (iblk m c 8 t)

/-- The launch's data on a core: the arrays as they are found, each input's buffer at its block, the query gradients' at the point's tile. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => dqTile m c t
    | ⟨10, h⟩ => Dat.unnamed (cfg := cfg0) ⟨10, h⟩ t
    | ⟨11, h⟩ => Dat.unnamed (cfg := cfg0) ⟨11, h⟩ t
    | ⟨12, h⟩ => Dat.unnamed (cfg := cfg0) ⟨12, h⟩ t
    | ⟨13, h⟩ => Dat.unnamed (cfg := cfg0) ⟨13, h⟩ t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = dqTile m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- What is held between points: the two scratch buffers at some contents, and the generator register. -/
theorem held_eq (c : Dev nD) :
    (Pipeline.ΦA spec0 c : sProp 𝕄) = iprop(((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ X, owns (c : Thread nD τ) (st0_10 t) fullShare X)
    ∗ (∃ X, owns (c : Thread nD τ) (st0_11 t) fullShare X)
    ∗ (∃ X, owns (c : Thread nD τ) (st0_12 t) fullShare X)
    ∗ (∃ X, owns (c : Thread nD τ) (st0_13 t) fullShare X))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ (∃ X, owns (c : Thread nD τ) (st0_10 t) fullShare X)
    ∗ (∃ X, owns (c : Thread nD τ) (st0_11 t) fullShare X)
    ∗ (∃ X, owns (c : Thread nD τ) (st0_12 t) fullShare X)
    ∗ (∃ X, owns (c : Thread nD τ) (st0_13 t) fullShare X))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, held_eq,
    after0_0, after0_1, after0_2, after0_3, after0_4, after0_5, after0_6, after0_7, after0_8, after0_9]
  unfold owns
  iintro ⟨⟨⟨⟨%ds0, %fs0, -, S0⟩, ⟨%ds1, %fs1, -, S1⟩⟩, Hg⟩, Ho, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d9, %f9, -, H9⟩, ⟨%d10, %f10, -, H10⟩, ⟨%d11, %f11, -, H11⟩, ⟨%d12, %f12, -, H12⟩, ⟨%d13, %f13, -, H13⟩⟩
  obtain rfl := (hstage0_0 ((cfg0.slots t 0).cast nbuf0_0)).eq_unread e0
  obtain rfl := (hstage0_1 ((cfg0.slots t 1).cast nbuf0_1)).eq_unread e1
  obtain rfl := (hstage0_2 ((cfg0.slots t 2).cast nbuf0_2)).eq_unread e2
  obtain rfl := (hstage0_3 ((cfg0.slots t 3).cast nbuf0_3)).eq_unread e3
  obtain rfl := (hstage0_4 ((cfg0.slots t 4).cast nbuf0_4)).eq_unread e4
  obtain rfl := (hstage0_5 ((cfg0.slots t 5).cast nbuf0_5)).eq_unread e5
  obtain rfl := (hstage0_6 ((cfg0.slots t 6).cast nbuf0_6)).eq_unread e6
  obtain rfl := (hstage0_7 ((cfg0.slots t 7).cast nbuf0_7)).eq_unread e7
  obtain rfl := (hstage0_8 ((cfg0.slots t 8).cast nbuf0_8)).eq_unread e8
  iapply (wp_wand_r frame (wpE (defs₀ (F := F)) Variants.none (c : Thread nD τ) none) Set.univ)
  isplitl [H0 H1 H2 H3 H4 H5 H6 H7 H8 H9 H10 H11 H12 H13 S0 S1]
  · iapply (point_run c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t) (iblk m c 8 t) (one_kind t) Set.univ)
    isplitr [H9]
    · unfold Res
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H10]; · iexists _; iexact H10
      isplitl [H11]; · iexists _; iexact H11
      isplitl [H12]; · iexists _; iexact H12
      isplitl [H13]; · iexists _; iexact H13
      isplitl [S0]; · iexists _; iexact S0
      iexists _; iexact S1
    iexists _; iexact H9
  unfold Res
  iintro %y ⟨⟨H0, H1, H2, H3, H4, H5, H6, H7, H8, ⟨%g10, H10⟩, ⟨%g11, H11⟩, ⟨%g12, H12⟩, ⟨%g13, H13⟩, ⟨%gs0, S0⟩, ⟨%gs1, S1⟩⟩, %g9, %e9, H9⟩
  isplitl [S0 S1 Hg]
  · isplitr [Hg]; swap; · iexact Hg
    isplitl [S0]
    · iexists _, _; isplitr; swap; · iexact S0
      ipureintro; rfl
    iexists _, _; isplitr; swap; · iexact S1
    ipureintro; rfl
  isplitl [Ho]; · iexact Ho
  isplitl [H0]
  · iexists _; isplitr; swap; · iexact H0
    ipureintro; exact (hstage0_0 ((cfg0.slots t 0).cast nbuf0_0)).read_unread _
  isplitl [H1]
  · iexists _; isplitr; swap; · iexact H1
    ipureintro; exact (hstage0_1 ((cfg0.slots t 1).cast nbuf0_1)).read_unread _
  isplitl [H2]
  · iexists _; isplitr; swap; · iexact H2
    ipureintro; exact (hstage0_2 ((cfg0.slots t 2).cast nbuf0_2)).read_unread _
  isplitl [H3]
  · iexists _; isplitr; swap; · iexact H3
    ipureintro; exact (hstage0_3 ((cfg0.slots t 3).cast nbuf0_3)).read_unread _
  isplitl [H4]
  · iexists _; isplitr; swap; · iexact H4
    ipureintro; exact (hstage0_4 ((cfg0.slots t 4).cast nbuf0_4)).read_unread _
  isplitl [H5]
  · iexists _; isplitr; swap; · iexact H5
    ipureintro; exact (hstage0_5 ((cfg0.slots t 5).cast nbuf0_5)).read_unread _
  isplitl [H6]
  · iexists _; isplitr; swap; · iexact H6
    ipureintro; exact (hstage0_6 ((cfg0.slots t 6).cast nbuf0_6)).read_unread _
  isplitl [H7]
  · iexists _; isplitr; swap; · iexact H7
    ipureintro; exact (hstage0_7 ((cfg0.slots t 7).cast nbuf0_7)).read_unread _
  isplitl [H8]
  · iexists _; isplitr; swap; · iexact H8
    ipureintro; exact (hstage0_8 ((cfg0.slots t 8).cast nbuf0_8)).read_unread _
  isplitl [H9]
  · iexists _; isplitr; swap; · iexact H9
    ipureintro; exact e9
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  iexists _, _; isplitr; swap; · iexact H13
  ipureintro; rfl

end Cert.Kernel17Ideal.Hand

end
-- ==== Proof.AttnLaunch.lean ====
/- The attention backward call as a whole: every fair execution ends, its inputs unchanged, its array of query gradients the tiles of the points. -/
module

public import proofs.«01_k».proof.Proof.AttnFrame

@[expose] public section

set_option maxRecDepth 65536

noncomputable section

namespace Cert.Kernel17Ideal.Hand

open Cert.Kernel17Ideal Cert.Kernel17Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem defs₀_row (t : Fin cfg0.N) :
    defs₀ (F := F) .tc cfg0.body (cfg0.bodyArgs t (cfg0.slots t)) = bodyAt0 t := by
  unfold defs₀; rw [Defs.onTc_tc]

/-- At every point the tile of query gradients is stored. -/
theorem stored : ∀ t : Fin grid0.N, idle0 9 (grid0.coords t) = false := by decide +kernel

set_option maxHeartbeats 4000000 in
/-- The body obligation, the gathered gradients' windows left unnamed. -/
theorem body_obligation (c : Dev nD) : BodyObligation (dats (F := F) m 0 c) (defs₀ (F := F)) Variants.none () Set.univ loosed := fun t => by
  rw [bigSep_W0, bigSep_W0, defs₀_row, show cfg0.idle 9 (cfg0.grid.coords t) = false from stored t]
  simp only [show loosed 0 = false from rfl, show loosed 1 = false from rfl, show loosed 2 = false from rfl, show loosed 3 = false from rfl, show loosed 4 = false from rfl, show loosed 5 = false from rfl, show loosed 6 = false from rfl, show loosed 7 = false from rfl, show loosed 8 = false from rfl, show loosed 9 = false from rfl, show loosed 10 = true from rfl, show loosed 11 = true from rfl, show loosed 12 = true from rfl, show loosed 13 = true from rfl]
  exact triple_restated (sound_body m c t) rfl .rfl fun _ => .rfl

set_option maxHeartbeats 4000000 in
set_option backward.isDefEq.respectTransparency.types false in
/-- The launch: every weakly fair execution ends, every array at what the data says, every counter at zero. -/
theorem run_main_quiescent : θ_run defs (onTc (τ := τ) (main (F := F))) (s₀ m ρ)
    (fun r => Pipeline.RDat.FramePost (cfgs 0) (fun c => (dats m 0 c).toRForget loosed) (V m) r ∧ r.2.sem = fun _ => 0) :=
  Pipeline.θ_run_frame_forget_shared (Q' := _) cfgs (dats m) (0 : Fin 1) launch₀0 defs₀ Variants.none loosed m ρ main
    (hbody := fun c => (body_obligation m c).loose) (hq := fun _ _ _ => rfl)
    (howed := fun _ _ => rfl) (V := V m) (hmain := hmain m Variants.none) (hA := A_eq m) (hΦ := fun _ _ => rfl)

variable {m} in
/-- An input's array is as it was. -/
theorem kept {r : PUnit × MemSt nD τ sig (Elt F)} (h : Pipeline.RDat.FramePost (cfgs 0) (fun c => (dats m 0 c).toRForget loosed) (V m) r)
    (c : Dev nD) (w : Fin cfg0.W) (hin : (cfg0.win w).isOut = false) :
    r.2.mem ((cfg0.spec w).arr.view.loc (c.tc : Thread nD τ)) = V m c (Pipeline.arrRef spec0 w) := by
  have h' := (h c).1 w
  rw [Pipeline.RDat.ArrAt_in _ w hin] at h'
  exact h'.trans (A_eq m c w)

set_option maxHeartbeats 4000000 in
/-- The call ends, its argument arrays unchanged and every counter at zero. -/
theorem frame_attn : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨kept h.1 c 2 rfl, kept h.1 c 3 rfl, kept h.1 c 4 rfl, kept h.1 c 5 rfl, kept h.1 c 6 rfl, kept h.1 c 7 rfl, kept h.1 c 8 rfl⟩, h.2⟩) (run_main_quiescent m ρ)

end Cert.Kernel17Ideal.Hand

end
-- ==== Proof.AttnSame.lean ====
/-
  The attention backward call's frame in its bit-exact reading, from the run that holds for any float values.
-/
module

public import proofs.«01_k».proof.Defs
public import proofs.«01_k».proof.Proof.Gen.Kernel17
public import proofs.«01_k».proof.Proof.AttnLaunch

@[expose] public section

set_option maxRecDepth 16384

noncomputable section

namespace Cert.Attn

open Idealize.ShloMosaic Idealize.ShloMosaic.TcCoe

set_option maxHeartbeats 4000000 in
/-- The two programs' kernel bodies are one. -/
theorem bodies_same : Cert.Kernel17.defs₀ (F := Bits) = Cert.Kernel17Ideal.defs₀ (F := Bits) := by
  unfold Cert.Kernel17.defs₀ Cert.Kernel17Ideal.defs₀
  refine congrArg Defs.onTc ?_
  funext l a
  match l, a with
  | 0, (t, s) => rfl

theorem defs_same : Cert.Kernel17.defs (F := Bits) = Cert.Kernel17Ideal.defs (F := Bits) :=
  congrArg (Pipeline.defs _) bodies_same

set_option maxHeartbeats 4000000 in
/-- The call ends in its bit-exact reading too, its argument arrays unchanged and every counter at zero. -/
theorem frame_kernel : Cert.quiescent_Kernel17 := fun m ρ _ => by
  rw [defs_same]
  exact (θ_run Cert.Kernel17Ideal.defs _ _).mono (fun _ h => h) (Cert.Kernel17Ideal.Hand.frame_attn (F := Bits) m ρ)

end Cert.Attn

end
-- ==== Proof.Residual.lean ====
/-
  The residual row and its normalised copy.
-/
module

public import proofs.«01_k».proof.Proof.Gen.Kernel18Ideal.Value
public import proofs.«01_k».proof.Proof.Gen.Reference18Ideal.Run
public import proofs.«01_k».proof.Proof.Gen.Reference18Ideal.Read
public import proofs.«01_k».proof.Defs
public import Idealize.ShloMosaic.Lib.Pointwise
public import Idealize.ShloMosaic.Lib.Quiescent
public import Idealize.ShloMosaic.Lib.Pipeline.ValueKit

@[expose] public section

set_option maxRecDepth 16384

noncomputable section

namespace Cert.Residual

open Idealize.ShloMosaic Idealize.ShloMosaic.TcCoe
open Cert.Kernel18Ideal Cert.Kernel18Ideal.Gen

/-- The reciprocal root of a row's mean square, the mean moved off zero. -/
def scale (v : Fin 2048 → EReal) : EReal :=
  Ideal.rsqrt (Ideal.div (∑ k, v k * v k) (Ideal.ofBits .f32 0x45000000#32) + Ideal.ofBits .f32 0x358637BD#32)

/-- A row after the residual: the branch normalised, times its scales, and added. -/
def sumRow (x y : S4352x2048.Idx → EReal) (g : S2048.Idx → EReal) (r : Fin 4352) (j : Fin 2048) : EReal :=
  x (ix2 r j) + y (ix2 r j) * scale (fun k => y (ix2 r k)) * g (ix1 j)

def sums (x y : S4352x2048.Idx → EReal) (g : S2048.Idx → EReal) (i : S4352x2048.Idx) : EReal := sumRow x y g (i 0) (i 1)

/-- The same row normalised, times the next scales. -/
def normed (x y : S4352x2048.Idx → EReal) (g g' : S2048.Idx → EReal) (i : S4352x2048.Idx) : EReal :=
  sumRow x y g (i 0) (i 1) * scale (sumRow x y g (i 0)) * g' (ix1 (i 1))

section Reference

open Cert.Reference18Ideal.Read

theorem ref_sum (x y : S4352x2048.Idx → EReal) (g : S2048.Idx → EReal) (r : Fin 4352) (j : Fin 2048) :
    val_main_v13 (F := Ideal) x y g (ix2 r j) = sumRow x y g r j := by
  unfold val_main_v13 val_main_v12 val_main_v11 val_main_v10 val_main_v9 val_main_v8 val_main_v7 val_main_v6 val_main_v5 val_main_cst_1
    val_main_v4 val_main_v3 val_main_cst_0 val_main_v2 val_main_v1 val_main_v0 val_main_cst
  pointwise
  rfl

theorem ref_sums (x y : S4352x2048.Idx → EReal) (g : S2048.Idx → EReal) : val_main_v13 (F := Ideal) x y g = sums x y g := by
  funext i
  obtain ⟨r, j, rfl⟩ : ∃ (r : Fin 4352) (j : Fin 2048), i = ix2 r j := ⟨i 0, i 1, ValueIdx.eq_ix2 i⟩
  exact ref_sum x y g r j

theorem ref_normed (x y : S4352x2048.Idx → EReal) (g g' : S2048.Idx → EReal) : val_main_v27 (F := Ideal) x y g g' = normed x y g g' := by
  funext i
  obtain ⟨r, j, rfl⟩ : ∃ (r : Fin 4352) (j : Fin 2048), i = ix2 r j := ⟨i 0, i 1, ValueIdx.eq_ix2 i⟩
  unfold val_main_v27 val_main_v26 val_main_v25 val_main_v24 val_main_v23 val_main_v22 val_main_v21 val_main_v20 val_main_v19 val_main_cst_4
    val_main_v18 val_main_v17 val_main_cst_3 val_main_v16 val_main_v15 val_main_v14 val_main_cst_2
  pointwise
  simp only [ref_sum]
  rfl

end Reference

variable (m : (ℓ : Loc nD τ sig) → Buf (Elt Ideal) ℓ)

theorem idx : ∀ t : Fin cfg0.N, win0_0.index t = ![(t : ℕ), 0] ∧ win0_1.index t = ![(t : ℕ), 0] ∧ win0_2.index t = ![0, 0] ∧ win0_3.index t = ![0, 0]
    ∧ win0_4.index t = ![(t : ℕ), 0] ∧ win0_5.index t = ![(t : ℕ), 0] :=
  (by decide +kernel : ∀ t : Fin grid0.N, _)

theorem rows_h (c : Dev nD) (t : Fin cfg0.N) (a : Fin 272) (j : Fin 2048) (r : Fin 4352) (hr : (r : ℕ) = t * 272 + a) :
    iblk m c 0 t (ix2 a j) = m ((c : Thread nD τ).loc main_arg0) (ix2 r j) := by
  obtain ⟨e0, -, -, -, -, -⟩ := idx t
  blk_ext [iblk, V, e0]

theorem rows_y (c : Dev nD) (t : Fin cfg0.N) (a : Fin 272) (j : Fin 2048) (r : Fin 4352) (hr : (r : ℕ) = t * 272 + a) :
    iblk m c 1 t (ix2 a j) = m ((c : Thread nD τ).loc main_arg1) (ix2 r j) := by
  obtain ⟨-, e1, -, -, -, -⟩ := idx t
  blk_ext [iblk, V, e1]

theorem scales_post (c : Dev nD) (t : Fin cfg0.N) (j : Fin 2048) :
    iblk m c 2 t (ix2 0 j) = m ((c : Thread nD τ).loc main_arg2) (ix1 j) := by
  obtain ⟨-, -, e2, -, -, -⟩ := idx t
  refine (?_ : _ = V m c main_v0 (ix2 0 j)).trans ?_
  · unfold iblk
    blk_ext [e2]
  · have e : V m c main_v0 = shapeCast S1x2048 (m ((c : Thread nD τ).loc main_arg2)) shapeCasts_S2048_S1x2048 := rfl
    rw [e]
    pointwise

theorem scales_pre (c : Dev nD) (t : Fin cfg0.N) (j : Fin 2048) :
    iblk m c 3 t (ix2 0 j) = m ((c : Thread nD τ).loc main_arg3) (ix1 j) := by
  obtain ⟨-, -, -, e3, -, -⟩ := idx t
  refine (?_ : _ = V m c main_v1 (ix2 0 j)).trans ?_
  · unfold iblk
    blk_ext [e3]
  · have e : V m c main_v1 = shapeCast S1x2048 (m ((c : Thread nD τ).loc main_arg3)) shapeCasts_S2048_S1x2048 := rfl
    rw [e]
    pointwise

/-- A point's value at one row and column, from its blocks. -/
theorem point {x y : S4352x2048.Idx → EReal} {g : S2048.Idx → EReal} {b0 b1 : S272x2048.Idx → EReal} {b2 : S1x2048.Idx → EReal} {a : Fin 272}
    {r : Fin 4352} (h0 : ∀ k, b0 (ix2 a k) = x (ix2 r k)) (h1 : ∀ k, b1 (ix2 a k) = y (ix2 r k)) (h2 : ∀ k, b2 (ix2 0 k) = g (ix1 k))
    (j : Fin 2048) : b0 (ix2 a j) + b1 (ix2 a j) * scale (fun k => b1 (ix2 a k)) * b2 (ix2 0 j) = sumRow x y g r j := by
  unfold sumRow
  simp only [h0, h1, h2]

set_option maxHeartbeats 2000000 in
theorem final_sums (c : Dev nD) : (dats m 0 c).arrAt 4 cfg0.N
    = sums (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  frame_out
  unfold k0_pay1
  pointwise
  generalize hi : ((View.whole main_v2_0).slice (win0_4.rect t)).emb y = i
  obtain ⟨-, -, -, -, e4, -⟩ := idx t
  have hr : (i 0 : ℕ) = t * 272 + y 0 := by rw [← hi]; blk_simp; rw [e4]; rfl
  have hj : y 1 = i 1 := Fin.ext (by rw [← hi]; blk_simp; rw [e4]; simp)
  unfold sums
  rw [← hj, ValueIdx.eq_ix2 y]
  exact point (fun k => rows_h m c t (y 0) k (i 0) hr) (fun k => rows_y m c t (y 0) k (i 0) hr) (scales_post m c t) (y 1)

set_option maxHeartbeats 2000000 in
theorem final_normed (c : Dev nD) : (dats m 0 c).arrAt 5 cfg0.N
    = normed (m ((c : Thread nD τ).loc main_arg0)) (m ((c : Thread nD τ).loc main_arg1)) (m ((c : Thread nD τ).loc main_arg2))
      (m ((c : Thread nD τ).loc main_arg3)) := by
  refine (dats m 0 c).arrAt_eq_of_covers 5 _ (by decide +kernel) fun t hf y => ?_
  blk_simp
  rw [after0_5]
  frame_out
  unfold k0_pay2 k0_pay1
  pointwise
  generalize hi : ((View.whole main_v2_1).slice (win0_5.rect t)).emb y = i
  obtain ⟨-, -, -, -, -, e5⟩ := idx t
  have hr : (i 0 : ℕ) = t * 272 + y 0 := by rw [← hi]; blk_simp; rw [e5]; rfl
  have hj : y 1 = i 1 := Fin.ext (by rw [← hi]; blk_simp; rw [e5]; simp)
  unfold normed
  rw [← hj, ValueIdx.eq_ix2 y]
  refine congrArg₂ (· * ·) (congrArg₂ (· * ·) (point (fun k => rows_h m c t (y 0) k (i 0) hr) (fun k => rows_y m c t (y 0) k (i 0) hr) (scales_post m c t) (y 1)) (congrArg scale (funext fun k => point (fun k => rows_h m c t (y 0) k (i 0) hr) (fun k => rows_y m c t (y 0) k (i 0) hr) (scales_post m c t) k))) (scales_pre m c t (y 1))

theorem claim_algebraic : Cert.algebraic_Kernel18Ideal_Reference18Ideal := by
  intro m ρ m' ρ' _ hagree
  refine ⟨fun c => sums (m ((c : Thread nD τ).loc main_arg0)) (m ((c : Thread nD τ).loc main_arg1)) (m ((c : Thread nD τ).loc main_arg2)),
    fun c => normed (m ((c : Thread nD τ).loc main_arg0)) (m ((c : Thread nD τ).loc main_arg1)) (m ((c : Thread nD τ).loc main_arg2))
      (m ((c : Thread nD τ).loc main_arg3)), ?_, ?_⟩
  · exact (θ_run Cert.Kernel18Ideal.defs _ _).mono
      (fun _ h c => ⟨(h c).1.trans (final_sums m c), (h c).2.1.trans (final_normed m c), (h c).2.2⟩)
      (Cert.Kernel18Ideal.Value.run_blocks (F := Ideal) m ρ)
  · refine (θ_run Cert.Reference18Ideal.defs _ _).mono (fun _ h c => ⟨(h c).1.trans ?_, (h c).2.1.trans ?_, (h c).2.2⟩)
      (Cert.Reference18Ideal.Value.run (F := Ideal) m' ρ')
    · refine (Cert.Reference18Ideal.Read.val_main_v13_eq _ _ _).trans ?_
      obtain ⟨a0, a1, a2, -⟩ := hagree c
      rw [a0, a1, a2]
      exact ref_sums _ _ _
    · refine (Cert.Reference18Ideal.Read.val_main_v27_eq _ _ _ _).trans ?_
      obtain ⟨a0, a1, a2, a3⟩ := hagree c
      rw [a0, a1, a2, a3]
      exact ref_normed _ _ _ _

theorem frame_reference : Cert.quiescent_Reference18Ideal := fun m ρ _ =>
  (θ_run Cert.Reference18Ideal.defs _ _).mono (fun r h => ⟨fun c => (h c).2.2,
      Idealize.ShloMosaic.sem_eq_zero_of_no_sems (by decide) r.2⟩)
    (Cert.Reference18Ideal.Value.run (F := Ideal) m ρ)

end Cert.Residual

end
-- ==== Proof.NormMath.lean ====
/-
  The gradient of a row divided by the root of its mean square, written two ways that agree for any entries.
-/
module

public import Idealize.ShloMosaic.PureOps
public import Idealize.ShloMosaic.Lib.Pointwise
public import Idealize.ShloMosaic.Lib.IdealHost

@[expose] public section

noncomputable section

namespace Cert.Norm

open Idealize.ShloMosaic

/-- The width of a row. -/
def width : EReal := Ideal.ofBits .f32 0x45000000#32

/-- What moves the mean square off zero. -/
def eps : EReal := Ideal.ofBits .f32 0x358637BD#32

/-- The word of minus one half. -/
def negHalf : EReal := Ideal.ofBits .f32 0xBF000000#32

theorem width_eq : width = ((2048 : ℝ) : EReal) := by
  simp [width, Ideal.ofBits, Ideal.ieee, -EReal.coe_mul]; norm_num

theorem negHalf_eq : negHalf = ((-(1 / 2) : ℝ) : EReal) := by
  simp [negHalf, Ideal.ofBits, Ideal.ieee, -EReal.coe_mul]; norm_num

theorem eps_eq : ∃ e : ℝ, 0 < e ∧ eps = (e : EReal) := by
  refine ⟨_, ?_, by simp [eps, Ideal.ofBits, Ideal.ieee, -EReal.coe_mul]; rfl⟩
  norm_num

/-- The mean square of a row, moved off zero. -/
def square {n : ℕ} (x : Fin n → EReal) : EReal := Ideal.div (∑ k, x k * x k) width + eps

/-- The gradient at one entry, from the row and the gradient at its normalised entries. -/
def slope {n : ℕ} (x d : Fin n → EReal) (j : Fin n) : EReal :=
  Ideal.rsqrt (square x) * (d j - x j * Ideal.rsqrt (square x) * Ideal.div (∑ k, d k * (x k * Ideal.rsqrt (square x))) width)

/-- The share that comes through the mean square, for each of the square's two factors. -/
def share {n : ℕ} (x d : Fin n → EReal) : EReal :=
  Ideal.div ((∑ k, x k * d k) * (negHalf * Ideal.div (Ideal.rsqrt (square x)) (square x))) width

theorem coe_mul_sum {n : ℕ} {r : ℝ} (hr : 0 ≤ r) (f : Fin n → EReal) : ∑ k, (r : EReal) * f k = r * ∑ k, f k := by
  induction n with
  | zero => simp
  | succ n ih =>
    rw [Fin.sum_univ_succ, Fin.sum_univ_succ, ih, EReal.left_distrib_of_nonneg_of_ne_top (by exact_mod_cast hr) (EReal.coe_ne_top r)]

theorem sq_nonneg' (x : EReal) : 0 ≤ x * x := by
  rcases le_total 0 x with h | h
  · exact EReal.mul_nonneg h h
  · rw [← neg_mul_neg]
    exact EReal.mul_nonneg (EReal.neg_nonneg.mpr h) (EReal.neg_nonneg.mpr h)

/-- The mean square is infinite or a positive number. -/
theorem square_cases {n : ℕ} (x : Fin n → EReal) : square x = ⊤ ∨ ∃ q : ℝ, 0 < q ∧ square x = (q : EReal) := by
  obtain ⟨e, he, hE⟩ := eps_eq
  have h0 : 0 ≤ ∑ k, x k * x k := Finset.sum_nonneg fun k _ => sq_nonneg' (x k)
  unfold square
  rw [width_eq, Ideal.div_coe (by norm_num), hE]
  generalize (∑ k, x k * x k) = s at h0 ⊢
  induction s with
  | bot => simp at h0
  | top =>
    left
    rw [EReal.top_mul_coe_of_pos (by norm_num), EReal.top_add_coe]
  | coe a =>
    right
    have ha : 0 ≤ a := by exact_mod_cast h0
    exact ⟨a * (1 / 2048) + e, by positivity, by rw [← EReal.coe_mul, ← EReal.coe_add]⟩

theorem twice (z : EReal) {a : ℝ} (ha : 0 ≤ a) : z * (a : EReal) + z * (a : EReal) = z * ((2 * a : ℝ) : EReal) := by
  rw [← EReal.left_distrib_of_nonneg (by exact_mod_cast ha) (by exact_mod_cast ha), ← EReal.coe_add, two_mul]

theorem slope_eq {n : ℕ} (x d : Fin n → EReal) (j : Fin n) :
    d j * Ideal.rsqrt (square x) + x j * share x d + share x d * x j = slope x d j := by
  unfold slope share
  rcases square_cases x with h | ⟨q, hq, h⟩ <;> rw [h]
  · have e : Ideal.rsqrt ⊤ = 0 := rfl
    rw [e]
    have e' : Ideal.div 0 ⊤ = 0 := by simp [Ideal.div]
    rw [e', width_eq]
    simp [Ideal.div_coe]
  · have hs : 0 < Real.sqrt q := Real.sqrt_pos.mpr hq
    have e : Ideal.rsqrt (q : EReal) = (((Real.sqrt q)⁻¹ : ℝ) : EReal) := by
      show (if q < 0 then ⊥ else if q = 0 then ⊤ else (((Real.sqrt q)⁻¹ : ℝ) : EReal)) = _
      rw [if_neg (by linarith), if_neg hq.ne']
    have hp : 0 < (Real.sqrt q)⁻¹ := inv_pos.mpr hs
    have hqq : 1 / q = (Real.sqrt q)⁻¹ * (Real.sqrt q)⁻¹ := by
      rw [← mul_inv, Real.mul_self_sqrt hq.le, one_div]
    rw [e, Ideal.div_coe hq.ne', hqq, width_eq, negHalf_eq]
    generalize (Real.sqrt q)⁻¹ = p at hp
    simp only [Ideal.div_coe (by norm_num : (2048 : ℝ) ≠ 0)]
    have hsum : ∑ k, d k * (x k * (p : EReal)) = p * ∑ k, x k * d k := by
      rw [← coe_mul_sum hp.le]
      exact Finset.sum_congr rfl fun k _ => by rw [mul_comm (d k), mul_comm (x k) (p : EReal), mul_assoc]
    rw [hsum]
    generalize (∑ k, x k * d k) = S
    have hw : S * (((-(1 / 2) : ℝ) : EReal) * ((p : EReal) * ((p * p : ℝ) : EReal))) * ((1 / 2048 : ℝ) : EReal)
        = -(S * ((1 / 2 * (p * p * p * (1 / 2048)) : ℝ) : EReal)) := by
      rw [← EReal.coe_mul, ← EReal.coe_mul, mul_assoc, ← EReal.coe_mul, ← mul_neg, ← EReal.coe_neg]
      congr 2; ring
    have hx : x j * (p : EReal) * ((p : EReal) * S * ((1 / 2048 : ℝ) : EReal)) = x j * S * ((p * p * (1 / 2048) : ℝ) : EReal) := by
      rw [EReal.coe_mul, EReal.coe_mul]; ac_rfl
    rw [hw, hx, sub_eq_add_neg, EReal.left_distrib_of_nonneg_of_ne_top (by exact_mod_cast hp.le) (EReal.coe_ne_top p), add_assoc,
      mul_comm (-(S * _)) (x j), mul_comm (d j)]
    refine congrArg ((p : EReal) * d j + ·) ?_
    have hn : x j * -(S * ((1 / 2 * (p * p * p * (1 / 2048)) : ℝ) : EReal)) = -(x j * S) * ((1 / 2 * (p * p * p * (1 / 2048)) : ℝ) : EReal) := by
      rw [mul_neg, neg_mul, mul_assoc (x j)]
    have hl : (p : EReal) * -(x j * S * ((p * p * (1 / 2048) : ℝ) : EReal)) = -(x j * S) * ((2 * (1 / 2 * (p * p * p * (1 / 2048))) : ℝ) : EReal) := by
      have e2 : (2 * (1 / 2 * (p * p * p * (1 / 2048))) : ℝ) = p * (p * p * (1 / 2048)) := by ring
      rw [e2, EReal.coe_mul p, mul_neg, neg_mul]
      exact congrArg Neg.neg (by ac_rfl)
    rw [hn, twice _ (by positivity), hl]

end Cert.Norm

end
-- ==== Proof.ResidualGrads.lean ====
/-
  The residual's gradients: what comes back through the normalised row, and through the normalised branch.
-/
module

public import proofs.«01_k».proof.Proof.NormMath
public import proofs.«01_k».proof.Proof.Gen.Kernel19Ideal.Value
public import proofs.«01_k».proof.Proof.Gen.Reference19Ideal.Run
public import proofs.«01_k».proof.Proof.Gen.Reference19Ideal.Read
public import proofs.«01_k».proof.Defs
public import Idealize.ShloMosaic.Lib.Pointwise
public import Idealize.ShloMosaic.Lib.Quiescent
public import Idealize.ShloMosaic.Lib.Pipeline.ValueKit

@[expose] public section

set_option maxRecDepth 16384

noncomputable section

namespace Cert.ResidualGrads

open Idealize.ShloMosaic Idealize.ShloMosaic.TcCoe
open Cert.Kernel19Ideal Cert.Kernel19Ideal.Gen
open Cert.Norm (square slope share width eps negHalf slope_eq)

/-- The stream's gradient at a row: what came in, and what comes back through the normalised row. -/
def streamRow (d u h : S4352x2048.Idx → EReal) (g : S2048.Idx → EReal) (r : Fin 4352) (j : Fin 2048) : EReal :=
  d (ix2 r j) + slope (fun k => h (ix2 r k)) (fun k => u (ix2 r k) * g (ix1 k)) j

/-- The branch's gradient at a row: the stream's, brought back through the normalised branch. -/
def branchRow (d u h y : S4352x2048.Idx → EReal) (g' g : S2048.Idx → EReal) (r : Fin 4352) (j : Fin 2048) : EReal :=
  slope (fun k => y (ix2 r k)) (fun k => streamRow d u h g r k * g' (ix1 k)) j

def stream (d u h : S4352x2048.Idx → EReal) (g : S2048.Idx → EReal) (i : S4352x2048.Idx) : EReal := streamRow d u h g (i 0) (i 1)

def branch (d u h y : S4352x2048.Idx → EReal) (g' g : S2048.Idx → EReal) (i : S4352x2048.Idx) : EReal := branchRow d u h y g' g (i 0) (i 1)

section Reference

open Cert.Reference19Ideal.Read

theorem ref_stream (d u h : S4352x2048.Idx → EReal) (g : S2048.Idx → EReal) (r : Fin 4352) (j : Fin 2048) :
    val_main_v32 (F := Ideal) d u h g (ix2 r j) = streamRow d u h g r j := by
  unfold streamRow
  rw [← slope_eq]
  unfold val_main_v32 val_main_v31 val_main_v30 val_main_v29 val_main_v28 val_main_v27 val_main_v26 val_main_v25 val_main_v24 val_main_v23
    val_main_v22 val_main_v21 val_main_v20 val_main_v19 val_main_v18 val_main_v17 val_main_v16 val_main_v13 val_main_v10
    val_main_v9 val_main_v8 val_main_v7 val_main_v6 val_main_v5 val_main_v4 val_main_v3 val_main_v2 val_main_v1 val_main_v0 val_main_cst
    val_main_cst_0 val_main_cst_1 val_main_cst_2 val_main_cst_3 val_main_cst_4 val_main_cst_5
  pointwise
  simp [Fin.sum_univ_one]
  rfl

theorem ref_branch (d u h y : S4352x2048.Idx → EReal) (g' g : S2048.Idx → EReal) (r : Fin 4352) (j : Fin 2048) :
    val_main_v65 (F := Ideal) d u h y g' g (ix2 r j) = branchRow d u h y g' g r j := by
  unfold branchRow
  rw [← slope_eq]
  unfold val_main_v65 val_main_v64 val_main_v63 val_main_v62 val_main_v61 val_main_v60 val_main_v59 val_main_v58 val_main_v57 val_main_v56
    val_main_v55 val_main_v54 val_main_v53 val_main_v52 val_main_v51 val_main_v50 val_main_v49 val_main_v46 val_main_v43
    val_main_v42 val_main_v41 val_main_v40 val_main_v39 val_main_v38 val_main_v37 val_main_v36 val_main_v35 val_main_v34 val_main_v33 val_main_cst_6
    val_main_cst_7 val_main_cst_8 val_main_cst_9 val_main_cst_10 val_main_cst_11 val_main_cst_12
  pointwise
  simp only [ref_stream]
  simp [Fin.sum_univ_one]
  rfl

theorem ref_streams (d u h : S4352x2048.Idx → EReal) (g : S2048.Idx → EReal) : val_main_v32 (F := Ideal) d u h g = stream d u h g :=
  funext fun i => by
    conv_lhs => rw [ValueIdx.eq_ix2 i]
    exact ref_stream d u h g (i 0) (i 1)

theorem ref_branches (d u h y : S4352x2048.Idx → EReal) (g' g : S2048.Idx → EReal) :
    val_main_v65 (F := Ideal) d u h y g' g = branch d u h y g' g :=
  funext fun i => by
    conv_lhs => rw [ValueIdx.eq_ix2 i]
    exact ref_branch d u h y g' g (i 0) (i 1)

end Reference

/-! ## What a point computes -/

theorem pay_stream (d h u : FVec Ideal S272x2048 .f32) (g : FVec Ideal S1x2048 .f32) (a : Fin 272) (j : Fin 2048) :
    (k0_pay3 (F := Ideal) d h g u (ix2 a j) : EReal)
      = d (ix2 a j) + slope (fun k => h (ix2 a k)) (fun k => (u (ix2 a k) : EReal) * g (ix2 0 k)) j := by
  unfold k0_pay3 k0_pay2 k0_pay1
  pointwise
  rfl

theorem pay_branch (e y : FVec Ideal S272x2048 .f32) (g : FVec Ideal S1x2048 .f32) (a : Fin 272) (j : Fin 2048) :
    (k0_pay10 (F := Ideal) e y g (ix2 a j) : EReal) = slope (fun k => y (ix2 a k)) (fun k => (e (ix2 a k) : EReal) * g (ix2 0 k)) j := by
  unfold k0_pay10 k0_pay9 k0_pay8
  pointwise
  rfl

variable (m : (ℓ : Loc nD τ sig) → Buf (Elt Ideal) ℓ)

theorem idx : ∀ t : Fin cfg0.N, win0_0.index t = ![(t : ℕ), 0] ∧ win0_1.index t = ![(t : ℕ), 0] ∧ win0_2.index t = ![(t : ℕ), 0]
    ∧ win0_3.index t = ![0, 0] ∧ win0_4.index t = ![(t : ℕ), 0] ∧ win0_5.index t = ![0, 0] ∧ win0_6.index t = ![(t : ℕ), 0]
    ∧ win0_8.index t = ![(t : ℕ), 0] :=
  (by decide +kernel : ∀ t : Fin grid0.N, _)

theorem rows_d (c : Dev nD) (t : Fin cfg0.N) (a : Fin 272) (j : Fin 2048) (r : Fin 4352) (hr : (r : ℕ) = t * 272 + a) :
    iblk m c 0 t (ix2 a j) = m ((c : Thread nD τ).loc main_arg0) (ix2 r j) := by
  obtain ⟨e, -, -, -, -, -, -, -⟩ := idx t
  blk_ext [iblk, V, e]

theorem rows_u (c : Dev nD) (t : Fin cfg0.N) (a : Fin 272) (j : Fin 2048) (r : Fin 4352) (hr : (r : ℕ) = t * 272 + a) :
    iblk m c 1 t (ix2 a j) = m ((c : Thread nD τ).loc main_arg1) (ix2 r j) := by
  obtain ⟨-, e, -, -, -, -, -, -⟩ := idx t
  blk_ext [iblk, V, e]

theorem rows_h (c : Dev nD) (t : Fin cfg0.N) (a : Fin 272) (j : Fin 2048) (r : Fin 4352) (hr : (r : ℕ) = t * 272 + a) :
    iblk m c 2 t (ix2 a j) = m ((c : Thread nD τ).loc main_arg2) (ix2 r j) := by
  obtain ⟨-, -, e, -, -, -, -, -⟩ := idx t
  blk_ext [iblk, V, e]

theorem rows_y (c : Dev nD) (t : Fin cfg0.N) (a : Fin 272) (j : Fin 2048) (r : Fin 4352) (hr : (r : ℕ) = t * 272 + a) :
    iblk m c 4 t (ix2 a j) = m ((c : Thread nD τ).loc main_arg3) (ix2 r j) := by
  obtain ⟨-, -, -, -, e, -, -, -⟩ := idx t
  blk_ext [iblk, V, e]

theorem scales_pre (c : Dev nD) (t : Fin cfg0.N) (j : Fin 2048) :
    iblk m c 3 t (ix2 0 j) = m ((c : Thread nD τ).loc main_arg5) (ix1 j) := by
  obtain ⟨-, -, -, e3, -, -, -, -⟩ := idx t
  refine (?_ : _ = V m c main_v0 (ix2 0 j)).trans ?_
  · unfold iblk
    blk_ext [e3]
  · have e : V m c main_v0 = shapeCast S1x2048 (m ((c : Thread nD τ).loc main_arg5)) shapeCasts_S2048_S1x2048 := rfl
    rw [e]
    pointwise

theorem scales_post (c : Dev nD) (t : Fin cfg0.N) (j : Fin 2048) :
    iblk m c 5 t (ix2 0 j) = m ((c : Thread nD τ).loc main_arg4) (ix1 j) := by
  obtain ⟨-, -, -, -, -, e5, -, -⟩ := idx t
  refine (?_ : _ = V m c main_v1 (ix2 0 j)).trans ?_
  · unfold iblk
    blk_ext [e5]
  · have e : V m c main_v1 = shapeCast S1x2048 (m ((c : Thread nD τ).loc main_arg4)) shapeCasts_S2048_S1x2048 := rfl
    rw [e]
    pointwise

/-- What a point computes of the stream's gradient, from its blocks, is that row's. -/
theorem point_stream (c : Dev nD) (t : Fin cfg0.N) (a : Fin 272) (r : Fin 4352) (hr : (r : ℕ) = t * 272 + a) (j : Fin 2048) :
    k0_pay3 (F := Ideal) (iblk m c 0 t) (iblk m c 2 t) (iblk m c 3 t) (iblk m c 1 t) (ix2 a j)
      = streamRow (m ((c : Thread nD τ).loc main_arg0)) (m ((c : Thread nD τ).loc main_arg1)) (m ((c : Thread nD τ).loc main_arg2))
          (m ((c : Thread nD τ).loc main_arg5)) r j := by
  refine (pay_stream _ _ _ _ a j).trans ?_
  unfold streamRow
  exact congrArg₂ (· + ·) (rows_d m c t a j r hr) (congrArg₂ (slope · · j) (funext fun k => rows_h m c t a k r hr)
    (funext fun k => congrArg₂ (· * ·) (rows_u m c t a k r hr) (scales_pre m c t k)))

/-- … and of the branch's. -/
theorem point_branch (c : Dev nD) (t : Fin cfg0.N) (a : Fin 272) (r : Fin 4352) (hr : (r : ℕ) = t * 272 + a) (j : Fin 2048) :
    k0_pay10 (F := Ideal) (k0_pay3 (F := Ideal) (iblk m c 0 t) (iblk m c 2 t) (iblk m c 3 t) (iblk m c 1 t)) (iblk m c 4 t) (iblk m c 5 t) (ix2 a j)
      = branchRow (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) r j := by
  refine (pay_branch _ _ _ a j).trans ?_
  unfold branchRow
  exact congrArg₂ (slope · · j) (funext fun k => rows_y m c t a k r hr)
    (funext fun k => congrArg₂ (· * ·) (point_stream m c t a r hr k) (scales_post m c t k))

set_option maxHeartbeats 2000000 in
theorem final_stream (c : Dev nD) : (dats m 0 c).arrAt 6 cfg0.N
    = stream (m ((c : Thread nD τ).loc main_arg0)) (m ((c : Thread nD τ).loc main_arg1)) (m ((c : Thread nD τ).loc main_arg2))
        (m ((c : Thread nD τ).loc main_arg5)) := by
  refine (dats m 0 c).arrAt_eq_of_covers 6 _ (by decide +kernel) fun t hf y => ?_
  obtain ⟨-, -, -, -, -, -, e6, -⟩ := idx t
  generalize hi : ((View.whole main_v2_0).slice (win0_6.rect t)).emb y = i
  have hr : (i 0 : ℕ) = t * 272 + y 0 := by rw [← hi]; blk_simp; rw [e6]; rfl
  have hj : y 1 = i 1 := Fin.ext (by rw [← hi]; blk_simp; rw [e6]; simp)
  blk_simp
  rw [after0_6]
  unfold stream
  rw [← hj, ValueIdx.eq_ix2 y]
  refine Eq.trans ?_ (point_stream m c t (y 0) (i 0) hr (y 1))
  rcases (by omega : t.val % 16 = 0 ∨ ¬ t.val % 16 = 0) with h0 | h0
  · rw [outsAt0_A m c t h0 h0]
    frame_out
    rfl
  · rw [outsAt0_B m c t h0 h0]
    frame_out
    rfl

set_option maxHeartbeats 2000000 in
theorem final_branch (c : Dev nD) : (dats m 0 c).arrAt 8 cfg0.N
    = branch (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 8 _ (by decide +kernel) fun t hf y => ?_
  obtain ⟨-, -, -, -, -, -, -, e8⟩ := idx t
  generalize hi : ((View.whole main_v2_2).slice (win0_8.rect t)).emb y = i
  have hr : (i 0 : ℕ) = t * 272 + y 0 := by rw [← hi]; blk_simp; rw [e8]; rfl
  have hj : y 1 = i 1 := Fin.ext (by rw [← hi]; blk_simp; rw [e8]; simp)
  blk_simp
  rw [after0_8]
  unfold branch
  rw [← hj, ValueIdx.eq_ix2 y]
  refine Eq.trans ?_ (point_branch m c t (y 0) (i 0) hr (y 1))
  rcases (by omega : t.val % 16 = 0 ∨ ¬ t.val % 16 = 0) with h0 | h0
  · rw [outsAt0_A m c t h0 h0]
    frame_out
    rfl
  · rw [outsAt0_B m c t h0 h0]
    frame_out
    rfl

theorem claim_algebraic : Cert.algebraic_Kernel19Ideal_Reference19Ideal := by
  intro m ρ m' ρ' _ hagree
  refine ⟨fun c => stream (m ((c : Thread nD τ).loc main_arg0)) (m ((c : Thread nD τ).loc main_arg1)) (m ((c : Thread nD τ).loc main_arg2))
        (m ((c : Thread nD τ).loc main_arg5)),
    fun c => branch (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)), ?_, ?_⟩
  · exact (θ_run Cert.Kernel19Ideal.defs _ _).mono
      (fun _ h c => ⟨(h c).1.trans (final_stream m c), (h c).2.2.1.trans (final_branch m c), (h c).2.2.2.2⟩)
      (Cert.Kernel19Ideal.Value.run_blocks (F := Ideal) m ρ)
  · refine (θ_run Cert.Reference19Ideal.defs _ _).mono (fun _ h c => ⟨(h c).1.trans ?_, (h c).2.1.trans ?_, (h c).2.2⟩)
      (Cert.Reference19Ideal.Value.run (F := Ideal) m' ρ')
    · refine (Cert.Reference19Ideal.Read.val_main_v32_eq _ _ _ _).trans ?_
      obtain ⟨a0, a1, a2, -, -, a5⟩ := hagree c
      rw [a0, a1, a2, a5]
      exact ref_streams _ _ _ _
    · refine (Cert.Reference19Ideal.Read.val_main_v65_eq _ _).trans ?_
      obtain ⟨a0, a1, a2, a3, a4, a5⟩ := hagree c
      rw [a0, a1, a2, a3, a4, a5]
      exact ref_branches _ _ _ _ _ _

theorem frame_reference : Cert.quiescent_Reference19Ideal := fun m ρ _ =>
  (θ_run Cert.Reference19Ideal.defs _ _).mono (fun r h => ⟨fun c => (h c).2.2,
      Idealize.ShloMosaic.sem_eq_zero_of_no_sems (by decide) r.2⟩)
    (Cert.Reference19Ideal.Value.run (F := Ideal) m ρ)

end Cert.ResidualGrads

end
-- ==== Proof.FirstNorm.lean ====
/-
  The norm before the first layer.
-/
module

public import proofs.«01_k».proof.Proof.NormMath
public import proofs.«01_k».proof.Proof.Gen.Kernel20Ideal.Value
public import proofs.«01_k».proof.Proof.Gen.Reference20Ideal.Run
public import proofs.«01_k».proof.Proof.Gen.Reference20Ideal.Read
public import proofs.«01_k».proof.Defs
public import Idealize.ShloMosaic.Lib.Pointwise
public import Idealize.ShloMosaic.Lib.Quiescent
public import Idealize.ShloMosaic.Lib.Pipeline.ValueKit

@[expose] public section

set_option maxRecDepth 16384

noncomputable section

namespace Cert.FirstNorm

open Idealize.ShloMosaic Idealize.ShloMosaic.TcCoe
open Cert.Kernel20Ideal Cert.Kernel20Ideal.Gen
open Cert.Norm (square slope share slope_eq)

/-- A row over the root of its mean square, times the scales. -/
def normRow (h : S4352x2048.Idx → EReal) (g : S2048.Idx → EReal) (r : Fin 4352) (j : Fin 2048) : EReal :=
  h (ix2 r j) * Ideal.rsqrt (square fun k => h (ix2 r k)) * g (ix1 j)

def norms (h : S4352x2048.Idx → EReal) (g : S2048.Idx → EReal) (i : S4352x2048.Idx) : EReal := normRow h g (i 0) (i 1)

section Reference

open Cert.Reference20Ideal.Read

variable (h : S4352x2048.Idx → EReal) (g : S2048.Idx → EReal)

theorem ref_row (r : Fin 4352) (j : Fin 2048) : val_main_v13 (F := Ideal) h g (ix2 r j) = normRow h g r j := by

  unfold val_main_v13 val_main_v12 val_main_v11 val_main_v10 val_main_v9 val_main_v8 val_main_v7 val_main_v6 val_main_v5 val_main_v4
    val_main_v3 val_main_v2 val_main_v1 val_main_v0 val_main_cst val_main_cst_1
  pointwise
  rfl

theorem ref_all : val_main_v13 (F := Ideal) h g = norms h g :=
  funext fun i => by
    conv_lhs => rw [ValueIdx.eq_ix2 i]
    exact ref_row h g (i 0) (i 1)

end Reference

variable (m : (ℓ : Loc nD τ sig) → Buf (Elt Ideal) ℓ)

theorem idx : ∀ t : Fin cfg0.N, win0_0.index t = ![(t : ℕ), 0] ∧ win0_1.index t = ![0, 0] ∧ win0_2.index t = ![(t : ℕ), 0] :=
  (by decide +kernel : ∀ t : Fin grid0.N, _)

theorem rows_h (c : Dev nD) (t : Fin cfg0.N) (a : Fin 272) (j : Fin 2048) (r : Fin 4352) (hr : (r : ℕ) = t * 272 + a) :
    iblk m c 0 t (ix2 a j) = m ((c : Thread nD τ).loc main_arg0) (ix2 r j) := by
  obtain ⟨e, -, -⟩ := idx t
  blk_ext [iblk, V, e]

theorem scales (c : Dev nD) (t : Fin cfg0.N) (j : Fin 2048) :
    iblk m c 1 t (ix2 0 j) = m ((c : Thread nD τ).loc main_arg1) (ix1 j) := by
  obtain ⟨-, e, -⟩ := idx t
  refine (?_ : _ = V m c main_v0 (ix2 0 j)).trans ?_
  · unfold iblk
    blk_ext [e]
  · have e' : V m c main_v0 = shapeCast S1x2048 (m ((c : Thread nD τ).loc main_arg1)) shapeCasts_S2048_S1x2048 := rfl
    rw [e']
    pointwise

/-- What a point computes, from its blocks, is that row. -/
theorem point (c : Dev nD) (t : Fin cfg0.N) (a : Fin 272) (r : Fin 4352) (hr : (r : ℕ) = t * 272 + a) (j : Fin 2048) :
    k0_pay1 (F := Ideal) (iblk m c 0 t) (iblk m c 1 t) (ix2 a j) = normRow (m ((c : Thread nD τ).loc main_arg0)) (m ((c : Thread nD τ).loc main_arg1)) r j := by
  have h (b : FVec Ideal S272x2048 .f32) (g : FVec Ideal S1x2048 .f32) :
      (k0_pay1 (F := Ideal) b g (ix2 a j) : EReal) = b (ix2 a j) * Ideal.rsqrt (square fun k => b (ix2 a k)) * g (ix2 0 j) := by
    unfold k0_pay1
    pointwise
    rfl
  refine (h _ _).trans ?_
  unfold normRow
  exact congrArg₂ (· * ·) (congrArg₂ (· * ·) (rows_h m c t a j r hr) (congrArg (fun v => Ideal.rsqrt (square v)) (funext fun k => rows_h m c t a k r hr)))
    (scales m c t j)

set_option maxHeartbeats 2000000 in
theorem final (c : Dev nD) : (dats m 0 c).arrAt 2 cfg0.N
    = norms (m ((c : Thread nD τ).loc main_arg0)) (m ((c : Thread nD τ).loc main_arg1)) := by
  refine (dats m 0 c).arrAt_eq_of_covers 2 _ (by decide +kernel) fun t hf y => ?_
  obtain ⟨-, -, e⟩ := idx t
  generalize hi : ((View.whole main_v1).slice (win0_2.rect t)).emb y = i
  have hr : (i 0 : ℕ) = t * 272 + y 0 := by rw [← hi]; blk_simp; rw [e]; rfl
  have hj : y 1 = i 1 := Fin.ext (by rw [← hi]; blk_simp; rw [e]; simp)
  blk_simp
  rw [after0_2]
  unfold norms
  rw [← hj, ValueIdx.eq_ix2 y]
  refine Eq.trans ?_ (point m c t (y 0) (i 0) hr (y 1))
  frame_out
  rfl

theorem claim_algebraic : Cert.algebraic_Kernel20Ideal_Reference20Ideal := by
  intro m ρ m' ρ' _ hagree
  refine ⟨fun c => norms (m ((c : Thread nD τ).loc main_arg0)) (m ((c : Thread nD τ).loc main_arg1)), ?_, ?_⟩
  · exact (θ_run Cert.Kernel20Ideal.defs _ _).mono (fun _ h c => ⟨(h c).1.trans (final m c), (h c).2⟩)
      (Cert.Kernel20Ideal.Value.run_blocks (F := Ideal) m ρ)
  · refine (θ_run Cert.Reference20Ideal.defs _ _).mono (fun _ h c => ⟨(h c).1.trans ?_, (h c).2⟩)
      (Cert.Reference20Ideal.Value.run (F := Ideal) m' ρ')
    refine (Cert.Reference20Ideal.Read.val_main_v13_eq _ _).trans ?_
    obtain ⟨a0, a1⟩ := hagree c
    rw [a0, a1]
    exact ref_all _ _

theorem frame_reference : Cert.quiescent_Reference20Ideal := fun m ρ _ =>
  (θ_run Cert.Reference20Ideal.defs _ _).mono (fun r h => ⟨fun c => (h c).2,
      Idealize.ShloMosaic.sem_eq_zero_of_no_sems (by decide) r.2⟩)
    (Cert.Reference20Ideal.Value.run (F := Ideal) m ρ)

end Cert.FirstNorm

end
-- ==== Proof.LastResidual.lean ====
/-
  The last layer's residual sum.
-/
module

public import proofs.«01_k».proof.Proof.NormMath
public import proofs.«01_k».proof.Proof.Gen.Kernel21Ideal.Value
public import proofs.«01_k».proof.Proof.Gen.Reference21Ideal.Run
public import proofs.«01_k».proof.Proof.Gen.Reference21Ideal.Read
public import proofs.«01_k».proof.Defs
public import Idealize.ShloMosaic.Lib.Pointwise
public import Idealize.ShloMosaic.Lib.Quiescent
public import Idealize.ShloMosaic.Lib.Pipeline.ValueKit

@[expose] public section

set_option maxRecDepth 16384

noncomputable section

namespace Cert.LastResidual

open Idealize.ShloMosaic Idealize.ShloMosaic.TcCoe
open Cert.Kernel21Ideal Cert.Kernel21Ideal.Gen
open Cert.Norm (square slope share slope_eq)

/-- A row plus the branch's, normalised and times its scales. -/
def sumRow (h y : S4352x2048.Idx → EReal) (g : S2048.Idx → EReal) (r : Fin 4352) (j : Fin 2048) : EReal :=
  h (ix2 r j) + y (ix2 r j) * Ideal.rsqrt (square fun k => y (ix2 r k)) * g (ix1 j)

def sums (h y : S4352x2048.Idx → EReal) (g : S2048.Idx → EReal) (i : S4352x2048.Idx) : EReal := sumRow h y g (i 0) (i 1)

section Reference

open Cert.Reference21Ideal.Read

variable (h y : S4352x2048.Idx → EReal) (g : S2048.Idx → EReal)

theorem ref_row (r : Fin 4352) (j : Fin 2048) : val_main_v13 (F := Ideal) h y g (ix2 r j) = sumRow h y g r j := by

  unfold val_main_v13 val_main_v12 val_main_v11 val_main_v10 val_main_v9 val_main_v8 val_main_v7 val_main_v6 val_main_v5 val_main_v4
    val_main_v3 val_main_v2 val_main_v1 val_main_v0 val_main_cst val_main_cst_1
  pointwise
  rfl

theorem ref_all : val_main_v13 (F := Ideal) h y g = sums h y g :=
  funext fun i => by
    conv_lhs => rw [ValueIdx.eq_ix2 i]
    exact ref_row h y g (i 0) (i 1)

end Reference

variable (m : (ℓ : Loc nD τ sig) → Buf (Elt Ideal) ℓ)

theorem idx : ∀ t : Fin cfg0.N, win0_0.index t = ![(t : ℕ), 0] ∧ win0_1.index t = ![(t : ℕ), 0] ∧ win0_2.index t = ![0, 0] ∧ win0_3.index t = ![(t : ℕ), 0] :=
  (by decide +kernel : ∀ t : Fin grid0.N, _)

theorem rows_h (c : Dev nD) (t : Fin cfg0.N) (a : Fin 272) (j : Fin 2048) (r : Fin 4352) (hr : (r : ℕ) = t * 272 + a) :
    iblk m c 0 t (ix2 a j) = m ((c : Thread nD τ).loc main_arg0) (ix2 r j) := by
  obtain ⟨e, -, -, -⟩ := idx t
  blk_ext [iblk, V, e]

theorem rows_y (c : Dev nD) (t : Fin cfg0.N) (a : Fin 272) (j : Fin 2048) (r : Fin 4352) (hr : (r : ℕ) = t * 272 + a) :
    iblk m c 1 t (ix2 a j) = m ((c : Thread nD τ).loc main_arg1) (ix2 r j) := by
  obtain ⟨-, e, -, -⟩ := idx t
  blk_ext [iblk, V, e]

theorem scales (c : Dev nD) (t : Fin cfg0.N) (j : Fin 2048) :
    iblk m c 2 t (ix2 0 j) = m ((c : Thread nD τ).loc main_arg2) (ix1 j) := by
  obtain ⟨-, -, e, -⟩ := idx t
  refine (?_ : _ = V m c main_v0 (ix2 0 j)).trans ?_
  · unfold iblk
    blk_ext [e]
  · have e' : V m c main_v0 = shapeCast S1x2048 (m ((c : Thread nD τ).loc main_arg2)) shapeCasts_S2048_S1x2048 := rfl
    rw [e']
    pointwise

/-- What a point computes, from its blocks, is that row. -/
theorem point (c : Dev nD) (t : Fin cfg0.N) (a : Fin 272) (r : Fin 4352) (hr : (r : ℕ) = t * 272 + a) (j : Fin 2048) :
    k0_pay1 (F := Ideal) (iblk m c 0 t) (iblk m c 1 t) (iblk m c 2 t) (ix2 a j) = sumRow (m ((c : Thread nD τ).loc main_arg0)) (m ((c : Thread nD τ).loc main_arg1)) (m ((c : Thread nD τ).loc main_arg2)) r j := by
  have h (d b : FVec Ideal S272x2048 .f32) (g : FVec Ideal S1x2048 .f32) :
      (k0_pay1 (F := Ideal) d b g (ix2 a j) : EReal) = d (ix2 a j) + b (ix2 a j) * Ideal.rsqrt (square fun k => b (ix2 a k)) * g (ix2 0 j) := by
    unfold k0_pay1
    pointwise
    rfl
  refine (h _ _ _).trans ?_
  unfold sumRow
  exact congrArg₂ (· + ·) (rows_h m c t a j r hr) (congrArg₂ (· * ·) (congrArg₂ (· * ·) (rows_y m c t a j r hr)
    (congrArg (fun v => Ideal.rsqrt (square v)) (funext fun k => rows_y m c t a k r hr))) (scales m c t j))

set_option maxHeartbeats 2000000 in
theorem final (c : Dev nD) : (dats m 0 c).arrAt 3 cfg0.N
    = sums (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨-, -, -, e⟩ := idx t
  generalize hi : ((View.whole main_v1).slice (win0_3.rect t)).emb y = i
  have hr : (i 0 : ℕ) = t * 272 + y 0 := by rw [← hi]; blk_simp; rw [e]; rfl
  have hj : y 1 = i 1 := Fin.ext (by rw [← hi]; blk_simp; rw [e]; simp)
  blk_simp
  rw [after0_3]
  unfold sums
  rw [← hj, ValueIdx.eq_ix2 y]
  refine Eq.trans ?_ (point m c t (y 0) (i 0) hr (y 1))
  frame_out
  rfl

theorem claim_algebraic : Cert.algebraic_Kernel21Ideal_Reference21Ideal := by
  intro m ρ m' ρ' _ hagree
  refine ⟨fun c => sums (m ((c : Thread nD τ).loc main_arg0)) (m ((c : Thread nD τ).loc main_arg1)) (m ((c : Thread nD τ).loc main_arg2)), ?_, ?_⟩
  · exact (θ_run Cert.Kernel21Ideal.defs _ _).mono (fun _ h c => ⟨(h c).1.trans (final m c), (h c).2⟩)
      (Cert.Kernel21Ideal.Value.run_blocks (F := Ideal) m ρ)
  · refine (θ_run Cert.Reference21Ideal.defs _ _).mono (fun _ h c => ⟨(h c).1.trans ?_, (h c).2⟩)
      (Cert.Reference21Ideal.Value.run (F := Ideal) m' ρ')
    refine (Cert.Reference21Ideal.Read.val_main_v13_eq _ _ _).trans ?_
    obtain ⟨a0, a1, a2⟩ := hagree c
    rw [a0, a1, a2]
    exact ref_all _ _ _

theorem frame_reference : Cert.quiescent_Reference21Ideal := fun m ρ _ =>
  (θ_run Cert.Reference21Ideal.defs _ _).mono (fun r h => ⟨fun c => (h c).2,
      Idealize.ShloMosaic.sem_eq_zero_of_no_sems (by decide) r.2⟩)
    (Cert.Reference21Ideal.Value.run (F := Ideal) m ρ)

end Cert.LastResidual

end
-- ==== Proof.LastGrads.lean ====
/-
  The gradient by the last sublayer's output, back through its norm.
-/
module

public import proofs.«01_k».proof.Proof.NormMath
public import proofs.«01_k».proof.Proof.Gen.Kernel22Ideal.Value
public import proofs.«01_k».proof.Proof.Gen.Reference22Ideal.Run
public import proofs.«01_k».proof.Proof.Gen.Reference22Ideal.Read
public import proofs.«01_k».proof.Defs
public import Idealize.ShloMosaic.Lib.Pointwise
public import Idealize.ShloMosaic.Lib.Quiescent
public import Idealize.ShloMosaic.Lib.Pipeline.ValueKit

@[expose] public section

set_option maxRecDepth 16384

noncomputable section

namespace Cert.LastGrads

open Idealize.ShloMosaic Idealize.ShloMosaic.TcCoe
open Cert.Kernel22Ideal Cert.Kernel22Ideal.Gen
open Cert.Norm (square slope share slope_eq)

/-- The gradient at a row of the normalised branch, brought back to the branch. -/
def backRow (d y : S4352x2048.Idx → EReal) (g : S2048.Idx → EReal) (r : Fin 4352) (j : Fin 2048) : EReal :=
  slope (fun k => y (ix2 r k)) (fun k => d (ix2 r k) * g (ix1 k)) j

def back (d y : S4352x2048.Idx → EReal) (g : S2048.Idx → EReal) (i : S4352x2048.Idx) : EReal := backRow d y g (i 0) (i 1)

section Reference

open Cert.Reference22Ideal.Read

variable (d y : S4352x2048.Idx → EReal) (g : S2048.Idx → EReal)

theorem ref_row (r : Fin 4352) (j : Fin 2048) : val_main_v32 (F := Ideal) d y g (ix2 r j) = backRow d y g r j := by
  unfold backRow
  rw [← slope_eq]
  unfold val_main_v32 val_main_v31 val_main_v30 val_main_v29 val_main_v28 val_main_v27 val_main_v26 val_main_v25 val_main_v24 val_main_v23
    val_main_v22 val_main_v21 val_main_v20 val_main_v19 val_main_v18 val_main_v17 val_main_v16 val_main_v13 val_main_v10 val_main_v9
    val_main_v8 val_main_v7 val_main_v6 val_main_v5 val_main_v4 val_main_v3 val_main_v2 val_main_v1 val_main_v0 val_main_cst val_main_cst_1
    val_main_cst_2 val_main_cst_3 val_main_cst_4 val_main_cst_5
  pointwise
  simp [Fin.sum_univ_one]
  rfl

theorem ref_all : val_main_v32 (F := Ideal) d y g = back d y g :=
  funext fun i => by
    conv_lhs => rw [ValueIdx.eq_ix2 i]
    exact ref_row d y g (i 0) (i 1)

end Reference

variable (m : (ℓ : Loc nD τ sig) → Buf (Elt Ideal) ℓ)

theorem idx : ∀ t : Fin cfg0.N, win0_0.index t = ![(t : ℕ), 0] ∧ win0_1.index t = ![(t : ℕ), 0] ∧ win0_2.index t = ![0, 0] ∧ win0_3.index t = ![(t : ℕ), 0] :=
  (by decide +kernel : ∀ t : Fin grid0.N, _)

theorem rows_d (c : Dev nD) (t : Fin cfg0.N) (a : Fin 272) (j : Fin 2048) (r : Fin 4352) (hr : (r : ℕ) = t * 272 + a) :
    iblk m c 0 t (ix2 a j) = m ((c : Thread nD τ).loc main_arg0) (ix2 r j) := by
  obtain ⟨e, -, -, -⟩ := idx t
  blk_ext [iblk, V, e]

theorem rows_y (c : Dev nD) (t : Fin cfg0.N) (a : Fin 272) (j : Fin 2048) (r : Fin 4352) (hr : (r : ℕ) = t * 272 + a) :
    iblk m c 1 t (ix2 a j) = m ((c : Thread nD τ).loc main_arg1) (ix2 r j) := by
  obtain ⟨-, e, -, -⟩ := idx t
  blk_ext [iblk, V, e]

theorem scales (c : Dev nD) (t : Fin cfg0.N) (j : Fin 2048) :
    iblk m c 2 t (ix2 0 j) = m ((c : Thread nD τ).loc main_arg2) (ix1 j) := by
  obtain ⟨-, -, e, -⟩ := idx t
  refine (?_ : _ = V m c main_v0 (ix2 0 j)).trans ?_
  · unfold iblk
    blk_ext [e]
  · have e' : V m c main_v0 = shapeCast S1x2048 (m ((c : Thread nD τ).loc main_arg2)) shapeCasts_S2048_S1x2048 := rfl
    rw [e']
    pointwise

/-- What a point computes, from its blocks, is that row. -/
theorem point (c : Dev nD) (t : Fin cfg0.N) (a : Fin 272) (r : Fin 4352) (hr : (r : ℕ) = t * 272 + a) (j : Fin 2048) :
    k0_pay3 (F := Ideal) (iblk m c 0 t) (iblk m c 1 t) (iblk m c 2 t) (ix2 a j) = backRow (m ((c : Thread nD τ).loc main_arg0)) (m ((c : Thread nD τ).loc main_arg1)) (m ((c : Thread nD τ).loc main_arg2)) r j := by
  have h (d b : FVec Ideal S272x2048 .f32) (g : FVec Ideal S1x2048 .f32) :
      (k0_pay3 (F := Ideal) d b g (ix2 a j) : EReal) = slope (fun k => b (ix2 a k)) (fun k => (d (ix2 a k) : EReal) * g (ix2 0 k)) j := by
    unfold k0_pay3 k0_pay2 k0_pay1
    pointwise
    rfl
  refine (h _ _ _).trans ?_
  unfold backRow
  exact congrArg₂ (slope · · j) (funext fun k => rows_y m c t a k r hr) (funext fun k => congrArg₂ (· * ·) (rows_d m c t a k r hr) (scales m c t k))

set_option maxHeartbeats 2000000 in
theorem final (c : Dev nD) : (dats m 0 c).arrAt 3 cfg0.N
    = back (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨-, -, -, e⟩ := idx t
  generalize hi : ((View.whole main_v1_0).slice (win0_3.rect t)).emb y = i
  have hr : (i 0 : ℕ) = t * 272 + y 0 := by rw [← hi]; blk_simp; rw [e]; rfl
  have hj : y 1 = i 1 := Fin.ext (by rw [← hi]; blk_simp; rw [e]; simp)
  blk_simp
  rw [after0_3]
  unfold back
  rw [← hj, ValueIdx.eq_ix2 y]
  refine Eq.trans ?_ (point m c t (y 0) (i 0) hr (y 1))
  rcases (by omega : t.val % 16 = 0 ∨ ¬ t.val % 16 = 0) with h0 | h0
  · rw [outsAt0_A m c t h0]
    frame_out
    rfl
  · rw [outsAt0_B m c t h0]
    frame_out
    rfl

theorem claim_algebraic : Cert.algebraic_Kernel22Ideal_Reference22Ideal := by
  intro m ρ m' ρ' _ hagree
  refine ⟨fun c => back (m ((c : Thread nD τ).loc main_arg0)) (m ((c : Thread nD τ).loc main_arg1)) (m ((c : Thread nD τ).loc main_arg2)), ?_, ?_⟩
  · exact (θ_run Cert.Kernel22Ideal.defs _ _).mono (fun _ h c => ⟨(h c).1.trans (final m c), (h c).2.2⟩)
      (Cert.Kernel22Ideal.Value.run_blocks (F := Ideal) m ρ)
  · refine (θ_run Cert.Reference22Ideal.defs _ _).mono (fun _ h c => ⟨(h c).1.trans ?_, (h c).2⟩)
      (Cert.Reference22Ideal.Value.run (F := Ideal) m' ρ')
    refine (Cert.Reference22Ideal.Read.val_main_v32_eq _ _ _).trans ?_
    obtain ⟨a0, a1, a2⟩ := hagree c
    rw [a0, a1, a2]
    exact ref_all _ _ _

theorem frame_reference : Cert.quiescent_Reference22Ideal := fun m ρ _ =>
  (θ_run Cert.Reference22Ideal.defs _ _).mono (fun r h => ⟨fun c => (h c).2,
      Idealize.ShloMosaic.sem_eq_zero_of_no_sems (by decide) r.2⟩)
    (Cert.Reference22Ideal.Value.run (F := Ideal) m ρ)

end Cert.LastGrads

end
-- ==== Proof.FirstGrads.lean ====
/-
  The gradient by the rows that the first norm reads.
-/
module

public import proofs.«01_k».proof.Proof.NormMath
public import proofs.«01_k».proof.Proof.Gen.Kernel23Ideal.Value
public import proofs.«01_k».proof.Proof.Gen.Reference23Ideal.Run
public import proofs.«01_k».proof.Proof.Gen.Reference23Ideal.Read
public import proofs.«01_k».proof.Defs
public import Idealize.ShloMosaic.Lib.Pointwise
public import Idealize.ShloMosaic.Lib.Quiescent
public import Idealize.ShloMosaic.Lib.Pipeline.ValueKit

@[expose] public section

set_option maxRecDepth 16384

noncomputable section

namespace Cert.FirstGrads

open Idealize.ShloMosaic Idealize.ShloMosaic.TcCoe
open Cert.Kernel23Ideal Cert.Kernel23Ideal.Gen
open Cert.Norm (square slope share slope_eq)

/-- The gradient at a row: what came in, and what comes back through the norm. -/
def backRow (d u h : S4352x2048.Idx → EReal) (g : S2048.Idx → EReal) (r : Fin 4352) (j : Fin 2048) : EReal :=
  d (ix2 r j) + slope (fun k => h (ix2 r k)) (fun k => u (ix2 r k) * g (ix1 k)) j

def back (d u h : S4352x2048.Idx → EReal) (g : S2048.Idx → EReal) (i : S4352x2048.Idx) : EReal := backRow d u h g (i 0) (i 1)

section Reference

open Cert.Reference23Ideal.Read

variable (d u h : S4352x2048.Idx → EReal) (g : S2048.Idx → EReal)

theorem ref_row (r : Fin 4352) (j : Fin 2048) : val_main_v32 (F := Ideal) d u h g (ix2 r j) = backRow d u h g r j := by
  unfold backRow
  rw [← slope_eq]
  unfold val_main_v32 val_main_v31 val_main_v30 val_main_v29 val_main_v28 val_main_v27 val_main_v26 val_main_v25 val_main_v24 val_main_v23
    val_main_v22 val_main_v21 val_main_v20 val_main_v19 val_main_v18 val_main_v17 val_main_v16 val_main_v13 val_main_v10 val_main_v9
    val_main_v8 val_main_v7 val_main_v6 val_main_v5 val_main_v4 val_main_v3 val_main_v2 val_main_v1 val_main_v0 val_main_cst val_main_cst_1
    val_main_cst_2 val_main_cst_3 val_main_cst_4 val_main_cst_5
  pointwise
  simp [Fin.sum_univ_one]
  rfl

theorem ref_all : val_main_v32 (F := Ideal) d u h g = back d u h g :=
  funext fun i => by
    conv_lhs => rw [ValueIdx.eq_ix2 i]
    exact ref_row d u h g (i 0) (i 1)

end Reference

variable (m : (ℓ : Loc nD τ sig) → Buf (Elt Ideal) ℓ)

theorem idx : ∀ t : Fin cfg0.N, win0_0.index t = ![(t : ℕ), 0] ∧ win0_1.index t = ![(t : ℕ), 0] ∧ win0_2.index t = ![(t : ℕ), 0] ∧ win0_3.index t = ![0, 0] ∧ win0_4.index t = ![(t : ℕ), 0] :=
  (by decide +kernel : ∀ t : Fin grid0.N, _)

theorem rows_d (c : Dev nD) (t : Fin cfg0.N) (a : Fin 272) (j : Fin 2048) (r : Fin 4352) (hr : (r : ℕ) = t * 272 + a) :
    iblk m c 0 t (ix2 a j) = m ((c : Thread nD τ).loc main_arg0) (ix2 r j) := by
  obtain ⟨e, -, -, -, -⟩ := idx t
  blk_ext [iblk, V, e]

theorem rows_u (c : Dev nD) (t : Fin cfg0.N) (a : Fin 272) (j : Fin 2048) (r : Fin 4352) (hr : (r : ℕ) = t * 272 + a) :
    iblk m c 1 t (ix2 a j) = m ((c : Thread nD τ).loc main_arg1) (ix2 r j) := by
  obtain ⟨-, e, -, -, -⟩ := idx t
  blk_ext [iblk, V, e]

theorem rows_h (c : Dev nD) (t : Fin cfg0.N) (a : Fin 272) (j : Fin 2048) (r : Fin 4352) (hr : (r : ℕ) = t * 272 + a) :
    iblk m c 2 t (ix2 a j) = m ((c : Thread nD τ).loc main_arg2) (ix2 r j) := by
  obtain ⟨-, -, e, -, -⟩ := idx t
  blk_ext [iblk, V, e]

theorem scales (c : Dev nD) (t : Fin cfg0.N) (j : Fin 2048) :
    iblk m c 3 t (ix2 0 j) = m ((c : Thread nD τ).loc main_arg3) (ix1 j) := by
  obtain ⟨-, -, -, e, -⟩ := idx t
  refine (?_ : _ = V m c main_v0 (ix2 0 j)).trans ?_
  · unfold iblk
    blk_ext [e]
  · have e' : V m c main_v0 = shapeCast S1x2048 (m ((c : Thread nD τ).loc main_arg3)) shapeCasts_S2048_S1x2048 := rfl
    rw [e']
    pointwise

/-- What a point computes, from its blocks, is that row. -/
theorem point (c : Dev nD) (t : Fin cfg0.N) (a : Fin 272) (r : Fin 4352) (hr : (r : ℕ) = t * 272 + a) (j : Fin 2048) :
    k0_pay4 (F := Ideal) (iblk m c 0 t) (iblk m c 2 t) (iblk m c 3 t) (iblk m c 1 t) (ix2 a j) = backRow (m ((c : Thread nD τ).loc main_arg0)) (m ((c : Thread nD τ).loc main_arg1)) (m ((c : Thread nD τ).loc main_arg2)) (m ((c : Thread nD τ).loc main_arg3)) r j := by
  have h (d b u : FVec Ideal S272x2048 .f32) (g : FVec Ideal S1x2048 .f32) : (k0_pay4 (F := Ideal) d b g u (ix2 a j) : EReal)
      = d (ix2 a j) + slope (fun k => b (ix2 a k)) (fun k => (u (ix2 a k) : EReal) * g (ix2 0 k)) j := by
    unfold k0_pay4 k0_pay3 k0_pay2
    pointwise
    rfl
  refine (h _ _ _ _).trans ?_
  unfold backRow
  exact congrArg₂ (· + ·) (rows_d m c t a j r hr) (congrArg₂ (slope · · j) (funext fun k => rows_h m c t a k r hr)
    (funext fun k => congrArg₂ (· * ·) (rows_u m c t a k r hr) (scales m c t k)))

set_option maxHeartbeats 2000000 in
theorem final (c : Dev nD) : (dats m 0 c).arrAt 4 cfg0.N
    = back (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  obtain ⟨-, -, -, -, e⟩ := idx t
  generalize hi : ((View.whole main_v1_0).slice (win0_4.rect t)).emb y = i
  have hr : (i 0 : ℕ) = t * 272 + y 0 := by rw [← hi]; blk_simp; rw [e]; rfl
  have hj : y 1 = i 1 := Fin.ext (by rw [← hi]; blk_simp; rw [e]; simp)
  blk_simp
  rw [after0_4]
  unfold back
  rw [← hj, ValueIdx.eq_ix2 y]
  refine Eq.trans ?_ (point m c t (y 0) (i 0) hr (y 1))
  rcases (by omega : t.val % 16 = 0 ∨ ¬ t.val % 16 = 0) with h0 | h0
  · rw [outsAt0_A m c t h0]
    frame_out
    rfl
  · rw [outsAt0_B m c t h0]
    frame_out
    rfl

theorem claim_algebraic : Cert.algebraic_Kernel23Ideal_Reference23Ideal := by
  intro m ρ m' ρ' _ hagree
  refine ⟨fun c => back (m ((c : Thread nD τ).loc main_arg0)) (m ((c : Thread nD τ).loc main_arg1)) (m ((c : Thread nD τ).loc main_arg2)) (m ((c : Thread nD τ).loc main_arg3)), ?_, ?_⟩
  · exact (θ_run Cert.Kernel23Ideal.defs _ _).mono (fun _ h c => ⟨(h c).1.trans (final m c), (h c).2.2⟩)
      (Cert.Kernel23Ideal.Value.run_blocks (F := Ideal) m ρ)
  · refine (θ_run Cert.Reference23Ideal.defs _ _).mono (fun _ h c => ⟨(h c).1.trans ?_, (h c).2⟩)
      (Cert.Reference23Ideal.Value.run (F := Ideal) m' ρ')
    refine (Cert.Reference23Ideal.Read.val_main_v32_eq _ _ _ _).trans ?_
    obtain ⟨a0, a1, a2, a3⟩ := hagree c
    rw [a0, a1, a2, a3]
    exact ref_all _ _ _ _

theorem frame_reference : Cert.quiescent_Reference23Ideal := fun m ρ _ =>
  (θ_run Cert.Reference23Ideal.defs _ _).mono (fun r h => ⟨fun c => (h c).2,
      Idealize.ShloMosaic.sem_eq_zero_of_no_sems (by decide) r.2⟩)
    (Cert.Reference23Ideal.Value.run (F := Ideal) m ρ)

end Cert.FirstGrads

end
-- ==== Proof.LossGrads.lean ====
/-
  The gradient of the loss by the rows it reads; the other rows get none.
-/
module

public import proofs.«01_k».proof.Proof.Gen.Kernel24Ideal.Value
public import proofs.«01_k».proof.Proof.Gen.Reference24Ideal.Run
public import proofs.«01_k».proof.Proof.Gen.Reference24Ideal.Read
public import proofs.«01_k».proof.Defs
public import Idealize.ShloMosaic.Lib.Pointwise
public import Idealize.ShloMosaic.Lib.Quiescent
public import Idealize.ShloMosaic.Lib.Pipeline.ValueKit

@[expose] public section

set_option maxRecDepth 16384

noncomputable section

namespace Cert.LossGrads

open Idealize.ShloMosaic Idealize.ShloMosaic.TcCoe
open Cert.Kernel24Ideal Cert.Kernel24Ideal.Gen

/-- The gradient at a row. -/
def lossRow (h t : S4352x2048.Idx → EReal) (r : Fin 4352) (j : Fin 2048) : EReal :=
  if 16 ≤ (r : ℕ) ∧ (r : ℕ) < 4112 then (h (ix2 r j) - t (ix2 r j)) * ((1 / 2048 : ℝ) : EReal) else 0

def loss (h t : S4352x2048.Idx → EReal) (i : S4352x2048.Idx) : EReal := lossRow h t (i 0) (i 1)

section Reference

open Cert.Reference24Ideal.Read

variable (h t : S4352x2048.Idx → EReal)

theorem share_eq : Ideal.div (Ideal.ofBits .f32 0x3F000000#32) (Ideal.ofBits .f32 0x45000000#32) * Ideal.ofBits .f32 0x40000000#32
    = ((1 / 2048 : ℝ) : EReal) := by
  have e1 : Ideal.ofBits .f32 0x3F000000#32 = ((1 / 2 : ℝ) : EReal) := by simp [Ideal.ofBits, Ideal.ieee, -EReal.coe_mul]; norm_num
  have e2 : Ideal.ofBits .f32 0x45000000#32 = ((2048 : ℝ) : EReal) := by simp [Ideal.ofBits, Ideal.ieee, -EReal.coe_mul]; norm_num
  have e3 : Ideal.ofBits .f32 0x40000000#32 = ((2 : ℝ) : EReal) := by simp [Ideal.ofBits, Ideal.ieee, -EReal.coe_mul]; norm_num
  rw [e1, e2, e3]
  rw [Ideal.div_coe (by norm_num : (2048 : ℝ) ≠ 0) (((1 / 2 : ℝ)) : EReal), ← EReal.coe_mul, ← EReal.coe_mul]
  exact congrArg _ (by norm_num)

theorem ref_row (r : Fin 4352) (j : Fin 2048) : val_main_v17 (F := Ideal) h t (ix2 r j) = lossRow h t r j := by
  unfold val_main_v17
  pointwise
  unfold lossRow
  split
  case isTrue q =>
    have e : (16 ≤ (r : ℕ) ∧ (r : ℕ) < 4112) := by omega
    rw [if_pos e]
    have e' : (⟨16 + ((r : ℕ) - 16), by omega⟩ : Fin 4352) = r := Fin.ext (by simp; omega)
    unfold val_main_v16 val_main_v15 val_main_v14 val_main_v13 val_main_v12 val_main_v11 val_main_v5 val_main_v4 val_main_v2 val_main_v1 val_main_v0 val_main_cst val_main_cst_4 val_main_cst_5 val_main_cst_6
    pointwise
    rw [e', ← mul_assoc, share_eq, mul_comm]
  case isFalse q =>
    rw [if_neg (by omega)]
    unfold val_main_cst_7
    pointwise

theorem ref_all : val_main_v17 (F := Ideal) h t = loss h t :=
  funext fun i => by
    conv_lhs => rw [ValueIdx.eq_ix2 i]
    exact ref_row h t (i 0) (i 1)

end Reference

variable (m : (ℓ : Loc nD τ sig) → Buf (Elt Ideal) ℓ)

theorem mask : ∀ (i : Fin 16) (a : Fin 272), IntOp.andi
        (IntOp.cmpi CmpIPredicate.sge (IntOp.addi (Scalar.muli (BitVec.ofNat 32 i) 272#32) (BitVec.ofNat 32 a)) 16#32)
        (IntOp.cmpi CmpIPredicate.slt (IntOp.addi (Scalar.muli (BitVec.ofNat 32 i) 272#32) (BitVec.ofNat 32 a)) 4112#32)
      = if 16 ≤ (i : ℕ) * 272 + a ∧ (i : ℕ) * 272 + a < 4112 then 1#1 else 0#1 := by
  decide +kernel

theorem pay (i : grid0.Coords) (d b : FVec Ideal S272x2048 .f32) (a : Fin 272) (j : Fin 2048) :
    (k0_pay2 (F := Ideal) i d b (ix2 a j) : EReal) = if 16 ≤ (i 0).val * 272 + a ∧ (i 0).val * 272 + a < 4112 then ((d (ix2 a j) : EReal) - b (ix2 a j)) * ((1 / 2048 : ℝ) : EReal) else 0 := by
  unfold k0_pay2 k0_pay1
  pointwise
  rw [mask (i 0) a]
  split
  · have e : Ideal.ofBits .f32 0x3A000000#32 = ((1 / 2048 : ℝ) : EReal) := by simp [Ideal.ofBits, Ideal.ieee, -EReal.coe_mul]; norm_num
    rw [e]
    rfl
  · rfl

theorem idx : ∀ t : Fin cfg0.N, (grid0.coords t 0 : ℕ) = t ∧ win0_0.index t = ![(t : ℕ), 0] ∧ win0_1.index t = ![(t : ℕ), 0] ∧ win0_2.index t = ![(t : ℕ), 0] :=
  (by decide +kernel : ∀ t : Fin grid0.N, _)

theorem rows_h (c : Dev nD) (t : Fin cfg0.N) (a : Fin 272) (j : Fin 2048) (r : Fin 4352) (hr : (r : ℕ) = t * 272 + a) :
    iblk m c 0 t (ix2 a j) = m ((c : Thread nD τ).loc main_arg0) (ix2 r j) := by
  obtain ⟨-, e, -, -⟩ := idx t
  blk_ext [iblk, V, e]

theorem rows_t (c : Dev nD) (t : Fin cfg0.N) (a : Fin 272) (j : Fin 2048) (r : Fin 4352) (hr : (r : ℕ) = t * 272 + a) :
    iblk m c 1 t (ix2 a j) = m ((c : Thread nD τ).loc main_arg1) (ix2 r j) := by
  obtain ⟨-, -, e, -⟩ := idx t
  blk_ext [iblk, V, e]

/-- What a point computes, from its blocks, is that row. -/
theorem point (c : Dev nD) (t : Fin cfg0.N) (a : Fin 272) (r : Fin 4352) (hr : (r : ℕ) = t * 272 + a) (j : Fin 2048) :
    k0_pay2 (F := Ideal) (grid0.coords t) (iblk m c 0 t) (iblk m c 1 t) (ix2 a j) = lossRow (m ((c : Thread nD τ).loc main_arg0)) (m ((c : Thread nD τ).loc main_arg1)) r j := by
  refine (pay _ _ _ a j).trans ?_
  unfold lossRow
  rw [(idx t).1, hr]
  split
  · exact congrArg (· * _) (congrArg₂ (· - ·) (rows_h m c t a j r hr) (rows_t m c t a j r hr))
  · rfl

set_option maxHeartbeats 2000000 in
theorem final (c : Dev nD) : (dats m 0 c).arrAt 2 cfg0.N
    = loss (m ((c : Thread nD τ).loc main_arg0)) (m ((c : Thread nD τ).loc main_arg1)) := by
  refine (dats m 0 c).arrAt_eq_of_covers 2 _ (by decide +kernel) fun t hf y => ?_
  obtain ⟨-, -, -, e⟩ := idx t
  generalize hi : ((View.whole main_v0_0).slice (win0_2.rect t)).emb y = i
  have hr : (i 0 : ℕ) = t * 272 + y 0 := by rw [← hi]; blk_simp; rw [e]; rfl
  have hj : y 1 = i 1 := Fin.ext (by rw [← hi]; blk_simp; rw [e]; simp)
  blk_simp
  rw [after0_2]
  unfold loss
  rw [← hj, ValueIdx.eq_ix2 y]
  refine Eq.trans ?_ (point m c t (y 0) (i 0) hr (y 1))
  rcases (by omega : t.val % 16 = 0 ∨ ¬ t.val % 16 = 0) with h0 | h0
  · rw [outsAt0_A m c t h0]
    frame_out
    rfl
  · rw [outsAt0_B m c t h0]
    frame_out
    rfl

theorem claim_algebraic : Cert.algebraic_Kernel24Ideal_Reference24Ideal := by
  intro m ρ m' ρ' _ hagree
  refine ⟨fun c => loss (m ((c : Thread nD τ).loc main_arg0)) (m ((c : Thread nD τ).loc main_arg1)), ?_, ?_⟩
  · exact (θ_run Cert.Kernel24Ideal.defs _ _).mono (fun _ h c => ⟨(h c).1.trans (final m c), (h c).2.2⟩)
      (Cert.Kernel24Ideal.Value.run_blocks (F := Ideal) m ρ)
  · refine (θ_run Cert.Reference24Ideal.defs _ _).mono (fun _ h c => ⟨(h c).1.trans ?_, (h c).2⟩)
      (Cert.Reference24Ideal.Value.run (F := Ideal) m' ρ')
    refine (Cert.Reference24Ideal.Read.val_main_v17_eq _ _).trans ?_
    obtain ⟨a0, a1⟩ := hagree c
    rw [a0, a1]
    exact ref_all _ _

theorem frame_reference : Cert.quiescent_Reference24Ideal := fun m ρ _ =>
  (θ_run Cert.Reference24Ideal.defs _ _).mono (fun r h => ⟨fun c => (h c).2,
      Idealize.ShloMosaic.sem_eq_zero_of_no_sems (by decide) r.2⟩)
    (Cert.Reference24Ideal.Value.run (F := Ideal) m ρ)

end Cert.LossGrads

end
-- ==== Proof.GateMath.lean ====
/-
  The gated convolution's gradient as a function of its arguments, and the two ways its gate derivative is written.
-/
module

public import Idealize.ShloMosaic.PureOps
public import Idealize.ShloMosaic.Lib.Pointwise
public import Idealize.ShloMosaic.Lib.IdealHost

@[expose] public section

noncomputable section

namespace Cert.Gate

open Idealize.ShloMosaic

/-- A matrix read at natural coordinates; zero outside. -/
def at2 {n k : ℕ} (x : (⟨2, ![n, k]⟩ : Shape).Idx → EReal) (r l : ℕ) : EReal :=
  if h : r < n ∧ l < k then x (ix2 ⟨r, h.1⟩ ⟨l, h.2⟩) else 0

/-- A vector read at a natural coordinate; zero outside. -/
def at1 {n : ℕ} (x : (⟨1, ![n]⟩ : Shape).Idx → EReal) (l : ℕ) : EReal := if h : l < n then x (ix1 ⟨l, h⟩) else 0

theorem at2_of_lt {n k : ℕ} (x : (⟨2, ![n, k]⟩ : Shape).Idx → EReal) (r : Fin n) (l : Fin k) : at2 x r l = x (ix2 r l) :=
  dif_pos ⟨r.isLt, l.isLt⟩

theorem at1_of_lt {n : ℕ} (x : (⟨1, ![n]⟩ : Shape).Idx → EReal) (l : Fin n) : at1 x l = x (ix1 l) := dif_pos l.isLt

/-- The rows below two rows of zeros. -/
def padRow {n k : ℕ} (p : (⟨2, ![n, k]⟩ : Shape).Idx → EReal) (s l : ℕ) : EReal := if 2 ≤ s then at2 p (s - 2) l else 0

/-- The causal depthwise convolution of width 3. -/
def conv {n k : ℕ} (p : (⟨2, ![n, k]⟩ : Shape).Idx → EReal) (w : (⟨2, ![3, k]⟩ : Shape).Idx → EReal)
    (b : (⟨1, ![k]⟩ : Shape).Idx → EReal) (r l : ℕ) : EReal :=
  at2 w 0 l * padRow p r l + at2 w 1 l * padRow p (r + 1) l + at2 w 2 l * padRow p (r + 2) l + at1 b l

/-- One half, the word the kernel multiplies by. -/
def half : EReal := Ideal.ofBits .f32 0x3F000000#32

/-- The logistic function through the hyperbolic tangent. -/
def logi (a : EReal) : EReal := half + half * Ideal.tanh (half * a)

/-- The gate's gradient in its two operands (`z = 0`: the gate, else the other), at the cotangent `d`. -/
def slope (z : ℕ) (g u d : EReal) : EReal := if z = 0 then d * u * logi g * (1 + g * (1 - logi g)) else d * g * logi g

/-- The gradient at the convolution's result: half `z`, row `r`, column `j` of `F`. -/
def dConv {n k F : ℕ} (p : (⟨2, ![n, k]⟩ : Shape).Idx → EReal) (w : (⟨2, ![3, k]⟩ : Shape).Idx → EReal)
    (b : (⟨1, ![k]⟩ : Shape).Idx → EReal) (d : (⟨2, ![n, F]⟩ : Shape).Idx → EReal) (z r j : ℕ) : EReal :=
  slope z (conv p w b r j) (conv p w b r (F + j)) (at2 d r j)

/-- What a row's gradient is multiplied by in row `k` of the second result: the row the tap read, or 1 for the bias. -/
def factor {n w : ℕ} (p : (⟨2, ![n, w]⟩ : Shape).Idx → EReal) (k r l : ℕ) : EReal := if k < 3 then padRow p (r + k) l else 1

/-- A value that is a real number. -/
def IsReal (x : EReal) : Prop := ∃ r : ℝ, x = r

theorem IsReal.add {x y : EReal} : IsReal x → IsReal y → IsReal (x + y) := by
  rintro ⟨a, rfl⟩ ⟨b, rfl⟩; exact ⟨a + b, (EReal.coe_add a b).symm⟩
theorem IsReal.mul {x y : EReal} : IsReal x → IsReal y → IsReal (x * y) := by
  rintro ⟨a, rfl⟩ ⟨b, rfl⟩; exact ⟨a * b, (EReal.coe_mul a b).symm⟩
theorem IsReal.zero : IsReal 0 := ⟨0, rfl⟩

theorem half_eq : half = ((1 / 2 : ℝ) : EReal) := by
  simp [half, Ideal.ofBits, Ideal.ieee, -EReal.coe_mul]; norm_num

/-- The logistic function of a real number, through the exponential. -/
theorem logi_real (a : ℝ) : logi a = ((1 / (1 + Real.exp (-a)) : ℝ) : EReal) := by
  have key : (1 / 2 : ℝ) + 1 / 2 * Real.tanh (1 / 2 * a) = 1 / (1 + Real.exp (-a)) := by
    rw [Real.tanh_eq_sinh_div_cosh, Real.sinh_eq, Real.cosh_eq]
    have e : Real.exp (-a) = Real.exp (-(1 / 2 * a)) * Real.exp (-(1 / 2 * a)) := by rw [← Real.exp_add]; congr 1; ring
    have h : Real.exp (1 / 2 * a) * Real.exp (-(1 / 2 * a)) = 1 := by rw [← Real.exp_add]; simp
    rw [e]
    have h1 := Real.exp_pos (1 / 2 * a)
    have h2 := Real.exp_pos (-(1 / 2 * a))
    generalize Real.exp (1 / 2 * a) = x at h h1 ⊢
    generalize Real.exp (-(1 / 2 * a)) = y at h h2 ⊢
    field_simp
    linear_combination 2 * y * h
  unfold logi
  rw [half_eq, ← EReal.coe_mul]
  show ((1 / 2 : ℝ) : EReal) + ((1 / 2 : ℝ) : EReal) * ((Real.tanh (1 / 2 * a) : ℝ) : EReal) = _
  rw [← EReal.coe_mul, ← EReal.coe_add, key]

/-- The same through the quotient of 1 and 1 + exp(-a). -/
theorem quot_real (a : ℝ) : Ideal.div 1 (1 + Ideal.exp (-(a : EReal))) = logi a := by
  rw [logi_real]
  have e : (1 : EReal) + Ideal.exp (-(a : EReal)) = ((1 + Real.exp (-a) : ℝ) : EReal) := by
    rw [← EReal.coe_neg]; show (1 : EReal) + ((Real.exp (-a) : ℝ) : EReal) = _; rw [EReal.coe_add, EReal.coe_one]
  have hp : (0 : ℝ) < 1 + Real.exp (-a) := by positivity
  rw [e]
  unfold Ideal.div
  rw [if_neg (by exact_mod_cast hp.ne'), one_mul, ← EReal.coe_inv, one_div]

/-- The other operand's gradient, through the quotient. -/
theorem slope_up {g : EReal} (hg : IsReal g) (u d : EReal) : g * Ideal.div 1 (1 + Ideal.exp (-g)) * d = slope 1 g u d := by
  obtain ⟨a, rfl⟩ := hg
  rw [quot_real]
  unfold slope
  rw [if_neg (by decide), mul_comm _ d, mul_assoc]

/-- The gate's gradient, through the quotient and the product rule; a real equality, since multiplication distributes over
    addition only there. -/
theorem slope_gate {g u d : EReal} (hg : IsReal g) (hu : IsReal u) (hd : IsReal d) :
    d * u * Ideal.div 1 (1 + Ideal.exp (-g))
      + g * (d * u) * (Ideal.div 1 (1 + Ideal.exp (-g)) * (1 - Ideal.div 1 (1 + Ideal.exp (-g)))) = slope 0 g u d := by
  obtain ⟨a, rfl⟩ := hg
  obtain ⟨b, rfl⟩ := hu
  obtain ⟨e, rfl⟩ := hd
  rw [quot_real]
  unfold slope
  rw [if_pos rfl, logi_real]
  generalize 1 / (1 + Real.exp (-a)) = s
  have h1 : (1 : EReal) = ((1 : ℝ) : EReal) := EReal.coe_one.symm
  rw [h1]
  simp only [← EReal.coe_mul, ← EReal.coe_sub, ← EReal.coe_add]
  congr 1
  ring

end Cert.Gate
-- ==== Proof.GateForward.lean ====
/-
  The gated convolution itself: what the kernel leaves in its result, and the reference.
-/
module

public import proofs.«01_k».proof.Proof.GateMath
public import proofs.«01_k».proof.Proof.Gen.Kernel25Ideal.Value
public import proofs.«01_k».proof.Proof.Gen.Reference25Ideal.Run
public import proofs.«01_k».proof.Proof.Gen.Reference25Ideal.Read
public import proofs.«01_k».proof.Defs
public import Idealize.ShloMosaic.Lib.Pointwise
public import Idealize.ShloMosaic.Lib.Quiescent
public import Idealize.ShloMosaic.Lib.Pipeline.ValueKit

@[expose] public section

set_option maxRecDepth 16384

noncomputable section

namespace Cert.GateForward

open Idealize.ShloMosaic Idealize.ShloMosaic.TcCoe
open Cert.Kernel25Ideal Cert.Kernel25Ideal.Gen
open Cert.Gate (at2 at1 at2_of_lt at1_of_lt padRow conv half half_eq logi quot_real)

/-- The quotient is the logistic function at the infinities too. -/
theorem quot (x : EReal) : Ideal.div 1 (1 + Ideal.exp (-x)) = logi x := by
  induction x with
  | coe a => exact quot_real a
  | top =>
    have h : half * (⊤ : EReal) = ⊤ := by rw [half_eq]; exact EReal.coe_mul_top_of_pos (by norm_num)
    have e : Ideal.exp (-(⊤ : EReal)) = 0 := rfl
    have e' : Ideal.tanh (⊤ : EReal) = 1 := rfl
    unfold logi
    rw [h, e, e', half_eq, add_zero, mul_one, ← EReal.coe_add, ← EReal.coe_one, Ideal.div_coe one_ne_zero, ← EReal.coe_mul]
    exact congrArg _ (by norm_num)
  | bot =>
    have h : half * (⊥ : EReal) = ⊥ := by rw [half_eq]; exact EReal.coe_mul_bot_of_pos (by norm_num)
    have e : Ideal.exp (-(⊥ : EReal)) = ⊤ := rfl
    have e' : Ideal.tanh (⊥ : EReal) = -1 := rfl
    have e2 : (1 : EReal) + ⊤ = ⊤ := rfl
    unfold logi
    rw [h, e, e', half_eq, e2, ← EReal.coe_one, ← EReal.coe_neg, ← EReal.coe_mul, ← EReal.coe_add]
    have z : (1 / 2 + 1 / 2 * -1 : ℝ) = 0 := by norm_num
    rw [z]
    unfold Ideal.div
    simp

/-- The result at a row and a column. -/
def outRow (p : S4352x11264.Idx → EReal) (w : S3x11264.Idx → EReal) (b : S11264.Idx → EReal) (r l : ℕ) : EReal :=
  conv p w b r l * logi (conv p w b r l) * conv p w b r (5632 + l)

def out (p : S4352x11264.Idx → EReal) (w : S3x11264.Idx → EReal) (b : S11264.Idx → EReal) (i : S4352x5632.Idx) : EReal :=
  outRow p w b (i 0) (i 1)

section Reference

open Cert.Reference25Ideal.Read

variable (x0 : S4352x11264.Idx → EReal) (x1 : S3x11264.Idx → EReal) (x2 : S11264.Idx → EReal)

theorem ref_pad (s : Fin 4354) (l : Fin 11264) : val_main_v2 (F := Ideal) x0 (ix2 s l) = padRow x0 s l := by
  unfold val_main_v2 val_main_v1 val_main_v0 val_main_cst padRow at2
  pointwise
  by_cases h : (s : ℕ) < 2
  · simp [h, (by omega : ¬ 2 ≤ (s : ℕ))]
  · simp [h, (by omega : ¬ (s : ℕ) ≤ 1), (by omega : 2 ≤ (s : ℕ)), (by omega : (s : ℕ) - 2 < 4352)]

theorem ref_conv (r : Fin 4352) (l : Fin 11264) : val_main_v27 (F := Ideal) x0 x1 x2 (ix2 r l) = conv x0 x1 x2 r l := by
  unfold val_main_v27 val_main_v26 val_main_v25 val_main_v24 val_main_v23 val_main_v22 val_main_v21 val_main_v20 val_main_v19 val_main_v18
    val_main_v17 val_main_v16 val_main_v15 val_main_v14 val_main_v13 val_main_v12 val_main_v11 val_main_v10 val_main_v9 val_main_v8 val_main_v7
    val_main_v6 val_main_v5 val_main_v4 val_main_v3 val_main_cst_0
  pointwise
  simp only [ref_pad]
  unfold conv
  rw [Nat.add_comm (r : ℕ) 1, Nat.add_comm (r : ℕ) 2]
  refine congrArg₂ (· + ·) (congrArg₂ (· + ·) (congrArg₂ (· + ·) ?_ ?_) ?_) (at1_of_lt _ _).symm
  · exact congrArg (· * _) (at2_of_lt x1 0 l).symm
  · exact congrArg (· * _) (at2_of_lt x1 1 l).symm
  · exact congrArg (· * _) (at2_of_lt x1 2 l).symm

theorem ref_all : val_main_v32 (F := Ideal) x0 x1 x2 = out x0 x1 x2 := by
  funext i
  obtain ⟨r, j, rfl⟩ : ∃ (r : Fin 4352) (j : Fin 5632), i = ix2 r j := ⟨i 0, i 1, ValueIdx.eq_ix2 i⟩
  unfold val_main_v32 val_main_v31 val_main_v30 val_main_v29 val_main_call0_v5 val_main_call0_v4 val_main_call0_cst_0 val_main_call0_v3
    val_main_call0_v2 val_main_call0_cst val_main_call0_v1 val_main_call0_v0 val_main_v28
  pointwise
  simp only [ref_conv]
  rw [quot]
  rfl

end Reference

variable (m : (ℓ : Loc nD τ sig) → Buf (Elt Ideal) ℓ)

/-- The arguments on device `c`: the rows, the taps, the bias. -/
abbrev rowsArg (c : Dev nD) : S4352x11264.Idx → EReal := m ((c : Thread nD τ).loc main_arg0)
abbrev tapsArg (c : Dev nD) : S3x11264.Idx → EReal := m ((c : Thread nD τ).loc main_arg1)
abbrev biasArg (c : Dev nD) : S11264.Idx → EReal := m ((c : Thread nD τ).loc main_arg2)

/-- Where each window's block sits: row tile `t / 11`, column tile `t % 11`; the upper half lies 11 column tiles to the right;
    the halo is the 16 rows above the tile. -/
theorem idx : ∀ t : Fin cfg0.N, win0_0.index t = ![t.val / 11, t.val % 11] ∧ win0_1.index t = ![t.val / 11 * 34 - 1, t.val % 11]
    ∧ win0_2.index t = ![t.val / 11, 11 + t.val % 11] ∧ win0_3.index t = ![t.val / 11 * 34 - 1, 11 + t.val % 11]
    ∧ win0_4.index t = ![0, t.val % 11] ∧ win0_5.index t = ![0, 11 + t.val % 11]
    ∧ win0_6.index t = ![0, t.val % 11] ∧ win0_7.index t = ![0, 11 + t.val % 11]
    ∧ win0_8.index t = ![t.val / 11, t.val % 11] ∧ (grid0.coords t 0).val = t.val / 11 :=
  (by decide +kernel : ∀ t : Fin grid0.N, _)

theorem point_lt (t : Fin cfg0.N) : t.val < 88 := t.isLt

theorem own_gate (c : Dev nD) (t : Fin cfg0.N) (a : Fin 544) (j : Fin 512) {s l : ℕ} (hs : s = t.val / 11 * 544 + a + 2)
    (hl : l = t.val % 11 * 512 + j) : iblk m c 0 t (ix2 a j) = padRow (rowsArg m c) s l := by
  obtain ⟨e, -, -, -, -, -, -, -, -, -⟩ := idx t
  have ht := point_lt t
  subst hs hl
  unfold padRow at2
  rw [if_pos (by omega), dif_pos (by omega)]
  blk_ext [iblk, V, e]

theorem own_up (c : Dev nD) (t : Fin cfg0.N) (a : Fin 544) (j : Fin 512) {s l : ℕ} (hs : s = t.val / 11 * 544 + a + 2)
    (hl : l = 5632 + (t.val % 11 * 512 + j)) : iblk m c 2 t (ix2 a j) = padRow (rowsArg m c) s l := by
  obtain ⟨-, -, e, -, -, -, -, -, -, -⟩ := idx t
  have ht := point_lt t
  subst hs hl
  unfold padRow at2
  rw [if_pos (by omega), dif_pos (by omega)]
  blk_ext [iblk, V, e]

theorem first_word : ∀ n < 8, Scalar.cmpi .eq (BitVec.ofNat 32 n) 0#32 = if n = 0 then 1#1 else 0#1 := by decide

theorem prev_gate (c : Dev nD) (t : Fin cfg0.N) (b : Fin 16) (j : Fin 512) {s l : ℕ} (hs : s + 14 = t.val / 11 * 544 + b) (hb : 14 ≤ b.val)
    (hl : l = t.val % 11 * 512 + j) :
    (Scalar.select (Scalar.cmpi .eq (BitVec.ofNat 32 (grid0.coords t 0)) 0#32) 0 (iblk m c 1 t (ix2 b j)) : EReal)
      = padRow (rowsArg m c) s l := by
  obtain ⟨-, e, -, -, -, -, -, -, -, e1⟩ := idx t
  have ht := point_lt t
  subst hl
  rw [e1, first_word _ (by omega)]
  unfold padRow at2
  by_cases h : t.val / 11 = 0
  · rw [if_pos h, if_neg (by omega)]; rfl
  · rw [if_neg h, if_pos (by omega), dif_pos (by omega)]
    show iblk m c 1 t (ix2 b j) = _
    blk_ext [iblk, V, e]

theorem prev_up (c : Dev nD) (t : Fin cfg0.N) (b : Fin 16) (j : Fin 512) {s l : ℕ} (hs : s + 14 = t.val / 11 * 544 + b) (hb : 14 ≤ b.val)
    (hl : l = 5632 + (t.val % 11 * 512 + j)) :
    (Scalar.select (Scalar.cmpi .eq (BitVec.ofNat 32 (grid0.coords t 0)) 0#32) 0 (iblk m c 3 t (ix2 b j)) : EReal)
      = padRow (rowsArg m c) s l := by
  obtain ⟨-, -, -, e, -, -, -, -, -, e1⟩ := idx t
  have ht := point_lt t
  subst hl
  rw [e1, first_word _ (by omega)]
  unfold padRow at2
  by_cases h : t.val / 11 = 0
  · rw [if_pos h, if_neg (by omega)]; rfl
  · rw [if_neg h, if_pos (by omega), dif_pos (by omega)]
    show iblk m c 3 t (ix2 b j) = _
    blk_ext [iblk, V, e]

theorem tap_gate (c : Dev nD) (t : Fin cfg0.N) (k : Fin 3) (j : Fin 512) {l : ℕ} (hl : l = t.val % 11 * 512 + j) :
    iblk m c 4 t (ix2 k j) = at2 (tapsArg m c) k l := by
  obtain ⟨-, -, -, -, e, -, -, -, -, -⟩ := idx t
  have ht := point_lt t
  subst hl
  unfold at2
  rw [dif_pos (by omega)]
  blk_ext [iblk, V, e]

theorem tap_up (c : Dev nD) (t : Fin cfg0.N) (k : Fin 3) (j : Fin 512) {l : ℕ} (hl : l = 5632 + (t.val % 11 * 512 + j)) :
    iblk m c 5 t (ix2 k j) = at2 (tapsArg m c) k l := by
  obtain ⟨-, -, -, -, -, e, -, -, -, -⟩ := idx t
  have ht := point_lt t
  subst hl
  unfold at2
  rw [dif_pos (by omega)]
  blk_ext [iblk, V, e]

theorem bias_gate (c : Dev nD) (t : Fin cfg0.N) (j : Fin 512) {l : ℕ} (hl : l = t.val % 11 * 512 + j) :
    iblk m c 6 t (ix2 0 j) = at1 (biasArg m c) l := by
  obtain ⟨-, -, -, -, -, -, e, -, -, -⟩ := idx t
  have ht := point_lt t
  subst hl
  unfold at1
  rw [dif_pos (by omega)]
  blk_ext! [iblk, V, e]

theorem bias_up (c : Dev nD) (t : Fin cfg0.N) (j : Fin 512) {l : ℕ} (hl : l = 5632 + (t.val % 11 * 512 + j)) :
    iblk m c 7 t (ix2 0 j) = at1 (biasArg m c) l := by
  obtain ⟨-, -, -, -, -, -, -, e, -, -⟩ := idx t
  have ht := point_lt t
  subst hl
  unfold at1
  rw [dif_pos (by omega)]
  blk_ext! [iblk, V, e]

/-- The convolution over the gate's half of the tile. -/
abbrev gateBlk (c : Dev nD) (t : Fin cfg0.N) : FVec Ideal S544x512 .f32 :=
  k0_pay2 (grid0.coords t) (iblk m c 0 t) (iblk m c 1 t) (iblk m c 4 t) (iblk m c 6 t)

theorem gate_conv (c : Dev nD) (t : Fin cfg0.N) (a : Fin 544) (j : Fin 512) {r l : ℕ} (hr : r = t.val / 11 * 544 + a) (hl : l = t.val % 11 * 512 + j) :
    gateBlk m c t (ix2 a j) = conv (rowsArg m c) (tapsArg m c) (biasArg m c) r l := by
  unfold gateBlk k0_pay2
  pointwise
  unfold conv
  refine congrArg₂ (· + ·) (congrArg₂ (· + ·) (congrArg₂ (· + ·) (congrArg₂ (· * ·) (tap_gate m c t 0 j hl) ?_)
    (congrArg₂ (· * ·) (tap_gate m c t 1 j hl) ?_)) (congrArg₂ (· * ·) (tap_gate m c t 2 j hl) ?_)) (bias_gate m c t j hl)
  · split
    · exact prev_gate m c t _ _ (by subst hr; dsimp only; omega) (by dsimp only; omega) hl
    · exact own_gate m c t _ _ (by subst hr; dsimp only; omega) hl
  · split
    · exact prev_gate m c t _ _ (by subst hr; dsimp only; omega) (by dsimp only; omega) hl
    · exact own_gate m c t _ _ (by subst hr; dsimp only; omega) hl
  · exact own_gate m c t a j (by rw [hr]) hl

/-- The rows of the other half, one earlier. -/
theorem up_row1 (c : Dev nD) (t : Fin cfg0.N) (a : Fin 544) (j : Fin 512) {s l : ℕ} (hs : s = t.val / 11 * 544 + a + 1)
    (hl : l = 5632 + (t.val % 11 * 512 + j)) :
    k0_pay5 (F := Ideal) (grid0.coords t) (iblk m c 2 t) (iblk m c 3 t) (ix2 a j) = padRow (rowsArg m c) s l := by
  unfold k0_pay5 k0_pay4 k0_pay3
  pointwise
  split
  · exact prev_up m c t _ _ (by subst hs; dsimp only; omega) (by dsimp only; omega) hl
  · exact own_up m c t _ _ (by subst hs; dsimp only; omega) hl

/-- What a point computes, from its blocks, is its tile of the result. -/
theorem point (c : Dev nD) (t : Fin cfg0.N) (a : Fin 544) (j : Fin 512) {r l : ℕ} (hr : r = t.val / 11 * 544 + a) (hl : l = t.val % 11 * 512 + j) :
    k0_pay1 (F := Ideal) (gateBlk m c t) (k0_pay3 (iblk m c 2 t)) (k0_pay4 (grid0.coords t) (iblk m c 2 t) (iblk m c 3 t))
      (k0_pay5 (grid0.coords t) (iblk m c 2 t) (iblk m c 3 t)) 2#32 (iblk m c 5 t) (iblk m c 7 t) (ix2 a j)
      = outRow (rowsArg m c) (tapsArg m c) (biasArg m c) r l := by
  have eg := gate_conv m c t a j hr hl
  generalize gateBlk m c t = g at eg ⊢
  unfold k0_pay1
  generalize e9 : k0_pay5 (F := Ideal) (grid0.coords t) (iblk m c 2 t) (iblk m c 3 t) = x9
  unfold k0_pay4 k0_pay3
  pointwise
  rw [eg]
  unfold outRow
  refine congrArg₂ (· * ·) rfl ?_
  rw [show conv (rowsArg m c) (tapsArg m c) (biasArg m c) r (5632 + l) = _ from rfl]
  unfold conv
  refine congrArg₂ (· + ·) (congrArg₂ (· + ·) (congrArg₂ (· + ·) (congrArg₂ (· * ·) (tap_up m c t 0 j (by rw [hl])) ?_)
    (congrArg₂ (· * ·) (tap_up m c t 1 j (by rw [hl])) ?_)) (congrArg₂ (· * ·) (tap_up m c t 2 j (by rw [hl])) ?_)) (bias_up m c t j (by rw [hl]))
  · split
    · exact prev_up m c t _ _ (by subst hr; dsimp only; omega) (by dsimp only; omega) (by rw [hl])
    · exact own_up m c t _ _ (by subst hr; dsimp only; omega) (by rw [hl])
  · rw [← e9]; exact up_row1 m c t a j (by rw [hr]) (by rw [hl])
  · exact own_up m c t a j (by rw [hr]) (by rw [hl])

set_option maxHeartbeats 2000000 in
theorem final (c : Dev nD) : (dats m 0 c).arrAt 8 cfg0.N = out (rowsArg m c) (tapsArg m c) (biasArg m c) := by
  refine (dats m 0 c).arrAt_eq_of_covers 8 _ (by decide +kernel) fun t hf y => ?_
  obtain ⟨-, -, -, -, -, -, -, -, e, -⟩ := idx t
  generalize hi : ((View.whole main_v2).slice (win0_8.rect t)).emb y = i
  have hr : (i 0 : ℕ) = t.val / 11 * 544 + y 0 := by rw [← hi]; blk_simp [e]
  have hj : (i 1 : ℕ) = t.val % 11 * 512 + y 1 := by rw [← hi]; blk_simp [e]
  blk_simp
  rw [after0_8]
  unfold out
  rw [ValueIdx.eq_ix2 y]
  refine Eq.trans ?_ (point m c t (y 0) (y 1) hr hj)
  frame_out
  rfl

theorem claim_algebraic : Cert.algebraic_Kernel25Ideal_Reference25Ideal := by
  intro m ρ m' ρ' _ hagree
  refine ⟨fun c => out (rowsArg m c) (tapsArg m c) (biasArg m c), ?_, ?_⟩
  · exact (θ_run Cert.Kernel25Ideal.defs _ _).mono (fun _ h c => ⟨(h c).1.trans (final m c), (h c).2⟩)
      (Cert.Kernel25Ideal.Value.run_blocks (F := Ideal) m ρ)
  · refine (θ_run Cert.Reference25Ideal.defs _ _).mono (fun _ h c => ⟨(h c).1.trans ?_, (h c).2⟩)
      (Cert.Reference25Ideal.Value.run (F := Ideal) m' ρ')
    refine (Cert.Reference25Ideal.Read.val_main_v32_eq _ _).trans ?_
    obtain ⟨a0, a1, a2⟩ := hagree c
    rw [a0, a1, a2]
    exact ref_all _ _ _

theorem frame_reference : Cert.quiescent_Reference25Ideal := fun m ρ _ =>
  (θ_run Cert.Reference25Ideal.defs _ _).mono (fun r h => ⟨fun c => (h c).2,
      Idealize.ShloMosaic.sem_eq_zero_of_no_sems (by decide) r.2⟩)
    (Cert.Reference25Ideal.Value.run (F := Ideal) m ρ)

end Cert.GateForward

end
-- ==== Proof.ProductSum.lean ====
/-
  Sums of products, term by term.
-/
module

public import Mathlib.Data.EReal.Operations
public import Mathlib.Algebra.BigOperators.Fin

@[expose] public section

namespace Cert

/-- Two sums of products are equal when their factors are. -/
theorem sum_mul_congr {K : ℕ} {f g f' g' : Fin K → EReal} (hf : ∀ k, f k = f' k) (hg : ∀ k, g k = g' k) :
    ∑ k, f k * g k = ∑ k, f' k * g' k :=
  Finset.sum_congr rfl fun k _ => congrArg₂ (· * ·) (hf k) (hg k)

end Cert
-- ==== Proof.Products.lean ====
/-
  The products of the forward pass.
-/
module

public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16Ideal.Value
public import proofs.«01_k».proof.Proof.Gen.Reference16Ideal.Run
public import proofs.«01_k».proof.Proof.Gen.Reference16Ideal.Read
public import proofs.«01_k».proof.Proof.ProductSum
public import proofs.«01_k».proof.Defs
public import Idealize.ShloMosaic.Lib.Pointwise
public import Idealize.ShloMosaic.Lib.Quiescent
public import Idealize.ShloMosaic.Lib.Pipeline.ValueKit

@[expose] public section

set_option maxRecDepth 16384

noncomputable section

namespace Cert.Product14

open Idealize.ShloMosaic Idealize.ShloMosaic.TcCoe Cert.Kernel14Ideal Cert.Kernel14Ideal.Gen

/-- The product `on @ w_out`. -/
def result (x0 : S4352x2048.Idx → EReal) (x1 : S2048x2048.Idx → EReal) (i : S4352x2048.Idx) : EReal :=
  ∑ k : Fin 2048, x0 (ix2 (i 0) k) * x1 (ix2 k (i 1))

theorem final (m : (ℓ : Loc nD τ sig) → Buf (Elt Ideal) ℓ) (c : Dev nD) : (dats m 0 c).arrAt 2 cfg0.N
    = result (m ((c : Thread nD τ).loc main_arg0)) (m ((c : Thread nD τ).loc main_arg1)) := by
  have idx : ∀ t : Fin cfg0.N, win0_0.index t = ![win0_2.index t 0, 0] ∧ win0_1.index t = ![0, win0_2.index t 1] :=
    (by decide +kernel : ∀ t : Fin grid0.N, _)
  refine (dats m 0 c).arrAt_eq_of_covers 2 _ (by decide +kernel) fun t hf y => ?_
  blk_simp
  rw [after0_2]
  unfold outsAt0
  frame_out
  unfold k0_pay1
  pointwise
  obtain ⟨e0, e1⟩ := idx t
  refine Cert.sum_mul_congr (fun k => ?_) fun k => ?_
  · blk_ext [iblk, V, e0]
  · blk_ext [iblk, V, e1]

open Cert.Reference14Ideal.Read in
theorem ref_apply (x0 : S4352x2048.Idx → EReal) (x1 : S2048x2048.Idx → EReal) : val_main_v2 (F := Ideal) x0 x1 = result x0 x1 := by
  funext i
  obtain ⟨r, l, rfl⟩ : ∃ (r : Fin 4352) (l : Fin 2048), i = ix2 r l := ⟨i 0, i 1, ValueIdx.eq_ix2 i⟩
  unfold val_main_v2 val_main_v1 val_main_v0
  pointwise
  rfl

theorem claim_algebraic : Cert.algebraic_Kernel14Ideal_Reference14Ideal := by
  intro m ρ m' ρ' _ hagree
  refine ⟨fun c => result (m ((c : Thread nD τ).loc main_arg0)) (m ((c : Thread nD τ).loc main_arg1)), ?_, ?_⟩
  · exact (θ_run Cert.Kernel14Ideal.defs _ _).mono (fun _ h c => ⟨(h c).1.trans (final m c), (h c).2⟩)
      (Cert.Kernel14Ideal.Value.run_blocks (F := Ideal) m ρ)
  · refine (θ_run Cert.Reference14Ideal.defs _ _).mono (fun _ h c => ⟨(h c).1.trans ?_, (h c).2⟩)
      (Cert.Reference14Ideal.Value.run (F := Ideal) m' ρ')
    refine (Cert.Reference14Ideal.Read.val_main_v2_eq _ _).trans ?_
    rw [(hagree c).1, (hagree c).2]
    exact ref_apply _ _

theorem frame_reference : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

end Cert.Product14

namespace Cert.Product15

open Idealize.ShloMosaic Idealize.ShloMosaic.TcCoe Cert.Kernel15Ideal Cert.Kernel15Ideal.Gen

/-- The product `u2 @ w_up`. -/
def result (x0 : S4352x2048.Idx → EReal) (x1 : S2048x11264.Idx → EReal) (i : S4352x11264.Idx) : EReal :=
  ∑ k : Fin 2048, x0 (ix2 (i 0) k) * x1 (ix2 k (i 1))

theorem final (m : (ℓ : Loc nD τ sig) → Buf (Elt Ideal) ℓ) (c : Dev nD) : (dats m 0 c).arrAt 2 cfg0.N
    = result (m ((c : Thread nD τ).loc main_arg0)) (m ((c : Thread nD τ).loc main_arg1)) := by
  have idx : ∀ t : Fin cfg0.N, win0_0.index t = ![win0_2.index t 0, 0] ∧ win0_1.index t = ![0, win0_2.index t 1] :=
    (by decide +kernel : ∀ t : Fin grid0.N, _)
  refine (dats m 0 c).arrAt_eq_of_covers 2 _ (by decide +kernel) fun t hf y => ?_
  blk_simp
  rw [after0_2]
  unfold outsAt0
  frame_out
  unfold k0_pay1
  pointwise
  obtain ⟨e0, e1⟩ := idx t
  refine Cert.sum_mul_congr (fun k => ?_) fun k => ?_
  · blk_ext [iblk, V, e0]
  · blk_ext [iblk, V, e1]

open Cert.Reference15Ideal.Read in
theorem ref_apply (x0 : S4352x2048.Idx → EReal) (x1 : S2048x11264.Idx → EReal) : val_main_v3 (F := Ideal) x0 x1 = result x0 x1 := by
  funext i
  obtain ⟨r, l, rfl⟩ : ∃ (r : Fin 4352) (l : Fin 11264), i = ix2 r l := ⟨i 0, i 1, ValueIdx.eq_ix2 i⟩
  unfold val_main_v3 val_main_v2 val_main_v1 val_main_v0
  pointwise
  rfl

theorem claim_algebraic : Cert.algebraic_Kernel15Ideal_Reference15Ideal := by
  intro m ρ m' ρ' _ hagree
  refine ⟨fun c => result (m ((c : Thread nD τ).loc main_arg0)) (m ((c : Thread nD τ).loc main_arg1)), ?_, ?_⟩
  · exact (θ_run Cert.Kernel15Ideal.defs _ _).mono (fun _ h c => ⟨(h c).1.trans (final m c), (h c).2⟩)
      (Cert.Kernel15Ideal.Value.run_blocks (F := Ideal) m ρ)
  · refine (θ_run Cert.Reference15Ideal.defs _ _).mono (fun _ h c => ⟨(h c).1.trans ?_, (h c).2⟩)
      (Cert.Reference15Ideal.Value.run (F := Ideal) m' ρ')
    refine (Cert.Reference15Ideal.Read.val_main_v3_eq _ _).trans ?_
    rw [(hagree c).1, (hagree c).2]
    exact ref_apply _ _

theorem frame_reference : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

end Cert.Product15

namespace Cert.Product16

open Idealize.ShloMosaic Idealize.ShloMosaic.TcCoe Cert.Kernel16Ideal Cert.Kernel16Ideal.Gen

/-- The product `act @ w_down`. -/
def result (x0 : S4352x5632.Idx → EReal) (x1 : S5632x2048.Idx → EReal) (i : S4352x2048.Idx) : EReal :=
  ∑ k : Fin 5632, x0 (ix2 (i 0) k) * x1 (ix2 k (i 1))

theorem final (m : (ℓ : Loc nD τ sig) → Buf (Elt Ideal) ℓ) (c : Dev nD) : (dats m 0 c).arrAt 2 cfg0.N
    = result (m ((c : Thread nD τ).loc main_arg0)) (m ((c : Thread nD τ).loc main_arg1)) := by
  have idx : ∀ t : Fin cfg0.N, win0_0.index t = ![win0_2.index t 0, 0] ∧ win0_1.index t = ![0, win0_2.index t 1] :=
    (by decide +kernel : ∀ t : Fin grid0.N, _)
  refine (dats m 0 c).arrAt_eq_of_covers 2 _ (by decide +kernel) fun t hf y => ?_
  blk_simp
  rw [after0_2]
  unfold outsAt0
  frame_out
  unfold k0_pay1
  pointwise
  obtain ⟨e0, e1⟩ := idx t
  refine Cert.sum_mul_congr (fun k => ?_) fun k => ?_
  · blk_ext [iblk, V, e0]
  · blk_ext [iblk, V, e1]

open Cert.Reference16Ideal.Read in
theorem ref_apply (x0 : S4352x5632.Idx → EReal) (x1 : S5632x2048.Idx → EReal) : val_main_v2 (F := Ideal) x0 x1 = result x0 x1 := by
  funext i
  obtain ⟨r, l, rfl⟩ : ∃ (r : Fin 4352) (l : Fin 2048), i = ix2 r l := ⟨i 0, i 1, ValueIdx.eq_ix2 i⟩
  unfold val_main_v2 val_main_v1 val_main_v0
  pointwise
  rfl

theorem claim_algebraic : Cert.algebraic_Kernel16Ideal_Reference16Ideal := by
  intro m ρ m' ρ' _ hagree
  refine ⟨fun c => result (m ((c : Thread nD τ).loc main_arg0)) (m ((c : Thread nD τ).loc main_arg1)), ?_, ?_⟩
  · exact (θ_run Cert.Kernel16Ideal.defs _ _).mono (fun _ h c => ⟨(h c).1.trans (final m c), (h c).2⟩)
      (Cert.Kernel16Ideal.Value.run_blocks (F := Ideal) m ρ)
  · refine (θ_run Cert.Reference16Ideal.defs _ _).mono (fun _ h c => ⟨(h c).1.trans ?_, (h c).2⟩)
      (Cert.Reference16Ideal.Value.run (F := Ideal) m' ρ')
    refine (Cert.Reference16Ideal.Read.val_main_v2_eq _ _).trans ?_
    rw [(hagree c).1, (hagree c).2]
    exact ref_apply _ _

theorem frame_reference : Cert.quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)

end Cert.Product16
-- ==== Proof.ProductsIn.lean ====
/-
  The products with the input projection: the queries, keys and values, the gates, and the gradient by the rows.
-/
module

public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13Ideal.Value
public import proofs.«01_k».proof.Proof.Gen.Reference13Ideal.Run
public import proofs.«01_k».proof.Proof.Gen.Reference13Ideal.Read
public import proofs.«01_k».proof.Proof.ProductSum
public import proofs.«01_k».proof.Defs
public import Idealize.ShloMosaic.Lib.Pointwise
public import Idealize.ShloMosaic.Lib.Quiescent
public import Idealize.ShloMosaic.Lib.Pipeline.ValueKit

@[expose] public section

set_option maxRecDepth 16384

noncomputable section

namespace Cert

open Idealize.ShloMosaic

/-- The float of the integer zero is zero. -/
theorem float_zero (e : FTy) : (FloatOps.sitofp (F := Ideal) e 0#32 : EReal) = 0 := by
  show (((0#32 : BitVec 32).toInt : ℝ) : EReal) = 0
  simp

end Cert

namespace Cert.Product12

open Idealize.ShloMosaic Idealize.ShloMosaic.TcCoe Cert.Kernel12Ideal Cert.Kernel12Ideal.Gen

/-- The queries, keys and values: the first 6144 columns of `u1 @ w_in`. -/
def result (u : S4352x2048.Idx → EReal) (w : S2048x6152.Idx → EReal) (i : S4352x6144.Idx) : EReal :=
  ∑ k : Fin 2048, u (ix2 (i 0) k) * w (ix2 k ⟨i 1, (i 1).isLt.trans (by decide)⟩)

theorem final (m : (ℓ : Loc nD τ sig) → Buf (Elt Ideal) ℓ) (c : Dev nD) : (dats m 0 c).arrAt 2 cfg0.N
    = result (m ((c : Thread nD τ).loc main_arg0)) (m ((c : Thread nD τ).loc main_arg1)) := by
  have idx : ∀ t : Fin cfg0.N, win0_0.index t = ![win0_2.index t 0, 0] ∧ win0_1.index t = ![0, win0_2.index t 1] :=
    (by decide +kernel : ∀ t : Fin grid0.N, _)
  refine (dats m 0 c).arrAt_eq_of_covers 2 _ (by decide +kernel) fun t hf y => ?_
  blk_simp
  rw [after0_2]
  unfold outsAt0
  frame_out
  unfold k0_pay1
  pointwise
  obtain ⟨e0, e1⟩ := idx t
  refine Cert.sum_mul_congr (fun k => ?_) fun k => ?_
  · blk_ext! [iblk, e0]
  · blk_ext! [iblk, e1]

open Cert.Reference12Ideal.Read in
theorem ref_apply (x0 : S4352x2048.Idx → EReal) (x1 : S2048x6152.Idx → EReal) : val_main_v4 (F := Ideal) x0 x1 = result x0 x1 := by
  funext i
  obtain ⟨r, l, rfl⟩ : ∃ (r : Fin 4352) (l : Fin 6144), i = ix2 r l := ⟨i 0, i 1, ValueIdx.eq_ix2 i⟩
  unfold val_main_v4 val_main_v3 val_main_v2 val_main_v1 val_main_v0
  pointwise
  refine Cert.sum_mul_congr (fun k => rfl) fun k => ?_
  blk_ext

theorem claim_algebraic : Cert.algebraic_Kernel12Ideal_Reference12Ideal := by
  intro m ρ m' ρ' _ hagree
  refine ⟨fun c => result (m ((c : Thread nD τ).loc main_arg0)) (m ((c : Thread nD τ).loc main_arg1)), ?_, ?_⟩
  · exact (θ_run Cert.Kernel12Ideal.defs _ _).mono (fun _ h c => ⟨(h c).1.trans (final m c), (h c).2⟩)
      (Cert.Kernel12Ideal.Value.run_blocks (F := Ideal) m ρ)
  · refine (θ_run Cert.Reference12Ideal.defs _ _).mono (fun _ h c => ⟨(h c).1.trans ?_, (h c).2⟩)
      (Cert.Reference12Ideal.Value.run (F := Ideal) m' ρ')
    refine (Cert.Reference12Ideal.Read.val_main_v4_eq _ _).trans ?_
    rw [(hagree c).1, (hagree c).2]
    exact ref_apply _ _

theorem frame_reference : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

end Cert.Product12

namespace Cert.Product13

open Idealize.ShloMosaic Idealize.ShloMosaic.TcCoe Cert.Kernel13Ideal Cert.Kernel13Ideal.Gen

/-- Entry `k` of the gates' column `l` of `w_in`; zero past the eight heads. -/
def gate (w : S2048x6152.Idx → EReal) (k : Fin 2048) (l : ℕ) : EReal :=
  if h : l < 8 then w (ix2 k ⟨6144 + l, by omega⟩) else 0

/-- The gates' columns of `u1 @ w_in`, filled up with zeros to one tile. -/
def result (u : S4352x2048.Idx → EReal) (w : S2048x6152.Idx → EReal) (i : S4352x128.Idx) : EReal :=
  ∑ k : Fin 2048, u (ix2 (i 0) k) * gate w k (i 1)

theorem gate_of_lt (w : S2048x6152.Idx → EReal) (k : Fin 2048) {l : ℕ} (h : l < 8) : gate w k l = w (ix2 k ⟨6144 + l, by omega⟩) :=
  dif_pos h

theorem gate_of_not (w : S2048x6152.Idx → EReal) (k : Fin 2048) {l : ℕ} (h : ¬ l < 8) : gate w k l = 0 := dif_neg h

/-- The gates' columns as the call finds them. -/
theorem entry (m : (ℓ : Loc nD τ sig) → Buf (Elt Ideal) ℓ) (c : Dev nD) (k : Fin 2048) (l : Fin 128) :
    V m c main_v1 (ix2 k l) = gate (m ((c : Thread nD τ).loc main_arg1)) k l := by
  have e : V m c main_v1 = pad S2048x128 ![0, 0] ![0, 120] ![0, 0] (extractStridedSlice S2048x8 ![0, 6144]
      (m ((c : Thread nD τ).loc main_arg1)) slices_S2048x6152_S2048x8_0_6144) (sitofp (F := Ideal) .bf16 (constantI S_ 32 0#32) : FVec Ideal S_ .bf16)
      pads_S2048x8_S2048x128_000_01200 h_S_ := rfl
  rw [e]
  pointwise
  unfold gate
  rw [float_zero]

theorem final (m : (ℓ : Loc nD τ sig) → Buf (Elt Ideal) ℓ) (c : Dev nD) : (dats m 0 c).arrAt 2 cfg0.N
    = result (m ((c : Thread nD τ).loc main_arg0)) (m ((c : Thread nD τ).loc main_arg1)) := by
  have idx : ∀ t : Fin cfg0.N, win0_0.index t = ![win0_2.index t 0, 0] ∧ win0_1.index t = ![0, win0_2.index t 1] :=
    (by decide +kernel : ∀ t : Fin grid0.N, _)
  refine (dats m 0 c).arrAt_eq_of_covers 2 _ (by decide +kernel) fun t hf y => ?_
  blk_simp
  rw [after0_2]
  unfold outsAt0
  frame_out
  unfold k0_pay1
  pointwise
  obtain ⟨e0, e1⟩ := idx t
  refine Cert.sum_mul_congr (fun k => ?_) fun k => ?_
  · blk_ext! [iblk, e0]
  · refine (?_ : _ = V m c main_v1 (ix2 k ((((View.whole main_v2).slice (win0_2.rect t)).emb y) 1))).trans (entry m c _ _)
    blk_ext [iblk, e1]

open Cert.Reference13Ideal.Read in
theorem ref_apply (x0 : S4352x2048.Idx → EReal) (x1 : S2048x6152.Idx → EReal) : val_main_v4 (F := Ideal) x0 x1 = result x0 x1 := by
  funext i
  obtain ⟨r, l, rfl⟩ : ∃ (r : Fin 4352) (l : Fin 128), i = ix2 r l := ⟨i 0, i 1, ValueIdx.eq_ix2 i⟩
  unfold val_main_v4 val_main_call0_v0 val_main_c val_main_v3 val_main_v2 val_main_v1 val_main_v0
  pointwise
  unfold result
  rw [float_zero]
  by_cases h : (l : ℕ) < 8
  · simp only [dif_pos h]
    exact Cert.sum_mul_congr (fun k => rfl) fun k => (gate_of_lt x1 k h).symm
  · rw [dif_neg h]
    exact (Finset.sum_eq_zero fun k _ => (congrArg (_ * ·) (gate_of_not x1 k h)).trans (mul_zero _)).symm

theorem claim_algebraic : Cert.algebraic_Kernel13Ideal_Reference13Ideal := by
  intro m ρ m' ρ' _ hagree
  refine ⟨fun c => result (m ((c : Thread nD τ).loc main_arg0)) (m ((c : Thread nD τ).loc main_arg1)), ?_, ?_⟩
  · exact (θ_run Cert.Kernel13Ideal.defs _ _).mono (fun _ h c => ⟨(h c).1.trans (final m c), (h c).2⟩)
      (Cert.Kernel13Ideal.Value.run_blocks (F := Ideal) m ρ)
  · refine (θ_run Cert.Reference13Ideal.defs _ _).mono (fun _ h c => ⟨(h c).1.trans ?_, (h c).2⟩)
      (Cert.Reference13Ideal.Value.run (F := Ideal) m' ρ')
    refine (Cert.Reference13Ideal.Read.val_main_v4_eq _ _).trans ?_
    rw [(hagree c).1, (hagree c).2]
    exact ref_apply _ _

theorem frame_reference : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

end Cert.Product13

namespace Cert.Product9

open Idealize.ShloMosaic Idealize.ShloMosaic.TcCoe Cert.Kernel9Ideal Cert.Kernel9Ideal.Gen

/-- Entry `l` of the gates' part of row `r` of `w_in`; zero past the eight heads. -/
def gate (w : S2048x6152.Idx → EReal) (r : Fin 2048) (l : ℕ) : EReal :=
  if h : l < 8 then w (ix2 r ⟨6144 + l, by omega⟩) else 0

/-- The gradient by the rows: the cotangents of the queries, keys and values and of the gates, each times its columns. -/
def result (w : S2048x6152.Idx → EReal) (d : S4352x6144.Idx → EReal) (f : S4352x128.Idx → EReal) (i : S4352x2048.Idx) : EReal :=
  (∑ k : Fin 6144, d (ix2 (i 0) k) * w (ix2 (i 1) ⟨k, k.isLt.trans (by decide)⟩)) + ∑ k : Fin 128, f (ix2 (i 0) k) * gate w (i 1) k

theorem gate_of_lt (w : S2048x6152.Idx → EReal) (k : Fin 2048) {l : ℕ} (h : l < 8) : gate w k l = w (ix2 k ⟨6144 + l, by omega⟩) :=
  dif_pos h

theorem gate_of_not (w : S2048x6152.Idx → EReal) (k : Fin 2048) {l : ℕ} (h : ¬ l < 8) : gate w k l = 0 := dif_neg h

/-- The gates' columns as the call finds them. -/
theorem entry (m : (ℓ : Loc nD τ sig) → Buf (Elt Ideal) ℓ) (c : Dev nD) (k : Fin 2048) (l : Fin 128) :
    V m c main_v2 (ix2 k l) = gate (m ((c : Thread nD τ).loc main_arg0)) k l := by
  have e : V m c main_v2 = pad S2048x128 ![0, 0] ![0, 120] ![0, 0] (extractStridedSlice S2048x8 ![0, 6144]
      (m ((c : Thread nD τ).loc main_arg0)) slices_S2048x6152_S2048x8_0_6144) (sitofp (F := Ideal) .bf16 (constantI S_ 32 0#32) : FVec Ideal S_ .bf16)
      pads_S2048x8_S2048x128_000_01200 h_S_ := rfl
  rw [e]
  pointwise
  unfold gate
  rw [float_zero]

theorem final (m : (ℓ : Loc nD τ sig) → Buf (Elt Ideal) ℓ) (c : Dev nD) : (dats m 0 c).arrAt 4 cfg0.N
    = result (m ((c : Thread nD τ).loc main_arg0)) (m ((c : Thread nD τ).loc main_arg1)) (m ((c : Thread nD τ).loc main_arg2)) := by
  have idx : ∀ t : Fin cfg0.N, win0_0.index t = ![win0_4.index t 0, 0] ∧ win0_1.index t = ![win0_4.index t 1, 0]
      ∧ win0_2.index t = ![win0_4.index t 0, 0] ∧ win0_3.index t = ![win0_4.index t 1, 0] :=
    (by decide +kernel : ∀ t : Fin grid0.N, _)
  refine (dats m 0 c).arrAt_eq_of_covers 4 _ (by decide +kernel) fun t hf y => ?_
  blk_simp
  rw [after0_4]
  unfold outsAt0
  frame_out
  unfold k0_pay1
  pointwise
  obtain ⟨e0, e1, e2, e3⟩ := idx t
  refine congrArg₂ (@HAdd.hAdd EReal EReal EReal _) (Cert.sum_mul_congr (fun k => ?_) fun k => ?_) (Cert.sum_mul_congr (fun k => ?_) fun k => ?_)
  · blk_ext! [iblk, e0]
  · refine (?_ : _ = V m c main_v0 (ix2 ((((View.whole main_v3).slice (win0_4.rect t)).emb y) 1) k)).trans ?_
    · blk_ext [iblk, e1]
    · have e : V m c main_v0 = extractStridedSlice S2048x6144 ![0, 0] (m ((c : Thread nD τ).loc main_arg0))
          slices_S2048x6152_S2048x6144_0_0 := rfl
      rw [e]
      pointwise
      rfl
  · blk_ext! [iblk, e2]
  · refine (?_ : _ = V m c main_v2 (ix2 ((((View.whole main_v3).slice (win0_4.rect t)).emb y) 1) k)).trans (entry m c _ _)
    blk_ext [iblk, e3]

open Cert.Reference9Ideal.Read in
theorem ref_apply (x0 : S2048x6152.Idx → EReal) (x1 : S4352x6144.Idx → EReal) (x2 : S4352x128.Idx → EReal) :
    val_main_v6 (F := Ideal) x0 x1 x2 = result x0 x1 x2 := by
  funext i
  obtain ⟨r, l, rfl⟩ : ∃ (r : Fin 4352) (l : Fin 2048), i = ix2 r l := ⟨i 0, i 1, ValueIdx.eq_ix2 i⟩
  unfold val_main_v6 val_main_v5 val_main_v2 val_main_v1 val_main_v0
  pointwise
  refine congrArg₂ (@HAdd.hAdd EReal EReal EReal _) rfl ?_
  have hz : ∀ k : Fin 120, x2 (ix2 r (Fin.natAdd 8 k)) * gate x0 l (Fin.natAdd 8 k : Fin (8 + 120)) = 0 := fun k =>
    (congrArg (_ * ·) (gate_of_not x0 l (by simp))).trans (mul_zero _)
  refine Eq.trans ?_ (Fin.sum_univ_add (a := 8) (b := 120) fun k : Fin 128 => x2 (ix2 r k) * gate x0 l k).symm
  refine Eq.trans ?_ (congrArg (_ + ·) (Finset.sum_eq_zero fun k _ => hz k)).symm
  refine Eq.trans ?_ (add_zero _).symm
  exact Cert.sum_mul_congr (fun k => rfl) fun k => (gate_of_lt x0 l k.isLt).symm

theorem claim_algebraic : Cert.algebraic_Kernel9Ideal_Reference9Ideal := by
  intro m ρ m' ρ' _ hagree
  refine ⟨fun c => result (m ((c : Thread nD τ).loc main_arg0)) (m ((c : Thread nD τ).loc main_arg1)) (m ((c : Thread nD τ).loc main_arg2)), ?_, ?_⟩
  · exact (θ_run Cert.Kernel9Ideal.defs _ _).mono (fun _ h c => ⟨(h c).1.trans (final m c), (h c).2⟩)
      (Cert.Kernel9Ideal.Value.run_blocks (F := Ideal) m ρ)
  · refine (θ_run Cert.Reference9Ideal.defs _ _).mono (fun _ h c => ⟨(h c).1.trans ?_, (h c).2⟩)
      (Cert.Reference9Ideal.Value.run (F := Ideal) m' ρ')
    refine (Cert.Reference9Ideal.Read.val_main_v6_eq _ _ _).trans ?_
    rw [(hagree c).1, (hagree c).2.1, (hagree c).2.2]
    exact ref_apply _ _ _

theorem frame_reference : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

end Cert.Product9
-- ==== Proof.ProductsByRows.lean ====
/-
  The gradients of the products by their rows: the cotangent times the transposed weights.
-/
module

public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel7Ideal.Value
public import proofs.«01_k».proof.Proof.Gen.Reference7Ideal.Run
public import proofs.«01_k».proof.Proof.Gen.Reference7Ideal.Read
public import proofs.«01_k».proof.Proof.ProductSum
public import proofs.«01_k».proof.Defs
public import Idealize.ShloMosaic.Lib.Pointwise
public import Idealize.ShloMosaic.Lib.Quiescent
public import Idealize.ShloMosaic.Lib.Pipeline.ValueKit

@[expose] public section

set_option maxRecDepth 16384

noncomputable section

namespace Cert.Product3

open Idealize.ShloMosaic Idealize.ShloMosaic.TcCoe Cert.Kernel3Ideal Cert.Kernel3Ideal.Gen

/-- The gradient of `act @ w_down` by `act`. -/
def result (x0 : S5632x2048.Idx → EReal) (x1 : S4352x2048.Idx → EReal) (i : S4352x5632.Idx) : EReal :=
  ∑ k : Fin 2048, x1 (ix2 (i 0) k) * x0 (ix2 (i 1) k)

theorem final (m : (ℓ : Loc nD τ sig) → Buf (Elt Ideal) ℓ) (c : Dev nD) : (dats m 0 c).arrAt 2 cfg0.N
    = result (m ((c : Thread nD τ).loc main_arg0)) (m ((c : Thread nD τ).loc main_arg1)) := by
  have idx : ∀ t : Fin cfg0.N, win0_0.index t = ![win0_2.index t 0, 0] ∧ win0_1.index t = ![win0_2.index t 1, 0] :=
    (by decide +kernel : ∀ t : Fin grid0.N, _)
  refine (dats m 0 c).arrAt_eq_of_covers 2 _ (by decide +kernel) fun t hf y => ?_
  blk_simp
  rw [after0_2]
  unfold outsAt0
  frame_out
  unfold k0_pay1
  pointwise
  obtain ⟨e0, e1⟩ := idx t
  refine Cert.sum_mul_congr (fun k => ?_) fun k => ?_
  · blk_ext [iblk, V, e0]
  · blk_ext [iblk, V, e1]

open Cert.Reference3Ideal.Read in
theorem ref_apply (x0 : S5632x2048.Idx → EReal) (x1 : S4352x2048.Idx → EReal) : val_main_v5 (F := Ideal) x0 x1 = result x0 x1 := by
  funext i
  obtain ⟨r, l, rfl⟩ : ∃ (r : Fin 4352) (l : Fin 5632), i = ix2 r l := ⟨i 0, i 1, ValueIdx.eq_ix2 i⟩
  unfold val_main_v5 val_main_v4 val_main_v3 val_main_v0
  pointwise
  rfl

theorem claim_algebraic : Cert.algebraic_Kernel3Ideal_Reference3Ideal := by
  intro m ρ m' ρ' _ hagree
  refine ⟨fun c => result (m ((c : Thread nD τ).loc main_arg0)) (m ((c : Thread nD τ).loc main_arg1)), ?_, ?_⟩
  · exact (θ_run Cert.Kernel3Ideal.defs _ _).mono (fun _ h c => ⟨(h c).1.trans (final m c), (h c).2⟩)
      (Cert.Kernel3Ideal.Value.run_blocks (F := Ideal) m ρ)
  · refine (θ_run Cert.Reference3Ideal.defs _ _).mono (fun _ h c => ⟨(h c).1.trans ?_, (h c).2⟩)
      (Cert.Reference3Ideal.Value.run (F := Ideal) m' ρ')
    refine (Cert.Reference3Ideal.Read.val_main_v5_eq _ _).trans ?_
    rw [(hagree c).1, (hagree c).2]
    exact ref_apply _ _

theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

end Cert.Product3

namespace Cert.Product5

open Idealize.ShloMosaic Idealize.ShloMosaic.TcCoe Cert.Kernel5Ideal Cert.Kernel5Ideal.Gen

/-- The gradient of `u2 @ w_up` by `u2`. -/
def result (x0 : S2048x11264.Idx → EReal) (x1 : S4352x11264.Idx → EReal) (i : S4352x2048.Idx) : EReal :=
  ∑ k : Fin 11264, x1 (ix2 (i 0) k) * x0 (ix2 (i 1) k)

theorem final (m : (ℓ : Loc nD τ sig) → Buf (Elt Ideal) ℓ) (c : Dev nD) : (dats m 0 c).arrAt 2 cfg0.N
    = result (m ((c : Thread nD τ).loc main_arg0)) (m ((c : Thread nD τ).loc main_arg1)) := by
  have idx : ∀ t : Fin cfg0.N, win0_0.index t = ![win0_2.index t 0, 0] ∧ win0_1.index t = ![win0_2.index t 1, 0] :=
    (by decide +kernel : ∀ t : Fin grid0.N, _)
  refine (dats m 0 c).arrAt_eq_of_covers 2 _ (by decide +kernel) fun t hf y => ?_
  blk_simp
  rw [after0_2]
  unfold outsAt0
  frame_out
  unfold k0_pay1
  pointwise
  obtain ⟨e0, e1⟩ := idx t
  refine Cert.sum_mul_congr (fun k => ?_) fun k => ?_
  · blk_ext [iblk, V, e0]
  · blk_ext [iblk, V, e1]

open Cert.Reference5Ideal.Read in
theorem ref_apply (x0 : S2048x11264.Idx → EReal) (x1 : S4352x11264.Idx → EReal) : val_main_v4 (F := Ideal) x0 x1 = result x0 x1 := by
  funext i
  obtain ⟨r, l, rfl⟩ : ∃ (r : Fin 4352) (l : Fin 2048), i = ix2 r l := ⟨i 0, i 1, ValueIdx.eq_ix2 i⟩
  unfold val_main_v4 val_main_v3 val_main_v0
  pointwise
  rfl

theorem claim_algebraic : Cert.algebraic_Kernel5Ideal_Reference5Ideal := by
  intro m ρ m' ρ' _ hagree
  refine ⟨fun c => result (m ((c : Thread nD τ).loc main_arg0)) (m ((c : Thread nD τ).loc main_arg1)), ?_, ?_⟩
  · exact (θ_run Cert.Kernel5Ideal.defs _ _).mono (fun _ h c => ⟨(h c).1.trans (final m c), (h c).2⟩)
      (Cert.Kernel5Ideal.Value.run_blocks (F := Ideal) m ρ)
  · refine (θ_run Cert.Reference5Ideal.defs _ _).mono (fun _ h c => ⟨(h c).1.trans ?_, (h c).2⟩)
      (Cert.Reference5Ideal.Value.run (F := Ideal) m' ρ')
    refine (Cert.Reference5Ideal.Read.val_main_v4_eq _ _).trans ?_
    rw [(hagree c).1, (hagree c).2]
    exact ref_apply _ _

theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

end Cert.Product5

namespace Cert.Product7

open Idealize.ShloMosaic Idealize.ShloMosaic.TcCoe Cert.Kernel7Ideal Cert.Kernel7Ideal.Gen

/-- The gradient of `on @ w_out` by `on`. -/
def result (x0 : S2048x2048.Idx → EReal) (x1 : S4352x2048.Idx → EReal) (i : S4352x2048.Idx) : EReal :=
  ∑ k : Fin 2048, x1 (ix2 (i 0) k) * x0 (ix2 (i 1) k)

theorem final (m : (ℓ : Loc nD τ sig) → Buf (Elt Ideal) ℓ) (c : Dev nD) : (dats m 0 c).arrAt 2 cfg0.N
    = result (m ((c : Thread nD τ).loc main_arg0)) (m ((c : Thread nD τ).loc main_arg1)) := by
  have idx : ∀ t : Fin cfg0.N, win0_0.index t = ![win0_2.index t 0, 0] ∧ win0_1.index t = ![win0_2.index t 1, 0] :=
    (by decide +kernel : ∀ t : Fin grid0.N, _)
  refine (dats m 0 c).arrAt_eq_of_covers 2 _ (by decide +kernel) fun t hf y => ?_
  blk_simp
  rw [after0_2]
  unfold outsAt0
  frame_out
  unfold k0_pay1
  pointwise
  obtain ⟨e0, e1⟩ := idx t
  refine Cert.sum_mul_congr (fun k => ?_) fun k => ?_
  · blk_ext [iblk, V, e0]
  · blk_ext [iblk, V, e1]

open Cert.Reference7Ideal.Read in
theorem ref_apply (x0 : S2048x2048.Idx → EReal) (x1 : S4352x2048.Idx → EReal) : val_main_v4 (F := Ideal) x0 x1 = result x0 x1 := by
  funext i
  obtain ⟨r, l, rfl⟩ : ∃ (r : Fin 4352) (l : Fin 2048), i = ix2 r l := ⟨i 0, i 1, ValueIdx.eq_ix2 i⟩
  unfold val_main_v4 val_main_v3 val_main_v0
  pointwise
  rfl

theorem claim_algebraic : Cert.algebraic_Kernel7Ideal_Reference7Ideal := by
  intro m ρ m' ρ' _ hagree
  refine ⟨fun c => result (m ((c : Thread nD τ).loc main_arg0)) (m ((c : Thread nD τ).loc main_arg1)), ?_, ?_⟩
  · exact (θ_run Cert.Kernel7Ideal.defs _ _).mono (fun _ h c => ⟨(h c).1.trans (final m c), (h c).2⟩)
      (Cert.Kernel7Ideal.Value.run_blocks (F := Ideal) m ρ)
  · refine (θ_run Cert.Reference7Ideal.defs _ _).mono (fun _ h c => ⟨(h c).1.trans ?_, (h c).2⟩)
      (Cert.Reference7Ideal.Value.run (F := Ideal) m' ρ')
    refine (Cert.Reference7Ideal.Read.val_main_v4_eq _ _).trans ?_
    rw [(hagree c).1, (hagree c).2]
    exact ref_apply _ _

theorem frame_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

end Cert.Product7
-- ==== Proof.ProductsByWeights.lean ====
/-
  The gradients of the products by their weights: the transposed rows times the cotangent.
-/
module

public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11Ideal.Value
public import proofs.«01_k».proof.Proof.Gen.Reference11Ideal.Run
public import proofs.«01_k».proof.Proof.Gen.Reference11Ideal.Read
public import proofs.«01_k».proof.Proof.ProductSum
public import proofs.«01_k».proof.Defs
public import Idealize.ShloMosaic.Lib.Pointwise
public import Idealize.ShloMosaic.Lib.Quiescent
public import Idealize.ShloMosaic.Lib.Pipeline.ValueKit

@[expose] public section

set_option maxRecDepth 16384

noncomputable section

namespace Cert.Product4

open Idealize.ShloMosaic Idealize.ShloMosaic.TcCoe Cert.Kernel4Ideal Cert.Kernel4Ideal.Gen

/-- The gradient of `act @ w_down` by `w_down`. -/
def result (x0 : S4352x5632.Idx → EReal) (x1 : S4352x2048.Idx → EReal) (i : S5632x2048.Idx) : EReal :=
  ∑ k : Fin 4352, x0 (ix2 k (i 0)) * x1 (ix2 k (i 1))

theorem final (m : (ℓ : Loc nD τ sig) → Buf (Elt Ideal) ℓ) (c : Dev nD) : (dats m 0 c).arrAt 2 cfg0.N
    = result (m ((c : Thread nD τ).loc main_arg0)) (m ((c : Thread nD τ).loc main_arg1)) := by
  have idx : ∀ t : Fin cfg0.N, win0_0.index t = ![0, win0_2.index t 0] ∧ win0_1.index t = ![0, win0_2.index t 1] :=
    (by decide +kernel : ∀ t : Fin grid0.N, _)
  refine (dats m 0 c).arrAt_eq_of_covers 2 _ (by decide +kernel) fun t hf y => ?_
  blk_simp
  rw [after0_2]
  unfold outsAt0
  frame_out
  unfold k0_pay1
  pointwise
  obtain ⟨e0, e1⟩ := idx t
  refine Cert.sum_mul_congr (fun k => ?_) fun k => ?_
  · blk_ext [iblk, V, e0]
  · blk_ext [iblk, V, e1]

open Cert.Reference4Ideal.Read in
theorem ref_apply (x0 : S4352x5632.Idx → EReal) (x1 : S4352x2048.Idx → EReal) : val_main_v6 (F := Ideal) x0 x1 = result x0 x1 := by
  funext i
  obtain ⟨r, l, rfl⟩ : ∃ (r : Fin 5632) (l : Fin 2048), i = ix2 r l := ⟨i 0, i 1, ValueIdx.eq_ix2 i⟩
  unfold val_main_v6 val_main_v5 val_main_v4 val_main_v3 val_main_v0
  pointwise
  exact Finset.sum_congr rfl fun k _ => mul_comm _ _

theorem claim_algebraic : Cert.algebraic_Kernel4Ideal_Reference4Ideal := by
  intro m ρ m' ρ' _ hagree
  refine ⟨fun c => result (m ((c : Thread nD τ).loc main_arg0)) (m ((c : Thread nD τ).loc main_arg1)), ?_, ?_⟩
  · exact (θ_run Cert.Kernel4Ideal.defs _ _).mono (fun _ h c => ⟨(h c).1.trans (final m c), (h c).2⟩)
      (Cert.Kernel4Ideal.Value.run_blocks (F := Ideal) m ρ)
  · refine (θ_run Cert.Reference4Ideal.defs _ _).mono (fun _ h c => ⟨(h c).1.trans ?_, (h c).2⟩)
      (Cert.Reference4Ideal.Value.run (F := Ideal) m' ρ')
    refine (Cert.Reference4Ideal.Read.val_main_v6_eq _ _).trans ?_
    rw [(hagree c).1, (hagree c).2]
    exact ref_apply _ _

theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

end Cert.Product4

namespace Cert.Product6

open Idealize.ShloMosaic Idealize.ShloMosaic.TcCoe Cert.Kernel6Ideal Cert.Kernel6Ideal.Gen

/-- The gradient of `u2 @ w_up` by `w_up`. -/
def result (x0 : S4352x2048.Idx → EReal) (x1 : S4352x11264.Idx → EReal) (i : S2048x11264.Idx) : EReal :=
  ∑ k : Fin 4352, x0 (ix2 k (i 0)) * x1 (ix2 k (i 1))

theorem final (m : (ℓ : Loc nD τ sig) → Buf (Elt Ideal) ℓ) (c : Dev nD) : (dats m 0 c).arrAt 2 cfg0.N
    = result (m ((c : Thread nD τ).loc main_arg0)) (m ((c : Thread nD τ).loc main_arg1)) := by
  have idx : ∀ t : Fin cfg0.N, win0_0.index t = ![0, win0_2.index t 0] ∧ win0_1.index t = ![0, win0_2.index t 1] :=
    (by decide +kernel : ∀ t : Fin grid0.N, _)
  refine (dats m 0 c).arrAt_eq_of_covers 2 _ (by decide +kernel) fun t hf y => ?_
  blk_simp
  rw [after0_2]
  unfold outsAt0
  frame_out
  unfold k0_pay1
  pointwise
  obtain ⟨e0, e1⟩ := idx t
  refine Cert.sum_mul_congr (fun k => ?_) fun k => ?_
  · blk_ext [iblk, V, e0]
  · blk_ext [iblk, V, e1]

open Cert.Reference6Ideal.Read in
theorem ref_apply (x0 : S4352x2048.Idx → EReal) (x1 : S4352x11264.Idx → EReal) : val_main_v6 (F := Ideal) x0 x1 = result x0 x1 := by
  funext i
  obtain ⟨r, l, rfl⟩ : ∃ (r : Fin 2048) (l : Fin 11264), i = ix2 r l := ⟨i 0, i 1, ValueIdx.eq_ix2 i⟩
  unfold val_main_v6 val_main_v5 val_main_v4 val_main_v3 val_main_v0
  pointwise
  exact Finset.sum_congr rfl fun k _ => mul_comm _ _

theorem claim_algebraic : Cert.algebraic_Kernel6Ideal_Reference6Ideal := by
  intro m ρ m' ρ' _ hagree
  refine ⟨fun c => result (m ((c : Thread nD τ).loc main_arg0)) (m ((c : Thread nD τ).loc main_arg1)), ?_, ?_⟩
  · exact (θ_run Cert.Kernel6Ideal.defs _ _).mono (fun _ h c => ⟨(h c).1.trans (final m c), (h c).2⟩)
      (Cert.Kernel6Ideal.Value.run_blocks (F := Ideal) m ρ)
  · refine (θ_run Cert.Reference6Ideal.defs _ _).mono (fun _ h c => ⟨(h c).1.trans ?_, (h c).2⟩)
      (Cert.Reference6Ideal.Value.run (F := Ideal) m' ρ')
    refine (Cert.Reference6Ideal.Read.val_main_v6_eq _ _).trans ?_
    rw [(hagree c).1, (hagree c).2]
    exact ref_apply _ _

theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

end Cert.Product6

namespace Cert.Product8

open Idealize.ShloMosaic Idealize.ShloMosaic.TcCoe Cert.Kernel8Ideal Cert.Kernel8Ideal.Gen

/-- The gradient of `on @ w_out` by `w_out`. -/
def result (x0 : S4352x2048.Idx → EReal) (x1 : S4352x2048.Idx → EReal) (i : S2048x2048.Idx) : EReal :=
  ∑ k : Fin 4352, x0 (ix2 k (i 0)) * x1 (ix2 k (i 1))

theorem final (m : (ℓ : Loc nD τ sig) → Buf (Elt Ideal) ℓ) (c : Dev nD) : (dats m 0 c).arrAt 2 cfg0.N
    = result (m ((c : Thread nD τ).loc main_arg0)) (m ((c : Thread nD τ).loc main_arg1)) := by
  have idx : ∀ t : Fin cfg0.N, win0_0.index t = ![0, win0_2.index t 0] ∧ win0_1.index t = ![0, win0_2.index t 1] :=
    (by decide +kernel : ∀ t : Fin grid0.N, _)
  refine (dats m 0 c).arrAt_eq_of_covers 2 _ (by decide +kernel) fun t hf y => ?_
  blk_simp
  rw [after0_2]
  unfold outsAt0
  frame_out
  unfold k0_pay1
  pointwise
  obtain ⟨e0, e1⟩ := idx t
  refine Cert.sum_mul_congr (fun k => ?_) fun k => ?_
  · blk_ext [iblk, V, e0]
  · blk_ext [iblk, V, e1]

open Cert.Reference8Ideal.Read in
theorem ref_apply (x0 : S4352x2048.Idx → EReal) (x1 : S4352x2048.Idx → EReal) : val_main_v6 (F := Ideal) x0 x1 = result x0 x1 := by
  funext i
  obtain ⟨r, l, rfl⟩ : ∃ (r : Fin 2048) (l : Fin 2048), i = ix2 r l := ⟨i 0, i 1, ValueIdx.eq_ix2 i⟩
  unfold val_main_v6 val_main_v5 val_main_v4 val_main_v3 val_main_v0
  pointwise
  exact Finset.sum_congr rfl fun k _ => mul_comm _ _

theorem claim_algebraic : Cert.algebraic_Kernel8Ideal_Reference8Ideal := by
  intro m ρ m' ρ' _ hagree
  refine ⟨fun c => result (m ((c : Thread nD τ).loc main_arg0)) (m ((c : Thread nD τ).loc main_arg1)), ?_, ?_⟩
  · exact (θ_run Cert.Kernel8Ideal.defs _ _).mono (fun _ h c => ⟨(h c).1.trans (final m c), (h c).2⟩)
      (Cert.Kernel8Ideal.Value.run_blocks (F := Ideal) m ρ)
  · refine (θ_run Cert.Reference8Ideal.defs _ _).mono (fun _ h c => ⟨(h c).1.trans ?_, (h c).2⟩)
      (Cert.Reference8Ideal.Value.run (F := Ideal) m' ρ')
    refine (Cert.Reference8Ideal.Read.val_main_v6_eq _ _).trans ?_
    rw [(hagree c).1, (hagree c).2]
    exact ref_apply _ _

theorem frame_reference : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

end Cert.Product8

namespace Cert.Product10

open Idealize.ShloMosaic Idealize.ShloMosaic.TcCoe Cert.Kernel10Ideal Cert.Kernel10Ideal.Gen

/-- The gradient of `u1 @ w_qkv` by `w_qkv`. -/
def result (x0 : S4352x2048.Idx → EReal) (x1 : S4352x6144.Idx → EReal) (i : S2048x6144.Idx) : EReal :=
  ∑ k : Fin 4352, x0 (ix2 k (i 0)) * x1 (ix2 k (i 1))

theorem final (m : (ℓ : Loc nD τ sig) → Buf (Elt Ideal) ℓ) (c : Dev nD) : (dats m 0 c).arrAt 2 cfg0.N
    = result (m ((c : Thread nD τ).loc main_arg0)) (m ((c : Thread nD τ).loc main_arg1)) := by
  have idx : ∀ t : Fin cfg0.N, win0_0.index t = ![0, win0_2.index t 0] ∧ win0_1.index t = ![0, win0_2.index t 1] :=
    (by decide +kernel : ∀ t : Fin grid0.N, _)
  refine (dats m 0 c).arrAt_eq_of_covers 2 _ (by decide +kernel) fun t hf y => ?_
  blk_simp
  rw [after0_2]
  unfold outsAt0
  frame_out
  unfold k0_pay1
  pointwise
  obtain ⟨e0, e1⟩ := idx t
  refine Cert.sum_mul_congr (fun k => ?_) fun k => ?_
  · blk_ext [iblk, V, e0]
  · blk_ext [iblk, V, e1]

open Cert.Reference10Ideal.Read in
theorem ref_apply (x0 : S4352x2048.Idx → EReal) (x1 : S4352x6144.Idx → EReal) : val_main_v6 (F := Ideal) x0 x1 = result x0 x1 := by
  funext i
  obtain ⟨r, l, rfl⟩ : ∃ (r : Fin 2048) (l : Fin 6144), i = ix2 r l := ⟨i 0, i 1, ValueIdx.eq_ix2 i⟩
  unfold val_main_v6 val_main_v5 val_main_v4 val_main_v3 val_main_v0
  pointwise
  exact Finset.sum_congr rfl fun k _ => mul_comm _ _

theorem claim_algebraic : Cert.algebraic_Kernel10Ideal_Reference10Ideal := by
  intro m ρ m' ρ' _ hagree
  refine ⟨fun c => result (m ((c : Thread nD τ).loc main_arg0)) (m ((c : Thread nD τ).loc main_arg1)), ?_, ?_⟩
  · exact (θ_run Cert.Kernel10Ideal.defs _ _).mono (fun _ h c => ⟨(h c).1.trans (final m c), (h c).2⟩)
      (Cert.Kernel10Ideal.Value.run_blocks (F := Ideal) m ρ)
  · refine (θ_run Cert.Reference10Ideal.defs _ _).mono (fun _ h c => ⟨(h c).1.trans ?_, (h c).2⟩)
      (Cert.Reference10Ideal.Value.run (F := Ideal) m' ρ')
    refine (Cert.Reference10Ideal.Read.val_main_v6_eq _ _).trans ?_
    rw [(hagree c).1, (hagree c).2]
    exact ref_apply _ _

theorem frame_reference : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

end Cert.Product10

namespace Cert.Product11

open Idealize.ShloMosaic Idealize.ShloMosaic.TcCoe Cert.Kernel11Ideal Cert.Kernel11Ideal.Gen

/-- The gradient of `u1 @ w_f` by `w_f`. -/
def result (x0 : S4352x2048.Idx → EReal) (x1 : S4352x128.Idx → EReal) (i : S2048x128.Idx) : EReal :=
  ∑ k : Fin 4352, x0 (ix2 k (i 0)) * x1 (ix2 k (i 1))

theorem final (m : (ℓ : Loc nD τ sig) → Buf (Elt Ideal) ℓ) (c : Dev nD) : (dats m 0 c).arrAt 2 cfg0.N
    = result (m ((c : Thread nD τ).loc main_arg0)) (m ((c : Thread nD τ).loc main_arg1)) := by
  have idx : ∀ t : Fin cfg0.N, win0_0.index t = ![0, win0_2.index t 0] ∧ win0_1.index t = ![0, win0_2.index t 1] :=
    (by decide +kernel : ∀ t : Fin grid0.N, _)
  refine (dats m 0 c).arrAt_eq_of_covers 2 _ (by decide +kernel) fun t hf y => ?_
  blk_simp
  rw [after0_2]
  unfold outsAt0
  frame_out
  unfold k0_pay1
  pointwise
  obtain ⟨e0, e1⟩ := idx t
  refine Cert.sum_mul_congr (fun k => ?_) fun k => ?_
  · blk_ext [iblk, V, e0]
  · blk_ext [iblk, V, e1]

open Cert.Reference11Ideal.Read in
theorem ref_apply (x0 : S4352x2048.Idx → EReal) (x1 : S4352x128.Idx → EReal) : val_main_v6 (F := Ideal) x0 x1 = result x0 x1 := by
  funext i
  obtain ⟨r, l, rfl⟩ : ∃ (r : Fin 2048) (l : Fin 128), i = ix2 r l := ⟨i 0, i 1, ValueIdx.eq_ix2 i⟩
  unfold val_main_v6 val_main_v5 val_main_v4 val_main_v3 val_main_v0
  pointwise
  exact Finset.sum_congr rfl fun k _ => mul_comm _ _

theorem claim_algebraic : Cert.algebraic_Kernel11Ideal_Reference11Ideal := by
  intro m ρ m' ρ' _ hagree
  refine ⟨fun c => result (m ((c : Thread nD τ).loc main_arg0)) (m ((c : Thread nD τ).loc main_arg1)), ?_, ?_⟩
  · exact (θ_run Cert.Kernel11Ideal.defs _ _).mono (fun _ h c => ⟨(h c).1.trans (final m c), (h c).2⟩)
      (Cert.Kernel11Ideal.Value.run_blocks (F := Ideal) m ρ)
  · refine (θ_run Cert.Reference11Ideal.defs _ _).mono (fun _ h c => ⟨(h c).1.trans ?_, (h c).2⟩)
      (Cert.Reference11Ideal.Value.run (F := Ideal) m' ρ')
    refine (Cert.Reference11Ideal.Read.val_main_v6_eq _ _).trans ?_
    rw [(hagree c).1, (hagree c).2]
    exact ref_apply _ _

theorem frame_reference : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

end Cert.Product11
-- ==== Proof.ConvData.lean ====
/-
  The gradient of the causal convolution by the rows it read.
-/
module

public import proofs.«01_k».proof.Proof.Gen.Kernel2Ideal.Value
public import proofs.«01_k».proof.Proof.Gen.Reference2Ideal.Run
public import proofs.«01_k».proof.Proof.Gen.Reference2Ideal.Read
public import proofs.«01_k».proof.Defs
public import Idealize.ShloMosaic.Lib.Pointwise
public import Idealize.ShloMosaic.Lib.Quiescent
public import Idealize.ShloMosaic.Lib.Pipeline.ValueKit

@[expose] public section

set_option maxRecDepth 16384

noncomputable section

namespace Cert.Conv

open Idealize.ShloMosaic Idealize.ShloMosaic.TcCoe
open Cert.Kernel2Ideal Cert.Kernel2Ideal.Gen

/-- Row `s` of the gradient at the convolution's result, at column `c` of the two halves side by side; zero past the last row. -/
def rows (da : S2x4352x5632.Idx → EReal) (s c : ℕ) : EReal :=
  if h : s < 4352 ∧ c < 11264 then da (ix3 ⟨c / 5632, by omega⟩ ⟨s, h.1⟩ ⟨c % 5632, Nat.mod_lt _ (by decide)⟩) else 0

/-- The gradient by the rows: tap `k` brings row `s + 2 - k`'s gradient back. -/
def dRows (da : S2x4352x5632.Idx → EReal) (w : S3x11264.Idx → EReal) (i : S4352x11264.Idx) : EReal :=
  w (ix2 2 (i 1)) * rows da (i 0) (i 1) + w (ix2 1 (i 1)) * rows da ((i 0 : ℕ) + 1) (i 1) + w (ix2 0 (i 1)) * rows da ((i 0 : ℕ) + 2) (i 1)

variable (m : (ℓ : Loc nD τ sig) → Buf (Elt Ideal) ℓ)

theorem idx : ∀ t : Fin cfg0.N, win0_0.index t = ![win0_3.index t 1 / 11, win0_3.index t 0, win0_3.index t 1 % 11]
    ∧ win0_1.index t = ![win0_3.index t 1 / 11, min ((win0_3.index t 0 + 1) * 68) 271, win0_3.index t 1 % 11]
    ∧ win0_2.index t = ![0, win0_3.index t 1] ∧ win0_3.index t 0 < 4 ∧ win0_3.index t 1 < 22
    ∧ (grid0.coords t 0).val = win0_3.index t 0 :=
  (by decide +kernel : ∀ t : Fin grid0.N, _)

/-- The point's own rows. -/
theorem own_row (c : Dev nD) (t : Fin cfg0.N) (a : Fin 1088) (j : Fin 512) {r l : ℕ} (hr : r = win0_3.index t 0 * 1088 + a)
    (hl : l = win0_3.index t 1 * 512 + j) :
    iblk m c 0 t (ix3 0 a j) = rows (m ((c : Thread nD τ).loc main_arg0)) r l := by
  obtain ⟨e0, -, -, h0, h1, -⟩ := idx t
  subst hr hl
  unfold rows
  rw [dif_pos (by omega)]
  blk_ext [iblk, V, e0]

/-- The rows below the point's own, from the next block; zero below the last block. -/
theorem next_row (c : Dev nD) (t : Fin cfg0.N) (b : Fin 16) (j : Fin 512) {r l : ℕ} (hr : r = win0_3.index t 0 * 1088 + 1088 + b)
    (hl : l = win0_3.index t 1 * 512 + j) :
    (Scalar.select (Scalar.cmpi .eq (BitVec.ofNat 32 (grid0.coords t 0)) 3#32) 0 (iblk m c 1 t (ix3 0 b j)) : EReal)
      = rows (m ((c : Thread nD τ).loc main_arg0)) r l := by
  obtain ⟨-, e1, -, h0, h1, hc⟩ := idx t
  subst hr hl
  rw [hc]
  unfold rows
  by_cases h3 : win0_3.index t 0 = 3
  · rw [h3, dif_neg (by omega)]
    rfl
  · have hs : Scalar.cmpi .eq (BitVec.ofNat 32 (win0_3.index t 0)) 3#32 = 0#1 := by
      have hk : ∀ n < 4, n ≠ 3 → Scalar.cmpi .eq (BitVec.ofNat 32 n) 3#32 = 0#1 := by decide
      exact hk _ h0 h3
    rw [hs, dif_pos (by omega)]
    show iblk m c 1 t (ix3 0 b j) = _
    blk_ext [iblk, V, e1]

/-- The point's columns of tap `k`. -/
theorem tap (c : Dev nD) (t : Fin cfg0.N) (k : Fin 3) (j : Fin 512) (l : Fin 11264) (hl : (l : ℕ) = win0_3.index t 1 * 512 + j) :
    iblk m c 2 t (ix2 k j) = m ((c : Thread nD τ).loc main_arg1) (ix2 k l) := by
  obtain ⟨-, -, e2, h0, h1, -⟩ := idx t
  blk_ext [iblk, V, e2]

set_option maxHeartbeats 2000000 in
/-- What the kernel leaves in its result. -/
theorem final (c : Dev nD) : (dats m 0 c).arrAt 3 cfg0.N
    = dRows (m ((c : Thread nD τ).loc main_arg0)) (m ((c : Thread nD τ).loc main_arg1)) := by
  refine (dats m 0 c).arrAt_eq_of_covers 3 _ (by decide +kernel) fun t hf y => ?_
  blk_simp
  rw [after0_3]
  frame_out
  unfold k0_pay1
  pointwise
  unfold dRows
  generalize hi : ((View.whole main_v0).slice (win0_3.rect t)).emb y = i
  have hr : (i 0 : ℕ) = win0_3.index t 0 * 1088 + y 0 := by rw [← hi]; blk_simp
  have hl : (i 1 : ℕ) = win0_3.index t 1 * 512 + y 1 := by rw [← hi]; blk_simp
  have hy : (y 0 : ℕ) < 1088 := (y 0).isLt
  refine congrArg₂ (· + ·) (congrArg₂ (· + ·) ?_ ?_) ?_ <;> refine congrArg₂ (· * ·) (tap m c t _ _ _ hl) ?_
  · exact own_row m c t _ _ hr hl
  · split
    · exact own_row m c t _ _ (by rw [hr]; dsimp only; omega) hl
    · exact next_row m c t _ _ (by rw [hr]; dsimp only; omega) hl
  · split
    · exact own_row m c t _ _ (by rw [hr]; dsimp only; omega) hl
    · exact next_row m c t _ _ (by rw [hr]; dsimp only; omega) hl

open Cert.Reference2Ideal.Read in
/-- The reference's row of the two halves side by side. -/
theorem ref_row (x0 : S2x4352x5632.Idx → EReal) (r : Fin 4352) (l : Fin 11264) :
    val_main_v6 (F := Ideal) x0 (ix2 r l) = rows x0 r l := by
  unfold val_main_v6 val_main_v5 val_main_v2 val_main_v4 val_main_v1 val_main_v3 rows
  pointwise
  split <;> blk_ext

set_option maxHeartbeats 2000000 in
open Cert.Reference2Ideal.Read in
theorem ref_apply (x0 : S2x4352x5632.Idx → EReal) (x1 : S3x11264.Idx → EReal) :
    val_main_v49 (F := Ideal) x0 x1 = dRows x0 x1 := by
  funext i
  obtain ⟨r, l, rfl⟩ : ∃ (r : Fin 4352) (l : Fin 11264), i = ix2 r l := ⟨i 0, i 1, ValueIdx.eq_ix2 i⟩
  unfold val_main_v49 val_main_v48 val_main_v46 val_main_v45 val_main_v42 val_main_v38 val_main_v41 val_main_v44
    val_main_v37 val_main_v36 val_main_v40 val_main_v39 val_main_v43 val_main_v29 val_main_v22 val_main_v14
    val_main_v27 val_main_v26 val_main_v12 val_main_v11 val_main_v20 val_main_v19 val_main_cst_4 val_main_cst_5 val_main_cst_6
  pointwise
  simp only [ref_row]
  have hz : ∀ s l : ℕ, ¬ s < 4352 → rows x0 s l = 0 := fun s l h => dif_neg (by omega)
  refine congrArg₂ (· + ·) (congrArg₂ (· + ·) rfl ?_) ?_
  · show _ = x1 (ix2 1 l) * rows x0 ((r : ℕ) + 1) l
    split
    · exact congrArg (x1 (ix2 1 l) * rows x0 · l) (by omega)
    · rw [hz _ _ (by omega), mul_zero]
  · show _ = x1 (ix2 0 l) * rows x0 ((r : ℕ) + 2) l
    split
    · exact congrArg (x1 (ix2 0 l) * rows x0 · l) (by omega)
    · rw [hz _ _ (by omega), mul_zero]
theorem claim_algebraic : Cert.algebraic_Kernel2Ideal_Reference2Ideal := by
  intro m ρ m' ρ' _ hagree
  refine ⟨fun c => dRows (m ((c : Thread nD τ).loc main_arg0)) (m ((c : Thread nD τ).loc main_arg1)), ?_, ?_⟩
  · exact (θ_run Cert.Kernel2Ideal.defs _ _).mono (fun _ h c => ⟨(h c).1.trans (final m c), (h c).2⟩)
      (Cert.Kernel2Ideal.Value.run_blocks (F := Ideal) m ρ)
  · refine (θ_run Cert.Reference2Ideal.defs _ _).mono (fun _ h c => ⟨(h c).1.trans ?_, (h c).2⟩)
      (Cert.Reference2Ideal.Value.run (F := Ideal) m' ρ')
    refine (Cert.Reference2Ideal.Read.val_main_v49_eq _ _).trans ?_
    rw [(hagree c).1, (hagree c).2]
    exact ref_apply _ _

theorem frame_reference : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

end Cert.Conv
-- ==== Proof.GateKernel.lean ====
/-
  What the gradient kernel of the gated convolution leaves in its two results.
-/
module

public import proofs.«01_k».proof.Proof.Gen.KernelIdeal.Value
public import proofs.«01_k».proof.Proof.GateMath
public import Idealize.ShloMosaic.Lib.Pipeline.ValueKit
public import Idealize.ShloMosaic.Lib.Pipeline.ReadBack

@[expose] public section

set_option maxRecDepth 16384

noncomputable section

namespace Cert.Gate

open Idealize.ShloMosaic Idealize.ShloMosaic.TcCoe
open Cert.KernelIdeal Cert.KernelIdeal.Gen

variable (m : (ℓ : Loc nD τ sig) → Buf (Elt Ideal) ℓ)

/-- The arguments on device `c`: the rows, the taps, the bias, the cotangent. -/
abbrev rowsArg (c : Dev nD) : S4352x11264.Idx → EReal := m ((c : Thread nD τ).loc main_arg0)
abbrev tapsArg (c : Dev nD) : S3x11264.Idx → EReal := m ((c : Thread nD τ).loc main_arg1)
abbrev biasArg (c : Dev nD) : S11264.Idx → EReal := m ((c : Thread nD τ).loc main_arg2)
abbrev cotArg (c : Dev nD) : S4352x5632.Idx → EReal := m ((c : Thread nD τ).loc main_arg3)

/-- Where each window's block sits: row tile `o₀ = t % 8`, column tile `o₁ = t / 8`; the upper half lies 11 column tiles to the right;
    the halo is the 16 rows above the tile. -/
theorem idx : ∀ t : Fin cfg0.N, win0_0.index t = ![t.val % 8, t.val / 8] ∧ win0_1.index t = ![t.val % 8 * 34 - 1, t.val / 8]
    ∧ win0_2.index t = ![t.val % 8, 11 + t.val / 8] ∧ win0_3.index t = ![t.val % 8 * 34 - 1, 11 + t.val / 8]
    ∧ win0_4.index t = ![0, t.val / 8] ∧ win0_5.index t = ![0, 11 + t.val / 8]
    ∧ win0_6.index t = ![0, t.val / 8] ∧ win0_7.index t = ![0, 11 + t.val / 8]
    ∧ win0_8.index t = ![t.val % 8, t.val / 8] ∧ win0_9.index t = ![0, t.val % 8, t.val / 8]
    ∧ win0_10.index t = ![0, 0, t.val / 8] ∧ (grid0.coords t 1).val = t.val % 8 :=
  (by decide +kernel : ∀ t : Fin grid0.N, _)

theorem point_lt (t : Fin cfg0.N) : t.val < 88 := t.isLt

theorem own_gate (c : Dev nD) (t : Fin cfg0.N) (a : Fin 544) (j : Fin 512) {s l : ℕ} (hs : s = t.val % 8 * 544 + a + 2)
    (hl : l = t.val / 8 * 512 + j) : iblk m c 0 t (ix2 a j) = padRow (rowsArg m c) s l := by
  obtain ⟨e, -⟩ := idx t
  have ht := point_lt t
  subst hs hl
  unfold padRow at2
  rw [if_pos (by omega), dif_pos (by omega)]
  blk_ext [iblk, V, e]

theorem own_up (c : Dev nD) (t : Fin cfg0.N) (a : Fin 544) (j : Fin 512) {s l : ℕ} (hs : s = t.val % 8 * 544 + a + 2)
    (hl : l = 5632 + (t.val / 8 * 512 + j)) : iblk m c 2 t (ix2 a j) = padRow (rowsArg m c) s l := by
  obtain ⟨-, -, e, -⟩ := idx t
  have ht := point_lt t
  subst hs hl
  unfold padRow at2
  rw [if_pos (by omega), dif_pos (by omega)]
  blk_ext [iblk, V, e]

theorem first_word : ∀ n < 8, Scalar.cmpi .eq (BitVec.ofNat 32 n) 0#32 = if n = 0 then 1#1 else 0#1 := by decide

theorem prev_gate (c : Dev nD) (t : Fin cfg0.N) (b : Fin 16) (j : Fin 512) {s l : ℕ} (hs : s + 14 = t.val % 8 * 544 + b) (hb : 14 ≤ b.val)
    (hl : l = t.val / 8 * 512 + j) :
    (Scalar.select (Scalar.cmpi .eq (BitVec.ofNat 32 (grid0.coords t 1)) 0#32) 0 (iblk m c 1 t (ix2 b j)) : EReal)
      = padRow (rowsArg m c) s l := by
  obtain ⟨-, e, -, -, -, -, -, -, -, -, -, e1⟩ := idx t
  have ht := point_lt t
  subst hl
  rw [e1, first_word _ (by omega)]
  unfold padRow at2
  by_cases h : t.val % 8 = 0
  · rw [if_pos h, if_neg (by omega)]; rfl
  · rw [if_neg h, if_pos (by omega), dif_pos (by omega)]
    show iblk m c 1 t (ix2 b j) = _
    blk_ext [iblk, V, e]

theorem prev_up (c : Dev nD) (t : Fin cfg0.N) (b : Fin 16) (j : Fin 512) {s l : ℕ} (hs : s + 14 = t.val % 8 * 544 + b) (hb : 14 ≤ b.val)
    (hl : l = 5632 + (t.val / 8 * 512 + j)) :
    (Scalar.select (Scalar.cmpi .eq (BitVec.ofNat 32 (grid0.coords t 1)) 0#32) 0 (iblk m c 3 t (ix2 b j)) : EReal)
      = padRow (rowsArg m c) s l := by
  obtain ⟨-, -, -, e, -, -, -, -, -, -, -, e1⟩ := idx t
  have ht := point_lt t
  subst hl
  rw [e1, first_word _ (by omega)]
  unfold padRow at2
  by_cases h : t.val % 8 = 0
  · rw [if_pos h, if_neg (by omega)]; rfl
  · rw [if_neg h, if_pos (by omega), dif_pos (by omega)]
    show iblk m c 3 t (ix2 b j) = _
    blk_ext [iblk, V, e]

theorem tap_gate (c : Dev nD) (t : Fin cfg0.N) (k : Fin 3) (j : Fin 512) {l : ℕ} (hl : l = t.val / 8 * 512 + j) :
    iblk m c 4 t (ix2 k j) = at2 (tapsArg m c) k l := by
  obtain ⟨-, -, -, -, e, -⟩ := idx t
  have ht := point_lt t
  subst hl
  unfold at2
  rw [dif_pos (by omega)]
  blk_ext [iblk, V, e]

theorem tap_up (c : Dev nD) (t : Fin cfg0.N) (k : Fin 3) (j : Fin 512) {l : ℕ} (hl : l = 5632 + (t.val / 8 * 512 + j)) :
    iblk m c 5 t (ix2 k j) = at2 (tapsArg m c) k l := by
  obtain ⟨-, -, -, -, -, e, -⟩ := idx t
  have ht := point_lt t
  subst hl
  unfold at2
  rw [dif_pos (by omega)]
  blk_ext [iblk, V, e]

theorem bias_gate (c : Dev nD) (t : Fin cfg0.N) (j : Fin 512) {l : ℕ} (hl : l = t.val / 8 * 512 + j) :
    iblk m c 6 t (ix2 0 j) = at1 (biasArg m c) l := by
  obtain ⟨-, -, -, -, -, -, e, -⟩ := idx t
  have ht := point_lt t
  subst hl
  unfold at1
  rw [dif_pos (by omega)]
  blk_ext! [iblk, V, e]

theorem bias_up (c : Dev nD) (t : Fin cfg0.N) (j : Fin 512) {l : ℕ} (hl : l = 5632 + (t.val / 8 * 512 + j)) :
    iblk m c 7 t (ix2 0 j) = at1 (biasArg m c) l := by
  obtain ⟨-, -, -, -, -, -, -, e, -⟩ := idx t
  have ht := point_lt t
  subst hl
  unfold at1
  rw [dif_pos (by omega)]
  blk_ext! [iblk, V, e]

theorem cot (c : Dev nD) (t : Fin cfg0.N) (a : Fin 544) (j : Fin 512) {r l : ℕ} (hr : r = t.val % 8 * 544 + a) (hl : l = t.val / 8 * 512 + j) :
    iblk m c 8 t (ix2 a j) = at2 (cotArg m c) r l := by
  obtain ⟨-, -, -, -, -, -, -, -, e, -⟩ := idx t
  have ht := point_lt t
  subst hr hl
  unfold at2
  rw [dif_pos (by omega)]
  blk_ext [iblk, V, e]

/-! ## The point's rows, one and two rows earlier, and the convolution -/

theorem gate_row1 (c : Dev nD) (t : Fin cfg0.N) (a : Fin 544) (j : Fin 512) {s l : ℕ} (hs : s = t.val % 8 * 544 + a + 1) (hl : l = t.val / 8 * 512 + j) :
    k0_pay4 (F := Ideal) (grid0.coords t) (iblk m c 0 t) (iblk m c 1 t) (ix2 a j) = padRow (rowsArg m c) s l := by
  unfold k0_pay4 k0_pay3 k0_pay2
  pointwise
  split
  · exact prev_gate m c t _ _ (by subst hs; dsimp only; omega) (by dsimp only; omega) hl
  · exact own_gate m c t _ _ (by subst hs; dsimp only; omega) hl

theorem gate_row2 (c : Dev nD) (t : Fin cfg0.N) (a : Fin 544) (j : Fin 512) {s l : ℕ} (hs : s = t.val % 8 * 544 + a) (hl : l = t.val / 8 * 512 + j) :
    k0_pay5 (F := Ideal) (grid0.coords t) (iblk m c 0 t) (iblk m c 1 t) (ix2 a j) = padRow (rowsArg m c) s l := by
  unfold k0_pay5 k0_pay3 k0_pay2
  pointwise
  split
  · exact prev_gate m c t _ _ (by subst hs; dsimp only; omega) (by dsimp only; omega) hl
  · exact own_gate m c t _ _ (by subst hs; dsimp only; omega) hl

theorem up_row1 (c : Dev nD) (t : Fin cfg0.N) (a : Fin 544) (j : Fin 512) {s l : ℕ} (hs : s = t.val % 8 * 544 + a + 1)
    (hl : l = 5632 + (t.val / 8 * 512 + j)) :
    k0_pay9 (F := Ideal) (grid0.coords t) (iblk m c 2 t) (iblk m c 3 t) (ix2 a j) = padRow (rowsArg m c) s l := by
  unfold k0_pay9 k0_pay8 k0_pay7
  pointwise
  split
  · exact prev_up m c t _ _ (by subst hs; dsimp only; omega) (by dsimp only; omega) hl
  · exact own_up m c t _ _ (by subst hs; dsimp only; omega) hl

theorem up_row2 (c : Dev nD) (t : Fin cfg0.N) (a : Fin 544) (j : Fin 512) {s l : ℕ} (hs : s = t.val % 8 * 544 + a)
    (hl : l = 5632 + (t.val / 8 * 512 + j)) :
    k0_pay10 (F := Ideal) (k0_pay8 (grid0.coords t) (iblk m c 2 t) (iblk m c 3 t)) 2#32 (ix2 a j) = padRow (rowsArg m c) s l := by
  unfold k0_pay10 k0_pay8 k0_pay7
  pointwise
  split
  · exact prev_up m c t _ _ (by subst hs; dsimp only; omega) (by dsimp only; omega) hl
  · exact own_up m c t _ _ (by subst hs; dsimp only; omega) hl

/-- The convolution at the gate's half of the tile. -/
abbrev gateBlk (c : Dev nD) (t : Fin cfg0.N) : FVec Ideal S544x512 .f32 :=
  k0_pay6 (grid0.coords t) (iblk m c 0 t) (iblk m c 1 t) (iblk m c 4 t) (iblk m c 6 t)

theorem gate_conv (c : Dev nD) (t : Fin cfg0.N) (a : Fin 544) (j : Fin 512) {r l : ℕ} (hr : r = t.val % 8 * 544 + a) (hl : l = t.val / 8 * 512 + j) :
    gateBlk m c t (ix2 a j) = conv (rowsArg m c) (tapsArg m c) (biasArg m c) r l := by
  unfold gateBlk k0_pay6
  generalize e5 : k0_pay5 (F := Ideal) (grid0.coords t) (iblk m c 0 t) (iblk m c 1 t) = x5
  generalize e4 : k0_pay4 (F := Ideal) (grid0.coords t) (iblk m c 0 t) (iblk m c 1 t) = x4
  unfold k0_pay2
  pointwise
  unfold conv
  refine congrArg₂ (· + ·) (congrArg₂ (· + ·) (congrArg₂ (· + ·) (congrArg₂ (· * ·) (tap_gate m c t 0 j hl) ?_)
    (congrArg₂ (· * ·) (tap_gate m c t 1 j hl) ?_)) (congrArg₂ (· * ·) (tap_gate m c t 2 j hl) ?_)) (bias_gate m c t j hl)
  · rw [← e5]; exact gate_row2 m c t a j hr hl
  · rw [← e4]; exact gate_row1 m c t a j (by rw [hr]) hl
  · exact own_gate m c t a j (by rw [hr]) hl

/-- The gate's gradient over the tile, and the other operand's. -/
abbrev gateGrad (c : Dev nD) (t : Fin cfg0.N) : FVec Ideal S544x512 .f32 :=
  k0_pay13 (gateBlk m c t) (k0_pay7 (iblk m c 2 t)) (k0_pay8 (grid0.coords t) (iblk m c 2 t) (iblk m c 3 t))
    (k0_pay9 (grid0.coords t) (iblk m c 2 t) (iblk m c 3 t)) 2#32 (iblk m c 5 t) (iblk m c 7 t) (iblk m c 8 t)
abbrev upGrad (c : Dev nD) (t : Fin cfg0.N) : FVec Ideal S544x512 .f32 := k0_pay14 (gateBlk m c t) (iblk m c 8 t)

/-- The gradient at the convolution's result, from the arguments. -/
abbrev gradArg (c : Dev nD) : ℕ → ℕ → ℕ → EReal := dConv (rowsArg m c) (tapsArg m c) (biasArg m c) (cotArg m c)

theorem gateGrad_apply (c : Dev nD) (t : Fin cfg0.N) (a : Fin 544) (j : Fin 512) {r l : ℕ} (hr : r = t.val % 8 * 544 + a) (hl : l = t.val / 8 * 512 + j) :
    gateGrad m c t (ix2 a j) = gradArg m c 0 r l := by
  have eg := gate_conv m c t a j hr hl
  unfold gateGrad
  generalize gateBlk m c t = g at eg ⊢
  unfold k0_pay13
  generalize e10 : k0_pay10 (F := Ideal) (k0_pay8 (grid0.coords t) (iblk m c 2 t) (iblk m c 3 t)) 2#32 = x10
  generalize e9 : k0_pay9 (F := Ideal) (grid0.coords t) (iblk m c 2 t) (iblk m c 3 t) = x9
  unfold k0_pay12 k0_pay11 k0_pay7
  pointwise
  have eu : @HAdd.hAdd EReal EReal EReal _ (@HAdd.hAdd EReal EReal EReal _ (@HAdd.hAdd EReal EReal EReal _
      (@HMul.hMul EReal EReal EReal _ (iblk m c 5 t (ix2 0 j)) (x10 (ix2 a j))) (@HMul.hMul EReal EReal EReal _ (iblk m c 5 t (ix2 1 j)) (x9 (ix2 a j))))
      (@HMul.hMul EReal EReal EReal _ (iblk m c 5 t (ix2 2 j)) (iblk m c 2 t (ix2 a j)))) (iblk m c 7 t (ix2 0 j))
      = conv (rowsArg m c) (tapsArg m c) (biasArg m c) r (5632 + l) := by
    unfold conv
    refine congrArg₂ (· + ·) (congrArg₂ (· + ·) (congrArg₂ (· + ·) (congrArg₂ (· * ·) (tap_up m c t 0 j (by rw [hl])) ?_)
      (congrArg₂ (· * ·) (tap_up m c t 1 j (by rw [hl])) ?_)) (congrArg₂ (· * ·) (tap_up m c t 2 j (by rw [hl])) ?_)) (bias_up m c t j (by rw [hl]))
    · rw [← e10]; exact up_row2 m c t a j hr (by rw [hl])
    · rw [← e9]; exact up_row1 m c t a j (by rw [hr]) (by rw [hl])
    · exact own_up m c t a j (by rw [hr]) (by rw [hl])
  have ed : iblk m c 8 t (ix2 a j) = at2 (cotArg m c) r l := cot m c t a j hr hl
  rw [eg]
  unfold gradArg dConv slope logi half
  rw [if_pos rfl, ← eu, ← ed]

theorem upGrad_apply (c : Dev nD) (t : Fin cfg0.N) (a : Fin 544) (j : Fin 512) {r l : ℕ} (hr : r = t.val % 8 * 544 + a) (hl : l = t.val / 8 * 512 + j) :
    upGrad m c t (ix2 a j) = gradArg m c 1 r l := by
  have eg := gate_conv m c t a j hr hl
  unfold upGrad
  generalize gateBlk m c t = g at eg ⊢
  unfold k0_pay14 k0_pay12 k0_pay11
  pointwise
  have ed : iblk m c 8 t (ix2 a j) = at2 (cotArg m c) r l := cot m c t a j hr hl
  rw [eg]
  unfold gradArg dConv slope logi half
  rw [if_neg (by decide), ← ed]

/-! ## The gradient itself -/

/-- The first result: half `z`, row `r`, column `j`. -/
def daOf (c : Dev nD) (i : S2x4352x5632.Idx) : EReal := gradArg m c (i 0) (i 1) (i 2)

theorem pay15_apply (v28 : FVec Ideal S544x512 .f32) (v30 : FVec Ideal S544x512 .f32) (v36 : FVec Ideal S552x512 .f32)
    (v38 : FVec Ideal S544x512 .f32) (n : BitVec 32) (v41 : Vec Ideal S3x512 .f32) (v53 : Vec Ideal S1x512 .f32) (v57 : Vec Ideal S544x512 .bf16)
    (x : S1x544x512.Idx) : k0_pay15 v28 v30 v36 v38 n v41 v53 v57 x = k0_pay13 v28 v30 v36 v38 n v41 v53 v57 (ix2 (x 1) (x 2)) := by
  unfold k0_pay15
  generalize k0_pay13 v28 v30 v36 v38 n v41 v53 v57 = v
  pointwise

theorem pay17_apply (v28 : FVec Ideal S544x512 .f32) (v57 : Vec Ideal S544x512 .bf16) (x : S1x544x512.Idx) :
    k0_pay17 (k0_pay16 v28 v57) x = k0_pay14 v28 v57 (ix2 (x 1) (x 2)) := by
  unfold k0_pay17 k0_pay16
  generalize k0_pay14 v28 v57 = v
  pointwise

/-- The two stores of the tile's gradient, one half each, read at a cell. -/
theorem tile_da (c : Dev nD) (t : Fin cfg0.N) (y : S2x544x512.Idx) (i : S2x4352x5632.Idx) (h0 : (i 0 : ℕ) = y 0)
    (h1 : (i 1 : ℕ) = t.val % 8 * 544 + y 1) (h2 : (i 2 : ℕ) = t.val / 8 * 512 + y 2) {w : EReal}
    (hw0 : (y 0 : ℕ) = 0 → w = gateGrad m c t (ix2 (y 1) (y 2))) (hw1 : (y 0 : ℕ) = 1 → w = upGrad m c t (ix2 (y 1) (y 2))) :
    w = daOf m c i := by
  unfold daOf
  have hy : (y 0 : ℕ) < 2 := (y 0).isLt
  rcases (by omega : (y 0 : ℕ) = 0 ∨ (y 0 : ℕ) = 1) with e | e
  · rw [h0, e, hw0 e]; exact gateGrad_apply m c t _ _ h1 h2
  · rw [h0, e, hw1 e]; exact upGrad_apply m c t _ _ h1 h2

set_option maxHeartbeats 2000000 in
theorem final_da (c : Dev nD) : (dats m 0 c).arrAt 9 cfg0.N = daOf m c := by
  refine (dats m 0 c).arrAt_eq_of_covers 9 _ (by decide +kernel) fun t hf y => ?_
  obtain ⟨-, -, -, -, -, -, -, -, -, e9, -⟩ := idx t
  generalize hi : ((View.whole main_v2_0).slice (win0_9.rect t)).emb y = i
  have h0 : (i 0 : ℕ) = y 0 := by rw [← hi]; blk_simp [e9]
  have h1 : (i 1 : ℕ) = t.val % 8 * 544 + y 1 := by rw [← hi]; blk_simp [e9]
  have h2 : (i 2 : ℕ) = t.val / 8 * 512 + y 2 := by rw [← hi]; blk_simp [e9]
  blk_simp
  rw [after0_9]
  refine tile_da m c t y i h0 h1 h2 ?_ ?_ <;> intro hy
  all_goals
    rcases (by omega : t.val % 8 = 0 ∨ ¬ t.val % 8 = 0) with h0 | h0
    · rw [outsAt0_A m c t h0]
      frame_out
      canon_tiles x h
      · first
        | omega
        | exact (pay17_apply _ _ x).trans (congrArg _ (congrArg₂ ix2 (Fin.ext (by omega)) (Fin.ext (by omega))))
      · first
        | omega
        | exact (pay15_apply _ _ _ _ _ _ _ _ x).trans (congrArg _ (congrArg₂ ix2 (Fin.ext (by omega)) (Fin.ext (by omega))))
    · rw [outsAt0_B m c t h0]
      frame_out
      canon_tiles x h
      · first
        | omega
        | exact (pay17_apply _ _ x).trans (congrArg _ (congrArg₂ ix2 (Fin.ext (by omega)) (Fin.ext (by omega))))
      · first
        | omega
        | exact (pay15_apply _ _ _ _ _ _ _ _ x).trans (congrArg _ (congrArg₂ ix2 (Fin.ext (by omega)) (Fin.ext (by omega))))

/-! ## The gradient by the taps and the bias -/

theorem pay19_apply (v0 v1 v2 g : FVec Ideal S544x512 .f32) (old : Vec Ideal S1x4x512 .f32) (k : Fin 4) (j : Fin 512) :
    (k0_pay19 v0 v1 v2 g old (ix3 0 k j) : EReal) = old (ix3 0 k j)
      + ∑ a : Fin 544, (g (ix2 a j) : EReal) * (if k = 0 then v2 (ix2 a j) else if k = 1 then v1 (ix2 a j) else if k = 2 then v0 (ix2 a j) else 1 : EReal) := by
  unfold k0_pay19
  fin_cases k <;> pointwise

theorem pay20_apply (v0 v1 v2 g : FVec Ideal S544x512 .f32) (old : Vec Ideal S1x4x512 .f32) (k : Fin 4) (j : Fin 512) :
    (k0_pay1 (k0_pay20 v0 v1 v2 g old) (ix3 0 k j) : EReal) = old (ix3 0 k j)
      + ∑ a : Fin 544, (g (ix2 a j) : EReal) * (if k = 0 then v2 (ix2 a j) else if k = 1 then v1 (ix2 a j) else if k = 2 then v0 (ix2 a j) else 1 : EReal) := by
  unfold k0_pay1 k0_pay20
  fin_cases k <;> pointwise

/-- One tile's share of the second result. -/
def share (c : Dev nD) (t : Fin cfg0.N) (i : S2x4x512.Idx) : EReal :=
  ∑ a : Fin 544, gradArg m c (i 0) (t.val % 8 * 544 + a) (t.val / 8 * 512 + i 2)
    * factor (rowsArg m c) (i 1) (t.val % 8 * 544 + a) ((i 0 : ℕ) * 5632 + (t.val / 8 * 512 + i 2))

theorem share_gate (c : Dev nD) (t : Fin cfg0.N) (k : Fin 4) (j : Fin 512) :
    ∑ a : Fin 544, (gateGrad m c t (ix2 a j) : EReal) * (if k = 0 then k0_pay5 (F := Ideal) (grid0.coords t) (iblk m c 0 t) (iblk m c 1 t) (ix2 a j)
        else if k = 1 then k0_pay4 (F := Ideal) (grid0.coords t) (iblk m c 0 t) (iblk m c 1 t) (ix2 a j)
        else if k = 2 then k0_pay2 (F := Ideal) (iblk m c 0 t) (ix2 a j) else 1 : EReal)
      = share m c t (ix3 0 k j) := by
  unfold share
  refine Finset.sum_congr rfl fun a _ => congrArg₂ (· * ·) (gateGrad_apply m c t a j rfl rfl) ?_
  unfold factor
  fin_cases k
  · exact gate_row2 m c t a j rfl (by simp)
  · exact gate_row1 m c t a j rfl (by simp)
  · exact own_gate m c t a j rfl (by simp)
  · rfl

theorem share_up (c : Dev nD) (t : Fin cfg0.N) (k : Fin 4) (j : Fin 512) :
    ∑ a : Fin 544, (upGrad m c t (ix2 a j) : EReal) * (if k = 0 then k0_pay10 (F := Ideal) (k0_pay8 (grid0.coords t) (iblk m c 2 t) (iblk m c 3 t)) 2#32 (ix2 a j)
        else if k = 1 then k0_pay9 (F := Ideal) (grid0.coords t) (iblk m c 2 t) (iblk m c 3 t) (ix2 a j)
        else if k = 2 then k0_pay7 (F := Ideal) (iblk m c 2 t) (ix2 a j) else 1 : EReal)
      = share m c t (ix3 1 k j) := by
  unfold share
  refine Finset.sum_congr rfl fun a _ => congrArg₂ (· * ·) (upGrad_apply m c t a j rfl rfl) ?_
  unfold factor
  fin_cases k
  · exact up_row2 m c t a j rfl (by simp)
  · exact up_row1 m c t a j rfl (by simp)
  · exact own_up m c t a j rfl (by simp)
  · rfl

/-- One tile's addition to the gate's half of the sums, over the sums it found. -/
theorem add_gate (c : Dev nD) (t : Fin cfg0.N) (old : S2x4x512.Idx → EReal) (x : S1x4x512.Idx) (i : S2x4x512.Idx)
    (h0 : (i 0 : ℕ) = x 0) (h1 : (i 1 : ℕ) = x 1) (h2 : (i 2 : ℕ) = x 2) :
    k0_pay19 (k0_pay2 (iblk m c 0 t)) (k0_pay4 (grid0.coords t) (iblk m c 0 t) (iblk m c 1 t)) (k0_pay5 (grid0.coords t) (iblk m c 0 t) (iblk m c 1 t))
      (gateGrad m c t) (View.ld (Val := Elt Ideal) (e' := (.f32 : EltTy)) old (Rect.unit (s := S2x4x512) ![0, 0, 0] ![1, 4, 512] inb_S2x4x512_S1x4x512_0_0_0)) x
      = old i + share m c t i := by
  obtain ⟨z, k, j, rfl⟩ : ∃ (z : Fin 1) (k : Fin 4) (j : Fin 512), x = ix3 z k j := ⟨x 0, x 1, x 2, ValueIdx.eq_ix3 x⟩
  obtain rfl : z = 0 := Subsingleton.elim _ _
  replace h0 : (i 0 : ℕ) = 0 := h0
  replace h1 : (i 1 : ℕ) = k := h1
  replace h2 : (i 2 : ℕ) = j := h2
  obtain rfl : i = ix3 0 k j := by blk_ext
  rw [← share_gate]
  refine (pay19_apply ..).trans (congrArg (· + _) ?_)
  exact View.ld_unit_apply_of (Val := Elt Ideal) (e := (.f32 : EltTy)) old _ _ _ _ _ (fun a => by fin_cases a <;> simp [ix3])

/-- The same for the other operand's half. -/
theorem add_up (c : Dev nD) (t : Fin cfg0.N) (old : S2x4x512.Idx → EReal) (x : S1x4x512.Idx) (i : S2x4x512.Idx)
    (h0 : (i 0 : ℕ) = 1 + x 0) (h1 : (i 1 : ℕ) = x 1) (h2 : (i 2 : ℕ) = x 2) :
    k0_pay1 (k0_pay20 (k0_pay7 (iblk m c 2 t)) (k0_pay9 (grid0.coords t) (iblk m c 2 t) (iblk m c 3 t))
        (k0_pay10 (k0_pay8 (grid0.coords t) (iblk m c 2 t) (iblk m c 3 t)) 2#32) (upGrad m c t)
        (View.ld (Val := Elt Ideal) (e' := (.f32 : EltTy)) old (Rect.unit (s := S2x4x512) ![1, 0, 0] ![1, 4, 512] inb_S2x4x512_S1x4x512_1_0_0))) x
      = old i + share m c t i := by
  obtain ⟨z, k, j, rfl⟩ : ∃ (z : Fin 1) (k : Fin 4) (j : Fin 512), x = ix3 z k j := ⟨x 0, x 1, x 2, ValueIdx.eq_ix3 x⟩
  obtain rfl : z = 0 := Subsingleton.elim _ _
  replace h0 : (i 0 : ℕ) = 1 := h0
  replace h1 : (i 1 : ℕ) = k := h1
  replace h2 : (i 2 : ℕ) = j := h2
  obtain rfl : i = ix3 1 k j := by blk_ext
  rw [← share_up]
  refine (pay20_apply ..).trans (congrArg (· + _) ?_)
  exact View.ld_unit_apply_of (Val := Elt Ideal) (e := (.f32 : EltTy)) old _ _ _ _ _ (fun a => by fin_cases a <;> simp [ix3])

theorem emb_at (off : Fin 3 → ℕ) (inb : ∀ a, off a + ![1, 4, 512] a ≤ S2x4x512.size a) (x : (Rect.unit (s := S2x4x512) off ![1, 4, 512] inb).shape.Idx)
    (a : Fin 3) : (((Rect.unit (s := S2x4x512) off ![1, 4, 512] inb).emb x) a : ℕ) = off a + x a := by simp [Rect.emb_apply]

set_option maxHeartbeats 2000000 in
theorem start (c : Dev nD) (t : Fin cfg0.N) (h0 : t.val % 8 = 0) (i : S2x4x512.Idx) :
    (outsAt0 m c t t.isLt).2 i = (0 : EReal) + share m c t i := by
  rw [outsAt0_A m c t h0]
  frame_open
  simp (disch := decide) only [↓ View.readCov_skip, ↓ View.readCov_cons_toLoadRect, ↓ View.readCov_fill]
  frame_out
  have hz : (k0_pay18 (F := Ideal) : S2x4x512.Idx → EReal) = fun _ => 0 := by funext y; unfold k0_pay18; pointwise
  rw [hz]
  refine View.canon_append_of_piecesOf (Val := Elt Ideal) (e := (.f32 : EltTy)) (fun i : S2x4x512.Idx => (0 : EReal) + share m c t i) [_] [_, _]
    ⟨fun x => ?_, fun x => ?_, trivial⟩ i ?_
  rotate_left 2
  · exact View.cover_of_tiledL _ ![1, 4, 512] (by rfl) i
  · have e := emb_at ![1, 0, 0] inb_S2x4x512_S1x4x512_1_0_0 x
    exact add_up m c t (fun _ => 0) x _ (e 0) ((e 1).trans (Nat.zero_add _)) ((e 2).trans (Nat.zero_add _))
  · have e := emb_at ![0, 0, 0] inb_S2x4x512_S1x4x512_0_0_0 x
    exact add_gate m c t (fun _ => 0) x _ ((e 0).trans (Nat.zero_add _)) ((e 1).trans (Nat.zero_add _)) ((e 2).trans (Nat.zero_add _))

set_option maxHeartbeats 2000000 in
theorem step (c : Dev nD) (t : Fin cfg0.N) (h0 : ¬ t.val % 8 = 0) (i : S2x4x512.Idx) :
    (outsAt0 m c t t.isLt).2 i = (outsAt0 m c (t - 1) (Nat.lt_of_le_of_lt (Nat.sub_le _ _) t.isLt)).2 i + share m c t i := by
  rw [outsAt0_B m c t h0]
  frame_out
  canon_tiles x h
  · exact add_up m c t _ x i h0 h1 h2
  · exact add_gate m c t _ x i (by omega) h1 h2

/-- The second result: half `z`; the three taps' rows, then the bias. -/
def dwbOf (c : Dev nD) (i : S2x4x5632.Idx) : EReal :=
  ∑ r : Fin 4352, gradArg m c (i 0) r (i 2) * factor (rowsArg m c) (i 1) r ((i 0 : ℕ) * 5632 + i 2)

set_option maxHeartbeats 2000000 in
theorem final_dwb (c : Dev nD) : (dats m 0 c).arrAt 10 cfg0.N = dwbOf m c := by
  refine (dats m 0 c).arrAt_eq_of_covers 10 _ (by decide +kernel) fun t hf y => ?_
  obtain ⟨-, -, -, -, -, -, -, -, -, -, e10, -⟩ := idx t
  generalize hi : ((View.whole main_v2_1).slice (win0_10.rect t)).emb y = i
  have h0 : (i 0 : ℕ) = y 0 := by rw [← hi]; blk_simp [e10]
  have h1 : (i 1 : ℕ) = y 1 := by rw [← hi]; blk_simp [e10]
  have h2 : (i 2 : ℕ) = t.val / 8 * 512 + y 2 := by rw [← hi]; blk_simp [e10]
  have hl := (flush0_10 t).mp hf
  blk_simp
  rw [after0_10]
  refine (Pipeline.eq_sum_fin_of_reset_step_apply_of_flush (fun n h => (outsAt0 m c n h).2) 8 (fun _ => (0 : EReal)) (share m c)
    (start m c) (step m c) t hl y).trans ?_
  have ht := point_lt t
  rw [zero_add]
  unfold share dwbOf
  refine Fin.sum_mul_add_congr fun n k hb => ?_
  have hn : (n : ℕ) < 8 := n.isLt
  show gradArg m c (y 0) ((8 * (t.val / 8) + n) % 8 * 544 + k) ((8 * (t.val / 8) + n) / 8 * 512 + y 2)
      * factor (rowsArg m c) (y 1) ((8 * (t.val / 8) + n) % 8 * 544 + k) ((y 0 : ℕ) * 5632 + ((8 * (t.val / 8) + n) / 8 * 512 + y 2))
    = gradArg m c (i 0) (n * 544 + k) (i 2) * factor (rowsArg m c) (i 1) (n * 544 + k) ((i 0 : ℕ) * 5632 + i 2)
  rw [h0, h1, h2, (by omega : (8 * (t.val / 8) + n) % 8 = n), (by omega : (8 * (t.val / 8) + n) / 8 = t.val / 8)]

end Cert.Gate
-- ==== Proof.GateRef.lean ====
/-
  The gated convolution's gradient as the reference writes it, over finite arguments.
-/
module

public import proofs.«01_k».proof.Proof.Gen.ReferenceIdeal.Run
public import proofs.«01_k».proof.Proof.Gen.ReferenceIdeal.Read
public import proofs.«01_k».proof.Proof.GateMath
public import Idealize.ShloMosaic.Lib.Pipeline.ValueKit

@[expose] public section

set_option maxRecDepth 16384

noncomputable section

namespace Cert.Gate

open Idealize.ShloMosaic Idealize.ShloMosaic.TcCoe
open Cert.ReferenceIdeal Cert.ReferenceIdeal.Gen Cert.ReferenceIdeal.Read

variable (x0 : S4352x11264.Idx → EReal) (x1 : S3x11264.Idx → EReal) (x2 : S11264.Idx → EReal) (x3 : S4352x5632.Idx → EReal)

theorem ref_pad (s : Fin 4354) (l : Fin 11264) : val_main_v2 (F := Ideal) x0 (ix2 s l) = padRow x0 s l := by
  unfold val_main_v2 val_main_v1 val_main_v0 val_main_cst padRow at2
  pointwise
  by_cases h : (s : ℕ) < 2
  · simp [h, (by omega : ¬ 2 ≤ (s : ℕ))]
  · simp [h, (by omega : ¬ (s : ℕ) ≤ 1), (by omega : 2 ≤ (s : ℕ)), (by omega : (s : ℕ) - 2 < 4352)]

theorem ref_conv (r : Fin 4352) (l : Fin 11264) : val_main_v27 (F := Ideal) x0 x1 x2 (ix2 r l) = conv x0 x1 x2 r l := by
  unfold val_main_v27 val_main_v26 val_main_v25 val_main_v24 val_main_v23 val_main_v22 val_main_v21 val_main_v20 val_main_v19 val_main_v18
    val_main_v17 val_main_v16 val_main_v15 val_main_v14 val_main_v13 val_main_v12 val_main_v11 val_main_v10 val_main_v9 val_main_v8 val_main_v7
    val_main_v6 val_main_v5 val_main_v4 val_main_v3 val_main_cst_0
  pointwise
  simp only [ref_pad]
  unfold conv
  rw [Nat.add_comm (r : ℕ) 1, Nat.add_comm (r : ℕ) 2]
  refine congrArg₂ (· + ·) (congrArg₂ (· + ·) (congrArg₂ (· + ·) ?_ ?_) ?_) (at1_of_lt _ _).symm
  · exact congrArg (· * _) (at2_of_lt x1 0 l).symm
  · exact congrArg (· * _) (at2_of_lt x1 1 l).symm
  · exact congrArg (· * _) (at2_of_lt x1 2 l).symm

/-- Every value the gate reads is a real number. -/
def Tame : Prop := (∀ r l : ℕ, IsReal (conv x0 x1 x2 r l)) ∧ ∀ r l : ℕ, IsReal (at2 x3 r l)

theorem ref_up (h : Tame x0 x1 x2 x3) (r : Fin 4352) (j : Fin 5632) :
    val_main_v33 (F := Ideal) x0 x1 x2 x3 (ix2 r j) = dConv x0 x1 x2 x3 1 r j := by
  unfold val_main_v33 val_main_v32 val_main_v29_0 val_main_v29_2 val_main_call0_v4 val_main_call0_v3 val_main_call0_v2 val_main_call0_v1 val_main_call0_v0
     val_main_call0_cst val_main_call0_cst_0 val_main_v28
  pointwise
  simp only [ref_conv]
  rw [← at2_of_lt x3 r j]
  exact slope_up (h.1 r j) _ _

theorem ref_gate (h : Tame x0 x1 x2 x3) (r : Fin 4352) (j : Fin 5632) :
    val_main_v36 (F := Ideal) x0 x1 x2 x3 (ix2 r j) = dConv x0 x1 x2 x3 0 r j := by
  unfold val_main_v36 val_main_call1_v2 val_main_call1_v1 val_main_call1_v0 val_main_v34 val_main_v30 val_main_v32 val_main_v29_1 val_main_call0_v7 val_main_call0_v6
     val_main_call0_cst_1 val_main_v29_2 val_main_call0_v4 val_main_call0_v3 val_main_call0_v2 val_main_call0_v1 val_main_call0_v0
     val_main_call0_cst val_main_call0_cst_0 val_main_v28
  pointwise
  simp only [ref_conv]
  rw [← at2_of_lt x3 r j]
  exact slope_gate (h.1 r j) (h.1 r (5632 + j)) (h.2 r j)

/-- The gradient at the convolution's result, the two halves side by side. -/
def grad (r l : ℕ) : EReal := dConv x0 x1 x2 x3 (l / 5632) r (l % 5632)

theorem ref_grad (h : Tame x0 x1 x2 x3) (r : Fin 4352) (l : Fin 11264) :
    val_main_v38 (F := Ideal) x0 x1 x2 x3 (ix2 r l) = grad x0 x1 x2 x3 r l := by
  unfold val_main_v38 val_main_v35 val_main_v37 val_main_cst_1 val_main_cst_2
  pointwise
  have hl := l.isLt
  unfold grad
  by_cases hc : (l : ℕ) < 5632
  · rw [dif_neg (by omega), dif_pos hc, zero_add, ref_gate _ _ _ _ h, Nat.div_eq_of_lt hc, Nat.mod_eq_of_lt hc]
  · rw [dif_pos (by omega), dif_neg hc, add_zero, ref_up _ _ _ _ h, (by omega : (l : ℕ) / 5632 = 1), (by omega : (l : ℕ) % 5632 = l - 5632)]

theorem ref_first (h : Tame x0 x1 x2 x3) (z : Fin 2) (r : Fin 4352) (j : Fin 5632) :
    val_main_v67 (F := Ideal) x0 x1 x2 x3 (ix3 z r j) = dConv x0 x1 x2 x3 z r j := by
  unfold val_main_v67 val_main_v66 val_main_v65 val_main_v64 val_main_v63 val_main_v62
  pointwise
  have hz := z.isLt
  have hj := j.isLt
  by_cases hc : (z : ℕ) < 1
  · rw [dif_pos hc, ref_grad _ _ _ _ h]
    exact congrArg₂ (dConv x0 x1 x2 x3 · r ·) (by dsimp only; omega) (by dsimp only; omega)
  · rw [dif_neg hc, ref_grad _ _ _ _ h]
    exact congrArg₂ (dConv x0 x1 x2 x3 · r ·) (by dsimp only; omega) (by dsimp only; omega)

theorem ref_sums (h : Tame x0 x1 x2 x3) (k : Fin 4) (l : Fin 11264) :
    val_main_v69 (F := Ideal) x0 x1 x2 x3 (ix2 k l) = ∑ r : Fin 4352, grad x0 x1 x2 x3 r l * factor x0 k r l := by
  unfold val_main_v69 val_main_v68 val_main_v61 val_main_v60 val_main_v59 val_main_v58 val_main_v57 val_main_v56 val_main_v55 val_main_v54
    val_main_v53 val_main_v52 val_main_v51 val_main_v50 val_main_v49 val_main_v48 val_main_v47 val_main_v46 val_main_v45 val_main_v44 val_main_v43
    val_main_v42 val_main_v41 val_main_v40 val_main_v39 val_main_v20 val_main_v13 val_main_v5 val_main_cst_3 val_main_cst_4 val_main_cst_5 val_main_cst_6
    val_main_cst_7 val_main_cst_8 val_main_cst_9 val_main_cst_10 val_main_cst_11 val_main_cst_12 val_main_cst_13
  pointwise
  simp only [ref_grad _ _ _ _ h]
  simp only [ref_pad, Finset.univ_unique, Finset.sum_singleton]
  unfold factor
  fin_cases k <;> simp [Nat.add_comm]

theorem ref_second (h : Tame x0 x1 x2 x3) (z : Fin 2) (k : Fin 4) (j : Fin 5632) :
    val_main_v74 (F := Ideal) x0 x1 x2 x3 (ix3 z k j)
      = ∑ r : Fin 4352, dConv x0 x1 x2 x3 z r j * factor x0 k r ((z : ℕ) * 5632 + j) := by
  unfold val_main_v74 val_main_v73 val_main_v72 val_main_v71 val_main_v70
  pointwise
  have hz := z.isLt
  have hj := j.isLt
  by_cases hc : (z : ℕ) < 1
  · rw [dif_pos hc, ref_sums _ _ _ _ h]
    refine Finset.sum_congr rfl fun r _ => congrArg₂ (· * ·) (congrArg₂ (dConv x0 x1 x2 x3 · r ·) ?_ ?_) (congrArg (factor x0 k r) ?_) <;> dsimp only <;> omega
  · rw [dif_neg hc, ref_sums _ _ _ _ h]
    refine Finset.sum_congr rfl fun r _ => congrArg₂ (· * ·) (congrArg₂ (dConv x0 x1 x2 x3 · r ·) ?_ ?_) (congrArg (factor x0 k r) ?_) <;> dsimp only <;> omega

end Cert.Gate
-- ==== Proof.GateClaim.lean ====
/-
  The gradient kernel of the gated convolution against the reference, over finite arguments.
-/
module

public import proofs.«01_k».proof.Defs
public import proofs.«01_k».proof.Proof.GateKernel
public import proofs.«01_k».proof.Proof.GateRef
public import proofs.«01_k».proof.Proof.Gen.Pre_finite
public import Idealize.ShloMosaic.Lib.ReduceAll
public import Idealize.ShloMosaic.Lib.Quiescent

@[expose] public section

set_option maxRecDepth 16384

noncomputable section

namespace Cert.Gate

open Idealize.ShloMosaic Idealize.ShloMosaic.TcCoe

/-- A number whose absolute value is less than infinity is real. -/
theorem isReal_of_abs_lt (x : EReal) (h : Ideal.cmp .olt (max x (-x)) (Ideal.ofBits .f32 0x7F800000#32) = 1#1) : IsReal x := by
  have e : Ideal.ofBits .f32 0x7F800000#32 = (⊤ : EReal) := by simp [Ideal.ofBits, Ideal.ieee]
  rw [e] at h
  have hlt : max x (-x) < ⊤ := by
    by_contra hn
    simp [Ideal.cmp, hn] at h
  induction x with
  | bot => simp at hlt
  | top => simp at hlt
  | coe a => exact ⟨a, rfl⟩

theorem andi_one {a b : BitVec 1} (h : IntOp.andi a b = 1#1) : a = 1#1 ∧ b = 1#1 := by
  revert a b; decide

open Cert.Pre_finite in
theorem finite_of_pre (x0 : S4352x11264.Idx → EReal) (x1 : S3x11264.Idx → EReal) (x2 : S11264.Idx → EReal) (x3 : S4352x5632.Idx → EReal)
    (h : Cert.Pre_finite.fn (F := Ideal) x0 x1 x2 x3 = fun _ => 1#1) :
    (∀ i, IsReal (x0 i)) ∧ (∀ i, IsReal (x1 i)) ∧ (∀ i, IsReal (x2 i)) ∧ (∀ i, IsReal (x3 i)) := by
  have h1 := congrFun h (fun a => a.elim0)
  unfold fn fn_part1 at h1
  obtain ⟨h1, hd⟩ := andi_one h1
  obtain ⟨h1, hc⟩ := andi_one h1
  obtain ⟨ha, hb⟩ := andi_one h1
  haveI : Subsingleton S_.Idx := ⟨fun a b => funext fun k => k.elim0⟩
  exact ⟨fun i => isReal_of_abs_lt _ (Host.reduce_andi_all _ _ _ _ _ ha i), fun i => isReal_of_abs_lt _ (Host.reduce_andi_all _ _ _ _ _ hb i),
    fun i => isReal_of_abs_lt _ (Host.reduce_andi_all _ _ _ _ _ hc i), fun i => isReal_of_abs_lt _ (Host.reduce_andi_all _ _ _ _ _ hd i)⟩

theorem isReal_at2 {n k : ℕ} {x : (⟨2, ![n, k]⟩ : Shape).Idx → EReal} (h : ∀ i, IsReal (x i)) (r l : ℕ) : IsReal (at2 x r l) := by
  unfold at2; split
  · exact h _
  · exact IsReal.zero

theorem isReal_at1 {n : ℕ} {x : (⟨1, ![n]⟩ : Shape).Idx → EReal} (h : ∀ i, IsReal (x i)) (l : ℕ) : IsReal (at1 x l) := by
  unfold at1; split
  · exact h _
  · exact IsReal.zero

theorem isReal_padRow {n k : ℕ} {x : (⟨2, ![n, k]⟩ : Shape).Idx → EReal} (h : ∀ i, IsReal (x i)) (s l : ℕ) : IsReal (padRow x s l) := by
  unfold padRow; split
  · exact isReal_at2 h _ _
  · exact IsReal.zero

open Cert.ReferenceIdeal in
/-- Finite arguments make the convolution's values real. -/
theorem tame {x0 : S4352x11264.Idx → EReal} {x1 : S3x11264.Idx → EReal} {x2 : S11264.Idx → EReal} {x3 : S4352x5632.Idx → EReal}
    (h : (∀ i, IsReal (x0 i)) ∧ (∀ i, IsReal (x1 i)) ∧ (∀ i, IsReal (x2 i)) ∧ (∀ i, IsReal (x3 i))) : Tame x0 x1 x2 x3 :=
  ⟨fun r l => (((isReal_at2 h.2.1 _ _).mul (isReal_padRow h.1 _ _)).add ((isReal_at2 h.2.1 _ _).mul (isReal_padRow h.1 _ _))
      |>.add ((isReal_at2 h.2.1 _ _).mul (isReal_padRow h.1 _ _))).add (isReal_at1 h.2.2.1 _), fun r l => isReal_at2 h.2.2.2 _ _⟩

theorem claim_algebraic : Cert.algebraic_KernelIdeal_ReferenceIdeal_pre_finite := by
  intro m ρ m' ρ' hpre hagree
  refine ⟨daOf m, dwbOf m, ?_, ?_⟩
  · exact (θ_run Cert.KernelIdeal.defs _ _).mono (fun _ h c => ⟨(h c).1.trans (final_da m c), (h c).2.1.trans (final_dwb m c), (h c).2.2⟩)
      (Cert.KernelIdeal.Value.run_blocks (F := Ideal) m ρ)
  · refine (θ_run Cert.ReferenceIdeal.defs _ _).mono (fun _ h c => ⟨(h c).1.trans ?_, (h c).2.1.trans ?_, (h c).2.2⟩)
      (Cert.ReferenceIdeal.Value.run (F := Ideal) m' ρ')
    · refine (Cert.ReferenceIdeal.Read.val_main_v67_eq _).trans ?_
      obtain ⟨a0, a1, a2, a3⟩ := hagree c
      have ht := tame (finite_of_pre _ _ _ _ (hpre c))
      funext i
      obtain ⟨z, r, j, rfl⟩ : ∃ (z : Fin 2) (r : Fin 4352) (j : Fin 5632), i = ix3 z r j := ⟨i 0, i 1, i 2, ValueIdx.eq_ix3 i⟩
      rw [← a0, ← a1, ← a2, ← a3] at ht
      refine (ref_first _ _ _ _ ht z r j).trans ?_
      unfold daOf gradArg rowsArg tapsArg biasArg cotArg
      rw [← a0, ← a1, ← a2, ← a3]
      rfl
    · refine (Cert.ReferenceIdeal.Read.val_main_v74_eq _).trans ?_
      obtain ⟨a0, a1, a2, a3⟩ := hagree c
      have ht := tame (finite_of_pre _ _ _ _ (hpre c))
      funext i
      obtain ⟨z, r, j, rfl⟩ : ∃ (z : Fin 2) (r : Fin 4) (j : Fin 5632), i = ix3 z r j := ⟨i 0, i 1, i 2, ValueIdx.eq_ix3 i⟩
      rw [← a0, ← a1, ← a2, ← a3] at ht
      refine (ref_second _ _ _ _ ht z r j).trans ?_
      unfold dwbOf gradArg rowsArg tapsArg biasArg cotArg
      rw [← a0, ← a1, ← a2, ← a3]
      rfl

theorem frame_reference : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

end Cert.Gate
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.KernelIdeal.Value
public import proofs.«01_k».proof.Proof.Gen.Kernel2Ideal.Value
public import proofs.«01_k».proof.Proof.Gen.Pre_finite
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Frame
public import proofs.«01_k».proof.Proof.Gen.Kernel18.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20.Frame
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel21.Frame
public import proofs.«01_k».proof.Proof.Gen.Kernel21Ideal.Value
public import proofs.«01_k».proof.Proof.Gen.Reference21Ideal.Run
public import proofs.«01_k».proof.Proof.Gen.Reference21Ideal.Read
public import proofs.«01_k».proof.Proof.Gen.Kernel22.Frame
public import proofs.«01_k».proof.Proof.Gen.Kernel22Ideal.Value
public import proofs.«01_k».proof.Proof.Gen.Reference22Ideal.Run
public import proofs.«01_k».proof.Proof.Gen.Reference22Ideal.Read
public import proofs.«01_k».proof.Proof.Gen.Kernel23.Frame
public import proofs.«01_k».proof.Proof.Gen.Kernel23Ideal.Value
public import proofs.«01_k».proof.Proof.Gen.Reference23Ideal.Run
public import proofs.«01_k».proof.Proof.Gen.Reference23Ideal.Read
public import proofs.«01_k».proof.Proof.Gen.Kernel24.Frame
public import proofs.«01_k».proof.Proof.Gen.Kernel24Ideal.Value
public import proofs.«01_k».proof.Proof.Gen.Reference24Ideal.Run
public import proofs.«01_k».proof.Proof.Gen.Reference24Ideal.Read
public import proofs.«01_k».proof.Proof.Gen.Kernel25.Frame
public import proofs.«01_k».proof.Proof.Gen.Kernel25Ideal.Value
public import proofs.«01_k».proof.Proof.Gen.Reference25Ideal.Run
public import proofs.«01_k».proof.Proof.Gen.Reference25Ideal.Read
public import proofs.«01_k».proof.Proof.AttnLaunch
public import proofs.«01_k».proof.Proof.AttnSame
public import proofs.«01_k».proof.Proof.Residual
public import proofs.«01_k».proof.Proof.ResidualGrads
public import proofs.«01_k».proof.Proof.FirstNorm
public import proofs.«01_k».proof.Proof.LastResidual
public import proofs.«01_k».proof.Proof.LastGrads
public import proofs.«01_k».proof.Proof.FirstGrads
public import proofs.«01_k».proof.Proof.LossGrads
public import proofs.«01_k».proof.Proof.GateForward
public import proofs.«01_k».proof.Proof.Products
public import proofs.«01_k».proof.Proof.ProductsIn
public import proofs.«01_k».proof.Proof.ProductsByRows
public import proofs.«01_k».proof.Proof.ProductsByWeights
public import proofs.«01_k».proof.Proof.ConvData
public import proofs.«01_k».proof.Proof.GateClaim
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Pre_finite.Gen.facts,
    fun m ρ _ => Cert.Kernel.Gen.frame m ρ, fun m ρ _ => Cert.KernelIdeal.Gen.frame m ρ, fun m ρ _ => Cert.KernelIdeal.Gen.frame m ρ,
    Cert.Gate.frame_reference, fun m ρ _ => Cert.Gate.frame_reference m ρ trivial,
    fun m ρ _ => Cert.Kernel2.Gen.frame m ρ, fun m ρ _ => Cert.Kernel2Ideal.Gen.frame m ρ, Cert.Conv.frame_reference,
    fun m ρ _ => Cert.Kernel3.Gen.frame m ρ, fun m ρ _ => Cert.Kernel3Ideal.Gen.frame m ρ, Cert.Product3.frame_reference,
    fun m ρ _ => Cert.Kernel4.Gen.frame m ρ, fun m ρ _ => Cert.Kernel4Ideal.Gen.frame m ρ, Cert.Product4.frame_reference,
    fun m ρ _ => Cert.Kernel5.Gen.frame m ρ, fun m ρ _ => Cert.Kernel5Ideal.Gen.frame m ρ, Cert.Product5.frame_reference,
    fun m ρ _ => Cert.Kernel6.Gen.frame m ρ, fun m ρ _ => Cert.Kernel6Ideal.Gen.frame m ρ, Cert.Product6.frame_reference,
    fun m ρ _ => Cert.Kernel7.Gen.frame m ρ, fun m ρ _ => Cert.Kernel7Ideal.Gen.frame m ρ, Cert.Product7.frame_reference,
    fun m ρ _ => Cert.Kernel8.Gen.frame m ρ, fun m ρ _ => Cert.Kernel8Ideal.Gen.frame m ρ, Cert.Product8.frame_reference,
    fun m ρ _ => Cert.Kernel9.Gen.frame m ρ, fun m ρ _ => Cert.Kernel9Ideal.Gen.frame m ρ, Cert.Product9.frame_reference,
    fun m ρ _ => Cert.Kernel10.Gen.frame m ρ, fun m ρ _ => Cert.Kernel10Ideal.Gen.frame m ρ, Cert.Product10.frame_reference,
    fun m ρ _ => Cert.Kernel11.Gen.frame m ρ, fun m ρ _ => Cert.Kernel11Ideal.Gen.frame m ρ, Cert.Product11.frame_reference,
    fun m ρ _ => Cert.Kernel12.Gen.frame m ρ, fun m ρ _ => Cert.Kernel12Ideal.Gen.frame m ρ, Cert.Product12.frame_reference,
    fun m ρ _ => Cert.Kernel13.Gen.frame m ρ, fun m ρ _ => Cert.Kernel13Ideal.Gen.frame m ρ, Cert.Product13.frame_reference,
    fun m ρ _ => Cert.Kernel14.Gen.frame m ρ, fun m ρ _ => Cert.Kernel14Ideal.Gen.frame m ρ, Cert.Product14.frame_reference,
    fun m ρ _ => Cert.Kernel15.Gen.frame m ρ, fun m ρ _ => Cert.Kernel15Ideal.Gen.frame m ρ, Cert.Product15.frame_reference,
    fun m ρ _ => Cert.Kernel16.Gen.frame m ρ, fun m ρ _ => Cert.Kernel16Ideal.Gen.frame m ρ, Cert.Product16.frame_reference,
    Cert.Attn.frame_kernel, fun m ρ _ => Cert.Kernel17Ideal.Hand.frame_attn m ρ,
    fun m ρ _ => Cert.Kernel18.Gen.frame m ρ, fun m ρ _ => Cert.Kernel18Ideal.Gen.frame m ρ, Cert.Residual.frame_reference,
    fun m ρ _ => Cert.Kernel19.Gen.frame m ρ, fun m ρ _ => Cert.Kernel19Ideal.Gen.frame m ρ, Cert.ResidualGrads.frame_reference,
    fun m ρ _ => Cert.Kernel20.Gen.frame m ρ, fun m ρ _ => Cert.Kernel20Ideal.Gen.frame m ρ, Cert.FirstNorm.frame_reference,
    fun m ρ _ => Cert.Kernel21.Gen.frame m ρ, fun m ρ _ => Cert.Kernel21Ideal.Gen.frame m ρ, Cert.LastResidual.frame_reference,
    fun m ρ _ => Cert.Kernel22.Gen.frame m ρ, fun m ρ _ => Cert.Kernel22Ideal.Gen.frame m ρ, Cert.LastGrads.frame_reference,
    fun m ρ _ => Cert.Kernel23.Gen.frame m ρ, fun m ρ _ => Cert.Kernel23Ideal.Gen.frame m ρ, Cert.FirstGrads.frame_reference,
    fun m ρ _ => Cert.Kernel24.Gen.frame m ρ, fun m ρ _ => Cert.Kernel24Ideal.Gen.frame m ρ, Cert.LossGrads.frame_reference,
    fun m ρ _ => Cert.Kernel25.Gen.frame m ρ, fun m ρ _ => Cert.Kernel25Ideal.Gen.frame m ρ, Cert.GateForward.frame_reference,
    trivial, Cert.Gate.claim_algebraic, trivial, Cert.Conv.claim_algebraic,
    trivial, Cert.Product3.claim_algebraic,
    trivial, Cert.Product4.claim_algebraic,
    trivial, Cert.Product5.claim_algebraic,
    trivial, Cert.Product6.claim_algebraic,
    trivial, Cert.Product7.claim_algebraic,
    trivial, Cert.Product8.claim_algebraic,
    trivial, Cert.Product9.claim_algebraic,
    trivial, Cert.Product10.claim_algebraic,
    trivial, Cert.Product11.claim_algebraic,
    trivial, Cert.Product12.claim_algebraic,
    trivial, Cert.Product13.claim_algebraic,
    trivial, Cert.Product14.claim_algebraic,
    trivial, Cert.Product15.claim_algebraic,
    trivial, Cert.Product16.claim_algebraic,
    trivial,
    trivial, Cert.Residual.claim_algebraic,
    trivial, Cert.ResidualGrads.claim_algebraic,
    trivial, Cert.FirstNorm.claim_algebraic,
    trivial, Cert.LastResidual.claim_algebraic,
    trivial, Cert.LastGrads.claim_algebraic,
    trivial, Cert.FirstGrads.claim_algebraic,
    trivial, Cert.LossGrads.claim_algebraic,
    trivial, Cert.GateForward.claim_algebraic⟩

end Cert.Proof

end
